-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))) = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_finite [hPre_in_proj_finite : Cert.Pre_in_proj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10))) = (fun _ => 1#1)

def Pre_InProjGradIdeal (m : (ℓ : Loc Cert.InProjGradIdeal.nD Cert.InProjGradIdeal.τ Cert.InProjGradIdeal.sig) → Buf (Elt Ideal) ℓ) : Prop :=
  True

def Pre_InProjGradIdeal_in_proj_finite [hPre_in_proj_finite : Cert.Pre_in_proj_finite.Facts] (m : (ℓ : Loc Cert.InProjGradIdeal.nD Cert.InProjGradIdeal.τ Cert.InProjGradIdeal.sig) → Buf (Elt Ideal) ℓ) : Prop :=
  ∀ c : Dev Cert.InProjGradIdeal.nD,
    (Cert.Pre_in_proj_finite.fn (F := Ideal) (m ((c.tc : Thread Cert.InProjGradIdeal.nD Cert.InProjGradIdeal.τ).loc Cert.InProjGradIdeal.main_arg0)) (m ((c.tc : Thread Cert.InProjGradIdeal.nD Cert.InProjGradIdeal.τ).loc Cert.InProjGradIdeal.main_arg1)) (m ((c.tc : Thread Cert.InProjGradIdeal.nD Cert.InProjGradIdeal.τ).loc Cert.InProjGradIdeal.main_arg2)) (m ((c.tc : Thread Cert.InProjGradIdeal.nD Cert.InProjGradIdeal.τ).loc Cert.InProjGradIdeal.main_arg3)) (m ((c.tc : Thread Cert.InProjGradIdeal.nD Cert.InProjGradIdeal.τ).loc Cert.InProjGradIdeal.main_arg4)) (m ((c.tc : Thread Cert.InProjGradIdeal.nD Cert.InProjGradIdeal.τ).loc Cert.InProjGradIdeal.main_arg5)) (m ((c.tc : Thread Cert.InProjGradIdeal.nD Cert.InProjGradIdeal.τ).loc Cert.InProjGradIdeal.main_arg6)) (m ((c.tc : Thread Cert.InProjGradIdeal.nD Cert.InProjGradIdeal.τ).loc Cert.InProjGradIdeal.main_arg7)) (m ((c.tc : Thread Cert.InProjGradIdeal.nD Cert.InProjGradIdeal.τ).loc Cert.InProjGradIdeal.main_arg8)) (m ((c.tc : Thread Cert.InProjGradIdeal.nD Cert.InProjGradIdeal.τ).loc Cert.InProjGradIdeal.main_arg9)) (m ((c.tc : Thread Cert.InProjGradIdeal.nD Cert.InProjGradIdeal.τ).loc Cert.InProjGradIdeal.main_arg10))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixGradIdeal (m : (ℓ : Loc Cert.MixGradIdeal.nD Cert.MixGradIdeal.τ Cert.MixGradIdeal.sig) → Buf (Elt Ideal) ℓ) : Prop :=
  True

def Pre_ForgetBwd (m : (ℓ : Loc Cert.ForgetBwd.nD Cert.ForgetBwd.τ Cert.ForgetBwd.sig) → Buf (Elt Bits) ℓ) : Prop :=
  True

def Pre_ForgetBwdIdeal (m : (ℓ : Loc Cert.ForgetBwdIdeal.nD Cert.ForgetBwdIdeal.τ Cert.ForgetBwdIdeal.sig) → Buf (Elt Ideal) ℓ) : Prop :=
  True

def Pre_ForgetGradIdeal (m : (ℓ : Loc Cert.ForgetGradIdeal.nD Cert.ForgetGradIdeal.τ Cert.ForgetGradIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_ffn_finite [hPre_ffn_finite : Cert.Pre_ffn_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))) = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5)) (m ((c.tc : Thread Cert.LossBwdIdeal.nD Cert.LossBwdIdeal.τ).loc Cert.LossBwdIdeal.main_arg6))) = (fun _ => 1#1)

def Pre_LossGradIdeal (m : (ℓ : Loc Cert.LossGradIdeal.nD Cert.LossGradIdeal.τ Cert.LossGradIdeal.sig) → Buf (Elt Ideal) ℓ) : Prop :=
  True

def Pre_LossGradIdeal_loss_finite [hPre_loss_finite : Cert.Pre_loss_finite.Facts] (m : (ℓ : Loc Cert.LossGradIdeal.nD Cert.LossGradIdeal.τ Cert.LossGradIdeal.sig) → Buf (Elt Ideal) ℓ) : Prop :=
  ∀ c : Dev Cert.LossGradIdeal.nD,
    (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3)) (m ((c.tc : Thread Cert.LossGradIdeal.nD Cert.LossGradIdeal.τ).loc Cert.LossGradIdeal.main_arg4)) (m ((c.tc : Thread Cert.LossGradIdeal.nD Cert.LossGradIdeal.τ).loc Cert.LossGradIdeal.main_arg5)) (m ((c.tc : Thread Cert.LossGradIdeal.nD Cert.LossGradIdeal.τ).loc Cert.LossGradIdeal.main_arg6))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolGradIdeal (m : (ℓ : Loc Cert.PoolGradIdeal.nD Cert.PoolGradIdeal.τ Cert.PoolGradIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9)
      ∧ r.2.mem ((c.tc : Thread Cert.InProjBwd.nD Cert.InProjBwd.τ).loc Cert.InProjBwd.main_arg10) = m ((c.tc : Thread Cert.InProjBwd.nD Cert.InProjBwd.τ).loc Cert.InProjBwd.main_arg10))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10))
      ∧ r.2.sem = fun _ => 0)

def quiescent_InProjBwdIdeal_pre_in_proj_finite [hInProjBwdIdeal : Cert.InProjBwdIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10))
      ∧ r.2.sem = fun _ => 0)

def quiescent_InProjGradIdeal [hInProjGradIdeal : Cert.InProjGradIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1)
      ∧ r.2.mem ((c.tc : Thread Cert.InProjGradIdeal.nD Cert.InProjGradIdeal.τ).loc Cert.InProjGradIdeal.main_arg2) = m ((c.tc : Thread Cert.InProjGradIdeal.nD Cert.InProjGradIdeal.τ).loc Cert.InProjGradIdeal.main_arg2)
      ∧ r.2.mem ((c.tc : Thread Cert.InProjGradIdeal.nD Cert.InProjGradIdeal.τ).loc Cert.InProjGradIdeal.main_arg3) = m ((c.tc : Thread Cert.InProjGradIdeal.nD Cert.InProjGradIdeal.τ).loc Cert.InProjGradIdeal.main_arg3)
      ∧ r.2.mem ((c.tc : Thread Cert.InProjGradIdeal.nD Cert.InProjGradIdeal.τ).loc Cert.InProjGradIdeal.main_arg4) = m ((c.tc : Thread Cert.InProjGradIdeal.nD Cert.InProjGradIdeal.τ).loc Cert.InProjGradIdeal.main_arg4)
      ∧ r.2.mem ((c.tc : Thread Cert.InProjGradIdeal.nD Cert.InProjGradIdeal.τ).loc Cert.InProjGradIdeal.main_arg5) = m ((c.tc : Thread Cert.InProjGradIdeal.nD Cert.InProjGradIdeal.τ).loc Cert.InProjGradIdeal.main_arg5)
      ∧ r.2.mem ((c.tc : Thread Cert.InProjGradIdeal.nD Cert.InProjGradIdeal.τ).loc Cert.InProjGradIdeal.main_arg6) = m ((c.tc : Thread Cert.InProjGradIdeal.nD Cert.InProjGradIdeal.τ).loc Cert.InProjGradIdeal.main_arg6)
      ∧ r.2.mem ((c.tc : Thread Cert.InProjGradIdeal.nD Cert.InProjGradIdeal.τ).loc Cert.InProjGradIdeal.main_arg7) = m ((c.tc : Thread Cert.InProjGradIdeal.nD Cert.InProjGradIdeal.τ).loc Cert.InProjGradIdeal.main_arg7)
      ∧ r.2.mem ((c.tc : Thread Cert.InProjGradIdeal.nD Cert.InProjGradIdeal.τ).loc Cert.InProjGradIdeal.main_arg8) = m ((c.tc : Thread Cert.InProjGradIdeal.nD Cert.InProjGradIdeal.τ).loc Cert.InProjGradIdeal.main_arg8)
      ∧ r.2.mem ((c.tc : Thread Cert.InProjGradIdeal.nD Cert.InProjGradIdeal.τ).loc Cert.InProjGradIdeal.main_arg9) = m ((c.tc : Thread Cert.InProjGradIdeal.nD Cert.InProjGradIdeal.τ).loc Cert.InProjGradIdeal.main_arg9)
      ∧ r.2.mem ((c.tc : Thread Cert.InProjGradIdeal.nD Cert.InProjGradIdeal.τ).loc Cert.InProjGradIdeal.main_arg10) = m ((c.tc : Thread Cert.InProjGradIdeal.nD Cert.InProjGradIdeal.τ).loc Cert.InProjGradIdeal.main_arg10))
      ∧ r.2.sem = fun _ => 0)

def quiescent_InProjGradIdeal_pre_in_proj_finite [hInProjGradIdeal : Cert.InProjGradIdeal.Facts] [hPre_in_proj_finite : Cert.Pre_in_proj_finite.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal_in_proj_finite m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1)
      ∧ r.2.mem ((c.tc : Thread Cert.InProjGradIdeal.nD Cert.InProjGradIdeal.τ).loc Cert.InProjGradIdeal.main_arg2) = m ((c.tc : Thread Cert.InProjGradIdeal.nD Cert.InProjGradIdeal.τ).loc Cert.InProjGradIdeal.main_arg2)
      ∧ r.2.mem ((c.tc : Thread Cert.InProjGradIdeal.nD Cert.InProjGradIdeal.τ).loc Cert.InProjGradIdeal.main_arg3) = m ((c.tc : Thread Cert.InProjGradIdeal.nD Cert.InProjGradIdeal.τ).loc Cert.InProjGradIdeal.main_arg3)
      ∧ r.2.mem ((c.tc : Thread Cert.InProjGradIdeal.nD Cert.InProjGradIdeal.τ).loc Cert.InProjGradIdeal.main_arg4) = m ((c.tc : Thread Cert.InProjGradIdeal.nD Cert.InProjGradIdeal.τ).loc Cert.InProjGradIdeal.main_arg4)
      ∧ r.2.mem ((c.tc : Thread Cert.InProjGradIdeal.nD Cert.InProjGradIdeal.τ).loc Cert.InProjGradIdeal.main_arg5) = m ((c.tc : Thread Cert.InProjGradIdeal.nD Cert.InProjGradIdeal.τ).loc Cert.InProjGradIdeal.main_arg5)
      ∧ r.2.mem ((c.tc : Thread Cert.InProjGradIdeal.nD Cert.InProjGradIdeal.τ).loc Cert.InProjGradIdeal.main_arg6) = m ((c.tc : Thread Cert.InProjGradIdeal.nD Cert.InProjGradIdeal.τ).loc Cert.InProjGradIdeal.main_arg6)
      ∧ r.2.mem ((c.tc : Thread Cert.InProjGradIdeal.nD Cert.InProjGradIdeal.τ).loc Cert.InProjGradIdeal.main_arg7) = m ((c.tc : Thread Cert.InProjGradIdeal.nD Cert.InProjGradIdeal.τ).loc Cert.InProjGradIdeal.main_arg7)
      ∧ r.2.mem ((c.tc : Thread Cert.InProjGradIdeal.nD Cert.InProjGradIdeal.τ).loc Cert.InProjGradIdeal.main_arg8) = m ((c.tc : Thread Cert.InProjGradIdeal.nD Cert.InProjGradIdeal.τ).loc Cert.InProjGradIdeal.main_arg8)
      ∧ r.2.mem ((c.tc : Thread Cert.InProjGradIdeal.nD Cert.InProjGradIdeal.τ).loc Cert.InProjGradIdeal.main_arg9) = m ((c.tc : Thread Cert.InProjGradIdeal.nD Cert.InProjGradIdeal.τ).loc Cert.InProjGradIdeal.main_arg9)
      ∧ r.2.mem ((c.tc : Thread Cert.InProjGradIdeal.nD Cert.InProjGradIdeal.τ).loc Cert.InProjGradIdeal.main_arg10) = m ((c.tc : Thread Cert.InProjGradIdeal.nD Cert.InProjGradIdeal.τ).loc Cert.InProjGradIdeal.main_arg10))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8))
      ∧ r.2.sem = fun _ => 0)

def quiescent_ForgetBwd [hForgetBwd : Cert.ForgetBwd.Facts] : Prop :=
  ∀ (m : (ℓ : Loc Cert.ForgetBwd.nD Cert.ForgetBwd.τ Cert.ForgetBwd.sig) → Buf (Elt Bits) ℓ) (g : Dev Cert.ForgetBwd.nD → PrngReg), Pre_ForgetBwd m →
    θ_run (Cert.ForgetBwd.defs (F := Bits)) (onTc (τ := Cert.ForgetBwd.τ) (Cert.ForgetBwd.main (F := Bits))) ⟨m, fun _ => 0, g⟩ (fun r => (∀ c : Dev Cert.ForgetBwd.nD,
      r.2.mem ((c.tc : Thread Cert.ForgetBwd.nD Cert.ForgetBwd.τ).loc Cert.ForgetBwd.main_arg0) = m ((c.tc : Thread Cert.ForgetBwd.nD Cert.ForgetBwd.τ).loc Cert.ForgetBwd.main_arg0)
      ∧ r.2.mem ((c.tc : Thread Cert.ForgetBwd.nD Cert.ForgetBwd.τ).loc Cert.ForgetBwd.main_arg1) = m ((c.tc : Thread Cert.ForgetBwd.nD Cert.ForgetBwd.τ).loc Cert.ForgetBwd.main_arg1)
      ∧ r.2.mem ((c.tc : Thread Cert.ForgetBwd.nD Cert.ForgetBwd.τ).loc Cert.ForgetBwd.main_arg2) = m ((c.tc : Thread Cert.ForgetBwd.nD Cert.ForgetBwd.τ).loc Cert.ForgetBwd.main_arg2)
      ∧ r.2.mem ((c.tc : Thread Cert.ForgetBwd.nD Cert.ForgetBwd.τ).loc Cert.ForgetBwd.main_arg3) = m ((c.tc : Thread Cert.ForgetBwd.nD Cert.ForgetBwd.τ).loc Cert.ForgetBwd.main_arg3))
      ∧ r.2.sem = fun _ => 0)

def quiescent_ForgetBwdIdeal [hForgetBwdIdeal : Cert.ForgetBwdIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
      ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
      ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ r.2.sem = fun _ => 0)

def quiescent_ForgetGradIdeal [hForgetGradIdeal : Cert.ForgetGradIdeal.Facts] : Prop :=
  ∀ (m : (ℓ : Loc Cert.ForgetGradIdeal.nD Cert.ForgetGradIdeal.τ Cert.ForgetGradIdeal.sig) → Buf (Elt Ideal) ℓ) (g : Dev Cert.ForgetGradIdeal.nD → PrngReg), Pre_ForgetGradIdeal m →
    θ_run (Cert.ForgetGradIdeal.defs (F := Ideal)) (onTc (τ := Cert.ForgetGradIdeal.τ) (Cert.ForgetGradIdeal.main (F := Ideal))) ⟨m, fun _ => 0, g⟩ (fun r => (∀ c : Dev Cert.ForgetGradIdeal.nD,
      r.2.mem ((c.tc : Thread Cert.ForgetGradIdeal.nD Cert.ForgetGradIdeal.τ).loc Cert.ForgetGradIdeal.main_arg0) = m ((c.tc : Thread Cert.ForgetGradIdeal.nD Cert.ForgetGradIdeal.τ).loc Cert.ForgetGradIdeal.main_arg0)
      ∧ r.2.mem ((c.tc : Thread Cert.ForgetGradIdeal.nD Cert.ForgetGradIdeal.τ).loc Cert.ForgetGradIdeal.main_arg1) = m ((c.tc : Thread Cert.ForgetGradIdeal.nD Cert.ForgetGradIdeal.τ).loc Cert.ForgetGradIdeal.main_arg1)
      ∧ r.2.mem ((c.tc : Thread Cert.ForgetGradIdeal.nD Cert.ForgetGradIdeal.τ).loc Cert.ForgetGradIdeal.main_arg2) = m ((c.tc : Thread Cert.ForgetGradIdeal.nD Cert.ForgetGradIdeal.τ).loc Cert.ForgetGradIdeal.main_arg2)
      ∧ r.2.mem ((c.tc : Thread Cert.ForgetGradIdeal.nD Cert.ForgetGradIdeal.τ).loc Cert.ForgetGradIdeal.main_arg3) = m ((c.tc : Thread Cert.ForgetGradIdeal.nD Cert.ForgetGradIdeal.τ).loc Cert.ForgetGradIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_ffn_finite [hFfnGradIdeal : Cert.FfnGradIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5)
      ∧ r.2.mem ((c.tc : Thread Cert.LossBwd.nD Cert.LossBwd.τ).loc Cert.LossBwd.main_arg6) = m ((c.tc : Thread Cert.LossBwd.nD Cert.LossBwd.τ).loc Cert.LossBwd.main_arg6))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5)
      ∧ r.2.mem ((c.tc : Thread Cert.LossBwdIdeal.nD Cert.LossBwdIdeal.τ).loc Cert.LossBwdIdeal.main_arg6) = m ((c.tc : Thread Cert.LossBwdIdeal.nD Cert.LossBwdIdeal.τ).loc Cert.LossBwdIdeal.main_arg6))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5)
      ∧ r.2.mem ((c.tc : Thread Cert.LossBwdIdeal.nD Cert.LossBwdIdeal.τ).loc Cert.LossBwdIdeal.main_arg6) = m ((c.tc : Thread Cert.LossBwdIdeal.nD Cert.LossBwdIdeal.τ).loc Cert.LossBwdIdeal.main_arg6))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4)
      ∧ r.2.mem ((c.tc : Thread Cert.LossGradIdeal.nD Cert.LossGradIdeal.τ).loc Cert.LossGradIdeal.main_arg5) = m ((c.tc : Thread Cert.LossGradIdeal.nD Cert.LossGradIdeal.τ).loc Cert.LossGradIdeal.main_arg5)
      ∧ r.2.mem ((c.tc : Thread Cert.LossGradIdeal.nD Cert.LossGradIdeal.τ).loc Cert.LossGradIdeal.main_arg6) = m ((c.tc : Thread Cert.LossGradIdeal.nD Cert.LossGradIdeal.τ).loc Cert.LossGradIdeal.main_arg6))
      ∧ r.2.sem = fun _ => 0)

def quiescent_LossGradIdeal_pre_loss_finite [hLossGradIdeal : Cert.LossGradIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal_loss_finite m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4)
      ∧ r.2.mem ((c.tc : Thread Cert.LossGradIdeal.nD Cert.LossGradIdeal.τ).loc Cert.LossGradIdeal.main_arg5) = m ((c.tc : Thread Cert.LossGradIdeal.nD Cert.LossGradIdeal.τ).loc Cert.LossGradIdeal.main_arg5)
      ∧ r.2.mem ((c.tc : Thread Cert.LossGradIdeal.nD Cert.LossGradIdeal.τ).loc Cert.LossGradIdeal.main_arg6) = m ((c.tc : Thread Cert.LossGradIdeal.nD Cert.LossGradIdeal.τ).loc Cert.LossGradIdeal.main_arg6))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2))
      ∧ r.2.sem = fun _ => 0)

def quiescent_PoolGradIdeal [hPoolGradIdeal : Cert.PoolGradIdeal.Facts] : Prop :=
  ∀ (m : (ℓ : Loc Cert.PoolGradIdeal.nD Cert.PoolGradIdeal.τ Cert.PoolGradIdeal.sig) → Buf (Elt Ideal) ℓ) (g : Dev Cert.PoolGradIdeal.nD → PrngReg), Pre_PoolGradIdeal m →
    θ_run (Cert.PoolGradIdeal.defs (F := Ideal)) (onTc (τ := Cert.PoolGradIdeal.τ) (Cert.PoolGradIdeal.main (F := Ideal))) ⟨m, fun _ => 0, g⟩ (fun r => (∀ c : Dev Cert.PoolGradIdeal.nD,
      r.2.mem ((c.tc : Thread Cert.PoolGradIdeal.nD Cert.PoolGradIdeal.τ).loc Cert.PoolGradIdeal.main_arg0) = m ((c.tc : Thread Cert.PoolGradIdeal.nD Cert.PoolGradIdeal.τ).loc Cert.PoolGradIdeal.main_arg0)
      ∧ r.2.mem ((c.tc : Thread Cert.PoolGradIdeal.nD Cert.PoolGradIdeal.τ).loc Cert.PoolGradIdeal.main_arg1) = m ((c.tc : Thread Cert.PoolGradIdeal.nD Cert.PoolGradIdeal.τ).loc Cert.PoolGradIdeal.main_arg1)
      ∧ r.2.mem ((c.tc : Thread Cert.PoolGradIdeal.nD Cert.PoolGradIdeal.τ).loc Cert.PoolGradIdeal.main_arg2) = m ((c.tc : Thread Cert.PoolGradIdeal.nD Cert.PoolGradIdeal.τ).loc Cert.PoolGradIdeal.main_arg2))
      ∧ r.2.sem = fun _ => 0)

def preserves_AttnBwd_AttnBwdIdeal : Prop :=
  True

def algebraic_AttnBwdIdeal_AttnGradIdeal_pre_attn_finite [hAttnBwdIdeal : Cert.AttnBwdIdeal.Facts] [hAttnGradIdeal : Cert.AttnGradIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_attn_finite m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)
      ∧ m' ((c.tc : Thread Cert.AttnGradIdeal.nD Cert.AttnGradIdeal.τ).loc Cert.AttnGradIdeal.main_arg3) = m ((c.tc : Thread Cert.AttnBwdIdeal.nD Cert.AttnBwdIdeal.τ).loc Cert.AttnBwdIdeal.main_arg3)
      ∧ m' ((c.tc : Thread Cert.AttnGradIdeal.nD Cert.AttnGradIdeal.τ).loc Cert.AttnGradIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v80_0)) (v1 : (c : Dev Cert.AttnBwdIdeal.nD) → Buf (Elt Ideal) ((c.tc : Thread Cert.AttnBwdIdeal.nD Cert.AttnBwdIdeal.τ).loc Cert.AttnBwdIdeal.main_v80_1)) (v2 : (c : Dev Cert.AttnBwdIdeal.nD) → Buf (Elt Ideal) ((c.tc : Thread Cert.AttnBwdIdeal.nD Cert.AttnBwdIdeal.τ).loc Cert.AttnBwdIdeal.main_v80_2)) (v3 : (c : Dev Cert.AttnBwdIdeal.nD) → Buf (Elt Ideal) ((c.tc : Thread Cert.AttnBwdIdeal.nD Cert.AttnBwdIdeal.τ).loc Cert.AttnBwdIdeal.main_v80_3)) (v4 : (c : Dev Cert.AttnBwdIdeal.nD) → Buf (Elt Ideal) ((c.tc : Thread Cert.AttnBwdIdeal.nD Cert.AttnBwdIdeal.τ).loc Cert.AttnBwdIdeal.main_v80_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v80_0) = v0 c
          ∧ r.2.mem ((c.tc : Thread Cert.AttnBwdIdeal.nD Cert.AttnBwdIdeal.τ).loc Cert.AttnBwdIdeal.main_v80_1) = v1 c
          ∧ r.2.mem ((c.tc : Thread Cert.AttnBwdIdeal.nD Cert.AttnBwdIdeal.τ).loc Cert.AttnBwdIdeal.main_v80_2) = v2 c
          ∧ r.2.mem ((c.tc : Thread Cert.AttnBwdIdeal.nD Cert.AttnBwdIdeal.τ).loc Cert.AttnBwdIdeal.main_v80_3) = v3 c
          ∧ r.2.mem ((c.tc : Thread Cert.AttnBwdIdeal.nD Cert.AttnBwdIdeal.τ).loc Cert.AttnBwdIdeal.main_v80_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v90) = v0 c
          ∧ r.2.mem ((c.tc : Thread Cert.AttnGradIdeal.nD Cert.AttnGradIdeal.τ).loc Cert.AttnGradIdeal.main_v92) = v1 c
          ∧ r.2.mem ((c.tc : Thread Cert.AttnGradIdeal.nD Cert.AttnGradIdeal.τ).loc Cert.AttnGradIdeal.main_v94) = v2 c
          ∧ r.2.mem ((c.tc : Thread Cert.AttnGradIdeal.nD Cert.AttnGradIdeal.τ).loc Cert.AttnGradIdeal.main_v96) = v3 c
          ∧ r.2.mem ((c.tc : Thread Cert.AttnGradIdeal.nD Cert.AttnGradIdeal.τ).loc Cert.AttnGradIdeal.main_v98) = v4 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m' ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m' ((c.tc : Thread Cert.AttnGradIdeal.nD Cert.AttnGradIdeal.τ).loc Cert.AttnGradIdeal.main_arg4))

def preserves_InProjBwd_InProjBwdIdeal : Prop :=
  True

def algebraic_InProjBwdIdeal_InProjGradIdeal_pre_in_proj_finite [hInProjBwdIdeal : Cert.InProjBwdIdeal.Facts] [hInProjGradIdeal : Cert.InProjGradIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjGradIdeal.nD Cert.InProjGradIdeal.τ Cert.InProjGradIdeal.sig) → Buf (Elt Ideal) ℓ) (g' : Dev Cert.InProjGradIdeal.nD → PrngReg), Pre_InProjBwdIdeal_in_proj_finite m →
    (∀ c : Dev Cert.InProjBwdIdeal.nD,
      m' ((c.tc : Thread Cert.InProjGradIdeal.nD Cert.InProjGradIdeal.τ).loc Cert.InProjGradIdeal.main_arg0) = m ((c.tc : Thread Cert.InProjBwdIdeal.nD Cert.InProjBwdIdeal.τ).loc Cert.InProjBwdIdeal.main_arg0)
      ∧ m' ((c.tc : Thread Cert.InProjGradIdeal.nD Cert.InProjGradIdeal.τ).loc Cert.InProjGradIdeal.main_arg1) = m ((c.tc : Thread Cert.InProjBwdIdeal.nD Cert.InProjBwdIdeal.τ).loc Cert.InProjBwdIdeal.main_arg1)
      ∧ m' ((c.tc : Thread Cert.InProjGradIdeal.nD Cert.InProjGradIdeal.τ).loc Cert.InProjGradIdeal.main_arg2) = m ((c.tc : Thread Cert.InProjBwdIdeal.nD Cert.InProjBwdIdeal.τ).loc Cert.InProjBwdIdeal.main_arg2)
      ∧ m' ((c.tc : Thread Cert.InProjGradIdeal.nD Cert.InProjGradIdeal.τ).loc Cert.InProjGradIdeal.main_arg3) = m ((c.tc : Thread Cert.InProjBwdIdeal.nD Cert.InProjBwdIdeal.τ).loc Cert.InProjBwdIdeal.main_arg3)
      ∧ m' ((c.tc : Thread Cert.InProjGradIdeal.nD Cert.InProjGradIdeal.τ).loc Cert.InProjGradIdeal.main_arg4) = m ((c.tc : Thread Cert.InProjBwdIdeal.nD Cert.InProjBwdIdeal.τ).loc Cert.InProjBwdIdeal.main_arg4)
      ∧ m' ((c.tc : Thread Cert.InProjGradIdeal.nD Cert.InProjGradIdeal.τ).loc Cert.InProjGradIdeal.main_arg5) = m ((c.tc : Thread Cert.InProjBwdIdeal.nD Cert.InProjBwdIdeal.τ).loc Cert.InProjBwdIdeal.main_arg5)
      ∧ m' ((c.tc : Thread Cert.InProjGradIdeal.nD Cert.InProjGradIdeal.τ).loc Cert.InProjGradIdeal.main_arg6) = m ((c.tc : Thread Cert.InProjBwdIdeal.nD Cert.InProjBwdIdeal.τ).loc Cert.InProjBwdIdeal.main_arg6)
      ∧ m' ((c.tc : Thread Cert.InProjGradIdeal.nD Cert.InProjGradIdeal.τ).loc Cert.InProjGradIdeal.main_arg7) = m ((c.tc : Thread Cert.InProjBwdIdeal.nD Cert.InProjBwdIdeal.τ).loc Cert.InProjBwdIdeal.main_arg7)
      ∧ m' ((c.tc : Thread Cert.InProjGradIdeal.nD Cert.InProjGradIdeal.τ).loc Cert.InProjGradIdeal.main_arg8) = m ((c.tc : Thread Cert.InProjBwdIdeal.nD Cert.InProjBwdIdeal.τ).loc Cert.InProjBwdIdeal.main_arg8)
      ∧ m' ((c.tc : Thread Cert.InProjGradIdeal.nD Cert.InProjGradIdeal.τ).loc Cert.InProjGradIdeal.main_arg9) = m ((c.tc : Thread Cert.InProjBwdIdeal.nD Cert.InProjBwdIdeal.τ).loc Cert.InProjBwdIdeal.main_arg9)
      ∧ m' ((c.tc : Thread Cert.InProjGradIdeal.nD Cert.InProjGradIdeal.τ).loc Cert.InProjGradIdeal.main_arg10) = m ((c.tc : Thread Cert.InProjBwdIdeal.nD Cert.InProjBwdIdeal.τ).loc Cert.InProjBwdIdeal.main_arg10)) →
    ∃ (v0 : (c : Dev Cert.InProjBwdIdeal.nD) → Buf (Elt Ideal) ((c.tc : Thread Cert.InProjBwdIdeal.nD Cert.InProjBwdIdeal.τ).loc Cert.InProjBwdIdeal.main_v25_0)) (v1 : (c : Dev Cert.InProjBwdIdeal.nD) → Buf (Elt Ideal) ((c.tc : Thread Cert.InProjBwdIdeal.nD Cert.InProjBwdIdeal.τ).loc Cert.InProjBwdIdeal.main_v25_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v25_0) = v0 c
          ∧ r.2.mem ((c.tc : Thread Cert.InProjBwdIdeal.nD Cert.InProjBwdIdeal.τ).loc Cert.InProjBwdIdeal.main_v25_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
          ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10))
      ∧ θ_run (Cert.InProjGradIdeal.defs (F := Ideal)) (onTc (τ := Cert.InProjGradIdeal.τ) (Cert.InProjGradIdeal.main (F := Ideal))) ⟨m', fun _ => 0, g'⟩ (fun r => ∀ c : Dev Cert.InProjGradIdeal.nD,
          r.2.mem ((c.tc : Thread Cert.InProjGradIdeal.nD Cert.InProjGradIdeal.τ).loc Cert.InProjGradIdeal.main_v62) = v0 c
          ∧ r.2.mem ((c.tc : Thread Cert.InProjGradIdeal.nD Cert.InProjGradIdeal.τ).loc Cert.InProjGradIdeal.main_v61) = v1 c
          ∧ r.2.mem ((c.tc : Thread Cert.InProjGradIdeal.nD Cert.InProjGradIdeal.τ).loc Cert.InProjGradIdeal.main_arg0) = m' ((c.tc : Thread Cert.InProjGradIdeal.nD Cert.InProjGradIdeal.τ).loc Cert.InProjGradIdeal.main_arg0)
          ∧ r.2.mem ((c.tc : Thread Cert.InProjGradIdeal.nD Cert.InProjGradIdeal.τ).loc Cert.InProjGradIdeal.main_arg1) = m' ((c.tc : Thread Cert.InProjGradIdeal.nD Cert.InProjGradIdeal.τ).loc Cert.InProjGradIdeal.main_arg1)
          ∧ r.2.mem ((c.tc : Thread Cert.InProjGradIdeal.nD Cert.InProjGradIdeal.τ).loc Cert.InProjGradIdeal.main_arg2) = m' ((c.tc : Thread Cert.InProjGradIdeal.nD Cert.InProjGradIdeal.τ).loc Cert.InProjGradIdeal.main_arg2)
          ∧ r.2.mem ((c.tc : Thread Cert.InProjGradIdeal.nD Cert.InProjGradIdeal.τ).loc Cert.InProjGradIdeal.main_arg3) = m' ((c.tc : Thread Cert.InProjGradIdeal.nD Cert.InProjGradIdeal.τ).loc Cert.InProjGradIdeal.main_arg3)
          ∧ r.2.mem ((c.tc : Thread Cert.InProjGradIdeal.nD Cert.InProjGradIdeal.τ).loc Cert.InProjGradIdeal.main_arg4) = m' ((c.tc : Thread Cert.InProjGradIdeal.nD Cert.InProjGradIdeal.τ).loc Cert.InProjGradIdeal.main_arg4)
          ∧ r.2.mem ((c.tc : Thread Cert.InProjGradIdeal.nD Cert.InProjGradIdeal.τ).loc Cert.InProjGradIdeal.main_arg5) = m' ((c.tc : Thread Cert.InProjGradIdeal.nD Cert.InProjGradIdeal.τ).loc Cert.InProjGradIdeal.main_arg5)
          ∧ r.2.mem ((c.tc : Thread Cert.InProjGradIdeal.nD Cert.InProjGradIdeal.τ).loc Cert.InProjGradIdeal.main_arg6) = m' ((c.tc : Thread Cert.InProjGradIdeal.nD Cert.InProjGradIdeal.τ).loc Cert.InProjGradIdeal.main_arg6)
          ∧ r.2.mem ((c.tc : Thread Cert.InProjGradIdeal.nD Cert.InProjGradIdeal.τ).loc Cert.InProjGradIdeal.main_arg7) = m' ((c.tc : Thread Cert.InProjGradIdeal.nD Cert.InProjGradIdeal.τ).loc Cert.InProjGradIdeal.main_arg7)
          ∧ r.2.mem ((c.tc : Thread Cert.InProjGradIdeal.nD Cert.InProjGradIdeal.τ).loc Cert.InProjGradIdeal.main_arg8) = m' ((c.tc : Thread Cert.InProjGradIdeal.nD Cert.InProjGradIdeal.τ).loc Cert.InProjGradIdeal.main_arg8)
          ∧ r.2.mem ((c.tc : Thread Cert.InProjGradIdeal.nD Cert.InProjGradIdeal.τ).loc Cert.InProjGradIdeal.main_arg9) = m' ((c.tc : Thread Cert.InProjGradIdeal.nD Cert.InProjGradIdeal.τ).loc Cert.InProjGradIdeal.main_arg9)
          ∧ r.2.mem ((c.tc : Thread Cert.InProjGradIdeal.nD Cert.InProjGradIdeal.τ).loc Cert.InProjGradIdeal.main_arg10) = m' ((c.tc : Thread Cert.InProjGradIdeal.nD Cert.InProjGradIdeal.τ).loc Cert.InProjGradIdeal.main_arg10))

def preserves_MixBwd_MixBwdIdeal : Prop :=
  True

def algebraic_MixBwdIdeal_MixGradIdeal [hMixBwdIdeal : Cert.MixBwdIdeal.Facts] [hMixGradIdeal : Cert.MixGradIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixBwdIdeal m →
    (∀ c : Dev Cert.MixBwdIdeal.nD,
      m' ((c.tc : Thread Cert.MixGradIdeal.nD Cert.MixGradIdeal.τ).loc Cert.MixGradIdeal.main_arg0) = m ((c.tc : Thread Cert.MixBwdIdeal.nD Cert.MixBwdIdeal.τ).loc Cert.MixBwdIdeal.main_arg0)
      ∧ m' ((c.tc : Thread Cert.MixGradIdeal.nD Cert.MixGradIdeal.τ).loc Cert.MixGradIdeal.main_arg1) = m ((c.tc : Thread Cert.MixBwdIdeal.nD Cert.MixBwdIdeal.τ).loc Cert.MixBwdIdeal.main_arg1)
      ∧ m' ((c.tc : Thread Cert.MixGradIdeal.nD Cert.MixGradIdeal.τ).loc Cert.MixGradIdeal.main_arg2) = m ((c.tc : Thread Cert.MixBwdIdeal.nD Cert.MixBwdIdeal.τ).loc Cert.MixBwdIdeal.main_arg2)
      ∧ m' ((c.tc : Thread Cert.MixGradIdeal.nD Cert.MixGradIdeal.τ).loc Cert.MixGradIdeal.main_arg3) = m ((c.tc : Thread Cert.MixBwdIdeal.nD Cert.MixBwdIdeal.τ).loc Cert.MixBwdIdeal.main_arg3)
      ∧ m' ((c.tc : Thread Cert.MixGradIdeal.nD Cert.MixGradIdeal.τ).loc Cert.MixGradIdeal.main_arg4) = m ((c.tc : Thread Cert.MixBwdIdeal.nD Cert.MixBwdIdeal.τ).loc Cert.MixBwdIdeal.main_arg4)
      ∧ m' ((c.tc : Thread Cert.MixGradIdeal.nD Cert.MixGradIdeal.τ).loc Cert.MixGradIdeal.main_arg5) = m ((c.tc : Thread Cert.MixBwdIdeal.nD Cert.MixBwdIdeal.τ).loc Cert.MixBwdIdeal.main_arg5)
      ∧ m' ((c.tc : Thread Cert.MixGradIdeal.nD Cert.MixGradIdeal.τ).loc Cert.MixGradIdeal.main_arg6) = m ((c.tc : Thread Cert.MixBwdIdeal.nD Cert.MixBwdIdeal.τ).loc Cert.MixBwdIdeal.main_arg6)
      ∧ m' ((c.tc : Thread Cert.MixGradIdeal.nD Cert.MixGradIdeal.τ).loc Cert.MixGradIdeal.main_arg7) = m ((c.tc : Thread Cert.MixBwdIdeal.nD Cert.MixBwdIdeal.τ).loc Cert.MixBwdIdeal.main_arg7)
      ∧ m' ((c.tc : Thread Cert.MixGradIdeal.nD Cert.MixGradIdeal.τ).loc Cert.MixGradIdeal.main_arg8) = m ((c.tc : Thread Cert.MixBwdIdeal.nD Cert.MixBwdIdeal.τ).loc Cert.MixBwdIdeal.main_arg8)) →
    ∃ (v0 : (c : Dev Cert.MixBwdIdeal.nD) → Buf (Elt Ideal) ((c.tc : Thread Cert.MixBwdIdeal.nD Cert.MixBwdIdeal.τ).loc Cert.MixBwdIdeal.main_v25_0)) (v1 : (c : Dev Cert.MixBwdIdeal.nD) → Buf (Elt Ideal) ((c.tc : Thread Cert.MixBwdIdeal.nD Cert.MixBwdIdeal.τ).loc Cert.MixBwdIdeal.main_v25_1)) (v2 : (c : Dev Cert.MixBwdIdeal.nD) → Buf (Elt Ideal) ((c.tc : Thread Cert.MixBwdIdeal.nD Cert.MixBwdIdeal.τ).loc Cert.MixBwdIdeal.main_v25_2)) (v3 : (c : Dev Cert.MixBwdIdeal.nD) → Buf (Elt Ideal) ((c.tc : Thread Cert.MixBwdIdeal.nD Cert.MixBwdIdeal.τ).loc Cert.MixBwdIdeal.main_v25_3)) (v4 : (c : Dev Cert.MixBwdIdeal.nD) → Buf (Elt Ideal) ((c.tc : Thread Cert.MixBwdIdeal.nD Cert.MixBwdIdeal.τ).loc Cert.MixBwdIdeal.main_v25_4)) (v5 : (c : Dev Cert.MixBwdIdeal.nD) → Buf (Elt Ideal) ((c.tc : Thread Cert.MixBwdIdeal.nD Cert.MixBwdIdeal.τ).loc Cert.MixBwdIdeal.main_v25_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v25_0) = v0 c
          ∧ r.2.mem ((c.tc : Thread Cert.MixBwdIdeal.nD Cert.MixBwdIdeal.τ).loc Cert.MixBwdIdeal.main_v25_1) = v1 c
          ∧ r.2.mem ((c.tc : Thread Cert.MixBwdIdeal.nD Cert.MixBwdIdeal.τ).loc Cert.MixBwdIdeal.main_v25_2) = v2 c
          ∧ r.2.mem ((c.tc : Thread Cert.MixBwdIdeal.nD Cert.MixBwdIdeal.τ).loc Cert.MixBwdIdeal.main_v25_3) = v3 c
          ∧ r.2.mem ((c.tc : Thread Cert.MixBwdIdeal.nD Cert.MixBwdIdeal.τ).loc Cert.MixBwdIdeal.main_v25_4) = v4 c
          ∧ r.2.mem ((c.tc : Thread Cert.MixBwdIdeal.nD Cert.MixBwdIdeal.τ).loc Cert.MixBwdIdeal.main_v25_5) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v49) = v0 c
          ∧ r.2.mem ((c.tc : Thread Cert.MixGradIdeal.nD Cert.MixGradIdeal.τ).loc Cert.MixGradIdeal.main_v51) = v1 c
          ∧ r.2.mem ((c.tc : Thread Cert.MixGradIdeal.nD Cert.MixGradIdeal.τ).loc Cert.MixGradIdeal.main_v53) = v2 c
          ∧ r.2.mem ((c.tc : Thread Cert.MixGradIdeal.nD Cert.MixGradIdeal.τ).loc Cert.MixGradIdeal.main_v55) = v3 c
          ∧ r.2.mem ((c.tc : Thread Cert.MixGradIdeal.nD Cert.MixGradIdeal.τ).loc Cert.MixGradIdeal.main_v57) = v4 c
          ∧ r.2.mem ((c.tc : Thread Cert.MixGradIdeal.nD Cert.MixGradIdeal.τ).loc Cert.MixGradIdeal.main_v46) = v5 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m' ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m' ((c.tc : Thread Cert.MixGradIdeal.nD Cert.MixGradIdeal.τ).loc Cert.MixGradIdeal.main_arg8))

def preserves_ForgetBwd_ForgetBwdIdeal : Prop :=
  True

def algebraic_ForgetBwdIdeal_ForgetGradIdeal [hForgetBwdIdeal : Cert.ForgetBwdIdeal.Facts] [hForgetGradIdeal : Cert.ForgetGradIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg)
    (m' : (ℓ : Loc Cert.ForgetGradIdeal.nD Cert.ForgetGradIdeal.τ Cert.ForgetGradIdeal.sig) → Buf (Elt Ideal) ℓ) (g' : Dev Cert.ForgetGradIdeal.nD → PrngReg), Pre_ForgetBwdIdeal m →
    (∀ c : Dev Cert.ForgetBwdIdeal.nD,
      m' ((c.tc : Thread Cert.ForgetGradIdeal.nD Cert.ForgetGradIdeal.τ).loc Cert.ForgetGradIdeal.main_arg0) = m ((c.tc : Thread Cert.ForgetBwdIdeal.nD Cert.ForgetBwdIdeal.τ).loc Cert.ForgetBwdIdeal.main_arg0)
      ∧ m' ((c.tc : Thread Cert.ForgetGradIdeal.nD Cert.ForgetGradIdeal.τ).loc Cert.ForgetGradIdeal.main_arg1) = m ((c.tc : Thread Cert.ForgetBwdIdeal.nD Cert.ForgetBwdIdeal.τ).loc Cert.ForgetBwdIdeal.main_arg1)
      ∧ m' ((c.tc : Thread Cert.ForgetGradIdeal.nD Cert.ForgetGradIdeal.τ).loc Cert.ForgetGradIdeal.main_arg2) = m ((c.tc : Thread Cert.ForgetBwdIdeal.nD Cert.ForgetBwdIdeal.τ).loc Cert.ForgetBwdIdeal.main_arg2)
      ∧ m' ((c.tc : Thread Cert.ForgetGradIdeal.nD Cert.ForgetGradIdeal.τ).loc Cert.ForgetGradIdeal.main_arg3) = m ((c.tc : Thread Cert.ForgetBwdIdeal.nD Cert.ForgetBwdIdeal.τ).loc Cert.ForgetBwdIdeal.main_arg3)) →
    ∃ (v0 : (c : Dev Cert.ForgetBwdIdeal.nD) → Buf (Elt Ideal) ((c.tc : Thread Cert.ForgetBwdIdeal.nD Cert.ForgetBwdIdeal.τ).loc Cert.ForgetBwdIdeal.main_v8_0)) (v1 : (c : Dev Cert.ForgetBwdIdeal.nD) → Buf (Elt Ideal) ((c.tc : Thread Cert.ForgetBwdIdeal.nD Cert.ForgetBwdIdeal.τ).loc Cert.ForgetBwdIdeal.main_v8_1)),
      θ_run (Cert.ForgetBwdIdeal.defs (F := Ideal)) (onTc (τ := Cert.ForgetBwdIdeal.τ) (Cert.ForgetBwdIdeal.main (F := Ideal))) ⟨m, fun _ => 0, g⟩ (fun r => ∀ c : Dev Cert.ForgetBwdIdeal.nD,
          r.2.mem ((c.tc : Thread Cert.ForgetBwdIdeal.nD Cert.ForgetBwdIdeal.τ).loc Cert.ForgetBwdIdeal.main_v8_0) = v0 c
          ∧ r.2.mem ((c.tc : Thread Cert.ForgetBwdIdeal.nD Cert.ForgetBwdIdeal.τ).loc Cert.ForgetBwdIdeal.main_v8_1) = v1 c
          ∧ r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
          ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
          ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
          ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ θ_run (Cert.ForgetGradIdeal.defs (F := Ideal)) (onTc (τ := Cert.ForgetGradIdeal.τ) (Cert.ForgetGradIdeal.main (F := Ideal))) ⟨m', fun _ => 0, g'⟩ (fun r => ∀ c : Dev Cert.ForgetGradIdeal.nD,
          r.2.mem ((c.tc : Thread Cert.ForgetGradIdeal.nD Cert.ForgetGradIdeal.τ).loc Cert.ForgetGradIdeal.main_v15) = v0 c
          ∧ r.2.mem ((c.tc : Thread Cert.ForgetGradIdeal.nD Cert.ForgetGradIdeal.τ).loc Cert.ForgetGradIdeal.main_v16) = v1 c
          ∧ r.2.mem ((c.tc : Thread Cert.ForgetGradIdeal.nD Cert.ForgetGradIdeal.τ).loc Cert.ForgetGradIdeal.main_arg0) = m' ((c.tc : Thread Cert.ForgetGradIdeal.nD Cert.ForgetGradIdeal.τ).loc Cert.ForgetGradIdeal.main_arg0)
          ∧ r.2.mem ((c.tc : Thread Cert.ForgetGradIdeal.nD Cert.ForgetGradIdeal.τ).loc Cert.ForgetGradIdeal.main_arg1) = m' ((c.tc : Thread Cert.ForgetGradIdeal.nD Cert.ForgetGradIdeal.τ).loc Cert.ForgetGradIdeal.main_arg1)
          ∧ r.2.mem ((c.tc : Thread Cert.ForgetGradIdeal.nD Cert.ForgetGradIdeal.τ).loc Cert.ForgetGradIdeal.main_arg2) = m' ((c.tc : Thread Cert.ForgetGradIdeal.nD Cert.ForgetGradIdeal.τ).loc Cert.ForgetGradIdeal.main_arg2)
          ∧ r.2.mem ((c.tc : Thread Cert.ForgetGradIdeal.nD Cert.ForgetGradIdeal.τ).loc Cert.ForgetGradIdeal.main_arg3) = m' ((c.tc : Thread Cert.ForgetGradIdeal.nD Cert.ForgetGradIdeal.τ).loc Cert.ForgetGradIdeal.main_arg3))

def preserves_FfnBwd_FfnBwdIdeal : Prop :=
  True

def algebraic_FfnBwdIdeal_FfnGradIdeal_pre_ffn_finite [hFfnBwdIdeal : Cert.FfnBwdIdeal.Facts] [hFfnGradIdeal : Cert.FfnGradIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_ffn_finite m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)
      ∧ m' ((c.tc : Thread Cert.FfnGradIdeal.nD Cert.FfnGradIdeal.τ).loc Cert.FfnGradIdeal.main_arg4) = m ((c.tc : Thread Cert.FfnBwdIdeal.nD Cert.FfnBwdIdeal.τ).loc Cert.FfnBwdIdeal.main_arg4)
      ∧ m' ((c.tc : Thread Cert.FfnGradIdeal.nD Cert.FfnGradIdeal.τ).loc Cert.FfnGradIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v32_0)) (v1 : (c : Dev Cert.FfnBwdIdeal.nD) → Buf (Elt Ideal) ((c.tc : Thread Cert.FfnBwdIdeal.nD Cert.FfnBwdIdeal.τ).loc Cert.FfnBwdIdeal.main_v32_1)) (v2 : (c : Dev Cert.FfnBwdIdeal.nD) → Buf (Elt Ideal) ((c.tc : Thread Cert.FfnBwdIdeal.nD Cert.FfnBwdIdeal.τ).loc Cert.FfnBwdIdeal.main_v32_2)) (v3 : (c : Dev Cert.FfnBwdIdeal.nD) → Buf (Elt Ideal) ((c.tc : Thread Cert.FfnBwdIdeal.nD Cert.FfnBwdIdeal.τ).loc Cert.FfnBwdIdeal.main_v32_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v32_0) = v0 c
          ∧ r.2.mem ((c.tc : Thread Cert.FfnBwdIdeal.nD Cert.FfnBwdIdeal.τ).loc Cert.FfnBwdIdeal.main_v32_1) = v1 c
          ∧ r.2.mem ((c.tc : Thread Cert.FfnBwdIdeal.nD Cert.FfnBwdIdeal.τ).loc Cert.FfnBwdIdeal.main_v32_2) = v2 c
          ∧ r.2.mem ((c.tc : Thread Cert.FfnBwdIdeal.nD Cert.FfnBwdIdeal.τ).loc Cert.FfnBwdIdeal.main_v32_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v57) = v0 c
          ∧ r.2.mem ((c.tc : Thread Cert.FfnGradIdeal.nD Cert.FfnGradIdeal.τ).loc Cert.FfnGradIdeal.main_v59) = v1 c
          ∧ r.2.mem ((c.tc : Thread Cert.FfnGradIdeal.nD Cert.FfnGradIdeal.τ).loc Cert.FfnGradIdeal.main_v60) = v2 c
          ∧ r.2.mem ((c.tc : Thread Cert.FfnGradIdeal.nD Cert.FfnGradIdeal.τ).loc Cert.FfnGradIdeal.main_v55) = v3 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5))

def preserves_LossBwd_LossBwdIdeal : Prop :=
  True

def algebraic_LossBwdIdeal_LossGradIdeal_pre_loss_finite [hLossBwdIdeal : Cert.LossBwdIdeal.Facts] [hLossGradIdeal : Cert.LossGradIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossBwdIdeal_loss_finite m →
    (∀ c : Dev Cert.LossBwdIdeal.nD,
      m' ((c.tc : Thread Cert.LossGradIdeal.nD Cert.LossGradIdeal.τ).loc Cert.LossGradIdeal.main_arg0) = m ((c.tc : Thread Cert.LossBwdIdeal.nD Cert.LossBwdIdeal.τ).loc Cert.LossBwdIdeal.main_arg0)
      ∧ m' ((c.tc : Thread Cert.LossGradIdeal.nD Cert.LossGradIdeal.τ).loc Cert.LossGradIdeal.main_arg1) = m ((c.tc : Thread Cert.LossBwdIdeal.nD Cert.LossBwdIdeal.τ).loc Cert.LossBwdIdeal.main_arg1)
      ∧ m' ((c.tc : Thread Cert.LossGradIdeal.nD Cert.LossGradIdeal.τ).loc Cert.LossGradIdeal.main_arg2) = m ((c.tc : Thread Cert.LossBwdIdeal.nD Cert.LossBwdIdeal.τ).loc Cert.LossBwdIdeal.main_arg2)
      ∧ m' ((c.tc : Thread Cert.LossGradIdeal.nD Cert.LossGradIdeal.τ).loc Cert.LossGradIdeal.main_arg3) = m ((c.tc : Thread Cert.LossBwdIdeal.nD Cert.LossBwdIdeal.τ).loc Cert.LossBwdIdeal.main_arg3)
      ∧ m' ((c.tc : Thread Cert.LossGradIdeal.nD Cert.LossGradIdeal.τ).loc Cert.LossGradIdeal.main_arg4) = m ((c.tc : Thread Cert.LossBwdIdeal.nD Cert.LossBwdIdeal.τ).loc Cert.LossBwdIdeal.main_arg4)
      ∧ m' ((c.tc : Thread Cert.LossGradIdeal.nD Cert.LossGradIdeal.τ).loc Cert.LossGradIdeal.main_arg5) = m ((c.tc : Thread Cert.LossBwdIdeal.nD Cert.LossBwdIdeal.τ).loc Cert.LossBwdIdeal.main_arg5)
      ∧ m' ((c.tc : Thread Cert.LossGradIdeal.nD Cert.LossGradIdeal.τ).loc Cert.LossGradIdeal.main_arg6) = m ((c.tc : Thread Cert.LossBwdIdeal.nD Cert.LossBwdIdeal.τ).loc Cert.LossBwdIdeal.main_arg6)) →
    ∃ (v0 : (c : Dev Cert.LossBwdIdeal.nD) → Buf (Elt Ideal) ((c.tc : Thread Cert.LossBwdIdeal.nD Cert.LossBwdIdeal.τ).loc Cert.LossBwdIdeal.main_v11_0)) (v1 : (c : Dev Cert.LossBwdIdeal.nD) → Buf (Elt Ideal) ((c.tc : Thread Cert.LossBwdIdeal.nD Cert.LossBwdIdeal.τ).loc Cert.LossBwdIdeal.main_v11_1)) (v2 : (c : Dev Cert.LossBwdIdeal.nD) → Buf (Elt Ideal) ((c.tc : Thread Cert.LossBwdIdeal.nD Cert.LossBwdIdeal.τ).loc Cert.LossBwdIdeal.main_v11_2)) (v3 : (c : Dev Cert.LossBwdIdeal.nD) → Buf (Elt Ideal) ((c.tc : Thread Cert.LossBwdIdeal.nD Cert.LossBwdIdeal.τ).loc Cert.LossBwdIdeal.main_v11_3)) (v4 : (c : Dev Cert.LossBwdIdeal.nD) → Buf (Elt Ideal) ((c.tc : Thread Cert.LossBwdIdeal.nD Cert.LossBwdIdeal.τ).loc Cert.LossBwdIdeal.main_v11_4)) (v5 : (c : Dev Cert.LossBwdIdeal.nD) → Buf (Elt Ideal) ((c.tc : Thread Cert.LossBwdIdeal.nD Cert.LossBwdIdeal.τ).loc Cert.LossBwdIdeal.main_v11_5)) (v6 : (c : Dev Cert.LossBwdIdeal.nD) → Buf (Elt Ideal) ((c.tc : Thread Cert.LossBwdIdeal.nD Cert.LossBwdIdeal.τ).loc Cert.LossBwdIdeal.main_v11_6)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v11_0) = v0 c
          ∧ r.2.mem ((c.tc : Thread Cert.LossBwdIdeal.nD Cert.LossBwdIdeal.τ).loc Cert.LossBwdIdeal.main_v11_1) = v1 c
          ∧ r.2.mem ((c.tc : Thread Cert.LossBwdIdeal.nD Cert.LossBwdIdeal.τ).loc Cert.LossBwdIdeal.main_v11_2) = v2 c
          ∧ r.2.mem ((c.tc : Thread Cert.LossBwdIdeal.nD Cert.LossBwdIdeal.τ).loc Cert.LossBwdIdeal.main_v11_3) = v3 c
          ∧ r.2.mem ((c.tc : Thread Cert.LossBwdIdeal.nD Cert.LossBwdIdeal.τ).loc Cert.LossBwdIdeal.main_v11_4) = v4 c
          ∧ r.2.mem ((c.tc : Thread Cert.LossBwdIdeal.nD Cert.LossBwdIdeal.τ).loc Cert.LossBwdIdeal.main_v11_5) = v5 c
          ∧ r.2.mem ((c.tc : Thread Cert.LossBwdIdeal.nD Cert.LossBwdIdeal.τ).loc Cert.LossBwdIdeal.main_v11_6) = v6 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5)
          ∧ r.2.mem ((c.tc : Thread Cert.LossBwdIdeal.nD Cert.LossBwdIdeal.τ).loc Cert.LossBwdIdeal.main_arg6) = m ((c.tc : Thread Cert.LossBwdIdeal.nD Cert.LossBwdIdeal.τ).loc Cert.LossBwdIdeal.main_arg6))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v75) = v0 c
          ∧ r.2.mem ((c.tc : Thread Cert.LossGradIdeal.nD Cert.LossGradIdeal.τ).loc Cert.LossGradIdeal.main_v77) = v1 c
          ∧ r.2.mem ((c.tc : Thread Cert.LossGradIdeal.nD Cert.LossGradIdeal.τ).loc Cert.LossGradIdeal.main_v79) = v2 c
          ∧ r.2.mem ((c.tc : Thread Cert.LossGradIdeal.nD Cert.LossGradIdeal.τ).loc Cert.LossGradIdeal.main_v81) = v3 c
          ∧ r.2.mem ((c.tc : Thread Cert.LossGradIdeal.nD Cert.LossGradIdeal.τ).loc Cert.LossGradIdeal.main_v82) = v4 c
          ∧ r.2.mem ((c.tc : Thread Cert.LossGradIdeal.nD Cert.LossGradIdeal.τ).loc Cert.LossGradIdeal.main_v83) = v5 c
          ∧ r.2.mem ((c.tc : Thread Cert.LossGradIdeal.nD Cert.LossGradIdeal.τ).loc Cert.LossGradIdeal.main_v84) = v6 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m' ((c.tc : Thread Cert.LossGradIdeal.nD Cert.LossGradIdeal.τ).loc Cert.LossGradIdeal.main_arg3)
          ∧ r.2.mem ((c.tc : Thread Cert.LossGradIdeal.nD Cert.LossGradIdeal.τ).loc Cert.LossGradIdeal.main_arg4) = m' ((c.tc : Thread Cert.LossGradIdeal.nD Cert.LossGradIdeal.τ).loc Cert.LossGradIdeal.main_arg4)
          ∧ r.2.mem ((c.tc : Thread Cert.LossGradIdeal.nD Cert.LossGradIdeal.τ).loc Cert.LossGradIdeal.main_arg5) = m' ((c.tc : Thread Cert.LossGradIdeal.nD Cert.LossGradIdeal.τ).loc Cert.LossGradIdeal.main_arg5)
          ∧ r.2.mem ((c.tc : Thread Cert.LossGradIdeal.nD Cert.LossGradIdeal.τ).loc Cert.LossGradIdeal.main_arg6) = m' ((c.tc : Thread Cert.LossGradIdeal.nD Cert.LossGradIdeal.τ).loc Cert.LossGradIdeal.main_arg6))

def preserves_PoolBwd_PoolBwdIdeal : Prop :=
  True

def Claim : Prop :=
  ∃ (hAttnBwd : Cert.AttnBwd.Facts) (hAttnBwdIdeal : Cert.AttnBwdIdeal.Facts) (hAttnGradIdeal : Cert.AttnGradIdeal.Facts) (hInProjBwd : Cert.InProjBwd.Facts) (hInProjBwdIdeal : Cert.InProjBwdIdeal.Facts) (hInProjGradIdeal : Cert.InProjGradIdeal.Facts) (hMixBwd : Cert.MixBwd.Facts) (hMixBwdIdeal : Cert.MixBwdIdeal.Facts) (hMixGradIdeal : Cert.MixGradIdeal.Facts) (hForgetBwd : Cert.ForgetBwd.Facts) (hForgetBwdIdeal : Cert.ForgetBwdIdeal.Facts) (hForgetGradIdeal : Cert.ForgetGradIdeal.Facts) (hFfnBwd : Cert.FfnBwd.Facts) (hFfnBwdIdeal : Cert.FfnBwdIdeal.Facts) (hFfnGradIdeal : Cert.FfnGradIdeal.Facts) (hLossBwd : Cert.LossBwd.Facts) (hLossBwdIdeal : Cert.LossBwdIdeal.Facts) (hLossGradIdeal : Cert.LossGradIdeal.Facts) (hPoolBwd : Cert.PoolBwd.Facts) (hPoolBwdIdeal : Cert.PoolBwdIdeal.Facts) (hPoolGradIdeal : Cert.PoolGradIdeal.Facts) (hPre_attn_finite : Cert.Pre_attn_finite.Facts) (hPre_in_proj_finite : Cert.Pre_in_proj_finite.Facts) (hPre_ffn_finite : Cert.Pre_ffn_finite.Facts) (hPre_loss_finite : Cert.Pre_loss_finite.Facts),
    quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_InProjBwd (hInProjBwd := hInProjBwd)
    ∧ quiescent_InProjBwdIdeal (hInProjBwdIdeal := hInProjBwdIdeal)
    ∧ quiescent_InProjBwdIdeal_pre_in_proj_finite (hInProjBwdIdeal := hInProjBwdIdeal) (hPre_in_proj_finite := hPre_in_proj_finite)
    ∧ quiescent_InProjGradIdeal (hInProjGradIdeal := hInProjGradIdeal)
    ∧ quiescent_InProjGradIdeal_pre_in_proj_finite (hInProjGradIdeal := hInProjGradIdeal) (hPre_in_proj_finite := hPre_in_proj_finite)
    ∧ quiescent_MixBwd (hMixBwd := hMixBwd)
    ∧ quiescent_MixBwdIdeal (hMixBwdIdeal := hMixBwdIdeal)
    ∧ quiescent_MixGradIdeal (hMixGradIdeal := hMixGradIdeal)
    ∧ quiescent_ForgetBwd (hForgetBwd := hForgetBwd)
    ∧ quiescent_ForgetBwdIdeal (hForgetBwdIdeal := hForgetBwdIdeal)
    ∧ quiescent_ForgetGradIdeal (hForgetGradIdeal := hForgetGradIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnGradIdeal (hFfnGradIdeal := hFfnGradIdeal)
    ∧ quiescent_FfnGradIdeal_pre_ffn_finite (hFfnGradIdeal := hFfnGradIdeal) (hPre_ffn_finite := hPre_ffn_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossGradIdeal (hLossGradIdeal := hLossGradIdeal)
    ∧ quiescent_LossGradIdeal_pre_loss_finite (hLossGradIdeal := hLossGradIdeal) (hPre_loss_finite := hPre_loss_finite)
    ∧ quiescent_PoolBwd (hPoolBwd := hPoolBwd)
    ∧ quiescent_PoolBwdIdeal (hPoolBwdIdeal := hPoolBwdIdeal)
    ∧ quiescent_PoolGradIdeal (hPoolGradIdeal := hPoolGradIdeal)
    ∧ preserves_AttnBwd_AttnBwdIdeal
    ∧ algebraic_AttnBwdIdeal_AttnGradIdeal_pre_attn_finite (hAttnBwdIdeal := hAttnBwdIdeal) (hAttnGradIdeal := hAttnGradIdeal) (hPre_attn_finite := hPre_attn_finite)
    ∧ preserves_InProjBwd_InProjBwdIdeal
    ∧ algebraic_InProjBwdIdeal_InProjGradIdeal_pre_in_proj_finite (hInProjBwdIdeal := hInProjBwdIdeal) (hInProjGradIdeal := hInProjGradIdeal) (hPre_in_proj_finite := hPre_in_proj_finite)
    ∧ preserves_MixBwd_MixBwdIdeal
    ∧ algebraic_MixBwdIdeal_MixGradIdeal (hMixBwdIdeal := hMixBwdIdeal) (hMixGradIdeal := hMixGradIdeal)
    ∧ preserves_ForgetBwd_ForgetBwdIdeal
    ∧ algebraic_ForgetBwdIdeal_ForgetGradIdeal (hForgetBwdIdeal := hForgetBwdIdeal) (hForgetGradIdeal := hForgetGradIdeal)
    ∧ preserves_FfnBwd_FfnBwdIdeal
    ∧ algebraic_FfnBwdIdeal_FfnGradIdeal_pre_ffn_finite (hFfnBwdIdeal := hFfnBwdIdeal) (hFfnGradIdeal := hFfnGradIdeal) (hPre_ffn_finite := hPre_ffn_finite)
    ∧ preserves_LossBwd_LossBwdIdeal
    ∧ algebraic_LossBwdIdeal_LossGradIdeal_pre_loss_finite (hLossBwdIdeal := hLossBwdIdeal) (hLossGradIdeal := hLossGradIdeal) (hPre_loss_finite := hPre_loss_finite)
    ∧ preserves_PoolBwd_PoolBwdIdeal
-- ==== Pre_attn_finite.lean ====
abbrev S2x2048x512 : Shape := ⟨3, ![2, 2048, 512]⟩
abbrev S2x2048x8 : Shape := ⟨3, ![2, 2048, 8]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x2048x8 : S_.BroadcastsInDim S2x2048x8 (![] : Fin 0 → Fin S2x2048x8.rank)
  reducesTo_S2x2048x8_S_d0_1_2 : S2x2048x8.ReducesTo [0, 1, 2] S_

variable [Facts]

def fn_part1 {F : FTy → Type} [FloatOps F] (main_arg4 : FVec F S2x2048x512 .f32) (main_v13 : IVec S_ 1) (main_v16 : IVec S2x2048x8 1) : IVec S_ 1 :=
  let main_c_5 : IVec S_ 1 := constantI S_ 1 1#1
  let main_v17 : IVec S_ 1 := (fun x v => Host.reduce IntOp.andi x v reducesTo_S2x2048x8_S_d0_1_2 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  main_v23

def fn {F : FTy → Type} [FloatOps F] (main_arg0 : FVec F S2x2048x512 .f32) (main_arg1 : FVec F S2x2048x512 .f32) (main_arg2 : FVec F S2x2048x512 .f32) (main_arg3 : FVec F S2x2048x8 .f32) (main_arg4 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S2x2048x8 .f32 := Host.absf main_arg3
  let main_cst_4 : FVec F S_ .f32 := constant S_ .f32 0x7F800000#32
  let main_v15 : FVec F S2x2048x8 .f32 := broadcastInDim S2x2048x8 ![] bcast_S_S2x2048x8 main_cst_4
  let main_v16 : IVec S2x2048x8 1 := cmpf .olt main_v14 main_v15
  fn_part1 (F := F) main_arg4 main_v13 main_v16
-- ==== Pre_ffn_finite.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S2x2048x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  main_v28

def fn {F : FTy → Type} [FloatOps F] (main_arg0 : FVec F S2x2048x1024 .f32) (main_arg1 : FVec F S1x1024 .f32) (main_arg2 : FVec F S1x1024x2816 .f32) (main_arg3 : FVec F S1x1024x2816 .f32) (main_arg4 : FVec F S1x2816x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_v13 main_v16
-- ==== Pre_in_proj_finite.lean ====
abbrev S2x2048x1024 : Shape := ⟨3, ![2, 2048, 1024]⟩
abbrev S1x1024 : Shape := ⟨2, ![1, 1024]⟩
abbrev S1x1024x4104 : Shape := ⟨3, ![1, 1024, 4104]⟩
abbrev S2x2048x512 : Shape := ⟨3, ![2, 2048, 512]⟩
abbrev S2x2048x8 : Shape := ⟨3, ![2, 2048, 8]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4104 : S_.BroadcastsInDim S1x1024x4104 (![] : Fin 0 → Fin S1x1024x4104.rank)
  reducesTo_S1x1024x4104_S_d0_1_2 : S1x1024x4104.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x8 : S_.BroadcastsInDim S2x2048x8 (![] : Fin 0 → Fin S2x2048x8.rank)
  reducesTo_S2x2048x8_S_d0_1_2 : S2x2048x8.ReducesTo [0, 1, 2] S_

variable [Facts]

def fn_part2 {F : FTy → Type} [FloatOps F] (main_arg7 : FVec F S2x2048x8 .f32) (main_arg8 : FVec F S2x2048x1024 .f32) (main_arg9 : FVec F S2x2048x1024 .f32) (main_v33 : IVec S_ 1) : IVec S_ 1 :=
  let main_v34 : FVec F S2x2048x8 .f32 := Host.absf main_arg7
  let main_cst_12 : FVec F S_ .f32 := constant S_ .f32 0x7F800000#32
  let main_v35 : FVec F S2x2048x8 .f32 := broadcastInDim S2x2048x8 ![] bcast_S_S2x2048x8 main_cst_12
  let main_v36 : IVec S2x2048x8 1 := cmpf .olt main_v34 main_v35
  let main_c_13 : IVec S_ 1 := constantI S_ 1 1#1
  let main_v37 : IVec S_ 1 := (fun x v => Host.reduce IntOp.andi x v reducesTo_S2x2048x8_S_d0_1_2 h_S_) main_v36 main_c_13
  let main_v38 : IVec S_ 1 := andi main_v33 main_v37
  let main_v39 : FVec F S2x2048x1024 .f32 := Host.absf main_arg8
  let main_cst_14 : FVec F S_ .f32 := constant S_ .f32 0x7F800000#32
  let main_v40 : FVec F S2x2048x1024 .f32 := broadcastInDim S2x2048x1024 ![] bcast_S_S2x2048x1024 main_cst_14
  let main_v41 : IVec S2x2048x1024 1 := cmpf .olt main_v39 main_v40
  let main_c_15 : IVec S_ 1 := constantI S_ 1 1#1
  let main_v42 : IVec S_ 1 := (fun x v => Host.reduce IntOp.andi x v reducesTo_S2x2048x1024_S_d0_1_2 h_S_) main_v41 main_c_15
  let main_v43 : IVec S_ 1 := andi main_v38 main_v42
  let main_v44 : FVec F S2x2048x1024 .f32 := Host.absf main_arg9
  let main_cst_16 : FVec F S_ .f32 := constant S_ .f32 0x7F800000#32
  let main_v45 : FVec F S2x2048x1024 .f32 := broadcastInDim S2x2048x1024 ![] bcast_S_S2x2048x1024 main_cst_16
  let main_v46 : IVec S2x2048x1024 1 := cmpf .olt main_v44 main_v45
  let main_c_17 : IVec S_ 1 := constantI S_ 1 1#1
  let main_v47 : IVec S_ 1 := (fun x v => Host.reduce IntOp.andi x v reducesTo_S2x2048x1024_S_d0_1_2 h_S_) main_v46 main_c_17
  let main_v48 : IVec S_ 1 := andi main_v43 main_v47
  main_v48

def fn_part1 {F : FTy → Type} [FloatOps F] (main_arg4 : FVec F S2x2048x512 .f32) (main_arg5 : FVec F S2x2048x512 .f32) (main_arg6 : FVec F S2x2048x512 .f32) (main_arg7 : FVec F S2x2048x8 .f32) (main_arg8 : FVec F S2x2048x1024 .f32) (main_arg9 : FVec F S2x2048x1024 .f32) (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  let main_v24 : FVec F S2x2048x512 .f32 := Host.absf main_arg5
  let main_cst_8 : FVec F S_ .f32 := constant S_ .f32 0x7F800000#32
  let main_v25 : FVec F S2x2048x512 .f32 := broadcastInDim S2x2048x512 ![] bcast_S_S2x2048x512 main_cst_8
  let main_v26 : IVec S2x2048x512 1 := cmpf .olt main_v24 main_v25
  let main_c_9 : IVec S_ 1 := constantI S_ 1 1#1
  let main_v27 : IVec S_ 1 := (fun x v => Host.reduce IntOp.andi x v reducesTo_S2x2048x512_S_d0_1_2 h_S_) main_v26 main_c_9
  let main_v28 : IVec S_ 1 := andi main_v23 main_v27
  let main_v29 : FVec F S2x2048x512 .f32 := Host.absf main_arg6
  let main_cst_10 : FVec F S_ .f32 := constant S_ .f32 0x7F800000#32
  let main_v30 : FVec F S2x2048x512 .f32 := broadcastInDim S2x2048x512 ![] bcast_S_S2x2048x512 main_cst_10
  let main_v31 : IVec S2x2048x512 1 := cmpf .olt main_v29 main_v30
  let main_c_11 : IVec S_ 1 := constantI S_ 1 1#1
  let main_v32 : IVec S_ 1 := (fun x v => Host.reduce IntOp.andi x v reducesTo_S2x2048x512_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S2x2048x1024 .f32) (main_arg1 : FVec F S1x1024 .f32) (main_arg2 : FVec F S1x1024x4104 .f32) (main_arg3 : FVec F S2x2048x512 .f32) (main_arg4 : FVec F S2x2048x512 .f32) (main_arg5 : FVec F S2x2048x512 .f32) (main_arg6 : FVec F S2x2048x512 .f32) (main_arg7 : FVec F S2x2048x8 .f32) (main_arg8 : FVec F S2x2048x1024 .f32) (main_arg9 : FVec F S2x2048x1024 .f32) (main_arg10 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4104 .f32 := Host.absf main_arg2
  let main_cst_2 : FVec F S_ .f32 := constant S_ .f32 0x7F800000#32
  let main_v10 : FVec F S1x1024x4104 .f32 := broadcastInDim S1x1024x4104 ![] bcast_S_S1x1024x4104 main_cst_2
  let main_v11 : IVec S1x1024x4104 1 := cmpf .olt main_v9 main_v10
  let main_c_3 : IVec S_ 1 := constantI S_ 1 1#1
  let main_v12 : IVec S_ 1 := (fun x v => Host.reduce IntOp.andi x v reducesTo_S1x1024x4104_S_d0_1_2 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_arg4 main_arg5 main_arg6 main_arg7 main_arg8 main_arg9 main_v13 main_v16
-- ==== Pre_loss_finite.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1x2816x1024 .f32) (main_arg5 : FVec F S1024 .f32) (main_arg6 : FVec F S2x2048x1024 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  main_v33

def fn {F : FTy → Type} [FloatOps F] (main_arg0 : FVec F S2x2048x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== AttnBwd.lean ====
abbrev S2x2048x512 : Shape := ⟨3, ![2, 2048, 512]⟩
abbrev S2x2048x8 : Shape := ⟨3, ![2, 2048, 8]⟩
abbrev S_ : Shape := ⟨0, ![]⟩
abbrev S2x2048x8x64 : Shape := ⟨4, ![2, 2048, 8, 64]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩
abbrev S4096x512 : Shape := ⟨2, ![4096, 512]⟩
abbrev S4096x1536 : Shape := ⟨2, ![4096, 1536]⟩
abbrev S4096x8 : Shape := ⟨2, ![4096, 8]⟩
abbrev S4096x128 : Shape := ⟨2, ![4096, 128]⟩
abbrev S2048x512 : Shape := ⟨2, ![2048, 512]⟩
abbrev S512x512 : Shape := ⟨2, ![512, 512]⟩
abbrev S2048x128 : Shape := ⟨2, ![2048, 128]⟩
abbrev S512x128 : Shape := ⟨2, ![512, 128]⟩
abbrev S8x2048x128 : Shape := ⟨3, ![8, 2048, 128]⟩
abbrev S8x4x128x512 : Shape := ⟨4, ![8, 4, 128, 512]⟩
abbrev S8x512x128 : Shape := ⟨3, ![8, 512, 128]⟩
abbrev S8x128x512 : Shape := ⟨3, ![8, 128, 512]⟩
abbrev S1x128 : Shape := ⟨2, ![1, 128]⟩
abbrev S128x1024 : Shape := ⟨2, ![128, 1024]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩
abbrev S128x512 : Shape := ⟨2, ![128, 512]⟩
abbrev S1x1x128x512 : Shape := ⟨4, ![1, 1, 128, 512]⟩
abbrev S1x128x512 : Shape := ⟨3, ![1, 128, 512]⟩

abbrev nBuf : Space → Nat
  | .hbm => 111
  | .vmem => 31
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x8, .f32⟩
  | .hbm, ⟨4, _⟩ => ⟨S2x2048x512, .f32⟩
  | .hbm, ⟨5, _⟩ => ⟨S_, .f32⟩
  | .hbm, ⟨6, _⟩ => ⟨S_, .f32⟩
  | .hbm, ⟨7, _⟩ => ⟨S2x2048x8, .f32⟩
  | .hbm, ⟨8, _⟩ => ⟨S2x2048x8x64, .f32⟩
  | .hbm, ⟨9, _⟩ => ⟨S2x2048x8x64, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x2048, .f32⟩
  | .hbm, ⟨19, _⟩ => ⟨S2x8x1x2048, .f32⟩
  | .hbm, ⟨20, _⟩ => ⟨S2x8x2048x2048, .f32⟩
  | .hbm, ⟨21, _⟩ => ⟨S2x8x2048x2048, .f32⟩
  | .hbm, ⟨22, _⟩ => ⟨S2048, .i32⟩
  | .hbm, ⟨23, _⟩ => ⟨S2048x1, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S2x8x2048x2048, .i1⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x1, .f32⟩
  | .hbm, ⟨43, _⟩ => ⟨S2x8x2048x1, .f32⟩
  | .hbm, ⟨44, _⟩ => ⟨S2x8x2048, .f32⟩
  | .hbm, ⟨45, _⟩ => ⟨S2x2048x8, .f32⟩
  | .hbm, ⟨46, _⟩ => ⟨S2x2048x8x64, .f32⟩
  | .hbm, ⟨47, _⟩ => ⟨S2x2048x8x64, .f32⟩
  | .hbm, ⟨48, _⟩ => ⟨S2x8x2048x2048, .f32⟩
  | .hbm, ⟨49, _⟩ => ⟨S_, .f32⟩
  | .hbm, ⟨50, _⟩ => ⟨S2x8x2048x2048, .f32⟩
  | .hbm, ⟨51, _⟩ => ⟨S2x8x2048x2048, .f32⟩
  | .hbm, ⟨52, _⟩ => ⟨S2x8x2048, .f32⟩
  | .hbm, ⟨53, _⟩ => ⟨S2x8x2048x1, .f32⟩
  | .hbm, ⟨54, _⟩ => ⟨S2x8x2048x2048, .f32⟩
  | .hbm, ⟨55, _⟩ => ⟨S2x8x2048x2048, .f32⟩
  | .hbm, ⟨56, _⟩ => ⟨S2x8x2048, .f32⟩
  | .hbm, ⟨57, _⟩ => ⟨S2x8x1x2048, .f32⟩
  | .hbm, ⟨58, _⟩ => ⟨S2x8x2048x2048, .f32⟩
  | .hbm, ⟨59, _⟩ => ⟨S2x8x2048x2048, .f32⟩
  | .hbm, ⟨60, _⟩ => ⟨S2048, .i32⟩
  | .hbm, ⟨61, _⟩ => ⟨S2048x1, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S2x8x2048x2048, .i1⟩
  | .hbm, ⟨69, _⟩ => ⟨S2x8x2048x2048, .f32⟩
  | .hbm, ⟨70, _⟩ => ⟨S2x8x2048x2048, .f32⟩
  | .hbm, ⟨71, _⟩ => ⟨S_, .f32⟩
  | .hbm, ⟨72, _⟩ => ⟨S2x8x2048, .f32⟩
  | .hbm, ⟨73, _⟩ => ⟨S_, .f32⟩
  | .hbm, ⟨74, _⟩ => ⟨S2x8x2048, .f32⟩
  | .hbm, ⟨75, _⟩ => ⟨S2x8x2048, .f32⟩
  | .hbm, ⟨76, _⟩ => ⟨S2x8x2048x1, .f32⟩
  | .hbm, ⟨77, _⟩ => ⟨S2x8x2048x2048, .f32⟩
  | .hbm, ⟨78, _⟩ => ⟨S2x8x2048x2048, .f32⟩
  | .hbm, ⟨79, _⟩ => ⟨S2x8x2048x2048, .f32⟩
  | .hbm, ⟨80, _⟩ => ⟨S_, .f32⟩
  | .hbm, ⟨81, _⟩ => ⟨S2x8x2048, .f32⟩
  | .hbm, ⟨82, _⟩ => ⟨S2x8x2048x1, .f32⟩
  | .hbm, ⟨83, _⟩ => ⟨S2x8x2048x2048, .f32⟩
  | .hbm, ⟨84, _⟩ => ⟨S2x8x2048x2048, .f32⟩
  | .hbm, ⟨85, _⟩ => ⟨S2x2048x8x64, .f32⟩
  | .hbm, ⟨86, _⟩ => ⟨S2x8x64x2048, .f32⟩
  | .hbm, ⟨87, _⟩ => ⟨S2x2048x8x64, .f32⟩
  | .hbm, ⟨88, _⟩ => ⟨S2x2048x512, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S4096x1536, .f32⟩
  | .hbm, ⟨93, _⟩ => ⟨S4096x1536, .bf16⟩
  | .hbm, ⟨94, _⟩ => ⟨S4096x512, .f32⟩
  | .hbm, ⟨95, _⟩ => ⟨S4096x512, .bf16⟩
  | .hbm, ⟨96, _⟩ => ⟨S4096x512, .f32⟩
  | .hbm, ⟨97, _⟩ => ⟨S4096x512, .bf16⟩
  | .hbm, ⟨98, _⟩ => ⟨S4096x8, .f32⟩
  | .hbm, ⟨99, _⟩ => ⟨S_, .i32⟩
  | .hbm, ⟨100, _⟩ => ⟨S_, .f32⟩
  | .hbm, ⟨101, _⟩ => ⟨S4096x128, .f32⟩
  | .hbm, ⟨102, _⟩ => ⟨S4096x8, .f32⟩
  | .hbm, ⟨103, _⟩ => ⟨S_, .i32⟩
  | .hbm, ⟨104, _⟩ => ⟨S_, .f32⟩
  | .hbm, ⟨105, _⟩ => ⟨S4096x128, .f32⟩
  | .hbm, ⟨106, _⟩ => ⟨S4096x512, .bf16⟩
  | .hbm, ⟨107, _⟩ => ⟨S4096x512, .bf16⟩
  | .hbm, ⟨108, _⟩ => ⟨S4096x512, .bf16⟩
  | .hbm, ⟨109, _⟩ => ⟨S4096x128, .f32⟩
  | .hbm, ⟨110, _⟩ => ⟨S4096x128, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x128, .f32⟩
  | .local _ .vmem, ⟨11, _⟩ => ⟨S2048x128, .f32⟩
  | .local _ .vmem, ⟨12, _⟩ => ⟨S2048x512, .bf16⟩
  | .local _ .vmem, ⟨13, _⟩ => ⟨S2048x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S2048x128, .f32⟩
  | .local _ .vmem, ⟨21, _⟩ => ⟨S2048x128, .f32⟩
  | .local _ .vmem, ⟨22, _⟩ => ⟨S8x2048x128, .bf16⟩
  | .local _ .vmem, ⟨23, _⟩ => ⟨S8x2048x128, .bf16⟩
  | .local _ .vmem, ⟨24, _⟩ => ⟨S8x4x128x512, .bf16⟩
  | .local _ .vmem, ⟨25, _⟩ => ⟨S8x4x128x512, .bf16⟩
  | .local _ .vmem, ⟨26, _⟩ => ⟨S8x2048x128, .f32⟩
  | .local _ .vmem, ⟨27, _⟩ => ⟨S8x512x128, .bf16⟩
  | .local _ .vmem, ⟨28, _⟩ => ⟨S8x512x128, .bf16⟩
  | .local _ .vmem, ⟨29, _⟩ => ⟨S8x128x512, .f32⟩
  | .local _ .vmem, ⟨30, _⟩ => ⟨S8x128x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c : Ref sig .tc := ⟨.hbm, 99, rfl⟩
abbrev main_call3_v0 : Ref sig .tc := ⟨.hbm, 100, rfl⟩
abbrev main_v77 : Ref sig .tc := ⟨.hbm, 101, rfl⟩
abbrev main_v78 : Ref sig .tc := ⟨.hbm, 102, rfl⟩
abbrev main_c_8 : Ref sig .tc := ⟨.hbm, 103, rfl⟩
abbrev main_call4_v0 : Ref sig .tc := ⟨.hbm, 104, rfl⟩
abbrev main_v79 : Ref sig .tc := ⟨.hbm, 105, rfl⟩
abbrev main_v80_0 : Ref sig .tc := ⟨.hbm, 106, rfl⟩
abbrev main_v80_1 : Ref sig .tc := ⟨.hbm, 107, rfl⟩
abbrev main_v80_2 : Ref sig .tc := ⟨.hbm, 108, rfl⟩
abbrev main_v80_3 : Ref sig .tc := ⟨.hbm, 109, rfl⟩
abbrev main_v80_4 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_650 : BitVec 32 := 0#32
  let c4_i32_651 : BitVec 32 := 4#32
  let v1197 : BitVec 32 := Scalar.addi c0_i32_650 c4_i32_651
  let c1_i32_652 : BitVec 32 := 1#32
  ⟨c0_i32_650, v1197, c1_i32_652⟩
def k0_mult1 (k0_t1 : Fin k0_t1_loop.trips) : BitVec 32 :=
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  v1198
def k0_off1 (k0_t1 : Fin k0_t1_loop.trips) : Fin 2 → Nat :=
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1201 : Index := Scalar.indexCast v1199
  let c0_656 : Index := 0#32
  ![v1201.toNat, 0]
def k0_off2 (k0_t1 : Fin k0_t1_loop.trips) : Fin 2 → Nat :=
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1255 : Index := Scalar.indexCast v1199
  let c128_670 : Index := 128#32
  ![v1255.toNat, 128]
def k0_off3 (k0_t1 : Fin k0_t1_loop.trips) : Fin 2 → Nat :=
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1309 : Index := Scalar.indexCast v1199
  let c256_684 : Index := 256#32
  ![v1309.toNat, 256]
def k0_off4 (k0_t1 : Fin k0_t1_loop.trips) : Fin 2 → Nat :=
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1363 : Index := Scalar.indexCast v1199
  let c384_698 : Index := 384#32
  ![v1363.toNat, 384]
def k0_off5 (k0_t1 : Fin k0_t1_loop.trips) : Fin 2 → Nat :=
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1417 : Index := Scalar.indexCast v1199
  let c0_712 : Index := 0#32
  ![v1417.toNat, 0]
def k0_off6 (k0_t1 : Fin k0_t1_loop.trips) : Fin 3 → Nat :=
  let c0_737 : Index := 0#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1521 : Index := Scalar.indexCast v1199
  let c0_738 : Index := 0#32
  ![0, v1521.toNat, 0]
def k0_off7 (k0_t1 : Fin k0_t1_loop.trips) : Fin 4 → Nat :=
  let c0_741 : Index := 0#32
  let c0_i32_650 : BitVec 32 := 0#32
  let c1_i32_652 : BitVec 32 := 1#32
  let arg23 : BitVec 32 := Scf.iv c0_i32_650 c1_i32_652 k0_t1
  let v1532 : Index := Scalar.indexCast arg23
  let c0_742 : Index := 0#32
  let c0_743 : Index := 0#32
  ![0, v1532.toNat, 0, 0]
def k0_off8 (k0_t1 : Fin k0_t1_loop.trips) : Fin 3 → Nat :=
  let c1_756 : Index := 1#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1578 : Index := Scalar.indexCast v1199
  let c0_757 : Index := 0#32
  ![1, v1578.toNat, 0]
def k0_off9 (k0_t1 : Fin k0_t1_loop.trips) : Fin 4 → Nat :=
  let c1_760 : Index := 1#32
  let c0_i32_650 : BitVec 32 := 0#32
  let c1_i32_652 : BitVec 32 := 1#32
  let arg23 : BitVec 32 := Scf.iv c0_i32_650 c1_i32_652 k0_t1
  let v1589 : Index := Scalar.indexCast arg23
  let c0_761 : Index := 0#32
  let c0_762 : Index := 0#32
  ![1, v1589.toNat, 0, 0]
def k0_off10 (k0_t1 : Fin k0_t1_loop.trips) : Fin 3 → Nat :=
  let c2_775 : Index := 2#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1635 : Index := Scalar.indexCast v1199
  let c0_776 : Index := 0#32
  ![2, v1635.toNat, 0]
def k0_off11 (k0_t1 : Fin k0_t1_loop.trips) : Fin 4 → Nat :=
  let c2_779 : Index := 2#32
  let c0_i32_650 : BitVec 32 := 0#32
  let c1_i32_652 : BitVec 32 := 1#32
  let arg23 : BitVec 32 := Scf.iv c0_i32_650 c1_i32_652 k0_t1
  let v1646 : Index := Scalar.indexCast arg23
  let c0_780 : Index := 0#32
  let c0_781 : Index := 0#32
  ![2, v1646.toNat, 0, 0]
def k0_off12 (k0_t1 : Fin k0_t1_loop.trips) : Fin 3 → Nat :=
  let c3_794 : Index := 3#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1692 : Index := Scalar.indexCast v1199
  let c0_795 : Index := 0#32
  ![3, v1692.toNat, 0]
def k0_off13 (k0_t1 : Fin k0_t1_loop.trips) : Fin 4 → Nat :=
  let c3_798 : Index := 3#32
  let c0_i32_650 : BitVec 32 := 0#32
  let c1_i32_652 : BitVec 32 := 1#32
  let arg23 : BitVec 32 := Scf.iv c0_i32_650 c1_i32_652 k0_t1
  let v1703 : Index := Scalar.indexCast arg23
  let c0_799 : Index := 0#32
  let c0_800 : Index := 0#32
  ![3, v1703.toNat, 0, 0]
def k0_off14 (k0_t1 : Fin k0_t1_loop.trips) : Fin 3 → Nat :=
  let c4_813 : Index := 4#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1749 : Index := Scalar.indexCast v1199
  let c0_814 : Index := 0#32
  ![4, v1749.toNat, 0]
def k0_off15 (k0_t1 : Fin k0_t1_loop.trips) : Fin 4 → Nat :=
  let c4_817 : Index := 4#32
  let c0_i32_650 : BitVec 32 := 0#32
  let c1_i32_652 : BitVec 32 := 1#32
  let arg23 : BitVec 32 := Scf.iv c0_i32_650 c1_i32_652 k0_t1
  let v1760 : Index := Scalar.indexCast arg23
  let c0_818 : Index := 0#32
  let c0_819 : Index := 0#32
  ![4, v1760.toNat, 0, 0]
def k0_off16 (k0_t1 : Fin k0_t1_loop.trips) : Fin 3 → Nat :=
  let c5_832 : Index := 5#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1806 : Index := Scalar.indexCast v1199
  let c0_833 : Index := 0#32
  ![5, v1806.toNat, 0]
def k0_off17 (k0_t1 : Fin k0_t1_loop.trips) : Fin 4 → Nat :=
  let c5_836 : Index := 5#32
  let c0_i32_650 : BitVec 32 := 0#32
  let c1_i32_652 : BitVec 32 := 1#32
  let arg23 : BitVec 32 := Scf.iv c0_i32_650 c1_i32_652 k0_t1
  let v1817 : Index := Scalar.indexCast arg23
  let c0_837 : Index := 0#32
  let c0_838 : Index := 0#32
  ![5, v1817.toNat, 0, 0]
def k0_off18 (k0_t1 : Fin k0_t1_loop.trips) : Fin 3 → Nat :=
  let c6_851 : Index := 6#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1863 : Index := Scalar.indexCast v1199
  let c0_852 : Index := 0#32
  ![6, v1863.toNat, 0]
def k0_off19 (k0_t1 : Fin k0_t1_loop.trips) : Fin 4 → Nat :=
  let c6_855 : Index := 6#32
  let c0_i32_650 : BitVec 32 := 0#32
  let c1_i32_652 : BitVec 32 := 1#32
  let arg23 : BitVec 32 := Scf.iv c0_i32_650 c1_i32_652 k0_t1
  let v1874 : Index := Scalar.indexCast arg23
  let c0_856 : Index := 0#32
  let c0_857 : Index := 0#32
  ![6, v1874.toNat, 0, 0]
def k0_off20 (k0_t1 : Fin k0_t1_loop.trips) : Fin 3 → Nat :=
  let c7_870 : Index := 7#32
  let c0_i32_650 : BitVec 32 := 0#32
  let c1_i32_652 : BitVec 32 := 1#32
  let arg23 : BitVec 32 := Scf.iv c0_i32_650 c1_i32_652 k0_t1
  let c512_i32_654 : BitVec 32 := 512#32
  let v1198 : BitVec 32 := Scalar.muli arg23 c512_i32_654
  let v1199 : BitVec 32 := v1198
  let v1920 : Index := Scalar.indexCast v1199
  let c0_871 : Index := 0#32
  ![7, v1920.toNat, 0]
def k0_off21 (k0_t1 : Fin k0_t1_loop.trips) : Fin 4 → Nat :=
  let c7_874 : Index := 7#32
  let c0_i32_650 : BitVec 32 := 0#32
  let c1_i32_652 : BitVec 32 := 1#32
  let arg23 : BitVec 32 := Scf.iv c0_i32_650 c1_i32_652 k0_t1
  let v1931 : Index := Scalar.indexCast arg23
  let c0_875 : Index := 0#32
  let c0_876 : Index := 0#32
  ![7, v1931.toNat, 0, 0]
def k0_mult2 (i : grid0.Coords) : BitVec 32 :=
  let arg1 : BitVec 32 := BitVec.ofNat 32 (i 1).val
  let c512_i32 : BitVec 32 := 512#32
  let v6 : BitVec 32 := Scalar.muli arg1 c512_i32
  v6
def k0_off22 (i : grid0.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0 : Index := 0#32
  ![v8.toNat, 0]
def k0_mult3 (i : grid0.Coords) : BitVec 32 :=
  let arg1 : BitVec 32 := BitVec.ofNat 32 (i 1).val
  let c512_i32_200 : BitVec 32 := 512#32
  let v533 : BitVec 32 := Scalar.muli arg1 c512_i32_200
  v533
def k0_off23 (i : grid0.Coords) : Fin 3 → Nat :=
  let c0_201 : Index := 0#32
  let arg1 : BitVec 32 := BitVec.ofNat 32 (i 1).val
  let c512_i32_200 : BitVec 32 := 512#32
  let v533 : BitVec 32 := Scalar.muli arg1 c512_i32_200
  let v534 : BitVec 32 := v533
  let v535 : Index := Scalar.indexCast v534
  let c0_202 : Index := 0#32
  ![0, v535.toNat, 0]
def k0_off24 (i : grid0.Coords) : Fin 4 → Nat :=
  let c0_211 : Index := 0#32
  let arg1 : BitVec 32 := BitVec.ofNat 32 (i 1).val
  let v546 : Index := Scalar.indexCast arg1
  let c0_212 : Index := 0#32
  let c0_213 : Index := 0#32
  ![0, v546.toNat, 0, 0]
def k0_off25 (i : grid0.Coords) : Fin 3 → Nat :=
  let c1_242 : Index := 1#32
  let arg1 : BitVec 32 := BitVec.ofNat 32 (i 1).val
  let c512_i32_200 : BitVec 32 := 512#32
  let v533 : BitVec 32 := Scalar.muli arg1 c512_i32_200
  let v534 : BitVec 32 := v533
  let v584 : Index := Scalar.indexCast v534
  let c0_243 : Index := 0#32
  ![1, v584.toNat, 0]
def k0_off26 (i : grid0.Coords) : Fin 4 → Nat :=
  let c1_252 : Index := 1#32
  let arg1 : BitVec 32 := BitVec.ofNat 32 (i 1).val
  let v595 : Index := Scalar.indexCast arg1
  let c0_253 : Index := 0#32
  let c0_254 : Index := 0#32
  ![1, v595.toNat, 0, 0]
def k0_off27 (i : grid0.Coords) : Fin 3 → Nat :=
  let c2_283 : Index := 2#32
  let arg1 : BitVec 32 := BitVec.ofNat 32 (i 1).val
  let c512_i32_200 : BitVec 32 := 512#32
  let v533 : BitVec 32 := Scalar.muli arg1 c512_i32_200
  let v534 : BitVec 32 := v533
  let v633 : Index := Scalar.indexCast v534
  let c0_284 : Index := 0#32
  ![2, v633.toNat, 0]
def k0_off28 (i : grid0.Coords) : Fin 4 → Nat :=
  let c2_293 : Index := 2#32
  let arg1 : BitVec 32 := BitVec.ofNat 32 (i 1).val
  let v644 : Index := Scalar.indexCast arg1
  let c0_294 : Index := 0#32
  let c0_295 : Index := 0#32
  ![2, v644.toNat, 0, 0]
def k0_off29 (i : grid0.Coords) : Fin 3 → Nat :=
  let c3_324 : Index := 3#32
  let arg1 : BitVec 32 := BitVec.ofNat 32 (i 1).val
  let c512_i32_200 : BitVec 32 := 512#32
  let v533 : BitVec 32 := Scalar.muli arg1 c512_i32_200
  let v534 : BitVec 32 := v533
  let v682 : Index := Scalar.indexCast v534
  let c0_325 : Index := 0#32
  ![3, v682.toNat, 0]
def k0_off30 (i : grid0.Coords) : Fin 4 → Nat :=
  let c3_334 : Index := 3#32
  let arg1 : BitVec 32 := BitVec.ofNat 32 (i 1).val
  let v693 : Index := Scalar.indexCast arg1
  let c0_335 : Index := 0#32
  let c0_336 : Index := 0#32
  ![3, v693.toNat, 0, 0]
def k0_off31 (i : grid0.Coords) : Fin 3 → Nat :=
  let c4_365 : Index := 4#32
  let arg1 : BitVec 32 := BitVec.ofNat 32 (i 1).val
  let c512_i32_200 : BitVec 32 := 512#32
  let v533 : BitVec 32 := Scalar.muli arg1 c512_i32_200
  let v534 : BitVec 32 := v533
  let v731 : Index := Scalar.indexCast v534
  let c0_366 : Index := 0#32
  ![4, v731.toNat, 0]
def k0_off32 (i : grid0.Coords) : Fin 4 → Nat :=
  let c4_375 : Index := 4#32
  let arg1 : BitVec 32 := BitVec.ofNat 32 (i 1).val
  let v742 : Index := Scalar.indexCast arg1
  let c0_376 : Index := 0#32
  let c0_377 : Index := 0#32
  ![4, v742.toNat, 0, 0]
def k0_off33 (i : grid0.Coords) : Fin 3 → Nat :=
  let c5_406 : Index := 5#32
  let arg1 : BitVec 32 := BitVec.ofNat 32 (i 1).val
  let c512_i32_200 : BitVec 32 := 512#32
  let v533 : BitVec 32 := Scalar.muli arg1 c512_i32_200
  let v534 : BitVec 32 := v533
  let v780 : Index := Scalar.indexCast v534
  let c0_407 : Index := 0#32
  ![5, v780.toNat, 0]
def k0_off34 (i : grid0.Coords) : Fin 4 → Nat :=
  let c5_416 : Index := 5#32
  let arg1 : BitVec 32 := BitVec.ofNat 32 (i 1).val
  let v791 : Index := Scalar.indexCast arg1
  let c0_417 : Index := 0#32
  let c0_418 : Index := 0#32
  ![5, v791.toNat, 0, 0]
def k0_off35 (i : grid0.Coords) : Fin 3 → Nat :=
  let c6_447 : Index := 6#32
  let arg1 : BitVec 32 := BitVec.ofNat 32 (i 1).val
  let c512_i32_200 : BitVec 32 := 512#32
  let v533 : BitVec 32 := Scalar.muli arg1 c512_i32_200
  let v534 : BitVec 32 := v533
  let v829 : Index := Scalar.indexCast v534
  let c0_448 : Index := 0#32
  ![6, v829.toNat, 0]
def k0_off36 (i : grid0.Coords) : Fin 4 → Nat :=
  let c6_457 : Index := 6#32
  let arg1 : BitVec 32 := BitVec.ofNat 32 (i 1).val
  let v840 : Index := Scalar.indexCast arg1
  let c0_458 : Index := 0#32
  let c0_459 : Index := 0#32
  ![6, v840.toNat, 0, 0]
def k0_off37 (i : grid0.Coords) : Fin 3 → Nat :=
  let c7_488 : Index := 7#32
  let arg1 : BitVec 32 := BitVec.ofNat 32 (i 1).val
  let c512_i32_200 : BitVec 32 := 512#32
  let v533 : BitVec 32 := Scalar.muli arg1 c512_i32_200
  let v534 : BitVec 32 := v533
  let v878 : Index := Scalar.indexCast v534
  let c0_489 : Index := 0#32
  ![7, v878.toNat, 0]
def k0_off38 (i : grid0.Coords) : Fin 4 → Nat :=
  let c7_498 : Index := 7#32
  let arg1 : BitVec 32 := BitVec.ofNat 32 (i 1).val
  let v889 : Index := Scalar.indexCast arg1
  let c0_499 : Index := 0#32
  let c0_500 : Index := 0#32
  ![7, v889.toNat, 0, 0]
@[reducible] def k0_t2_loop (i : grid0.Coords) : Scf.Loop 32 :=
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_532 : BitVec 32 := 1#32
  ⟨v927, v932, c1_i32_532⟩
def k0_mult4 (i : grid0.Coords) (k0_t2 : Fin (k0_t2_loop i).trips) : BitVec 32 :=
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  v1114
def k0_off39 (i : grid0.Coords) (k0_t2 : Fin (k0_t2_loop i).trips) : Fin 3 → Nat :=
  let c0_621 : Index := 0#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1116 : Index := Scalar.indexCast v1115
  let c0_622 : Index := 0#32
  ![0, v1116.toNat, 0]
def k0_off40 (i : grid0.Coords) (k0_t2 : Fin (k0_t2_loop i).trips) : Fin 4 → Nat :=
  let c0_630 : Index := 0#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1125 : Index := Scalar.indexCast arg23
  let c0_631 : Index := 0#32
  let c0_632 : Index := 0#32
  ![0, v1125.toNat, 0, 0]
def k0_off41 (i : grid0.Coords) (k0_t2 : Fin (k0_t2_loop i).trips) : Fin 3 → Nat :=
  let c1_661 : Index := 1#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1163 : Index := Scalar.indexCast v1115
  let c0_662 : Index := 0#32
  ![1, v1163.toNat, 0]
def k0_off42 (i : grid0.Coords) (k0_t2 : Fin (k0_t2_loop i).trips) : Fin 4 → Nat :=
  let c1_670 : Index := 1#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1172 : Index := Scalar.indexCast arg23
  let c0_671 : Index := 0#32
  let c0_672 : Index := 0#32
  ![1, v1172.toNat, 0, 0]
def k0_off43 (i : grid0.Coords) (k0_t2 : Fin (k0_t2_loop i).trips) : Fin 3 → Nat :=
  let c2_701 : Index := 2#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1210 : Index := Scalar.indexCast v1115
  let c0_702 : Index := 0#32
  ![2, v1210.toNat, 0]
def k0_off44 (i : grid0.Coords) (k0_t2 : Fin (k0_t2_loop i).trips) : Fin 4 → Nat :=
  let c2_710 : Index := 2#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1219 : Index := Scalar.indexCast arg23
  let c0_711 : Index := 0#32
  let c0_712 : Index := 0#32
  ![2, v1219.toNat, 0, 0]
def k0_off45 (i : grid0.Coords) (k0_t2 : Fin (k0_t2_loop i).trips) : Fin 3 → Nat :=
  let c3_741 : Index := 3#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1257 : Index := Scalar.indexCast v1115
  let c0_742 : Index := 0#32
  ![3, v1257.toNat, 0]
def k0_off46 (i : grid0.Coords) (k0_t2 : Fin (k0_t2_loop i).trips) : Fin 4 → Nat :=
  let c3_750 : Index := 3#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1266 : Index := Scalar.indexCast arg23
  let c0_751 : Index := 0#32
  let c0_752 : Index := 0#32
  ![3, v1266.toNat, 0, 0]
def k0_off47 (i : grid0.Coords) (k0_t2 : Fin (k0_t2_loop i).trips) : Fin 3 → Nat :=
  let c4_781 : Index := 4#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1304 : Index := Scalar.indexCast v1115
  let c0_782 : Index := 0#32
  ![4, v1304.toNat, 0]
def k0_off48 (i : grid0.Coords) (k0_t2 : Fin (k0_t2_loop i).trips) : Fin 4 → Nat :=
  let c4_790 : Index := 4#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1313 : Index := Scalar.indexCast arg23
  let c0_791 : Index := 0#32
  let c0_792 : Index := 0#32
  ![4, v1313.toNat, 0, 0]
def k0_off49 (i : grid0.Coords) (k0_t2 : Fin (k0_t2_loop i).trips) : Fin 3 → Nat :=
  let c5_821 : Index := 5#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1351 : Index := Scalar.indexCast v1115
  let c0_822 : Index := 0#32
  ![5, v1351.toNat, 0]
def k0_off50 (i : grid0.Coords) (k0_t2 : Fin (k0_t2_loop i).trips) : Fin 4 → Nat :=
  let c5_830 : Index := 5#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1360 : Index := Scalar.indexCast arg23
  let c0_831 : Index := 0#32
  let c0_832 : Index := 0#32
  ![5, v1360.toNat, 0, 0]
def k0_off51 (i : grid0.Coords) (k0_t2 : Fin (k0_t2_loop i).trips) : Fin 3 → Nat :=
  let c6_861 : Index := 6#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1398 : Index := Scalar.indexCast v1115
  let c0_862 : Index := 0#32
  ![6, v1398.toNat, 0]
def k0_off52 (i : grid0.Coords) (k0_t2 : Fin (k0_t2_loop i).trips) : Fin 4 → Nat :=
  let c6_870 : Index := 6#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1407 : Index := Scalar.indexCast arg23
  let c0_871 : Index := 0#32
  let c0_872 : Index := 0#32
  ![6, v1407.toNat, 0, 0]
def k0_off53 (i : grid0.Coords) (k0_t2 : Fin (k0_t2_loop i).trips) : Fin 3 → Nat :=
  let c7_901 : Index := 7#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let c512_i32_620 : BitVec 32 := 512#32
  let v1114 : BitVec 32 := Scalar.muli arg23 c512_i32_620
  let v1115 : BitVec 32 := v1114
  let v1445 : Index := Scalar.indexCast v1115
  let c0_902 : Index := 0#32
  ![7, v1445.toNat, 0]
def k0_off54 (i : grid0.Coords) (k0_t2 : Fin (k0_t2_loop i).trips) : Fin 4 → Nat :=
  let c7_910 : Index := 7#32
  let arg1 : BitVec 32 := BitVec.ofNat 32 (i 1).val
  let c1_i32_529 : BitVec 32 := 1#32
  let v927 : BitVec 32 := Scalar.addi arg1 c1_i32_529
  let c1_i32_532 : BitVec 32 := 1#32
  let arg23 : BitVec 32 := Scf.iv v927 c1_i32_532 k0_t2
  let v1454 : Index := Scalar.indexCast arg23
  let c0_911 : Index := 0#32
  let c0_912 : Index := 0#32
  ![7, v1454.toNat, 0, 0]
@[reducible] def k0_t3_loop (i : grid0.Coords) : Scf.Loop 32 :=
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let v929 : BitVec 32 := Scalar.addi v927 v928
  let c1_i32_533 : BitVec 32 := 1#32
  ⟨v932, v929, c1_i32_533⟩
def k0_mult5 (i : grid0.Coords) (k0_t3 : Fin (k0_t3_loop i).trips) : BitVec 32 :=
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  v1114
def k0_off55 (i : grid0.Coords) (k0_t3 : Fin (k0_t3_loop i).trips) : Fin 3 → Nat :=
  let c0_621 : Index := 0#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1116 : Index := Scalar.indexCast v1115
  let c0_622 : Index := 0#32
  ![0, v1116.toNat, 0]
def k0_off56 (i : grid0.Coords) (k0_t3 : Fin (k0_t3_loop i).trips) : Fin 4 → Nat :=
  let c0_630 : Index := 0#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1125 : Index := Scalar.indexCast arg23
  let c0_631 : Index := 0#32
  let c0_632 : Index := 0#32
  ![0, v1125.toNat, 0, 0]
def k0_off57 (i : grid0.Coords) (k0_t3 : Fin (k0_t3_loop i).trips) : Fin 3 → Nat :=
  let c1_661 : Index := 1#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1163 : Index := Scalar.indexCast v1115
  let c0_662 : Index := 0#32
  ![1, v1163.toNat, 0]
def k0_off58 (i : grid0.Coords) (k0_t3 : Fin (k0_t3_loop i).trips) : Fin 4 → Nat :=
  let c1_670 : Index := 1#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1172 : Index := Scalar.indexCast arg23
  let c0_671 : Index := 0#32
  let c0_672 : Index := 0#32
  ![1, v1172.toNat, 0, 0]
def k0_off59 (i : grid0.Coords) (k0_t3 : Fin (k0_t3_loop i).trips) : Fin 3 → Nat :=
  let c2_701 : Index := 2#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1210 : Index := Scalar.indexCast v1115
  let c0_702 : Index := 0#32
  ![2, v1210.toNat, 0]
def k0_off60 (i : grid0.Coords) (k0_t3 : Fin (k0_t3_loop i).trips) : Fin 4 → Nat :=
  let c2_710 : Index := 2#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1219 : Index := Scalar.indexCast arg23
  let c0_711 : Index := 0#32
  let c0_712 : Index := 0#32
  ![2, v1219.toNat, 0, 0]
def k0_off61 (i : grid0.Coords) (k0_t3 : Fin (k0_t3_loop i).trips) : Fin 3 → Nat :=
  let c3_741 : Index := 3#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1257 : Index := Scalar.indexCast v1115
  let c0_742 : Index := 0#32
  ![3, v1257.toNat, 0]
def k0_off62 (i : grid0.Coords) (k0_t3 : Fin (k0_t3_loop i).trips) : Fin 4 → Nat :=
  let c3_750 : Index := 3#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1266 : Index := Scalar.indexCast arg23
  let c0_751 : Index := 0#32
  let c0_752 : Index := 0#32
  ![3, v1266.toNat, 0, 0]
def k0_off63 (i : grid0.Coords) (k0_t3 : Fin (k0_t3_loop i).trips) : Fin 3 → Nat :=
  let c4_781 : Index := 4#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1304 : Index := Scalar.indexCast v1115
  let c0_782 : Index := 0#32
  ![4, v1304.toNat, 0]
def k0_off64 (i : grid0.Coords) (k0_t3 : Fin (k0_t3_loop i).trips) : Fin 4 → Nat :=
  let c4_790 : Index := 4#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1313 : Index := Scalar.indexCast arg23
  let c0_791 : Index := 0#32
  let c0_792 : Index := 0#32
  ![4, v1313.toNat, 0, 0]
def k0_off65 (i : grid0.Coords) (k0_t3 : Fin (k0_t3_loop i).trips) : Fin 3 → Nat :=
  let c5_821 : Index := 5#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1351 : Index := Scalar.indexCast v1115
  let c0_822 : Index := 0#32
  ![5, v1351.toNat, 0]
def k0_off66 (i : grid0.Coords) (k0_t3 : Fin (k0_t3_loop i).trips) : Fin 4 → Nat :=
  let c5_830 : Index := 5#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1360 : Index := Scalar.indexCast arg23
  let c0_831 : Index := 0#32
  let c0_832 : Index := 0#32
  ![5, v1360.toNat, 0, 0]
def k0_off67 (i : grid0.Coords) (k0_t3 : Fin (k0_t3_loop i).trips) : Fin 3 → Nat :=
  let c6_861 : Index := 6#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1398 : Index := Scalar.indexCast v1115
  let c0_862 : Index := 0#32
  ![6, v1398.toNat, 0]
def k0_off68 (i : grid0.Coords) (k0_t3 : Fin (k0_t3_loop i).trips) : Fin 4 → Nat :=
  let c6_870 : Index := 6#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1407 : Index := Scalar.indexCast arg23
  let c0_871 : Index := 0#32
  let c0_872 : Index := 0#32
  ![6, v1407.toNat, 0, 0]
def k0_off69 (i : grid0.Coords) (k0_t3 : Fin (k0_t3_loop i).trips) : Fin 3 → Nat :=
  let c7_901 : Index := 7#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let c512_i32_620 : BitVec 32 := 512#32
  let v1114 : BitVec 32 := Scalar.muli arg23 c512_i32_620
  let v1115 : BitVec 32 := v1114
  let v1445 : Index := Scalar.indexCast v1115
  let c0_902 : Index := 0#32
  ![7, v1445.toNat, 0]
def k0_off70 (i : grid0.Coords) (k0_t3 : Fin (k0_t3_loop i).trips) : Fin 4 → Nat :=
  let c7_910 : Index := 7#32
  let arg1 : BitVec 32 := BitVec.ofNat 32 (i 1).val
  let c1_i32_529 : BitVec 32 := 1#32
  let v927 : BitVec 32 := Scalar.addi arg1 c1_i32_529
  let c4_i32 : BitVec 32 := 4#32
  let v928 : BitVec 32 := Scalar.subi c4_i32 v927
  let c1_i32_531 : BitVec 32 := 1#32
  let v930 : BitVec 32 := Scalar.divsi v928 c1_i32_531
  let v931 : BitVec 32 := Scalar.muli v930 c1_i32_531
  let v932 : BitVec 32 := Scalar.addi v927 v931
  let c1_i32_533 : BitVec 32 := 1#32
  let arg23 : BitVec 32 := Scf.iv v932 c1_i32_533 k0_t3
  let v1454 : Index := Scalar.indexCast arg23
  let c0_911 : Index := 0#32
  let c0_912 : Index := 0#32
  ![7, v1454.toNat, 0, 0]
def k0_cond2 (i : grid0.Coords) : BitVec 1 :=
  let arg1 : BitVec 32 := BitVec.ofNat 32 (i 1).val
  let c3_i32_618 : BitVec 32 := 3#32
  let v1111 : BitVec 1 := Scalar.cmpi .eq arg1 c3_i32_618
  let v1112 : BitVec 32 := Scalar.extui v1111
  let c0_i32_619 : BitVec 32 := 0#32
  let v1113 : BitVec 1 := Scalar.cmpi .ne v1112 c0_i32_619
  v1113

@[reducible] def k0_t4_loop : Scf.Loop 32 :=
  let c0_i32_620 : BitVec 32 := 0#32
  let c4_i32_621 : BitVec 32 := 4#32
  let v1114 : BitVec 32 := Scalar.addi c0_i32_620 c4_i32_621
  let c1_i32_622 : BitVec 32 := 1#32
  ⟨c0_i32_620, v1114, c1_i32_622⟩
def k0_mult6 (k0_t4 : Fin k0_t4_loop.trips) : BitVec 32 :=
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  v1115
def k0_off71 (k0_t4 : Fin k0_t4_loop.trips) : Fin 3 → Nat :=
  let c0_626 : Index := 0#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1118 : Index := Scalar.indexCast v1116
  let c0_627 : Index := 0#32
  ![0, v1118.toNat, 0]
def k0_off72 (k0_t4 : Fin k0_t4_loop.trips) : Fin 3 → Nat :=
  let c1_628 : Index := 1#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1121 : Index := Scalar.indexCast v1116
  let c0_629 : Index := 0#32
  ![1, v1121.toNat, 0]
def k0_off73 (k0_t4 : Fin k0_t4_loop.trips) : Fin 2 → Nat :=
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1128 : Index := Scalar.indexCast v1116
  let c0_630 : Index := 0#32
  ![v1128.toNat, 0]
def k0_off74 (k0_t4 : Fin k0_t4_loop.trips) : Fin 3 → Nat :=
  let c2_633 : Index := 2#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1146 : Index := Scalar.indexCast v1116
  let c0_634 : Index := 0#32
  ![2, v1146.toNat, 0]
def k0_off75 (k0_t4 : Fin k0_t4_loop.trips) : Fin 3 → Nat :=
  let c3_635 : Index := 3#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1149 : Index := Scalar.indexCast v1116
  let c0_636 : Index := 0#32
  ![3, v1149.toNat, 0]
def k0_off76 (k0_t4 : Fin k0_t4_loop.trips) : Fin 2 → Nat :=
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1156 : Index := Scalar.indexCast v1116
  let c128_637 : Index := 128#32
  ![v1156.toNat, 128]
def k0_off77 (k0_t4 : Fin k0_t4_loop.trips) : Fin 3 → Nat :=
  let c4_640 : Index := 4#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1174 : Index := Scalar.indexCast v1116
  let c0_641 : Index := 0#32
  ![4, v1174.toNat, 0]
def k0_off78 (k0_t4 : Fin k0_t4_loop.trips) : Fin 3 → Nat :=
  let c5_642 : Index := 5#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1177 : Index := Scalar.indexCast v1116
  let c0_643 : Index := 0#32
  ![5, v1177.toNat, 0]
def k0_off79 (k0_t4 : Fin k0_t4_loop.trips) : Fin 2 → Nat :=
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1184 : Index := Scalar.indexCast v1116
  let c256_644 : Index := 256#32
  ![v1184.toNat, 256]
def k0_off80 (k0_t4 : Fin k0_t4_loop.trips) : Fin 3 → Nat :=
  let c6_647 : Index := 6#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1202 : Index := Scalar.indexCast v1116
  let c0_648 : Index := 0#32
  ![6, v1202.toNat, 0]
def k0_off81 (k0_t4 : Fin k0_t4_loop.trips) : Fin 3 → Nat :=
  let c7_649 : Index := 7#32
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1205 : Index := Scalar.indexCast v1116
  let c0_650 : Index := 0#32
  ![7, v1205.toNat, 0]
def k0_off82 (k0_t4 : Fin k0_t4_loop.trips) : Fin 2 → Nat :=
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1212 : Index := Scalar.indexCast v1116
  let c384_651 : Index := 384#32
  ![v1212.toNat, 384]
def k0_off83 (k0_t4 : Fin k0_t4_loop.trips) : Fin 2 → Nat :=
  let c0_i32_620 : BitVec 32 := 0#32
  let c1_i32_622 : BitVec 32 := 1#32
  let arg23 : BitVec 32 := Scf.iv c0_i32_620 c1_i32_622 k0_t4
  let c512_i32_624 : BitVec 32 := 512#32
  let v1115 : BitVec 32 := Scalar.muli arg23 c512_i32_624
  let v1116 : BitVec 32 := v1115
  let v1230 : Index := Scalar.indexCast v1116
  let c0_654 : Index := 0#32
  ![v1230.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnGradIdeal.lean ====
abbrev S2x2048x512 : Shape := ⟨3, ![2, 2048, 512]⟩
abbrev S2x2048x8 : Shape := ⟨3, ![2, 2048, 8]⟩
abbrev S_ : Shape := ⟨0, ![]⟩
abbrev S2x2048x8x64 : Shape := ⟨4, ![2, 2048, 8, 64]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩
abbrev S4096x512 : Shape := ⟨2, ![4096, 512]⟩
abbrev S4096x8 : Shape := ⟨2, ![4096, 8]⟩
abbrev S4096x128 : Shape := ⟨2, ![4096, 128]⟩

abbrev nBuf : Space → Nat
  | .hbm => 136
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x8, .f32⟩
  | 4 => ⟨S2x2048x512, .f32⟩
  | 5 => ⟨S_, .f32⟩
  | 6 => ⟨S_, .f32⟩
  | 7 => ⟨S2x2048x8, .f32⟩
  | 8 => ⟨S2x2048x8x64, .f32⟩
  | 9 => ⟨S2x2048x8x64, .f32⟩
  | 10 => ⟨S2x8x2048x2048, .f32⟩
  | 11 => ⟨S_, .f32⟩
  | 12 => ⟨S2x8x2048x2048, .f32⟩
  | 13 => ⟨S2x8x2048x2048, .f32⟩
  | 14 => ⟨S2x8x2048, .f32⟩
  | 15 => ⟨S2x8x2048x1, .f32⟩
  | 16 => ⟨S2x8x2048x2048, .f32⟩
  | 17 => ⟨S2x8x2048x2048, .f32⟩
  | 18 => ⟨S2x8x2048, .f32⟩
  | 19 => ⟨S2x8x1x2048, .f32⟩
  | 20 => ⟨S2x8x2048x2048, .f32⟩
  | 21 => ⟨S2x8x2048x2048, .f32⟩
  | 22 => ⟨S2048, .i32⟩
  | 23 => ⟨S2048x1, .i32⟩
  | 24 => ⟨S1x2048, .i32⟩
  | 25 => ⟨S2048x2048, .i32⟩
  | 26 => ⟨S2048x2048, .i32⟩
  | 27 => ⟨S2048x2048, .i1⟩
  | 28 => ⟨S_, .f32⟩
  | 29 => ⟨S_, .f32⟩
  | 30 => ⟨S2x8x2048x2048, .i1⟩
  | 31 => ⟨S2x8x2048x2048, .f32⟩
  | 32 => ⟨S2x8x2048x2048, .f32⟩
  | 33 => ⟨S_, .f32⟩
  | 34 => ⟨S2x8x2048x2048, .f32⟩
  | 35 => ⟨S_, .f32⟩
  | 36 => ⟨S2x8x2048, .f32⟩
  | 37 => ⟨S2x8x2048x1, .f32⟩
  | 38 => ⟨S2x8x2048x2048, .f32⟩
  | 39 => ⟨S2x8x2048x2048, .i1⟩
  | 40 => ⟨S2x8x2048x2048, .f32⟩
  | 41 => ⟨S_, .f32⟩
  | 42 => ⟨S2x8x2048, .f32⟩
  | 43 => ⟨S_, .f32⟩
  | 44 => ⟨S2x8x2048, .f32⟩
  | 45 => ⟨S2x8x2048, .f32⟩
  | 46 => ⟨S_, .f32⟩
  | 47 => ⟨S2x8x2048, .f32⟩
  | 48 => ⟨S2x8x2048, .i1⟩
  | 49 => ⟨S_, .f32⟩
  | 50 => ⟨S2x8x2048, .f32⟩
  | 51 => ⟨S2x8x2048, .i1⟩
  | 52 => ⟨S_, .f32⟩
  | 53 => ⟨S2x8x2048, .f32⟩
  | 54 => ⟨S_, .f32⟩
  | 55 => ⟨S2x8x2048, .f32⟩
  | 56 => ⟨S_, .f32⟩
  | 57 => ⟨S2x8x2048, .f32⟩
  | 58 => ⟨S2x8x2048, .f32⟩
  | 59 => ⟨S2x8x2048, .f32⟩
  | 60 => ⟨S2x8x2048x1, .f32⟩
  | 61 => ⟨S2x8x2048x2048, .f32⟩
  | 62 => ⟨S2x8x2048x2048, .f32⟩
  | 63 => ⟨S2x8x2048x2048, .f32⟩
  | 64 => ⟨S_, .f32⟩
  | 65 => ⟨S2x8x2048, .f32⟩
  | 66 => ⟨S2x8x2048x1, .f32⟩
  | 67 => ⟨S2x8x2048x2048, .f32⟩
  | 68 => ⟨S2x8x2048x2048, .f32⟩
  | 69 => ⟨S2x8x2048x1, .f32⟩
  | 70 => ⟨S_, .f32⟩
  | 71 => ⟨S2x8x2048x1, .f32⟩
  | 72 => ⟨S2x8x2048x1, .f32⟩
  | 73 => ⟨S2x2048x8x64, .f32⟩
  | 74 => ⟨S2x8x64x2048, .f32⟩
  | 75 => ⟨S2x2048x8x64, .f32⟩
  | 76 => ⟨S2x2048x512, .f32⟩
  | 77 => ⟨S2x2048x8x64, .f32⟩
  | 78 => ⟨S2x8x64x2048, .f32⟩
  | 79 => ⟨S2x8x2048x2048, .f32⟩
  | 80 => ⟨S2x8x64x2048, .f32⟩
  | 81 => ⟨S2x2048x8x64, .f32⟩
  | 82 => ⟨S2x2048x512, .f32⟩
  | 83 => ⟨S2x8x2048x2048, .f32⟩
  | 84 => ⟨S2x8x2048x2048, .f32⟩
  | 85 => ⟨S2x8x2048x2048, .f32⟩
  | 86 => ⟨S_, .f32⟩
  | 87 => ⟨S2x8x2048, .f32⟩
  | 88 => ⟨S2x8x2048x1, .f32⟩
  | 89 => ⟨S2x8x2048x1, .f32⟩
  | 90 => ⟨S2x8x2048x2048, .f32⟩
  | 91 => ⟨S2x8x2048x2048, .f32⟩
  | 92 => ⟨S_, .f32⟩
  | 93 => ⟨S2x8x2048, .f32⟩
  | 94 => ⟨S2x8x2048x2048, .f32⟩
  | 95 => ⟨S2x8x2048x2048, .f32⟩
  | 96 => ⟨S2x8x2048x2048, .f32⟩
  | 97 => ⟨S_, .f32⟩
  | 98 => ⟨S2x8x2048x2048, .f32⟩
  | 99 => ⟨S2x8x2048x2048, .f32⟩
  | 100 => ⟨S2x8x2048x2048, .f32⟩
  | 101 => ⟨S_, .f32⟩
  | 102 => ⟨S2x8x2048, .f32⟩
  | 103 => ⟨S2x8x1x2048, .f32⟩
  | 104 => ⟨S_, .f32⟩
  | 105 => ⟨S2x8x2048, .f32⟩
  | 106 => ⟨S2x2048x8, .f32⟩
  | 107 => ⟨S_, .f32⟩
  | 108 => ⟨S2x8x2048, .f32⟩
  | 109 => ⟨S2x8x2048x1, .f32⟩
  | 110 => ⟨S_, .f32⟩
  | 111 => ⟨S2x8x2048, .f32⟩
  | 112 => ⟨S2x2048x8, .f32⟩
  | 113 => ⟨S_, .f32⟩
  | 114 => ⟨S2x8x2048x2048, .f32⟩
  | 115 => ⟨S2x8x2048x2048, .f32⟩
  | 116 => ⟨S2x8x2048x64, .f32⟩
  | 117 => ⟨S2x2048x8x64, .f32⟩
  | 118 => ⟨S2x8x2048x64, .f32⟩
  | 119 => ⟨S2x2048x8x64, .f32⟩
  | 120 => ⟨S2x2048x512, .f32⟩
  | 121 => ⟨S2x2048x512, .f32⟩
  | 122 => ⟨S4096x512, .f32⟩
  | 123 => ⟨S4096x512, .bf16⟩
  | 124 => ⟨S4096x512, .f32⟩
  | 125 => ⟨S4096x512, .bf16⟩
  | 126 => ⟨S4096x512, .f32⟩
  | 127 => ⟨S4096x512, .bf16⟩
  | _ => ⟨S2x2048x512, .f32⟩

abbrev hbmTy0_1 (i : Nat) : BufTy := match i % 128 with
  | 0 => ⟨S4096x8, .f32⟩
  | 1 => ⟨S_, .i32⟩
  | 2 => ⟨S_, .f32⟩
  | 3 => ⟨S4096x128, .f32⟩
  | 4 => ⟨S4096x8, .f32⟩
  | 5 => ⟨S_, .i32⟩
  | 6 => ⟨S_, .f32⟩
  | 7 => ⟨S4096x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_v20_1 : Ref sig .tc := ⟨.hbm, 30, rfl⟩
abbrev main_call1_v2 : Ref sig .tc := ⟨.hbm, 31, rfl⟩
abbrev main_v20_0 : Ref sig .tc := ⟨.hbm, 32, rfl⟩
abbrev main_call1_cst : Ref sig .tc := ⟨.hbm, 33, rfl⟩
abbrev main_v20_2 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call2_cst : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c : Ref sig .tc := ⟨.hbm, 129, rfl⟩
abbrev main_call3_v0 : Ref sig .tc := ⟨.hbm, 130, rfl⟩
abbrev main_v96 : Ref sig .tc := ⟨.hbm, 131, rfl⟩
abbrev main_v97 : Ref sig .tc := ⟨.hbm, 132, rfl⟩
abbrev main_c_18 : Ref sig .tc := ⟨.hbm, 133, rfl⟩
abbrev main_call4_v0 : Ref sig .tc := ⟨.hbm, 134, rfl⟩
abbrev main_v98 : Ref sig .tc := ⟨.hbm, 135, rfl⟩

abbrev nD : Nat := 1
abbrev τ : Topo := Topo.v7x

variable {F : FTy → Type} [FloatOps F]
-- ==== InProjBwd.lean ====
abbrev S2x2048x1024 : Shape := ⟨3, ![2, 2048, 1024]⟩
abbrev S1x1024 : Shape := ⟨2, ![1, 1024]⟩
abbrev S1x1024x4104 : Shape := ⟨3, ![1, 1024, 4104]⟩
abbrev S2x2048x512 : Shape := ⟨3, ![2, 2048, 512]⟩
abbrev S2x2048x8 : Shape := ⟨3, ![2, 2048, 8]⟩
abbrev S1024x4104 : Shape := ⟨2, ![1024, 4104]⟩
abbrev S1024x8 : Shape := ⟨2, ![1024, 8]⟩
abbrev S_ : Shape := ⟨0, ![]⟩
abbrev S1024x128 : Shape := ⟨2, ![1024, 128]⟩
abbrev S4096x8 : Shape := ⟨2, ![4096, 8]⟩
abbrev S4096x128 : Shape := ⟨2, ![4096, 128]⟩
abbrev S4096x512 : Shape := ⟨2, ![4096, 512]⟩
abbrev S4096x1024 : Shape := ⟨2, ![4096, 1024]⟩
abbrev S4096x2048 : Shape := ⟨2, ![4096, 2048]⟩
abbrev S1024x2048 : Shape := ⟨2, ![1024, 2048]⟩
abbrev S8x128 : Shape := ⟨2, ![8, 128]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 43
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4104, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x8, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S1024x4104, .f32⟩
  | .hbm, ⟨12, _⟩ => ⟨S1024x4104, .bf16⟩
  | .hbm, ⟨13, _⟩ => ⟨S1024x8, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S4096x8, .f32⟩
  | .hbm, ⟨18, _⟩ => ⟨S4096x8, .bf16⟩
  | .hbm, ⟨19, _⟩ => ⟨S_, .i32⟩
  | .hbm, ⟨20, _⟩ => ⟨S_, .bf16⟩
  | .hbm, ⟨21, _⟩ => ⟨S4096x128, .bf16⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .bf16⟩
  | .hbm, ⟨26, _⟩ => ⟨S4096x512, .f32⟩
  | .hbm, ⟨27, _⟩ => ⟨S4096x512, .bf16⟩
  | .hbm, ⟨28, _⟩ => ⟨S4096x512, .f32⟩
  | .hbm, ⟨29, _⟩ => ⟨S4096x512, .bf16⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x1024, .bf16⟩
  | .hbm, ⟨34, _⟩ => ⟨S4096x2048, .bf16⟩
  | .hbm, ⟨35, _⟩ => ⟨S4096x1024, .f32⟩
  | .hbm, ⟨36, _⟩ => ⟨S4096x1024, .f32⟩
  | .hbm, ⟨37, _⟩ => ⟨S1024x2048, .bf16⟩
  | .hbm, ⟨38, _⟩ => ⟨S1024x2048, .bf16⟩
  | .hbm, ⟨39, _⟩ => ⟨S_, .f32⟩
  | .hbm, ⟨40, _⟩ => ⟨S8x128, .f32⟩
  | .hbm, ⟨41, _⟩ => ⟨S4096x1024, .f32⟩
  | .hbm, ⟨42, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1024x2048, .bf16⟩
  | .local _ .vmem, ⟨18, _⟩ => ⟨S1024x128, .bf16⟩
  | .local _ .vmem, ⟨19, _⟩ => ⟨S1024x2048, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InProjGradIdeal.lean ====
abbrev S2x2048x1024 : Shape := ⟨3, ![2, 2048, 1024]⟩
abbrev S1x1024 : Shape := ⟨2, ![1, 1024]⟩
abbrev S1x1024x4104 : Shape := ⟨3, ![1, 1024, 4104]⟩
abbrev S2x2048x512 : Shape := ⟨3, ![2, 2048, 512]⟩
abbrev S2x2048x8 : Shape := ⟨3, ![2, 2048, 8]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4104 : Shape := ⟨2, ![1024, 4104]⟩
abbrev S2x2048x4104 : Shape := ⟨3, ![2, 2048, 4104]⟩
abbrev S4096x1024 : Shape := ⟨2, ![4096, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4104, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x8, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S1024x4104, .f32⟩
  | .hbm, ⟨33, _⟩ => ⟨S2x2048x4104, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S2x2048x512, .f32⟩
  | .hbm, ⟨38, _⟩ => ⟨S2x2048x8, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048x4104, .f32⟩
  | .hbm, ⟨43, _⟩ => ⟨S_, .f32⟩
  | .hbm, ⟨44, _⟩ => ⟨S2x2048x4104, .f32⟩
  | .hbm, ⟨45, _⟩ => ⟨S2x2048x4104, .f32⟩
  | .hbm, ⟨46, _⟩ => ⟨S_, .f32⟩
  | .hbm, ⟨47, _⟩ => ⟨S2x2048x4104, .f32⟩
  | .hbm, ⟨48, _⟩ => ⟨S2x2048x4104, .f32⟩
  | .hbm, ⟨49, _⟩ => ⟨S_, .f32⟩
  | .hbm, ⟨50, _⟩ => ⟨S2x2048x4104, .f32⟩
  | .hbm, ⟨51, _⟩ => ⟨S2x2048x4104, .f32⟩
  | .hbm, ⟨52, _⟩ => ⟨S_, .f32⟩
  | .hbm, ⟨53, _⟩ => ⟨S2x2048x4104, .f32⟩
  | .hbm, ⟨54, _⟩ => ⟨S2x2048x4104, .f32⟩
  | .hbm, ⟨55, _⟩ => ⟨S_, .f32⟩
  | .hbm, ⟨56, _⟩ => ⟨S2x2048x4104, .f32⟩
  | .hbm, ⟨57, _⟩ => ⟨S2x2048x4104, .f32⟩
  | .hbm, ⟨58, _⟩ => ⟨S_, .f32⟩
  | .hbm, ⟨59, _⟩ => ⟨S2x2048x4104, .f32⟩
  | .hbm, ⟨60, _⟩ => ⟨S2x2048x4104, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S2x2048x1024, .f32⟩
  | .hbm, ⟨67, _⟩ => ⟨S2x2048x1024, .f32⟩
  | .hbm, ⟨68, _⟩ => ⟨S_, .f32⟩
  | .hbm, ⟨69, _⟩ => ⟨S1024, .f32⟩
  | .hbm, ⟨70, _⟩ => ⟨S2x2048x1024, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1, .f32⟩
  | .hbm, ⟨78, _⟩ => ⟨S_, .f32⟩
  | .hbm, ⟨79, _⟩ => ⟨S2x2048x1, .f32⟩
  | .hbm, ⟨80, _⟩ => ⟨S2x2048x1, .f32⟩
  | .hbm, ⟨81, _⟩ => ⟨S_, .f32⟩
  | .hbm, ⟨82, _⟩ => ⟨S2x2048, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S1x1024, .f32⟩
  | .hbm, ⟨89, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== MixBwd.lean ====
abbrev S2x2048x1024 : Shape := ⟨3, ![2, 2048, 1024]⟩
abbrev S2x2048x512 : Shape := ⟨3, ![2, 2048, 512]⟩
abbrev S1x512 : Shape := ⟨2, ![1, 512]⟩
abbrev S1x512x1024 : Shape := ⟨3, ![1, 512, 1024]⟩
abbrev S1x1024x1024 : Shape := ⟨3, ![1, 1024, 1024]⟩
abbrev S512 : Shape := ⟨1, ![512]⟩
abbrev S1x1x512 : Shape := ⟨3, ![1, 1, 512]⟩
abbrev S512x1024 : Shape := ⟨2, ![512, 1024]⟩
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S_ : Shape := ⟨0, ![]⟩
abbrev S8x128 : Shape := ⟨2, ![8, 128]⟩
abbrev S512x2048 : Shape := ⟨2, ![512, 2048]⟩
abbrev S512x512 : Shape := ⟨2, ![512, 512]⟩

abbrev nBuf : Space → Nat
  | .hbm => 41
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x512, .f32⟩
  | .hbm, ⟨3, _⟩ => ⟨S1x512, .f32⟩
  | .hbm, ⟨4, _⟩ => ⟨S2x2048x512, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S2x2048x1024, .f32⟩
  | .hbm, ⟨9, _⟩ => ⟨S512, .f32⟩
  | .hbm, ⟨10, _⟩ => ⟨S1x1x512, .f32⟩
  | .hbm, ⟨11, _⟩ => ⟨S2x2048x512, .f32⟩
  | .hbm, ⟨12, _⟩ => ⟨S2x2048x512, .f32⟩
  | .hbm, ⟨13, _⟩ => ⟨S512x1024, .f32⟩
  | .hbm, ⟨14, _⟩ => ⟨S2x2048x1024, .f32⟩
  | .hbm, ⟨15, _⟩ => ⟨S512x1024, .f32⟩
  | .hbm, ⟨16, _⟩ => ⟨S2x2048x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x2048, .bf16⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .bf16⟩
  | .hbm, ⟨26, _⟩ => ⟨S4096x512, .f32⟩
  | .hbm, ⟨27, _⟩ => ⟨S1024x1024, .f32⟩
  | .hbm, ⟨28, _⟩ => ⟨S1024x1024, .bf16⟩
  | .hbm, ⟨29, _⟩ => ⟨S512x1024, .f32⟩
  | .hbm, ⟨30, _⟩ => ⟨S512x1024, .bf16⟩
  | .hbm, ⟨31, _⟩ => ⟨S512x1024, .f32⟩
  | .hbm, ⟨32, _⟩ => ⟨S512x1024, .bf16⟩
  | .hbm, ⟨33, _⟩ => ⟨S_, .f32⟩
  | .hbm, ⟨34, _⟩ => ⟨S8x128, .f32⟩
  | .hbm, ⟨35, _⟩ => ⟨S4096x2048, .bf16⟩
  | .hbm, ⟨36, _⟩ => ⟨S4096x1024, .bf16⟩
  | .hbm, ⟨37, _⟩ => ⟨S4096x1024, .bf16⟩
  | .hbm, ⟨38, _⟩ => ⟨S4096x512, .bf16⟩
  | .hbm, ⟨39, _⟩ => ⟨S4096x512, .bf16⟩
  | .hbm, ⟨40, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixGradIdeal.lean ====
abbrev S2x2048x1024 : Shape := ⟨3, ![2, 2048, 1024]⟩
abbrev S2x2048x512 : Shape := ⟨3, ![2, 2048, 512]⟩
abbrev S1x512 : Shape := ⟨2, ![1, 512]⟩
abbrev S1x512x1024 : Shape := ⟨3, ![1, 512, 1024]⟩
abbrev S1x1024x1024 : Shape := ⟨3, ![1, 1024, 1024]⟩
abbrev S512 : Shape := ⟨1, ![512]⟩
abbrev S1x1x512 : Shape := ⟨3, ![1, 1, 512]⟩
abbrev S512x1024 : Shape := ⟨2, ![512, 1024]⟩
abbrev S_ : Shape := ⟨0, ![]⟩
abbrev S1024x1024 : Shape := ⟨2, ![1024, 1024]⟩
abbrev S2x2048x2048 : Shape := ⟨3, ![2, 2048, 2048]⟩
abbrev S4096x2048 : Shape := ⟨2, ![4096, 2048]⟩
abbrev S4096x1024 : Shape := ⟨2, ![4096, 1024]⟩
abbrev S4096x512 : Shape := ⟨2, ![4096, 512]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x512, .f32⟩
  | .hbm, ⟨3, _⟩ => ⟨S1x512, .f32⟩
  | .hbm, ⟨4, _⟩ => ⟨S2x2048x512, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S2x2048x1024, .f32⟩
  | .hbm, ⟨9, _⟩ => ⟨S512, .f32⟩
  | .hbm, ⟨10, _⟩ => ⟨S1x1x512, .f32⟩
  | .hbm, ⟨11, _⟩ => ⟨S2x2048x512, .f32⟩
  | .hbm, ⟨12, _⟩ => ⟨S2x2048x512, .f32⟩
  | .hbm, ⟨13, _⟩ => ⟨S512x1024, .f32⟩
  | .hbm, ⟨14, _⟩ => ⟨S2x2048x1024, .f32⟩
  | .hbm, ⟨15, _⟩ => ⟨S512x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S1024x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x512, .f32⟩
  | .hbm, ⟨54, _⟩ => ⟨S2x2048x512, .f32⟩
  | .hbm, ⟨55, _⟩ => ⟨S2x2048x512, .f32⟩
  | .hbm, ⟨56, _⟩ => ⟨S_, .f32⟩
  | .hbm, ⟨57, _⟩ => ⟨S512, .f32⟩
  | .hbm, ⟨58, _⟩ => ⟨S1x1x512, .f32⟩
  | .hbm, ⟨59, _⟩ => ⟨S2x2048x512, .f32⟩
  | .hbm, ⟨60, _⟩ => ⟨S2x2048x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S2x2048x2048, .f32⟩
  | .hbm, ⟨65, _⟩ => ⟨S4096x2048, .f32⟩
  | .hbm, ⟨66, _⟩ => ⟨S4096x2048, .bf16⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .bf16⟩
  | .hbm, ⟨71, _⟩ => ⟨S4096x512, .f32⟩
  | .hbm, ⟨72, _⟩ => ⟨S4096x512, .bf16⟩
  | .hbm, ⟨73, _⟩ => ⟨S4096x512, .f32⟩
  | .hbm, ⟨74, _⟩ => ⟨S4096x512, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== ForgetBwd.lean ====
abbrev S2x2048x8 : Shape := ⟨3, ![2, 2048, 8]⟩
abbrev S1x8 : Shape := ⟨2, ![1, 8]⟩
abbrev S_ : Shape := ⟨0, ![]⟩
abbrev S1x120 : Shape := ⟨2, ![1, 120]⟩
abbrev S1x128 : Shape := ⟨2, ![1, 128]⟩
abbrev S4096x8 : Shape := ⟨2, ![4096, 8]⟩
abbrev S4096x128 : Shape := ⟨2, ![4096, 128]⟩
abbrev S2048x128 : Shape := ⟨2, ![2048, 128]⟩
abbrev S128x2048 : Shape := ⟨2, ![128, 2048]⟩
abbrev S128 : Shape := ⟨1, ![128]⟩

abbrev nBuf : Space → Nat
  | .hbm => 21
  | .vmem => 10
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S2x2048x8, .f32⟩
  | .hbm, ⟨3, _⟩ => ⟨S2x2048x8, .f32⟩
  | .hbm, ⟨4, _⟩ => ⟨S_, .f32⟩
  | .hbm, ⟨5, _⟩ => ⟨S1x120, .f32⟩
  | .hbm, ⟨6, _⟩ => ⟨S1x128, .f32⟩
  | .hbm, ⟨7, _⟩ => ⟨S4096x8, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x8, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x8, .f32⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S4096x128, .bf16⟩
  | .hbm, ⟨20, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ForgetGradIdeal.lean ====
abbrev S2x2048x8 : Shape := ⟨3, ![2, 2048, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S4096x8 : Shape := ⟨2, ![4096, 8]⟩
abbrev S4096x128 : Shape := ⟨2, ![4096, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x2048x8, .f32⟩
  | .hbm, ⟨1, _⟩ => ⟨S1x8, .f32⟩
  | .hbm, ⟨2, _⟩ => ⟨S2x2048x8, .f32⟩
  | .hbm, ⟨3, _⟩ => ⟨S2x2048x8, .f32⟩
  | .hbm, ⟨4, _⟩ => ⟨S8, .f32⟩
  | .hbm, ⟨5, _⟩ => ⟨S1x1x8, .f32⟩
  | .hbm, ⟨6, _⟩ => ⟨S2x2048x8, .f32⟩
  | .hbm, ⟨7, _⟩ => ⟨S2x2048x8, .f32⟩
  | .hbm, ⟨8, _⟩ => ⟨S2x2048x8, .f32⟩
  | .hbm, ⟨9, _⟩ => ⟨S_, .f32⟩
  | .hbm, ⟨10, _⟩ => ⟨S2x2048x8, .f32⟩
  | .hbm, ⟨11, _⟩ => ⟨S2x2048x8, .f32⟩
  | .hbm, ⟨12, _⟩ => ⟨S2x2048x8, .f32⟩
  | .hbm, ⟨13, _⟩ => ⟨S2x2048x8, .f32⟩
  | .hbm, ⟨14, _⟩ => ⟨S2x2048x8, .i1⟩
  | .hbm, ⟨15, _⟩ => ⟨S2x2048x8, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S2x2048x8, .f32⟩
  | .hbm, ⟨20, _⟩ => ⟨S2x2048x8, .f32⟩
  | .hbm, ⟨21, _⟩ => ⟨S2x2048x8, .f32⟩
  | .hbm, ⟨22, _⟩ => ⟨S2x2048x8, .f32⟩
  | .hbm, ⟨23, _⟩ => ⟨S_, .f32⟩
  | .hbm, ⟨24, _⟩ => ⟨S2x2048x8, .f32⟩
  | .hbm, ⟨25, _⟩ => ⟨S2x2048x8, .i1⟩
  | .hbm, ⟨26, _⟩ => ⟨S_, .f32⟩
  | .hbm, ⟨27, _⟩ => ⟨S2x2048x8, .f32⟩
  | .hbm, ⟨28, _⟩ => ⟨S2x2048x8, .f32⟩
  | .hbm, ⟨29, _⟩ => ⟨S_, .f32⟩
  | .hbm, ⟨30, _⟩ => ⟨S2x2048x8, .f32⟩
  | .hbm, ⟨31, _⟩ => ⟨S2x2048x8, .i1⟩
  | .hbm, ⟨32, _⟩ => ⟨S_, .f32⟩
  | .hbm, ⟨33, _⟩ => ⟨S2x2048x8, .f32⟩
  | .hbm, ⟨34, _⟩ => ⟨S2x2048x8, .f32⟩
  | .hbm, ⟨35, _⟩ => ⟨S2x2048x8, .f32⟩
  | .hbm, ⟨36, _⟩ => ⟨S2x2048x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x2048x8, .f32⟩
  | .hbm, ⟨45, _⟩ => ⟨S2x2048x8, .i1⟩
  | .hbm, ⟨46, _⟩ => ⟨S_, .f32⟩
  | .hbm, ⟨47, _⟩ => ⟨S2x2048x8, .f32⟩
  | .hbm, ⟨48, _⟩ => ⟨S2x2048x8, .f32⟩
  | .hbm, ⟨49, _⟩ => ⟨S2x2048x8, .f32⟩
  | .hbm, ⟨50, _⟩ => ⟨S2x2048x8, .f32⟩
  | .hbm, ⟨51, _⟩ => ⟨S2x2048x8, .f32⟩
  | .hbm, ⟨52, _⟩ => ⟨S_, .f32⟩
  | .hbm, ⟨53, _⟩ => ⟨S2x2048x8, .f32⟩
  | .hbm, ⟨54, _⟩ => ⟨S2x2048x8, .f32⟩
  | .hbm, ⟨55, _⟩ => ⟨S2x2048x8, .f32⟩
  | .hbm, ⟨56, _⟩ => ⟨S_, .f32⟩
  | .hbm, ⟨57, _⟩ => ⟨S_, .f32⟩
  | .hbm, ⟨58, _⟩ => ⟨S2x2048x8, .f32⟩
  | .hbm, ⟨59, _⟩ => ⟨S2x2048x8, .f32⟩
  | .hbm, ⟨60, _⟩ => ⟨S_, .f32⟩
  | .hbm, ⟨61, _⟩ => ⟨S_, .f32⟩
  | .hbm, ⟨62, _⟩ => ⟨S2x2048x8, .f32⟩
  | .hbm, ⟨63, _⟩ => ⟨S2x2048x8, .f32⟩
  | .hbm, ⟨64, _⟩ => ⟨S2x2048x8, .f32⟩
  | .hbm, ⟨65, _⟩ => ⟨S2x2048x8, .f32⟩
  | .hbm, ⟨66, _⟩ => ⟨S_, .f32⟩
  | .hbm, ⟨67, _⟩ => ⟨S8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S4096x8, .f32⟩
  | .hbm, ⟨73, _⟩ => ⟨S_, .i32⟩
  | .hbm, ⟨74, _⟩ => ⟨S_, .f32⟩
  | .hbm, ⟨75, _⟩ => ⟨S4096x128, .f32⟩
  | .hbm, ⟨76, _⟩ => ⟨S4096x128, .bf16⟩
  | .hbm, ⟨77, _⟩ => ⟨S_, .i32⟩
  | .hbm, ⟨78, _⟩ => ⟨S_, .f32⟩
  | .hbm, ⟨79, _⟩ => ⟨S1x128, .f32⟩
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_v6 : Ref sig .tc := ⟨.hbm, 59, rfl⟩
abbrev main_call2_call0_cst : Ref sig .tc := ⟨.hbm, 60, rfl⟩
abbrev main_call2_call0_v0 : Ref sig .tc := ⟨.hbm, 61, rfl⟩
abbrev main_v7 : Ref sig .tc := ⟨.hbm, 62, rfl⟩
abbrev main_call3_v0 : Ref sig .tc := ⟨.hbm, 63, rfl⟩
abbrev main_call3_v1 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_v10 : Ref sig .tc := ⟨.hbm, 68, rfl⟩
abbrev main_cst_0 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_c : Ref sig .tc := ⟨.hbm, 73, rfl⟩
abbrev main_call4_v0 : Ref sig .tc := ⟨.hbm, 74, rfl⟩
abbrev main_v14 : Ref sig .tc := ⟨.hbm, 75, rfl⟩
abbrev main_v15 : Ref sig .tc := ⟨.hbm, 76, rfl⟩
abbrev main_c_1 : Ref sig .tc := ⟨.hbm, 77, rfl⟩
abbrev main_call5_v0 : Ref sig .tc := ⟨.hbm, 78, rfl⟩
abbrev main_v16 : Ref sig .tc := ⟨.hbm, 79, rfl⟩

abbrev nD : Nat := 1
abbrev τ : Topo := Topo.v7x

variable {F : FTy → Type} [FloatOps F]
-- ==== FfnBwd.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 45
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x2048x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S1024x2816, .f32⟩
  | .hbm, ⟨24, _⟩ => ⟨S2x2048x2816, .f32⟩
  | .hbm, ⟨25, _⟩ => ⟨S1024x2816, .f32⟩
  | .hbm, ⟨26, _⟩ => ⟨S2x2048x2816, .f32⟩
  | .hbm, ⟨27, _⟩ => ⟨S4096x1024, .f32⟩
  | .hbm, ⟨28, _⟩ => ⟨S4096x2816, .f32⟩
  | .hbm, ⟨29, _⟩ => ⟨S4096x2816, .bf16⟩
  | .hbm, ⟨30, _⟩ => ⟨S4096x2816, .f32⟩
  | .hbm, ⟨31, _⟩ => ⟨S4096x2816, .bf16⟩
  | .hbm, ⟨32, _⟩ => ⟨S4096x1024, .f32⟩
  | .hbm, ⟨33, _⟩ => ⟨S1024x2816, .f32⟩
  | .hbm, ⟨34, _⟩ => ⟨S2816x1024, .f32⟩
  | .hbm, ⟨35, _⟩ => ⟨S2816x1024, .bf16⟩
  | .hbm, ⟨36, _⟩ => ⟨S1024x2816, .f32⟩
  | .hbm, ⟨37, _⟩ => ⟨S2816x1024, .f32⟩
  | .hbm, ⟨38, _⟩ => ⟨S2816x1024, .bf16⟩
  | .hbm, ⟨39, _⟩ => ⟨S2816x1024, .f32⟩
  | .hbm, ⟨40, _⟩ => ⟨S2816x1024, .bf16⟩
  | .hbm, ⟨41, _⟩ => ⟨S4096x2816, .bf16⟩
  | .hbm, ⟨42, _⟩ => ⟨S4096x2816, .bf16⟩
  | .hbm, ⟨43, _⟩ => ⟨S4096x1024, .f32⟩
  | .hbm, ⟨44, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnGradIdeal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4096x2816 : Shape := ⟨2, ![4096, 2816]⟩
abbrev S4096x1024 : Shape := ⟨2, ![4096, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S2x2048x1024, .f32⟩
  | .hbm, ⟨6, _⟩ => ⟨S1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S1024x2816, .f32⟩
  | .hbm, ⟨28, _⟩ => ⟨S2x2048x2816, .f32⟩
  | .hbm, ⟨29, _⟩ => ⟨S1024x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2816x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S1x1024, .f32⟩
  | .hbm, ⟨86, _⟩ => ⟨S4096x2816, .f32⟩
  | .hbm, ⟨87, _⟩ => ⟨S4096x2816, .bf16⟩
  | .hbm, ⟨88, _⟩ => ⟨S4096x2816, .f32⟩
  | .hbm, ⟨89, _⟩ => ⟨S4096x2816, .bf16⟩
  | .hbm, ⟨90, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== LossBwd.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩

abbrev nBuf : Space → Nat
  | .hbm => 25
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x2048x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S1024x2816, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S4096x1024, .bf16⟩
  | .hbm, ⟨19, _⟩ => ⟨S4096x2816, .bf16⟩
  | .hbm, ⟨20, _⟩ => ⟨S4096x2816, .bf16⟩
  | .hbm, ⟨21, _⟩ => ⟨S4096x2816, .bf16⟩
  | .hbm, ⟨22, _⟩ => ⟨S4096x1024, .f32⟩
  | .hbm, ⟨23, _⟩ => ⟨S8x128, .f32⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x1024, .f32⟩
  | .local _ .vmem, ⟨18, _⟩ => ⟨S512x1024, .f32⟩
  | .local _ .vmem, ⟨19, _⟩ => ⟨S8x128, .f32⟩
  | .local _ .vmem, ⟨20, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossGradIdeal.lean ====
abbrev S2x2048x1024 : Shape := ⟨3, ![2, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4096x1024 : Shape := ⟨2, ![4096, 1024]⟩
abbrev S4096x2816 : Shape := ⟨2, ![4096, 2816]⟩
abbrev S8x128 : Shape := ⟨2, ![8, 128]⟩

abbrev nBuf : Space → Nat
  | .hbm => 120
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S2x2048x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S1024x2816, .f32⟩
  | .hbm, ⟨25, _⟩ => ⟨S2x2048x2816, .f32⟩
  | .hbm, ⟨26, _⟩ => ⟨S1024x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2816x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S_, .f32⟩
  | .hbm, ⟨69, _⟩ => ⟨S2x2048, .f32⟩
  | .hbm, ⟨70, _⟩ => ⟨S2x2048, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2x2048, .f32⟩
  | .hbm, ⟨79, _⟩ => ⟨S_, .f32⟩
  | .hbm, ⟨80, _⟩ => ⟨S2x2048, .f32⟩
  | .hbm, ⟨81, _⟩ => ⟨S2x2048, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S_, .f32⟩
  | .hbm, ⟨86, _⟩ => ⟨S1024, .f32⟩
  | .hbm, ⟨87, _⟩ => ⟨S1x1x1024, .f32⟩
  | .hbm, ⟨88, _⟩ => ⟨S2x2048x1024, .f32⟩
  | .hbm, ⟨89, _⟩ => ⟨S2x2048x1024, .f32⟩
  | .hbm, ⟨90, _⟩ => ⟨S_, .f32⟩
  | .hbm, ⟨91, _⟩ => ⟨S1024, .f32⟩
  | .hbm, ⟨92, _⟩ => ⟨S2x2048x1024, .f32⟩
  | .hbm, ⟨93, _⟩ => ⟨S_, .f32⟩
  | .hbm, ⟨94, _⟩ => ⟨S2x2048, .f32⟩
  | .hbm, ⟨95, _⟩ => ⟨S2x2048x1, .f32⟩
  | .hbm, ⟨96, _⟩ => ⟨S2x2048x1024, .f32⟩
  | .hbm, ⟨97, _⟩ => ⟨S2x2048x1024, .f32⟩
  | .hbm, ⟨98, _⟩ => ⟨S2x2048x1, .f32⟩
  | .hbm, ⟨99, _⟩ => ⟨S_, .f32⟩
  | .hbm, ⟨100, _⟩ => ⟨S2x2048x1, .f32⟩
  | .hbm, ⟨101, _⟩ => ⟨S2x2048x1, .f32⟩
  | .hbm, ⟨102, _⟩ => ⟨S_, .f32⟩
  | .hbm, ⟨103, _⟩ => ⟨S2x2048, .f32⟩
  | .hbm, ⟨104, _⟩ => ⟨S2x2048x1024, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S2x2048x1024, .f32⟩
  | .hbm, ⟨109, _⟩ => ⟨S4096x1024, .f32⟩
  | .hbm, ⟨110, _⟩ => ⟨S4096x1024, .bf16⟩
  | .hbm, ⟨111, _⟩ => ⟨S4096x2816, .f32⟩
  | .hbm, ⟨112, _⟩ => ⟨S4096x2816, .bf16⟩
  | .hbm, ⟨113, _⟩ => ⟨S4096x2816, .f32⟩
  | .hbm, ⟨114, _⟩ => ⟨S4096x2816, .bf16⟩
  | .hbm, ⟨115, _⟩ => ⟨S4096x2816, .f32⟩
  | .hbm, ⟨116, _⟩ => ⟨S4096x2816, .bf16⟩
  | .hbm, ⟨117, _⟩ => ⟨S4096x1024, .f32⟩
  | .hbm, ⟨118, _⟩ => ⟨S8x128, .f32⟩
  | .hbm, ⟨119, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== PoolBwd.lean ====
abbrev S2x2048x512 : Shape := ⟨3, ![2, 2048, 512]⟩
abbrev S1x4x128x128 : Shape := ⟨4, ![1, 4, 128, 128]⟩
abbrev S2x2048x4x128 : Shape := ⟨4, ![2, 2048, 4, 128]⟩
abbrev S_ : Shape := ⟨0, ![]⟩
abbrev S2048 : Shape := ⟨1, ![2048]⟩
abbrev S2x2048x1x128 : Shape := ⟨4, ![2, 2048, 1, 128]⟩
abbrev S2x2048x128 : Shape := ⟨3, ![2, 2048, 128]⟩
abbrev S2x2x128 : Shape := ⟨3, ![2, 2, 128]⟩
abbrev S2x2046x128 : Shape := ⟨3, ![2, 2046, 128]⟩
abbrev S1x2048x1 : Shape := ⟨3, ![1, 2048, 1]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S4096x512 : Shape := ⟨2, ![4096, 512]⟩
abbrev S4x128x128 : Shape := ⟨3, ![4, 128, 128]⟩
abbrev S8x128 : Shape := ⟨2, ![8, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 92
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S1x4x128x128, .f32⟩
  | .hbm, ⟨2, _⟩ => ⟨S2x2048x512, .f32⟩
  | .hbm, ⟨3, _⟩ => ⟨S2x2048x4x128, .f32⟩
  | .hbm, ⟨4, _⟩ => ⟨S_, .f32⟩
  | .hbm, ⟨5, _⟩ => ⟨S_, .f32⟩
  | .hbm, ⟨6, _⟩ => ⟨S2x2048x4x128, .f32⟩
  | .hbm, ⟨7, _⟩ => ⟨S2048, .i32⟩
  | .hbm, ⟨8, _⟩ => ⟨S2x2048x1x128, .f32⟩
  | .hbm, ⟨9, _⟩ => ⟨S2x2048x128, .f32⟩
  | .hbm, ⟨10, _⟩ => ⟨S_, .f32⟩
  | .hbm, ⟨11, _⟩ => ⟨S2x2x128, .f32⟩
  | .hbm, ⟨12, _⟩ => ⟨S2x2046x128, .f32⟩
  | .hbm, ⟨13, _⟩ => ⟨S2x2048x128, .f32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S1x2048x1, .f32⟩
  | .hbm, ⟨22, _⟩ => ⟨S2x2048x128, .f32⟩
  | .hbm, ⟨23, _⟩ => ⟨S2x2048x128, .f32⟩
  | .hbm, ⟨24, _⟩ => ⟨S2x2048x128, .f32⟩
  | .hbm, ⟨25, _⟩ => ⟨S2x2048x1x128, .f32⟩
  | .hbm, ⟨26, _⟩ => ⟨S2x2048x128, .f32⟩
  | .hbm, ⟨27, _⟩ => ⟨S_, .f32⟩
  | .hbm, ⟨28, _⟩ => ⟨S2x4x128, .f32⟩
  | .hbm, ⟨29, _⟩ => ⟨S2x2044x128, .f32⟩
  | .hbm, ⟨30, _⟩ => ⟨S2x2048x128, .f32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .f32⟩
  | .hbm, ⟨38, _⟩ => ⟨S1x2048x1, .f32⟩
  | .hbm, ⟨39, _⟩ => ⟨S2x2048x128, .f32⟩
  | .hbm, ⟨40, _⟩ => ⟨S2x2048x128, .f32⟩
  | .hbm, ⟨41, _⟩ => ⟨S2x2048x128, .f32⟩
  | .hbm, ⟨42, _⟩ => ⟨S2x2048x1x128, .f32⟩
  | .hbm, ⟨43, _⟩ => ⟨S2x2048x128, .f32⟩
  | .hbm, ⟨44, _⟩ => ⟨S_, .f32⟩
  | .hbm, ⟨45, _⟩ => ⟨S2x8x128, .f32⟩
  | .hbm, ⟨46, _⟩ => ⟨S2x2040x128, .f32⟩
  | .hbm, ⟨47, _⟩ => ⟨S2x2048x128, .f32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .f32⟩
  | .hbm, ⟨55, _⟩ => ⟨S1x2048x1, .f32⟩
  | .hbm, ⟨56, _⟩ => ⟨S2x2048x128, .f32⟩
  | .hbm, ⟨57, _⟩ => ⟨S2x2048x128, .f32⟩
  | .hbm, ⟨58, _⟩ => ⟨S2x2048x128, .f32⟩
  | .hbm, ⟨59, _⟩ => ⟨S2x2048x1x128, .f32⟩
  | .hbm, ⟨60, _⟩ => ⟨S2x2048x128, .f32⟩
  | .hbm, ⟨61, _⟩ => ⟨S_, .f32⟩
  | .hbm, ⟨62, _⟩ => ⟨S2x16x128, .f32⟩
  | .hbm, ⟨63, _⟩ => ⟨S2x2032x128, .f32⟩
  | .hbm, ⟨64, _⟩ => ⟨S2x2048x128, .f32⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .f32⟩
  | .hbm, ⟨72, _⟩ => ⟨S1x2048x1, .f32⟩
  | .hbm, ⟨73, _⟩ => ⟨S2x2048x128, .f32⟩
  | .hbm, ⟨74, _⟩ => ⟨S2x2048x128, .f32⟩
  | .hbm, ⟨75, _⟩ => ⟨S2x2048x128, .f32⟩
  | .hbm, ⟨76, _⟩ => ⟨S2x2048x1x128, .f32⟩
  | .hbm, ⟨77, _⟩ => ⟨S2x2048x1x128, .f32⟩
  | .hbm, ⟨78, _⟩ => ⟨S2x2048x1x128, .f32⟩
  | .hbm, ⟨79, _⟩ => ⟨S2x2048x1x128, .f32⟩
  | .hbm, ⟨80, _⟩ => ⟨S2x2048x4x128, .f32⟩
  | .hbm, ⟨81, _⟩ => ⟨S2x2048x4x128, .f32⟩
  | .hbm, ⟨82, _⟩ => ⟨S4096x512, .f32⟩
  | .hbm, ⟨83, _⟩ => ⟨S4096x512, .bf16⟩
  | .hbm, ⟨84, _⟩ => ⟨S4096x512, .f32⟩
  | .hbm, ⟨85, _⟩ => ⟨S4096x512, .bf16⟩
  | .hbm, ⟨86, _⟩ => ⟨S4x128x128, .f32⟩
  | .hbm, ⟨87, _⟩ => ⟨S4x128x128, .bf16⟩
  | .hbm, ⟨88, _⟩ => ⟨S_, .f32⟩
  | .hbm, ⟨89, _⟩ => ⟨S8x128, .f32⟩
  | .hbm, ⟨90, _⟩ => ⟨S4096x512, .bf16⟩
  | .hbm, ⟨91, _⟩ => ⟨S4x128x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S1x128x128, .bf16⟩
  | .local _ .vmem, ⟨5, _⟩ => ⟨S1x128x128, .bf16⟩
  | .local _ .vmem, ⟨6, _⟩ => ⟨S2048x128, .bf16⟩
  | .local _ .vmem, ⟨7, _⟩ => ⟨S2048x128, .bf16⟩
  | .local _ .vmem, ⟨8, _⟩ => ⟨S1x128x128, .f32⟩
  | .local _ .vmem, ⟨9, _⟩ => ⟨S1x128x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PoolGradIdeal.lean ====
abbrev S2x2048x512 : Shape := ⟨3, ![2, 2048, 512]⟩
abbrev S1x4x128x128 : Shape := ⟨4, ![1, 4, 128, 128]⟩
abbrev S2x2048x4x128 : Shape := ⟨4, ![2, 2048, 4, 128]⟩
abbrev S_ : Shape := ⟨0, ![]⟩
abbrev S2048 : Shape := ⟨1, ![2048]⟩
abbrev S2x2048x1x128 : Shape := ⟨4, ![2, 2048, 1, 128]⟩
abbrev S2x2048x128 : Shape := ⟨3, ![2, 2048, 128]⟩
abbrev S2x2x128 : Shape := ⟨3, ![2, 2, 128]⟩
abbrev S2x2046x128 : Shape := ⟨3, ![2, 2046, 128]⟩
abbrev S1x2048x1 : Shape := ⟨3, ![1, 2048, 1]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S4x128x128 : Shape := ⟨3, ![4, 128, 128]⟩
abbrev S4x128x2x2048 : Shape := ⟨4, ![4, 128, 2, 2048]⟩
abbrev S4x2x2048x128 : Shape := ⟨4, ![4, 2, 2048, 128]⟩
abbrev S4096x512 : Shape := ⟨2, ![4096, 512]⟩

abbrev nBuf : Space → Nat
  | .hbm => 165
  | .vmem => 0
  | .smem => 0
  | _ => 0

abbrev hbmTy0_0 (i : Nat) : BufTy := match i % 128 with
  | 0 => ⟨S2x2048x512, .f32⟩
  | 1 => ⟨S1x4x128x128, .f32⟩
  | 2 => ⟨S2x2048x512, .f32⟩
  | 3 => ⟨S2x2048x4x128, .f32⟩
  | 4 => ⟨S_, .f32⟩
  | 5 => ⟨S_, .f32⟩
  | 6 => ⟨S2x2048x4x128, .f32⟩
  | 7 => ⟨S2048, .i32⟩
  | 8 => ⟨S2x2048x1x128, .f32⟩
  | 9 => ⟨S2x2048x128, .f32⟩
  | 10 => ⟨S_, .f32⟩
  | 11 => ⟨S2x2x128, .f32⟩
  | 12 => ⟨S2x2046x128, .f32⟩
  | 13 => ⟨S2x2048x128, .f32⟩
  | 14 => ⟨S_, .f32⟩
  | 15 => ⟨S2x2x128, .f32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S2048, .f32⟩
  | 23 => ⟨S1x2048x1, .f32⟩
  | 24 => ⟨S2x2048x128, .f32⟩
  | 25 => ⟨S2x2048x128, .f32⟩
  | 26 => ⟨S2x2048x128, .f32⟩
  | 27 => ⟨S2x2048x1x128, .f32⟩
  | 28 => ⟨S2x2048x128, .f32⟩
  | 29 => ⟨S_, .f32⟩
  | 30 => ⟨S2x4x128, .f32⟩
  | 31 => ⟨S2x2044x128, .f32⟩
  | 32 => ⟨S2x2048x128, .f32⟩
  | 33 => ⟨S_, .f32⟩
  | 34 => ⟨S2x4x128, .f32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S2048, .f32⟩
  | 42 => ⟨S1x2048x1, .f32⟩
  | 43 => ⟨S2x2048x128, .f32⟩
  | 44 => ⟨S2x2048x128, .f32⟩
  | 45 => ⟨S2x2048x128, .f32⟩
  | 46 => ⟨S2x2048x1x128, .f32⟩
  | 47 => ⟨S2x2048x128, .f32⟩
  | 48 => ⟨S_, .f32⟩
  | 49 => ⟨S2x8x128, .f32⟩
  | 50 => ⟨S2x2040x128, .f32⟩
  | 51 => ⟨S2x2048x128, .f32⟩
  | 52 => ⟨S_, .f32⟩
  | 53 => ⟨S2x8x128, .f32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S2048, .f32⟩
  | 61 => ⟨S1x2048x1, .f32⟩
  | 62 => ⟨S2x2048x128, .f32⟩
  | 63 => ⟨S2x2048x128, .f32⟩
  | 64 => ⟨S2x2048x128, .f32⟩
  | 65 => ⟨S2x2048x1x128, .f32⟩
  | 66 => ⟨S2x2048x128, .f32⟩
  | 67 => ⟨S_, .f32⟩
  | 68 => ⟨S2x16x128, .f32⟩
  | 69 => ⟨S2x2032x128, .f32⟩
  | 70 => ⟨S2x2048x128, .f32⟩
  | 71 => ⟨S_, .f32⟩
  | 72 => ⟨S2x16x128, .f32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S2048, .f32⟩
  | 80 => ⟨S1x2048x1, .f32⟩
  | 81 => ⟨S2x2048x128, .f32⟩
  | 82 => ⟨S2x2048x128, .f32⟩
  | 83 => ⟨S2x2048x128, .f32⟩
  | 84 => ⟨S2x2048x1x128, .f32⟩
  | 85 => ⟨S2x2048x1x128, .f32⟩
  | 86 => ⟨S2x2048x1x128, .f32⟩
  | 87 => ⟨S2x2048x1x128, .f32⟩
  | 88 => ⟨S2x2048x4x128, .f32⟩
  | 89 => ⟨S2x2048x4x128, .f32⟩
  | 90 => ⟨S4x128x128, .f32⟩
  | 91 => ⟨S4x128x2x2048, .f32⟩
  | 92 => ⟨S2x2048x4x128, .f32⟩
  | 93 => ⟨S2x2048x512, .f32⟩
  | 94 => ⟨S2x2048x4x128, .f32⟩
  | 95 => ⟨S4x128x2x2048, .f32⟩
  | 96 => ⟨S4x2x2048x128, .f32⟩
  | 97 => ⟨S2x2048x4x128, .f32⟩
  | 98 => ⟨S4x128x128, .f32⟩
  | 99 => ⟨S4x128x128, .f32⟩
  | 100 => ⟨S1x4x128x128, .f32⟩
  | 101 => ⟨S2x2048x4x128, .f32⟩
  | 102 => ⟨S2x2048x1x128, .f32⟩
  | 103 => ⟨S2x2048x128, .f32⟩
  | 104 => ⟨S2x2048x1x128, .f32⟩
  | 105 => ⟨S2x2048x128, .f32⟩
  | 106 => ⟨S2x2048x1x128, .f32⟩
  | 107 => ⟨S2x2048x128, .f32⟩
  | 108 => ⟨S2x2048x1x128, .f32⟩
  | 109 => ⟨S2x2048x128, .f32⟩
  | 110 => ⟨S2x2048x128, .f32⟩
  | 111 => ⟨S2x2048x128, .f32⟩
  | 112 => ⟨S2x2048x128, .f32⟩
  | 113 => ⟨S2x16x128, .f32⟩
  | 114 => ⟨S2x2032x128, .f32⟩
  | 115 => ⟨S_, .f32⟩
  | 116 => ⟨S2x2048x128, .f32⟩
  | 117 => ⟨S2x2048x128, .f32⟩
  | 118 => ⟨S2x2048x1x128, .f32⟩
  | 119 => ⟨S_, .f32⟩
  | 120 => ⟨S2x2048x4x128, .f32⟩
  | 121 => ⟨S2x2048x128, .f32⟩
  | 122 => ⟨S2x2048x128, .f32⟩
  | 123 => ⟨S2x2048x128, .f32⟩
  | 124 => ⟨S2x8x128, .f32⟩
  | 125 => ⟨S2x2040x128, .f32⟩
  | 126 => ⟨S_, .f32⟩
  | 127 => ⟨S2x2048x128, .f32⟩
  | _ => ⟨S2x2048x512, .f32⟩

abbrev hbmTy0_1 (i : Nat) : BufTy := match i % 128 with
  | 0 => ⟨S2x2048x128, .f32⟩
  | 1 => ⟨S2x2048x1x128, .f32⟩
  | 2 => ⟨S_, .f32⟩
  | 3 => ⟨S2x2048x4x128, .f32⟩
  | 4 => ⟨S2x2048x4x128, .f32⟩
  | 5 => ⟨S2x2048x128, .f32⟩
  | 6 => ⟨S2x2048x128, .f32⟩
  | 7 => ⟨S2x2048x128, .f32⟩
  | 8 => ⟨S2x4x128, .f32⟩
  | 9 => ⟨S2x2044x128, .f32⟩
  | 10 => ⟨S_, .f32⟩
  | 11 => ⟨S2x2048x128, .f32⟩
  | 12 => ⟨S2x2048x128, .f32⟩
  | 13 => ⟨S2x2048x1x128, .f32⟩
  | 14 => ⟨S_, .f32⟩
  | 15 => ⟨S2x2048x4x128, .f32⟩
  | 16 => ⟨S2x2048x4x128, .f32⟩
  | 17 => ⟨S2x2048x128, .f32⟩
  | 18 => ⟨S2x2048x128, .f32⟩
  | 19 => ⟨S2x2048x128, .f32⟩
  | 20 => ⟨S2x2x128, .f32⟩
  | 21 => ⟨S2x2046x128, .f32⟩
  | 22 => ⟨S_, .f32⟩
  | 23 => ⟨S2x2048x128, .f32⟩
  | 24 => ⟨S2x2048x128, .f32⟩
  | 25 => ⟨S2x2048x1x128, .f32⟩
  | 26 => ⟨S_, .f32⟩
  | 27 => ⟨S2x2048x4x128, .f32⟩
  | 28 => ⟨S2x2048x4x128, .f32⟩
  | 29 => ⟨S_, .f32⟩
  | 30 => ⟨S_, .f32⟩
  | 31 => ⟨S2x2048x4x128, .f32⟩
  | 32 => ⟨S2x2048x4x128, .f32⟩
  | 33 => ⟨S2x2048x512, .f32⟩
  | 34 => ⟨S4096x512, .f32⟩
  | 35 => ⟨S4096x512, .bf16⟩
  | 36 => ⟨S4x128x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_15 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_16 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_17 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_18 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_19 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_20 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_21 : Ref sig .tc := ⟨.hbm, 154, rfl⟩
abbrev main_v126 : Ref sig .tc := ⟨.hbm, 155, rfl⟩
abbrev main_v127 : Ref sig .tc := ⟨.hbm, 156, rfl⟩
abbrev main_call1_call0_cst : Ref sig .tc := ⟨.hbm, 157, rfl⟩
abbrev main_call1_call0_v0 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩

abbrev nD : Nat := 1
abbrev τ : Topo := Topo.v7x

variable {F : FTy → Type} [FloatOps F]
-- ==== Proof.Attn.Common.lean ====
module

public import proofs.«01_k».proof.Proof.Gen.AttnBwdIdeal.Loops
public import proofs.«01_k».proof.Proof.Gen.AttnBwdIdeal.Frame

@[expose] public section

set_option maxRecDepth 16384

noncomputable section

namespace Cert.Attn

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)
  (g9 : BufTy.Contents (Elt F) arg9.view.ty)
  (g10 : BufTy.Contents (Elt F) arg10.view.ty)
  (g11 : BufTy.Contents (Elt F) arg11.view.ty)
  (g12 : BufTy.Contents (Elt F) arg12.view.ty)
  (g13 : BufTy.Contents (Elt F) arg13.view.ty)
  (g14 : BufTy.Contents (Elt F) arg14.view.ty)
  (g15 : BufTy.Contents (Elt F) arg15.view.ty)
  (g16 : BufTy.Contents (Elt F) arg16.view.ty)
  (g17 : BufTy.Contents (Elt F) arg17.view.ty)
  (g18 : BufTy.Contents (Elt F) arg18.view.ty)
  (g19 : BufTy.Contents (Elt F) arg19.view.ty)
  (g20 : BufTy.Contents (Elt F) arg20.view.ty)
  (g21 : BufTy.Contents (Elt F) arg21.view.ty)
  (g22 : BufTy.Contents (Elt F) arg22.view.ty)

/-- What a run of the body says: from all windows and scratch buffers held at some contents, the body runs to any continuation that takes them
back, the windows of the results and the scratch buffers at new contents. -/
abbrev Runs : Prop :=
  ∀ (E : Set ℕ) (K : PUnit → sProp 𝕄),
    iprop(
(arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (arg22.view.loc (c : Thread nD τ) ↦[arg22.view.set]{fullShare} f22)
      ∗ (iprop((arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} g9)
        ∗ (arg10.view.loc (c : Thread nD τ) ↦[arg10.view.set]{fullShare} g10)
        ∗ (arg11.view.loc (c : Thread nD τ) ↦[arg11.view.set]{fullShare} g11)
        ∗ (arg12.view.loc (c : Thread nD τ) ↦[arg12.view.set]{fullShare} g12)
        ∗ (arg13.view.loc (c : Thread nD τ) ↦[arg13.view.set]{fullShare} g13)
        ∗ (arg14.view.loc (c : Thread nD τ) ↦[arg14.view.set]{fullShare} g14)
        ∗ (arg15.view.loc (c : Thread nD τ) ↦[arg15.view.set]{fullShare} g15)
        ∗ (arg16.view.loc (c : Thread nD τ) ↦[arg16.view.set]{fullShare} g16)
        ∗ (arg17.view.loc (c : Thread nD τ) ↦[arg17.view.set]{fullShare} g17)
        ∗ (arg18.view.loc (c : Thread nD τ) ↦[arg18.view.set]{fullShare} g18)
        ∗ (arg19.view.loc (c : Thread nD τ) ↦[arg19.view.set]{fullShare} g19)
        ∗ (arg20.view.loc (c : Thread nD τ) ↦[arg20.view.set]{fullShare} g20)
        ∗ (arg21.view.loc (c : Thread nD τ) ↦[arg21.view.set]{fullShare} g21)
        ∗ (arg22.view.loc (c : Thread nD τ) ↦[arg22.view.set]{fullShare} g22)) -∗ K ⟨⟩))
      ⊢ wp frame (wpE (defs₀ (F := F)) Variants.none c none) E (cc0_attn_bwd i
        arg2 harg2 arg3 harg3 arg4 harg4 arg5 harg5 arg6 harg6 arg7 harg7 arg8 harg8 arg9 harg9 arg10 harg10 arg11 harg11 arg12
        harg12 arg13 harg13 arg14 harg14 arg15 harg15 arg16 harg16 arg17 harg17 arg18 harg18 arg19 harg19 arg20 harg20 arg21
        harg21 arg22 harg22) K

end Cert.Attn

end
-- ==== Proof.Attn.RunA.lean ====
module

public import proofs.«01_k».proof.Proof.Attn.Common
public import proofs.«01_k».proof.Proof.Gen.AttnBwdIdeal.Frame

@[expose] public section

set_option maxRecDepth 16384

noncomputable section

namespace Cert.Attn

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)

set_option maxHeartbeats 16000000 in
/-- The run of the body at the first block of keys of a sequence: the rows of the queries are prepared, then one block of keys is swept. The contents that each stored buffer ends with are what the run finds. -/
def runA (h1 : k0_cond1 i = 1#1) (h2 : ¬ k0_cond2 i = 1#1) :
    Σ' (g10 : BufTy.Contents (Elt F) arg10.view.ty) (g11 : BufTy.Contents (Elt F) arg11.view.ty) (g12 : BufTy.Contents (Elt F) arg12.view.ty) (g14 : BufTy.Contents (Elt F) arg14.view.ty) (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty),
      { g22 : BufTy.Contents (Elt F) arg22.view.ty //
        Runs c i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21
        harg21 arg22 harg22 f2 f3 f4 f5 f6 f7 f8 f9 f10 f11 f12 f13 f14 f15 f16 f17 f18 f19 f20 f21 f22 f9 g10 g11 g12 f13 g14 g15
        g16 g17 g18 g19 g20 g21 g22 } := by
  refine ⟨?_, ?_, ?_, ?_, ?_, ?_, ?_, ?_, ?_, ?_, ?_, ?_, fun E K => ?run⟩
  case run =>
    simp only [cc0_attn_bwd_eq_skeleton]; unfold cc0_attn_bwd_skel
    iintro ⟨H2, H3, H4, H5, H6, H7, H8, H9, H10, H11, H12, H13, H14, H15, H16, H17, H18, H19, H20, H21, H22, Hk⟩
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Attn

end
-- ==== Proof.Attn.RunB.lean ====
module

public import proofs.«01_k».proof.Proof.Attn.Common
public import proofs.«01_k».proof.Proof.Gen.AttnBwdIdeal.Frame

@[expose] public section

set_option maxRecDepth 16384

noncomputable section

namespace Cert.Attn

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)

set_option maxHeartbeats 16000000 in
/-- The run of the body at a block of keys in the middle of a sequence. The contents that each stored buffer ends with are what the run finds. -/
def runB (h1 : ¬ k0_cond1 i = 1#1) (h2 : ¬ k0_cond2 i = 1#1) :
    Σ' (g10 : BufTy.Contents (Elt F) arg10.view.ty) (g11 : BufTy.Contents (Elt F) arg11.view.ty) (g12 : BufTy.Contents (Elt F) arg12.view.ty) (g18 : BufTy.Contents (Elt F) arg18.view.ty) (g19 : BufTy.Contents (Elt F) arg19.view.ty) (g20 : BufTy.Contents (Elt F) arg20.view.ty) (g21 : BufTy.Contents (Elt F) arg21.view.ty),
      { g22 : BufTy.Contents (Elt F) arg22.view.ty //
        Runs c i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21
        harg21 arg22 harg22 f2 f3 f4 f5 f6 f7 f8 f9 f10 f11 f12 f13 f14 f15 f16 f17 f18 f19 f20 f21 f22 f9 g10 g11 g12 f13 f14 f15
        f16 f17 g18 g19 g20 g21 g22 } := by
  refine ⟨?_, ?_, ?_, ?_, ?_, ?_, ?_, ?_, fun E K => ?run⟩
  case run =>
    simp only [cc0_attn_bwd_eq_skeleton]; unfold cc0_attn_bwd_skel
    iintro ⟨H2, H3, H4, H5, H6, H7, H8, H9, H10, H11, H12, H13, H14, H15, H16, H17, H18, H19, H20, H21, H22, Hk⟩
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Attn

end
-- ==== Proof.Attn.RunC.lean ====
module

public import proofs.«01_k».proof.Proof.Attn.Common
public import proofs.«01_k».proof.Proof.Gen.AttnBwdIdeal.Frame

@[expose] public section

set_option maxRecDepth 16384

noncomputable section

namespace Cert.Attn

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)

set_option maxHeartbeats 16000000 in
/-- The run of the body at the last block of keys of a sequence: after the sweep the gradient of the queries is stored. The contents that each stored buffer ends with are what the run finds. -/
def runC (h1 : ¬ k0_cond1 i = 1#1) (h2 : k0_cond2 i = 1#1) :
    Σ' (g9 : BufTy.Contents (Elt F) arg9.view.ty) (g10 : BufTy.Contents (Elt F) arg10.view.ty) (g11 : BufTy.Contents (Elt F) arg11.view.ty) (g12 : BufTy.Contents (Elt F) arg12.view.ty) (g13 : BufTy.Contents (Elt F) arg13.view.ty) (g18 : BufTy.Contents (Elt F) arg18.view.ty) (g19 : BufTy.Contents (Elt F) arg19.view.ty) (g20 : BufTy.Contents (Elt F) arg20.view.ty) (g21 : BufTy.Contents (Elt F) arg21.view.ty),
      { g22 : BufTy.Contents (Elt F) arg22.view.ty //
        Runs c i arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21
        harg21 arg22 harg22 f2 f3 f4 f5 f6 f7 f8 f9 f10 f11 f12 f13 f14 f15 f16 f17 f18 f19 f20 f21 f22 g9 g10 g11 g12 g13 f14 f15
        f16 f17 g18 g19 g20 g21 g22 } := by
  refine ⟨?_, ?_, ?_, ?_, ?_, ?_, ?_, ?_, ?_, ?_, fun E K => ?run⟩
  case run =>
    simp only [cc0_attn_bwd_eq_skeleton]; unfold cc0_attn_bwd_skel
    iintro ⟨H2, H3, H4, H5, H6, H7, H8, H9, H10, H11, H12, H13, H14, H15, H16, H17, H18, H19, H20, H21, H22, Hk⟩
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

end Cert.Attn

end
-- ==== Proof.Attn.Frame.lean ====
module

public import proofs.«01_k».proof.Proof.Attn.RunA
public import proofs.«01_k».proof.Proof.Attn.RunB
public import proofs.«01_k».proof.Proof.Attn.RunC
public import Idealize.ShloMosaic.Lib.Pipeline.DatRel
public import Idealize.ShloMosaic.Lib.Pipeline.ArrRel
public import proofs.«01_k».proof.Proof.Gen.AttnBwdIdeal.Frame

@[expose] public section

set_option maxRecDepth 16384

noncomputable section

namespace Cert.Attn

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a grid point -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
theorem hs0_0 (t : Fin cfg0.N) : (ms0_0 t).IsWhole := hstage0_0 ((cfg0.slots t 0).cast nbuf0_0)
theorem hs0_1 (t : Fin cfg0.N) : (ms0_1 t).IsWhole := hstage0_1 ((cfg0.slots t 1).cast nbuf0_1)
theorem hs0_2 (t : Fin cfg0.N) : (ms0_2 t).IsWhole := hstage0_2 ((cfg0.slots t 2).cast nbuf0_2)
theorem hs0_3 (t : Fin cfg0.N) : (ms0_3 t).IsWhole := hstage0_3 ((cfg0.slots t 3).cast nbuf0_3)
theorem hs0_4 (t : Fin cfg0.N) : (ms0_4 t).IsWhole := hstage0_4 ((cfg0.slots t 4).cast nbuf0_4)
theorem hs0_5 (t : Fin cfg0.N) : (ms0_5 t).IsWhole := hstage0_5 ((cfg0.slots t 5).cast nbuf0_5)
theorem hs0_6 (t : Fin cfg0.N) : (ms0_6 t).IsWhole := hstage0_6 ((cfg0.slots t 6).cast nbuf0_6)
theorem hs0_7 (t : Fin cfg0.N) : (ms0_7 t).IsWhole := hstage0_7 ((cfg0.slots t 7).cast nbuf0_7)
theorem hs0_8 (t : Fin cfg0.N) : (ms0_8 t).IsWhole := hstage0_8 ((cfg0.slots t 8).cast nbuf0_8)
theorem hs0_9 (t : Fin cfg0.N) : (ms0_9 t).IsWhole := hstage0_9 ((cfg0.slots t 9).cast nbuf0_9)
theorem hs0_10 (t : Fin cfg0.N) : (ms0_10 t).IsWhole := hstage0_10 ((cfg0.slots t 10).cast nbuf0_10)
theorem hs0_11 (t : Fin cfg0.N) : (ms0_11 t).IsWhole := hstage0_11 ((cfg0.slots t 11).cast nbuf0_11)
abbrev scM0_0 := Memref.whole cc0_scratch0
abbrev scM0_1 := Memref.whole cc0_scratch1
abbrev scM0_2 := Memref.whole cc0_scratch2
abbrev scM0_3 := Memref.whole cc0_scratch3
abbrev scM0_4 := Memref.whole cc0_scratch4
abbrev scM0_5 := Memref.whole cc0_scratch5
abbrev scM0_6 := Memref.whole cc0_scratch6
abbrev scM0_7 := Memref.whole cc0_scratch7
abbrev scM0_8 := Memref.whole cc0_scratch8
theorem hsc0_0 : (scM0_0).IsWhole := Memref.isWhole_whole _
theorem hsc0_1 : (scM0_1).IsWhole := Memref.isWhole_whole _
theorem hsc0_2 : (scM0_2).IsWhole := Memref.isWhole_whole _
theorem hsc0_3 : (scM0_3).IsWhole := Memref.isWhole_whole _
theorem hsc0_4 : (scM0_4).IsWhole := Memref.isWhole_whole _
theorem hsc0_5 : (scM0_5).IsWhole := Memref.isWhole_whole _
theorem hsc0_6 : (scM0_6).IsWhole := Memref.isWhole_whole _
theorem hsc0_7 : (scM0_7).IsWhole := Memref.isWhole_whole _
theorem hsc0_8 : (scM0_8).IsWhole := Memref.isWhole_whole _

theorem cond1_iff (t : Fin cfg0.N) : k0_cond1 (grid0.coords t) = 1#1 ↔ t.val % 4 = 0 := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [k0_cond1, e0, e1]
  word_cmp

theorem cond2_iff (t : Fin cfg0.N) : k0_cond2 (grid0.coords t) = 1#1 ↔ t.val % 4 = 3 := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [k0_cond2, e0, e1]
  word_cmp

/-! ## What is followed through the grid -/

/-- What is followed through the grid of one core: a relation between the five scratch buffers that are carried from point to point (before each point),
one between a point and what it leaves in each window of a result, and that each point keeps them. -/
structure Plan (c : Dev nD) where
  Inv : ℕ → (S8x2048x128.Idx → Elt F .bf16) → (S8x2048x128.Idx → Elt F .bf16) → (S8x4x128x512.Idx → Elt F .bf16) → (S8x4x128x512.Idx → Elt F .bf16) → (S8x2048x128.Idx → Elt F .f32) → Prop
  Out : (w : Fin cfg0.W) → (t : Fin cfg0.N) → ((cfg0.win w).block.Idx → Elt F (cfg0.win w).elt) → Prop
  start : ∀ x14 x15 x16 x17 x18, Inv 0 x14 x15 x16 x17 x18
  step : ∀ (t : Fin cfg0.N) (f2 : BufTy.Contents (Elt F) (ms0_0 t).view.ty) (f3 : BufTy.Contents (Elt F) (ms0_1 t).view.ty) (f4 : BufTy.Contents (Elt F) (ms0_2 t).view.ty) (f5 : BufTy.Contents (Elt F) (ms0_3 t).view.ty) (f6 : BufTy.Contents (Elt F) (ms0_4 t).view.ty) (f7 : BufTy.Contents (Elt F) (ms0_5 t).view.ty) (f8 : BufTy.Contents (Elt F) (ms0_6 t).view.ty) (f9 : BufTy.Contents (Elt F) (ms0_7 t).view.ty) (f10 : BufTy.Contents (Elt F) (ms0_8 t).view.ty) (f11 : BufTy.Contents (Elt F) (ms0_9 t).view.ty) (f12 : BufTy.Contents (Elt F) (ms0_10 t).view.ty) (f13 : BufTy.Contents (Elt F) (ms0_11 t).view.ty) (f14 : BufTy.Contents (Elt F) scM0_0.view.ty) (f15 : BufTy.Contents (Elt F) scM0_1.view.ty) (f16 : BufTy.Contents (Elt F) scM0_2.view.ty) (f17 : BufTy.Contents (Elt F) scM0_3.view.ty) (f18 : BufTy.Contents (Elt F) scM0_4.view.ty) (f19 : BufTy.Contents (Elt F) scM0_5.view.ty) (f20 : BufTy.Contents (Elt F) scM0_6.view.ty) (f21 : BufTy.Contents (Elt F) scM0_7.view.ty) (f22 : BufTy.Contents (Elt F) scM0_8.view.ty),
    (ms0_0 t).view.read (Elt F) f2 = iblk m c 0 t →
    (ms0_1 t).view.read (Elt F) f3 = iblk m c 1 t →
    (ms0_2 t).view.read (Elt F) f4 = iblk m c 2 t →
    (ms0_3 t).view.read (Elt F) f5 = iblk m c 3 t →
    (ms0_4 t).view.read (Elt F) f6 = iblk m c 4 t →
    (ms0_5 t).view.read (Elt F) f7 = iblk m c 5 t →
    (ms0_6 t).view.read (Elt F) f8 = iblk m c 6 t →
    Inv t.val (scM0_0.view.read (Elt F) f14) (scM0_1.view.read (Elt F) f15) (scM0_2.view.read (Elt F) f16) (scM0_3.view.read (Elt F) f17) (scM0_4.view.read (Elt F) f18) →
    ∃ g9 g10 g11 g12 g13 g14 g15 g16 g17 g18 g19 g20 g21 g22, Runs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 g9 g10 g11 g12 g13 g14 g15 g16 g17 g18 g19 g20 g21 g22
      ∧ Out 7 t ((ms0_7 t).view.read (Elt F) g9)
      ∧ Out 8 t ((ms0_8 t).view.read (Elt F) g10)
      ∧ Out 9 t ((ms0_9 t).view.read (Elt F) g11)
      ∧ Out 10 t ((ms0_10 t).view.read (Elt F) g12)
      ∧ Out 11 t ((ms0_11 t).view.read (Elt F) g13)
      ∧ Inv (t.val + 1) (scM0_0.view.read (Elt F) g14) (scM0_1.view.read (Elt F) g15) (scM0_2.view.read (Elt F) g16) (scM0_3.view.read (Elt F) g17) (scM0_4.view.read (Elt F) g18)

variable (P : ∀ c, Plan m c)

/-- Before position `n`: the carried scratch at contents the relation holds of, the others at anything, the generator register at some state. -/
def Phi (c : Dev nD) (n : ℕ) : sProp 𝕄 :=
  iprop(iprop(∃ x14 x15 x16 x17 x18, ⌜(P c).Inv n x14 x15 x16 x17 x18⌝ ∗ owns (c : Thread nD τ) scM0_0 fullShare x14 ∗ owns (c : Thread nD τ) scM0_1 fullShare x15 ∗ owns (c : Thread nD τ) scM0_2 fullShare x16 ∗ owns (c : Thread nD τ) scM0_3 fullShare x17 ∗ owns (c : Thread nD τ) scM0_4 fullShare x18)
    ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ r, prngReg c r))

theorem PhiA_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The windows of the results. -/
def results : Fin 12 → Bool := fun w => decide (7 ≤ w.val)

/-- The proof data: each window of an argument at its block, nothing owed, each window its share of the array it stages. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := Phi m P c t.val
  q w := Pipeline.shareOf spec0 w
  owed _ := 0

/-- What a point leaves in the window of a result. -/
def rel (c : Dev nD) (w : Fin cfg0.W) (t : Fin cfg0.N) (X : (cfg0.win w).block.Idx → Elt F (cfg0.win w).elt) : Prop := (P c).Out w t X

theorem A_eq (c : Dev nD) (w : Fin cfg0.W) : (dats m P 0 c).A w = V m c (Pipeline.arrRef spec0 w) := by
  dsimp only [dats]

theorem after0_0 (c : Dev nD) (t : Fin cfg0.N) : (dats m P 0 c).after 0 t = iblk m c 0 t := by dsimp only [dats]
theorem after0_1 (c : Dev nD) (t : Fin cfg0.N) : (dats m P 0 c).after 1 t = iblk m c 1 t := by dsimp only [dats]
theorem after0_2 (c : Dev nD) (t : Fin cfg0.N) : (dats m P 0 c).after 2 t = iblk m c 2 t := by dsimp only [dats]
theorem after0_3 (c : Dev nD) (t : Fin cfg0.N) : (dats m P 0 c).after 3 t = iblk m c 3 t := by dsimp only [dats]
theorem after0_4 (c : Dev nD) (t : Fin cfg0.N) : (dats m P 0 c).after 4 t = iblk m c 4 t := by dsimp only [dats]
theorem after0_5 (c : Dev nD) (t : Fin cfg0.N) : (dats m P 0 c).after 5 t = iblk m c 5 t := by dsimp only [dats]
theorem after0_6 (c : Dev nD) (t : Fin cfg0.N) : (dats m P 0 c).after 6 t = iblk m c 6 t := by dsimp only [dats]
theorem before0_0 (c : Dev nD) (t : Fin cfg0.N) (d) : (dats m P 0 c).before 0 t d = iblk m c 0 t :=
  before0_0_of m (dats m P 0 c) (A_eq m P c 0) (after0_0 m P c) t d
theorem before0_1 (c : Dev nD) (t : Fin cfg0.N) (d) : (dats m P 0 c).before 1 t d = iblk m c 1 t :=
  before0_1_of m (dats m P 0 c) (A_eq m P c 1) (after0_1 m P c) t d
theorem before0_2 (c : Dev nD) (t : Fin cfg0.N) (d) : (dats m P 0 c).before 2 t d = iblk m c 2 t :=
  before0_2_of m (dats m P 0 c) (A_eq m P c 2) (after0_2 m P c) t d
theorem before0_3 (c : Dev nD) (t : Fin cfg0.N) (d) : (dats m P 0 c).before 3 t d = iblk m c 3 t :=
  before0_3_of m (dats m P 0 c) (A_eq m P c 3) (after0_3 m P c) t d
theorem before0_4 (c : Dev nD) (t : Fin cfg0.N) (d) : (dats m P 0 c).before 4 t d = iblk m c 4 t :=
  before0_4_of m (dats m P 0 c) (A_eq m P c 4) (after0_4 m P c) t d
theorem before0_5 (c : Dev nD) (t : Fin cfg0.N) (d) : (dats m P 0 c).before 5 t d = iblk m c 5 t :=
  before0_5_of m (dats m P 0 c) (A_eq m P c 5) (after0_5 m P c) t d
theorem before0_6 (c : Dev nD) (t : Fin cfg0.N) (d) : (dats m P 0 c).before 6 t d = iblk m c 6 t :=
  before0_6_of m (dats m P 0 c) (A_eq m P c 6) (after0_6 m P c) t d

/-! ## The obligation of the body -/

/-- What the body is called with at point `t`, -/
def bodyPre (c : Dev nD) (t : Fin cfg0.N) : sProp 𝕄 :=
  iprop((dats m P 0 c).Φ t.castSucc ∗ (dats m P 0 c).owesAt () t.castSucc
    ∗ (∃ d, owns (c : Thread nD τ) (ms0_0 t) fullShare ((dats m P 0 c).before 0 t d))
    ∗ (∃ d, owns (c : Thread nD τ) (ms0_1 t) fullShare ((dats m P 0 c).before 1 t d))
    ∗ (∃ d, owns (c : Thread nD τ) (ms0_2 t) fullShare ((dats m P 0 c).before 2 t d))
    ∗ (∃ d, owns (c : Thread nD τ) (ms0_3 t) fullShare ((dats m P 0 c).before 3 t d))
    ∗ (∃ d, owns (c : Thread nD τ) (ms0_4 t) fullShare ((dats m P 0 c).before 4 t d))
    ∗ (∃ d, owns (c : Thread nD τ) (ms0_5 t) fullShare ((dats m P 0 c).before 5 t d))
    ∗ (∃ d, owns (c : Thread nD τ) (ms0_6 t) fullShare ((dats m P 0 c).before 6 t d))
    ∗ (∃ Y, ⌜((dats m P 0 c).toRRel results (rel m P c)).Finds 7 t Y⌝ ∗ owns (c : Thread nD τ) (ms0_7 t) fullShare Y)
    ∗ (∃ Y, ⌜((dats m P 0 c).toRRel results (rel m P c)).Finds 8 t Y⌝ ∗ owns (c : Thread nD τ) (ms0_8 t) fullShare Y)
    ∗ (∃ Y, ⌜((dats m P 0 c).toRRel results (rel m P c)).Finds 9 t Y⌝ ∗ owns (c : Thread nD τ) (ms0_9 t) fullShare Y)
    ∗ (∃ Y, ⌜((dats m P 0 c).toRRel results (rel m P c)).Finds 10 t Y⌝ ∗ owns (c : Thread nD τ) (ms0_10 t) fullShare Y)
    ∗ (∃ Y, ⌜((dats m P 0 c).toRRel results (rel m P c)).Finds 11 t Y⌝ ∗ owns (c : Thread nD τ) (ms0_11 t) fullShare Y))

/-- and what it returns. -/
def bodyPost (c : Dev nD) (t : Fin cfg0.N) : sProp 𝕄 :=
  iprop((dats m P 0 c).Φ t.succ ∗ (dats m P 0 c).owesAt () t.succ
    ∗ owns (c : Thread nD τ) (ms0_0 t) fullShare ((dats m P 0 c).after 0 t)
    ∗ owns (c : Thread nD τ) (ms0_1 t) fullShare ((dats m P 0 c).after 1 t)
    ∗ owns (c : Thread nD τ) (ms0_2 t) fullShare ((dats m P 0 c).after 2 t)
    ∗ owns (c : Thread nD τ) (ms0_3 t) fullShare ((dats m P 0 c).after 3 t)
    ∗ owns (c : Thread nD τ) (ms0_4 t) fullShare ((dats m P 0 c).after 4 t)
    ∗ owns (c : Thread nD τ) (ms0_5 t) fullShare ((dats m P 0 c).after 5 t)
    ∗ owns (c : Thread nD τ) (ms0_6 t) fullShare ((dats m P 0 c).after 6 t)
    ∗ (∃ X, ⌜(P c).Out 7 t X⌝ ∗ owns (c : Thread nD τ) (ms0_7 t) fullShare X)
    ∗ (∃ X, ⌜(P c).Out 8 t X⌝ ∗ owns (c : Thread nD τ) (ms0_8 t) fullShare X)
    ∗ (∃ X, ⌜(P c).Out 9 t X⌝ ∗ owns (c : Thread nD τ) (ms0_9 t) fullShare X)
    ∗ (∃ X, ⌜(P c).Out 10 t X⌝ ∗ owns (c : Thread nD τ) (ms0_10 t) fullShare X)
    ∗ (∃ X, ⌜(P c).Out 11 t X⌝ ∗ owns (c : Thread nD τ) (ms0_11 t) fullShare X))

set_option maxHeartbeats 4800000 in
/-- The body at any point: the windows and the scratch buffers opened, the plan's step gives the run. -/
theorem sound_body (c : Dev nD) (t : Fin cfg0.N) :
    bodyPre m P c t ⊢ wp frame (wpE (defs₀ (F := F)) Variants.none c none) Set.univ (bodyAt0 t) (fun _ => bodyPost m P c t) := by
  unfold bodyPre bodyPost bodyAt0
  simp only [before0_0, after0_0, before0_1, after0_1, before0_2, after0_2, before0_3, after0_3, before0_4, after0_4, before0_5, after0_5, before0_6, after0_6]
  rw [show (dats m P 0 c).owesAt () t.succ = (dats m P 0 c).owesAt () t.castSucc from rfl]
  rw [show (dats m P 0 c).Φ t.castSucc = Phi m P c t.val from rfl, show (dats m P 0 c).Φ t.succ = Phi m P c (t.val + 1) from rfl]
  unfold Phi
  iintro ⟨⟨⟨%x14, %x15, %x16, %x17, %x18, %hI, S14, S15, S16, S17, S18⟩, ⟨%x19, S19⟩, ⟨%x20, S20⟩, ⟨%x21, S21⟩, ⟨%x22, S22⟩, Hg⟩, Ho, ⟨%d2, S2⟩, ⟨%d3, S3⟩, ⟨%d4, S4⟩, ⟨%d5, S5⟩, ⟨%d6, S6⟩, ⟨%d7, S7⟩, ⟨%d8, S8⟩, ⟨%d9, %e9, S9⟩, ⟨%d10, %e10, S10⟩, ⟨%d11, %e11, S11⟩, ⟨%d12, %e12, S12⟩, ⟨%d13, %e13, S13⟩⟩
  unfold owns
  icases S2 with ⟨%f2, %h2, H2⟩
  icases S3 with ⟨%f3, %h3, H3⟩
  icases S4 with ⟨%f4, %h4, H4⟩
  icases S5 with ⟨%f5, %h5, H5⟩
  icases S6 with ⟨%f6, %h6, H6⟩
  icases S7 with ⟨%f7, %h7, H7⟩
  icases S8 with ⟨%f8, %h8, H8⟩
  icases S9 with ⟨%f9, %h9, H9⟩
  icases S10 with ⟨%f10, %h10, H10⟩
  icases S11 with ⟨%f11, %h11, H11⟩
  icases S12 with ⟨%f12, %h12, H12⟩
  icases S13 with ⟨%f13, %h13, H13⟩
  icases S14 with ⟨%f14, %h14, H14⟩
  icases S15 with ⟨%f15, %h15, H15⟩
  icases S16 with ⟨%f16, %h16, H16⟩
  icases S17 with ⟨%f17, %h17, H17⟩
  icases S18 with ⟨%f18, %h18, H18⟩
  icases S19 with ⟨%f19, %h19, H19⟩
  icases S20 with ⟨%f20, %h20, H20⟩
  icases S21 with ⟨%f21, %h21, H21⟩
  icases S22 with ⟨%f22, %h22, H22⟩

  have hJ : (P c).Inv t.val (scM0_0.view.read (Elt F) f14) (scM0_1.view.read (Elt F) f15) (scM0_2.view.read (Elt F) f16) (scM0_3.view.read (Elt F) f17) (scM0_4.view.read (Elt F) f18) := by rw [h14, h15, h16, h17, h18]; exact hI
  obtain ⟨g9, g10, g11, g12, g13, g14, g15, g16, g17, g18, g19, g20, g21, g22, hrun, o7, o8, o9, o10, o11, hI'⟩ := (P c).step t f2 f3 f4 f5 f6 f7 f8 f9 f10 f11 f12 f13 f14 f15 f16 f17 f18 f19 f20 f21 f22 h2 h3 h4 h5 h6 h7 h8 hJ
  iapply (hrun Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H2, H3, H4, H5, H6, H7, H8, H9, H10, H11, H12, H13, H14, H15, H16, H17, H18, H19, H20, H21, H22⟩
  isplitl [H14 H15 H16 H17 H18 H19 H20 H21 H22 Hg]
  · isplitl [H14 H15 H16 H17 H18]
    · iexists _, _, _, _, _; isplitr; · ipureintro; exact hI'
      isplitl [H14]; · (iexists _; isplitr; swap; iexact H14; ipureintro; rfl)
      isplitl [H15]; · (iexists _; isplitr; swap; iexact H15; ipureintro; rfl)
      isplitl [H16]; · (iexists _; isplitr; swap; iexact H16; ipureintro; rfl)
      isplitl [H17]; · (iexists _; isplitr; swap; iexact H17; ipureintro; rfl)
      iexists _; isplitr; swap; · iexact H18
      ipureintro; rfl
    isplitl [H19]; · (iexists _; iexists _; isplitr; swap; iexact H19; ipureintro; rfl)
    isplitl [H20]; · (iexists _; iexists _; isplitr; swap; iexact H20; ipureintro; rfl)
    isplitl [H21]; · (iexists _; iexists _; isplitr; swap; iexact H21; ipureintro; rfl)
    isplitl [H22]; · (iexists _; iexists _; isplitr; swap; iexact H22; ipureintro; rfl)
    iexact Hg
  isplitl [Ho]; · iexact Ho
  isplitl [H2]; · (iexists _; isplitr; swap; iexact H2; ipureintro; exact h2)
  isplitl [H3]; · (iexists _; isplitr; swap; iexact H3; ipureintro; exact h3)
  isplitl [H4]; · (iexists _; isplitr; swap; iexact H4; ipureintro; exact h4)
  isplitl [H5]; · (iexists _; isplitr; swap; iexact H5; ipureintro; exact h5)
  isplitl [H6]; · (iexists _; isplitr; swap; iexact H6; ipureintro; exact h6)
  isplitl [H7]; · (iexists _; isplitr; swap; iexact H7; ipureintro; exact h7)
  isplitl [H8]; · (iexists _; isplitr; swap; iexact H8; ipureintro; exact h8)
  isplitl [H9]; · (iexists _; isplitr; (ipureintro; exact o7); iexists _; isplitr; swap; iexact H9; ipureintro; rfl)
  isplitl [H10]; · (iexists _; isplitr; (ipureintro; exact o8); iexists _; isplitr; swap; iexact H10; ipureintro; rfl)
  isplitl [H11]; · (iexists _; isplitr; (ipureintro; exact o9); iexists _; isplitr; swap; iexact H11; ipureintro; rfl)
  isplitl [H12]; · (iexists _; isplitr; (ipureintro; exact o10); iexists _; isplitr; swap; iexact H12; ipureintro; rfl)
  iexists _; isplitr; · ipureintro; exact o11
  iexists _; isplitr; swap; · iexact H13
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats (F := F) m P 0 c) (defs₀ (F := F)) Variants.none () Set.univ results (rel m P c) := fun t => by
  rw [bigSep_W0, bigSep_W0, defs₀_row]
  exact triple_restated (sound_body m P c t) rfl .rfl fun _ => .rfl

theorem hin (c : Dev nD) : Pipeline.ΦA spec0 c ⊢ (dats m P 0 c).Φ 0 := by
  rw [show (dats m P 0 c).Φ 0 = Phi m P c 0 from rfl, PhiA_eq]
  unfold Phi
  iintro ⟨⟨⟨%x14, S14⟩, ⟨%x15, S15⟩, ⟨%x16, S16⟩, ⟨%x17, S17⟩, ⟨%x18, S18⟩, S19, S20, S21, S22⟩, Hg⟩
  isplitl [S14 S15 S16 S17 S18]
  · iexists _, _, _, _, _; isplitr; · ipureintro; exact (P c).start x14 x15 x16 x17 x18
    isplitl [S14]; · iexact S14
    isplitl [S15]; · iexact S15
    isplitl [S16]; · iexact S16
    isplitl [S17]; · iexact S17
    iexact S18
  isplitl [S19]; · iexact S19
  isplitl [S20]; · iexact S20
  isplitl [S21]; · iexact S21
  isplitl [S22]; · iexact S22
  iexact Hg

theorem hout (c : Dev nD) : (dats m P 0 c).Φ (Fin.last cfg0.N) ⊢ Pipeline.ΦA spec0 c := by
  rw [show (dats m P 0 c).Φ (Fin.last cfg0.N) = Phi m P c cfg0.N from rfl, PhiA_eq]
  unfold Phi
  iintro ⟨⟨%x14, %x15, %x16, %x17, %x18, %hI, S14, S15, S16, S17, S18⟩, S19, S20, S21, S22, Hg⟩
  isplitr [Hg]
  · isplitl [S14]; · iexists _; iexact S14
    isplitl [S15]; · iexists _; iexact S15
    isplitl [S16]; · iexists _; iexact S16
    isplitl [S17]; · iexists _; iexact S17
    isplitl [S18]; · iexists _; iexact S18
    isplitl [S19]; · iexact S19
    isplitl [S20]; · iexact S20
    isplitl [S21]; · iexact S21
    iexact S22
  iexact Hg

set_option backward.isDefEq.respectTransparency.types false in
/-- The run: every execution ends, with the arrays and the counters as the plan says. -/
theorem run_quiescent : θ_run defs (onTc (τ := τ) (main (F := F))) (s₀ m ρ) (fun r => (Pipeline.RDat.FramePost (cfgs 0) (fun c => (dats m P 0 c).toRRel results (rel m P c)) (V m)) r ∧ r.2.sem = fun _ => 0) :=
  Pipeline.RDat.θ_run_frame_track_shared (Q' := _) cfgs (0 : Fin 1) launch₀0 defs₀ Variants.none (fun c => (dats m P 0 c).toRRel results (rel m P c)) m ρ main
    (hbody := fun c => (body_obligation m P c).toRRel) (hq := fun _ _ _ => rfl)
    (howed := fun _ _ => rfl) (V := V m) (hmain := hmain m Variants.none) (hA := A_eq m P) (hin := hin m P) (hout := hout m P)

end Cert.Attn

end
-- ==== Proof.Attn.Pieces.lean ====
module

public import proofs.«01_k».proof.Proof.Gen.AttnBwdIdeal.Frame
public import Idealize.ShloMosaic.Lib.WritesUnit
public import Idealize.ShloMosaic.Lib.Pointwise

@[expose] public section

noncomputable section

namespace Cert.Attn

open Idealize.ShloMosaic Idealize.ShloMosaic.TcCoe Idealize.ShloMosaic.Tactic

/-! ## Reading buffers with one slab per head -/

section
variable {Val : EltTy → Type} {sig : RefSig} {κ : Kind} {sp : Space} {e : EltTy}

/-- A load of some rows of one head of a rank-3 buffer, read at an index. -/
theorem ld3 {A B C b : ℕ} (v : View sig κ sp (⟨3, ![A, B, C]⟩ : Shape) e) (f : v.ty.Contents Val) (o : Fin 3 → ℕ) {o0 o1 : ℕ}
    (inb : ∀ x, o x + (![1, b, C] : Fin 3 → ℕ) x ≤ (⟨3, ![A, B, C]⟩ : Shape).size x) (ho : o = ![o0, o1, 0]) (x : Fin 1) (y : Fin b) (z : Fin C) :
    v.readAt Val (Rect.unit (s := ⟨3, ![A, B, C]⟩) o ![1, b, C] inb).toLoadRect f (ix3 x y z)
      = v.read Val f (ix3 ⟨o0, by subst ho; exact inb 0⟩
          ⟨o1 + y.val, by subst ho; exact Nat.lt_of_lt_of_le (Nat.add_lt_add_left y.isLt _) (inb 1)⟩ z) := by
  subst ho
  rw [View.readAt_apply]
  congr 1
  funext q
  apply Fin.ext
  match q with
  | 0 => show o0 + 1 * x.val = o0; omega
  | 1 => show o1 + 1 * y.val = o1 + y.val; omega
  | 2 => show 0 + 1 * z.val = z.val; omega

/-- A load of one block of one head of a rank-4 buffer, read at an index. -/
theorem ld4 {A B C D : ℕ} (v : View sig κ sp (⟨4, ![A, B, C, D]⟩ : Shape) e) (f : v.ty.Contents Val) (o : Fin 4 → ℕ) {o0 o1 : ℕ}
    (inb : ∀ x, o x + (![1, 1, C, D] : Fin 4 → ℕ) x ≤ (⟨4, ![A, B, C, D]⟩ : Shape).size x) (ho : o = ![o0, o1, 0, 0]) (x : Fin 1) (y : Fin 1) (z : Fin C)
    (u : Fin D) :
    v.readAt Val (Rect.unit (s := ⟨4, ![A, B, C, D]⟩) o ![1, 1, C, D] inb).toLoadRect f (ix4 x y z u)
      = v.read Val f (ix4 ⟨o0, by subst ho; exact inb 0⟩ ⟨o1, by subst ho; exact inb 1⟩ z u) := by
  subst ho
  rw [View.readAt_apply]
  congr 1
  funext q
  apply Fin.ext
  match q with
  | 0 => show o0 + 1 * x.val = o0; omega
  | 1 => show o1 + 1 * y.val = o1; omega
  | 2 => show 0 + 1 * z.val = z.val; omega
  | 3 => show 0 + 1 * u.val = u.val; omega

/-- The load of a whole head, whose offsets are literals. -/
theorem ld3_zero {A B C : ℕ} (v : View sig κ sp (⟨3, ![A, B, C]⟩ : Shape) e) (f : v.ty.Contents Val) (o0 : ℕ)
    (inb : ∀ x, (![o0, 0, 0] : Fin 3 → ℕ) x + (![1, B, C] : Fin 3 → ℕ) x ≤ (⟨3, ![A, B, C]⟩ : Shape).size x) (x : Fin 1) (y : Fin B) (z : Fin C) :
    v.readAt Val (Rect.unit (s := ⟨3, ![A, B, C]⟩) ![o0, 0, 0] ![1, B, C] inb).toLoadRect f (ix3 x y z)
      = v.read Val f (ix3 ⟨o0, inb 0⟩ y z) := by
  rw [ld3 v f _ inb rfl]
  congr 2
  apply Fin.ext
  show 0 + y.val = y.val
  omega

variable {A B a r0 : ℕ}

/-- The newest piece, head `h`'s, read at its own head: its payload inside its rows, what was there before elsewhere. -/
theorem cons_same (v : View sig κ sp (⟨3, ![8, A, B]⟩ : Shape) e) (f : v.ty.Contents Val) (o : Fin 3 → ℕ)
    (inb : ∀ x, o x + (![1, a, B] : Fin 3 → ℕ) x ≤ (⟨3, ![8, A, B]⟩ : Shape).size x) (w : (⟨3, ![1, a, B]⟩ : Shape).Idx → Val e)
    (L : List (View.Piece Val (⟨3, ![8, A, B]⟩ : Shape) e)) (k : ℕ) (hk : k < 8) (ho : o = ![k, r0, 0]) (t : Fin A) (l : Fin B) :
    v.read Val (v.writes Val f ((⟨Rect.unit (s := ⟨3, ![8, A, B]⟩) o ![1, a, B] inb, w⟩ : View.Piece Val _ e) :: L)) (ix3 ⟨k, hk⟩ t l)
      = if h : r0 ≤ t.val ∧ t.val - r0 < a then w (ix3 0 ⟨t.val - r0, h.2⟩ l) else v.read Val (v.writes Val f L) (ix3 ⟨k, hk⟩ t l) := by
  by_cases h : r0 ≤ t.val ∧ t.val - r0 < a
  · rw [dif_pos h]
    refine View.read_writes_cons_unit_of_mem v f inb w L _ (ix3 0 ⟨t.val - r0, h.2⟩ l) ho fun q => ?_
    match q with
    | 0 => show k = k + 0; simp
    | 1 => show t.val = r0 + (t.val - r0); omega
    | 2 => show l.val = 0 + l.val; simp
  · rw [dif_neg h]
    refine View.read_writes_cons_unit_of_not_mem v f inb w L _ ho 1 ?_
    show t.val < r0 ∨ r0 + a ≤ t.val
    omega

/-- The newest piece, another head's, does not matter. -/
theorem cons_other (v : View sig κ sp (⟨3, ![8, A, B]⟩ : Shape) e) (f : v.ty.Contents Val) (o : Fin 3 → ℕ)
    (inb : ∀ x, o x + (![1, a, B] : Fin 3 → ℕ) x ≤ (⟨3, ![8, A, B]⟩ : Shape).size x) (w : (⟨3, ![1, a, B]⟩ : Shape).Idx → Val e)
    (L : List (View.Piece Val (⟨3, ![8, A, B]⟩ : Shape) e)) (k k' : ℕ) (hk : k < 8) (ho : o = ![k', r0, 0]) (hne : k ≠ k') (t : Fin A) (l : Fin B) :
    v.read Val (v.writes Val f ((⟨Rect.unit (s := ⟨3, ![8, A, B]⟩) o ![1, a, B] inb, w⟩ : View.Piece Val _ e) :: L)) (ix3 ⟨k, hk⟩ t l)
      = v.read Val (v.writes Val f L) (ix3 ⟨k, hk⟩ t l) := by
  refine View.read_writes_cons_unit_of_not_mem v f inb w L _ ho 0 ?_
  show k < k' ∨ k' + 1 ≤ k
  omega

/-- One of eight, by its number. -/
def pick8 {α : Type} (w0 w1 w2 w3 w4 w5 w6 w7 : α) (h : Fin 8) : α := ![w0, w1, w2, w3, w4, w5, w6, w7] h

/-- Eight pieces, one of each head at the same rows, read at an index. -/
theorem read8 (v : View sig κ sp (⟨3, ![8, A, B]⟩ : Shape) e) (f : v.ty.Contents Val) (o0 o1 o2 o3 o4 o5 o6 o7 : Fin 3 → ℕ)
    (i0 : ∀ x, o0 x + (![1, a, B] : Fin 3 → ℕ) x ≤ (⟨3, ![8, A, B]⟩ : Shape).size x)
    (i1 : ∀ x, o1 x + (![1, a, B] : Fin 3 → ℕ) x ≤ (⟨3, ![8, A, B]⟩ : Shape).size x)
    (i2 : ∀ x, o2 x + (![1, a, B] : Fin 3 → ℕ) x ≤ (⟨3, ![8, A, B]⟩ : Shape).size x)
    (i3 : ∀ x, o3 x + (![1, a, B] : Fin 3 → ℕ) x ≤ (⟨3, ![8, A, B]⟩ : Shape).size x)
    (i4 : ∀ x, o4 x + (![1, a, B] : Fin 3 → ℕ) x ≤ (⟨3, ![8, A, B]⟩ : Shape).size x)
    (i5 : ∀ x, o5 x + (![1, a, B] : Fin 3 → ℕ) x ≤ (⟨3, ![8, A, B]⟩ : Shape).size x)
    (i6 : ∀ x, o6 x + (![1, a, B] : Fin 3 → ℕ) x ≤ (⟨3, ![8, A, B]⟩ : Shape).size x)
    (i7 : ∀ x, o7 x + (![1, a, B] : Fin 3 → ℕ) x ≤ (⟨3, ![8, A, B]⟩ : Shape).size x)
    (w0 w1 w2 w3 w4 w5 w6 w7 : (⟨3, ![1, a, B]⟩ : Shape).Idx → Val e) (L : List (View.Piece Val (⟨3, ![8, A, B]⟩ : Shape) e))
    (e0 : o0 = ![0, r0, 0]) (e1 : o1 = ![1, r0, 0]) (e2 : o2 = ![2, r0, 0]) (e3 : o3 = ![3, r0, 0])
    (e4 : o4 = ![4, r0, 0]) (e5 : o5 = ![5, r0, 0]) (e6 : o6 = ![6, r0, 0]) (e7 : o7 = ![7, r0, 0])
    (h : Fin 8) (t : Fin A) (l : Fin B) :
    v.read Val (v.writes Val f ((⟨Rect.unit (s := ⟨3, ![8, A, B]⟩) o7 ![1, a, B] i7, w7⟩ : View.Piece Val _ e)
        :: (⟨Rect.unit (s := ⟨3, ![8, A, B]⟩) o6 ![1, a, B] i6, w6⟩ : View.Piece Val _ e)
        :: (⟨Rect.unit (s := ⟨3, ![8, A, B]⟩) o5 ![1, a, B] i5, w5⟩ : View.Piece Val _ e)
        :: (⟨Rect.unit (s := ⟨3, ![8, A, B]⟩) o4 ![1, a, B] i4, w4⟩ : View.Piece Val _ e)
        :: (⟨Rect.unit (s := ⟨3, ![8, A, B]⟩) o3 ![1, a, B] i3, w3⟩ : View.Piece Val _ e)
        :: (⟨Rect.unit (s := ⟨3, ![8, A, B]⟩) o2 ![1, a, B] i2, w2⟩ : View.Piece Val _ e)
        :: (⟨Rect.unit (s := ⟨3, ![8, A, B]⟩) o1 ![1, a, B] i1, w1⟩ : View.Piece Val _ e)
        :: (⟨Rect.unit (s := ⟨3, ![8, A, B]⟩) o0 ![1, a, B] i0, w0⟩ : View.Piece Val _ e) :: L)) (ix3 h t l)
      = if q : r0 ≤ t.val ∧ t.val - r0 < a then pick8 w0 w1 w2 w3 w4 w5 w6 w7 h (ix3 0 ⟨t.val - r0, q.2⟩ l)
        else v.read Val (v.writes Val f L) (ix3 h t l) := by
  obtain ⟨k, hk⟩ := h
  have go : ∀ (k' : ℕ) (o : Fin 3 → ℕ) (inb : ∀ x, o x + (![1, a, B] : Fin 3 → ℕ) x ≤ (⟨3, ![8, A, B]⟩ : Shape).size x)
      (w : (⟨3, ![1, a, B]⟩ : Shape).Idx → Val e) (ho : o = ![k', r0, 0]) (L : List (View.Piece Val (⟨3, ![8, A, B]⟩ : Shape) e)) (X : Val e),
      (k ≠ k' → v.read Val (v.writes Val f L) (ix3 ⟨k, hk⟩ t l) = X) →
      (k = k' → (if q : r0 ≤ t.val ∧ t.val - r0 < a then w (ix3 0 ⟨t.val - r0, q.2⟩ l) else v.read Val (v.writes Val f L) (ix3 ⟨k, hk⟩ t l)) = X) →
      v.read Val (v.writes Val f ((⟨Rect.unit (s := ⟨3, ![8, A, B]⟩) o ![1, a, B] inb, w⟩ : View.Piece Val _ e) :: L)) (ix3 ⟨k, hk⟩ t l) = X := by
    intro k' o inb w ho L X h1 h2
    by_cases hkk : k = k'
    · rw [← h2 hkk]; subst hkk; exact cons_same v f o inb w L k hk ho t l
    · rw [← h1 hkk]; exact cons_other v f o inb w L k k' hk ho hkk t l
  by_cases q : r0 ≤ t.val ∧ t.val - r0 < a
  · simp only [dif_pos q] at go ⊢
    refine go 7 _ _ _ e7 _ _ (fun n7 => go 6 _ _ _ e6 _ _ (fun n6 => go 5 _ _ _ e5 _ _ (fun n5 => go 4 _ _ _ e4 _ _ (fun n4 => go 3 _ _ _ e3 _ _
      (fun n3 => go 2 _ _ _ e2 _ _ (fun n2 => go 1 _ _ _ e1 _ _ (fun n1 => go 0 _ _ _ e0 _ _ (fun n0 => absurd hk (by omega)) ?_) ?_) ?_) ?_) ?_) ?_) ?_) ?_
      <;> (intro hkk; subst hkk; rfl)
  · rw [dif_neg q]
    have skip : ∀ (k' : ℕ) (o : Fin 3 → ℕ) (inb : ∀ x, o x + (![1, a, B] : Fin 3 → ℕ) x ≤ (⟨3, ![8, A, B]⟩ : Shape).size x)
        (w : (⟨3, ![1, a, B]⟩ : Shape).Idx → Val e) (ho : o = ![k', r0, 0]) (L : List (View.Piece Val (⟨3, ![8, A, B]⟩ : Shape) e)),
        v.read Val (v.writes Val f ((⟨Rect.unit (s := ⟨3, ![8, A, B]⟩) o ![1, a, B] inb, w⟩ : View.Piece Val _ e) :: L)) (ix3 ⟨k, hk⟩ t l)
          = v.read Val (v.writes Val f L) (ix3 ⟨k, hk⟩ t l) := fun k' o inb w ho L =>
      go k' o inb w ho L _ (fun _ => rfl) (fun _ => dif_neg q)
    rw [skip 7 _ _ _ e7, skip 6 _ _ _ e6, skip 5 _ _ _ e5, skip 4 _ _ _ e4, skip 3 _ _ _ e3, skip 2 _ _ _ e2, skip 1 _ _ _ e1, skip 0 _ _ _ e0]

end

/-- A piece that is the whole buffer, read at an index. -/
theorem whole3 {A B C : ℕ} {Val : EltTy → Type} {sig : RefSig} {κ : Kind} {sp : Space} {e : EltTy} (v : View sig κ sp (⟨3, ![A, B, C]⟩ : Shape) e)
    (f : v.ty.Contents Val) (inb : ∀ x, (![0, 0, 0] : Fin 3 → ℕ) x + (![A, B, C] : Fin 3 → ℕ) x ≤ (⟨3, ![A, B, C]⟩ : Shape).size x)
    (w : (⟨3, ![A, B, C]⟩ : Shape).Idx → Val e) (L : List (View.Piece Val (⟨3, ![A, B, C]⟩ : Shape) e)) (x : Fin A) (y : Fin B) (z : Fin C) :
    v.read Val (v.writes Val f ((⟨Rect.unit (s := ⟨3, ![A, B, C]⟩) ![0, 0, 0] ![A, B, C] inb, w⟩ : View.Piece Val _ e) :: L)) (ix3 x y z) = w (ix3 x y z) := by
  refine View.read_writes_cons_unit_of_mem v f inb w L _ (ix3 x y z) rfl fun q => ?_
  match q with
  | 0 => exact (Nat.zero_add _).symm
  | 1 => exact (Nat.zero_add _).symm
  | 2 => exact (Nat.zero_add _).symm

/-- One of four, by its number. -/
def pick4 {α : Type} (w0 w1 w2 w3 : α) (h : Fin 4) : α := ![w0, w1, w2, w3] h

/-- Four pieces of the same rows, side by side, read at an index. -/
theorem read4 {A a r0 : ℕ} {Val : EltTy → Type} {sig : RefSig} {κ : Kind} {sp : Space} {e : EltTy} (v : View sig κ sp (⟨2, ![A, 512]⟩ : Shape) e)
    (f : v.ty.Contents Val) (o0 o1 o2 o3 : Fin 2 → ℕ)
    (i0 : ∀ x, o0 x + (![a, 128] : Fin 2 → ℕ) x ≤ (⟨2, ![A, 512]⟩ : Shape).size x)
    (i1 : ∀ x, o1 x + (![a, 128] : Fin 2 → ℕ) x ≤ (⟨2, ![A, 512]⟩ : Shape).size x)
    (i2 : ∀ x, o2 x + (![a, 128] : Fin 2 → ℕ) x ≤ (⟨2, ![A, 512]⟩ : Shape).size x)
    (i3 : ∀ x, o3 x + (![a, 128] : Fin 2 → ℕ) x ≤ (⟨2, ![A, 512]⟩ : Shape).size x)
    (w0 w1 w2 w3 : (⟨2, ![a, 128]⟩ : Shape).Idx → Val e) (L : List (View.Piece Val (⟨2, ![A, 512]⟩ : Shape) e))
    (e0 : o0 = ![r0, 0]) (e1 : o1 = ![r0, 128]) (e2 : o2 = ![r0, 256]) (e3 : o3 = ![r0, 384]) (t : Fin A) (x : Fin 512) :
    v.read Val (v.writes Val f ((⟨Rect.unit (s := ⟨2, ![A, 512]⟩) o3 ![a, 128] i3, w3⟩ : View.Piece Val _ e)
        :: (⟨Rect.unit (s := ⟨2, ![A, 512]⟩) o2 ![a, 128] i2, w2⟩ : View.Piece Val _ e)
        :: (⟨Rect.unit (s := ⟨2, ![A, 512]⟩) o1 ![a, 128] i1, w1⟩ : View.Piece Val _ e)
        :: (⟨Rect.unit (s := ⟨2, ![A, 512]⟩) o0 ![a, 128] i0, w0⟩ : View.Piece Val _ e) :: L)) (ix2 t x)
      = if q : r0 ≤ t.val ∧ t.val - r0 < a then pick4 w0 w1 w2 w3 ⟨x.val / 128, by omega⟩ (ix2 ⟨t.val - r0, q.2⟩ ⟨x.val % 128, by omega⟩)
        else v.read Val (v.writes Val f L) (ix2 t x) := by
  have skip : ∀ (k : ℕ) (o : Fin 2 → ℕ) (inb : ∀ x, o x + (![a, 128] : Fin 2 → ℕ) x ≤ (⟨2, ![A, 512]⟩ : Shape).size x) (w : (⟨2, ![a, 128]⟩ : Shape).Idx → Val e)
      (ho : o = ![r0, 128 * k]) (L : List (View.Piece Val (⟨2, ![A, 512]⟩ : Shape) e)), x.val / 128 ≠ k →
      v.read Val (v.writes Val f ((⟨Rect.unit (s := ⟨2, ![A, 512]⟩) o ![a, 128] inb, w⟩ : View.Piece Val _ e) :: L)) (ix2 t x)
        = v.read Val (v.writes Val f L) (ix2 t x) := by
    intro k o inb w ho L hk
    refine View.read_writes_cons_unit_of_not_mem v f inb w L _ ho 1 ?_
    show x.val < 128 * k ∨ 128 * k + 128 ≤ x.val
    omega
  by_cases q : r0 ≤ t.val ∧ t.val - r0 < a
  · rw [dif_pos q]
    have hit : ∀ (k : ℕ) (o : Fin 2 → ℕ) (inb : ∀ x, o x + (![a, 128] : Fin 2 → ℕ) x ≤ (⟨2, ![A, 512]⟩ : Shape).size x) (w : (⟨2, ![a, 128]⟩ : Shape).Idx → Val e)
        (ho : o = ![r0, 128 * k]) (L : List (View.Piece Val (⟨2, ![A, 512]⟩ : Shape) e)), x.val / 128 = k →
        v.read Val (v.writes Val f ((⟨Rect.unit (s := ⟨2, ![A, 512]⟩) o ![a, 128] inb, w⟩ : View.Piece Val _ e) :: L)) (ix2 t x)
          = w (ix2 ⟨t.val - r0, q.2⟩ ⟨x.val % 128, by omega⟩) := by
      intro k o inb w ho L hk
      refine View.read_writes_cons_unit_of_mem v f inb w L _ (ix2 ⟨t.val - r0, q.2⟩ ⟨x.val % 128, by omega⟩) ho fun z => ?_
      match z with
      | 0 => show t.val = r0 + (t.val - r0); omega
      | 1 => show x.val = 128 * k + x.val % 128; omega
    have h4 : x.val / 128 = 0 ∨ x.val / 128 = 1 ∨ x.val / 128 = 2 ∨ x.val / 128 = 3 := by omega
    rcases h4 with h | h | h | h
    · rw [skip 3 _ _ _ e3 _ (by omega), skip 2 _ _ _ e2 _ (by omega), skip 1 _ _ _ e1 _ (by omega), hit 0 _ _ _ e0 _ h]
      simp only [pick4, h]; rfl
    · rw [skip 3 _ _ _ e3 _ (by omega), skip 2 _ _ _ e2 _ (by omega), hit 1 _ _ _ e1 _ h]
      simp only [pick4, h]; rfl
    · rw [skip 3 _ _ _ e3 _ (by omega), hit 2 _ _ _ e2 _ h]
      simp only [pick4, h]; rfl
    · rw [hit 3 _ _ _ e3 _ h]
      simp only [pick4, h]; rfl
  · rw [dif_neg q]
    have miss : ∀ (k : ℕ) (o : Fin 2 → ℕ) (inb : ∀ x, o x + (![a, 128] : Fin 2 → ℕ) x ≤ (⟨2, ![A, 512]⟩ : Shape).size x) (w : (⟨2, ![a, 128]⟩ : Shape).Idx → Val e)
        (ho : o = ![r0, 128 * k]) (L : List (View.Piece Val (⟨2, ![A, 512]⟩ : Shape) e)),
        v.read Val (v.writes Val f ((⟨Rect.unit (s := ⟨2, ![A, 512]⟩) o ![a, 128] inb, w⟩ : View.Piece Val _ e) :: L)) (ix2 t x)
          = v.read Val (v.writes Val f L) (ix2 t x) := by
      intro k o inb w ho L
      refine View.read_writes_cons_unit_of_not_mem v f inb w L _ ho 0 ?_
      show t.val < r0 ∨ r0 + a ≤ t.val
      omega
    rw [miss 3 _ _ _ e3, miss 2 _ _ _ e2, miss 1 _ _ _ e1, miss 0 _ _ _ e0]

/-- A piece that is some whole rows of a matrix, read at an index. -/
theorem rows2 {A B a r0 : ℕ} {Val : EltTy → Type} {sig : RefSig} {κ : Kind} {sp : Space} {e : EltTy} (v : View sig κ sp (⟨2, ![A, B]⟩ : Shape) e)
    (f : v.ty.Contents Val) (o : Fin 2 → ℕ) (inb : ∀ x, o x + (![a, B] : Fin 2 → ℕ) x ≤ (⟨2, ![A, B]⟩ : Shape).size x)
    (w : (⟨2, ![a, B]⟩ : Shape).Idx → Val e) (L : List (View.Piece Val (⟨2, ![A, B]⟩ : Shape) e)) (ho : o = ![r0, 0]) (t : Fin A) (x : Fin B) :
    v.read Val (v.writes Val f ((⟨Rect.unit (s := ⟨2, ![A, B]⟩) o ![a, B] inb, w⟩ : View.Piece Val _ e) :: L)) (ix2 t x)
      = if q : r0 ≤ t.val ∧ t.val - r0 < a then w (ix2 ⟨t.val - r0, q.2⟩ x) else v.read Val (v.writes Val f L) (ix2 t x) := by
  by_cases q : r0 ≤ t.val ∧ t.val - r0 < a
  · rw [dif_pos q]
    refine View.read_writes_cons_unit_of_mem v f inb w L _ (ix2 ⟨t.val - r0, q.2⟩ x) ho fun z => ?_
    match z with
    | 0 => show t.val = r0 + (t.val - r0); omega
    | 1 => show x.val = 0 + x.val; omega
  · rw [dif_neg q]
    refine View.read_writes_cons_unit_of_not_mem v f inb w L _ ho 0 ?_
    show t.val < r0 ∨ r0 + a ≤ t.val
    omega

end Cert.Attn
-- ==== Proof.Attn.Trip.lean ====
module

public import proofs.«01_k».proof.Proof.Attn.Pieces
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## One block of queries against the key block -/

/-- The logit of query `t` and key `c` at head `h`: the product of the augmented rows. -/
def score (A : S8x2048x128.Idx → EReal) (K : S8x512x128.Idx → EReal) (h : Fin 8) (t : Fin 2048) (c : Fin 512) : EReal :=
  ∑ l : Fin 128, A (ix3 h t l) * K (ix3 h c l)

/-- The probability of key `c` for query `t`. -/
def weight (A : S8x2048x128.Idx → EReal) (K : S8x512x128.Idx → EReal) (h : Fin 8) (t : Fin 2048) (c : Fin 512) : EReal :=
  Ideal.exp (score A K h t c)

/-- The gradient of that logit. -/
def slope (A : S8x2048x128.Idx → EReal) (K : S8x512x128.Idx → EReal) (D : S8x2048x128.Idx → EReal) (W : S8x512x128.Idx → EReal)
    (h : Fin 8) (t : Fin 2048) (c : Fin 512) : EReal :=
  weight A K h t c * score D W h t c

/-- Row `r` of block `b` of a sequence. -/
abbrev at_ (b : Fin 4) (r : Fin 512) : Fin 2048 := ⟨512 * b.val + r.val, by omega⟩

/-- The places a trip reads: at each head the rows of block `b`, and its block of the transposed arrays. -/
theorem trip_offsets (i : grid0.Coords) (k : Fin (k0_t2_loop i).trips) (b : Fin 4) (hb : b.val = (i 1).val + k.val + 1) :
    k0_off39 i k = ![0, 512 * b.val, 0] ∧
    k0_off40 i k = ![0, b.val, 0, 0] ∧
    k0_off41 i k = ![1, 512 * b.val, 0] ∧
    k0_off42 i k = ![1, b.val, 0, 0] ∧
    k0_off43 i k = ![2, 512 * b.val, 0] ∧
    k0_off44 i k = ![2, b.val, 0, 0] ∧
    k0_off45 i k = ![3, 512 * b.val, 0] ∧
    k0_off46 i k = ![3, b.val, 0, 0] ∧
    k0_off47 i k = ![4, 512 * b.val, 0] ∧
    k0_off48 i k = ![4, b.val, 0, 0] ∧
    k0_off49 i k = ![5, 512 * b.val, 0] ∧
    k0_off50 i k = ![5, b.val, 0, 0] ∧
    k0_off51 i k = ![6, 512 * b.val, 0] ∧
    k0_off52 i k = ![6, b.val, 0, 0] ∧
    k0_off53 i k = ![7, 512 * b.val, 0] ∧
    k0_off54 i k = ![7, b.val, 0, 0] := by
  have e : 512 * b.val = 512 * (i 1).val + 512 * k.val + 512 := by omega
  refine ⟨?_, ?_, ?_, ?_, ?_, ?_, ?_, ?_, ?_, ?_, ?_, ?_, ?_, ?_, ?_, ?_⟩
  · rw [k0_off39_eq, ← e]
  · rw [k0_off40_eq, ← hb]
  · rw [k0_off41_eq, ← e]
  · rw [k0_off42_eq, ← hb]
  · rw [k0_off43_eq, ← e]
  · rw [k0_off44_eq, ← hb]
  · rw [k0_off45_eq, ← e]
  · rw [k0_off46_eq, ← hb]
  · rw [k0_off47_eq, ← e]
  · rw [k0_off48_eq, ← hb]
  · rw [k0_off49_eq, ← e]
  · rw [k0_off50_eq, ← hb]
  · rw [k0_off51_eq, ← e]
  · rw [k0_off52_eq, ← hb]
  · rw [k0_off53_eq, ← e]
  · rw [k0_off54_eq, ← hb]

variable (𝒱 : Variants) (c : Dev nD) (bd : Option 𝒱.V) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (arg1 : BitVec 32) (v534 : BitVec 32) (v905 : FVec Ideal S512x512 .bf16) (v912 : FVec Ideal S128x512 .f32) (v927 : BitVec 32)
  (X_arg14 : BufTy.Contents (Elt Ideal) arg14.view.ty)
  (X_arg15 : BufTy.Contents (Elt Ideal) arg15.view.ty)
  (X_arg16 : BufTy.Contents (Elt Ideal) arg16.view.ty)
  (X_arg17 : BufTy.Contents (Elt Ideal) arg17.view.ty)
  (X_arg19 : BufTy.Contents (Elt Ideal) arg19.view.ty)
  (X_arg20 : BufTy.Contents (Elt Ideal) arg20.view.ty)
  (k : Fin (k0_t2_loop i).trips)
  (f_arg18 : BufTy.Contents (Elt Ideal) arg18.view.ty)
  (f_arg21 : BufTy.Contents (Elt Ideal) arg21.view.ty)
  (f_arg22 : BufTy.Contents (Elt Ideal) arg22.view.ty)

/-- One trip adds, at each head, the block's share of the values' gradient. -/
theorem trip22 (b : Fin 4) (hb : b.val = (i 1).val + k.val + 1) (h : Fin 8) (l : Fin 128) (u : Fin 512) :
    arg22.view.read (Elt Ideal) (arg22.view.writes (Elt Ideal) f_arg22 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 k f_arg18 f_arg21 f_arg22).2.2) (ix3 h l u)
      = arg22.view.read (Elt Ideal) f_arg22 (ix3 h l u) + ∑ r : Fin 512, arg17.view.read (Elt Ideal) X_arg17 (ix4 h b l r) * weight (arg14.view.read (Elt Ideal) X_arg14) (arg19.view.read (Elt Ideal) X_arg19) h (at_ b r) u := by
  obtain ⟨o39, o40, o41, o42, o43, o44, o45, o46, o47, o48, o49, o50, o51, o52, o53, o54⟩ := trip_offsets i k b hb
  unfold tripL_k0_t2 trip_k0_t2
  dsimp only
  refine (read8 (r0 := 0) _ _ _ _ _ _ _ _ _ _ _ _ _ _ _ _ _ _ _ _ _ _ _ _ _ _ _ rfl rfl rfl rfl rfl rfl rfl rfl h _ _).trans ?_
  rw [dif_pos ⟨Nat.zero_le _, by omega⟩]
  fin_cases h <;> simp only [pick8, Fin.zero_eta, Fin.mk_one, Fin.reduceFinMk, Matrix.cons_val, weight, slope, score]
  all_goals (pointwise [k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay316, trip_k0_t2.sl.cst_673, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.v1114, trip_k0_t2.sl.v1170, trip_k0_t2.sl.v1189, trip_k0_t2.sl.v1200, trip_k0_t2.sl.v1217, trip_k0_t2.sl.v1236, trip_k0_t2.sl.v1247, trip_k0_t2.sl.v1264, trip_k0_t2.sl.v1283, trip_k0_t2.sl.v1294, trip_k0_t2.sl.v1311, trip_k0_t2.sl.v1330, trip_k0_t2.sl.v1341, trip_k0_t2.sl.v1358, trip_k0_t2.sl.v1377, trip_k0_t2.sl.v1388, trip_k0_t2.sl.v1405, trip_k0_t2.sl.v1424, trip_k0_t2.sl.v1435, trip_k0_t2.sl.v1452, trip_k0_t2.sl.v1471, trip_k0_t2.sl.v1482])
  all_goals simp only [ld3 _ _ _ _ o39, ld3 _ _ _ _ o41, ld3 _ _ _ _ o43, ld3 _ _ _ _ o45, ld3 _ _ _ _ o47, ld3 _ _ _ _ o49, ld3 _ _ _ _ o51, ld3 _ _ _ _ o53, ld4 _ _ _ _ o40, ld4 _ _ _ _ o42, ld4 _ _ _ _ o44, ld4 _ _ _ _ o46, ld4 _ _ _ _ o48, ld4 _ _ _ _ o50, ld4 _ _ _ _ o52, ld4 _ _ _ _ o54, ld3_zero]
  all_goals rfl

/-- One trip adds, at each head, the block's share of the keys' gradient. -/
theorem trip21 (b : Fin 4) (hb : b.val = (i 1).val + k.val + 1) (h : Fin 8) (l : Fin 128) (u : Fin 512) :
    arg21.view.read (Elt Ideal) (arg21.view.writes (Elt Ideal) f_arg21 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 k f_arg18 f_arg21 f_arg22).2.1) (ix3 h l u)
      = arg21.view.read (Elt Ideal) f_arg21 (ix3 h l u) + ∑ r : Fin 512, arg16.view.read (Elt Ideal) X_arg16 (ix4 h b l r) * slope (arg14.view.read (Elt Ideal) X_arg14) (arg19.view.read (Elt Ideal) X_arg19) (arg15.view.read (Elt Ideal) X_arg15) (arg20.view.read (Elt Ideal) X_arg20) h (at_ b r) u := by
  obtain ⟨o39, o40, o41, o42, o43, o44, o45, o46, o47, o48, o49, o50, o51, o52, o53, o54⟩ := trip_offsets i k b hb
  unfold tripL_k0_t2 trip_k0_t2
  dsimp only
  refine (read8 (r0 := 0) _ _ _ _ _ _ _ _ _ _ _ _ _ _ _ _ _ _ _ _ _ _ _ _ _ _ _ rfl rfl rfl rfl rfl rfl rfl rfl h _ _).trans ?_
  rw [dif_pos ⟨Nat.zero_le _, by omega⟩]
  fin_cases h <;> simp only [pick8, Fin.zero_eta, Fin.mk_one, Fin.reduceFinMk, Matrix.cons_val, weight, slope, score]
  all_goals (pointwise [k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay316, trip_k0_t2.sl.cst_673, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.v1114, trip_k0_t2.sl.v1170, trip_k0_t2.sl.v1189, trip_k0_t2.sl.v1200, trip_k0_t2.sl.v1217, trip_k0_t2.sl.v1236, trip_k0_t2.sl.v1247, trip_k0_t2.sl.v1264, trip_k0_t2.sl.v1283, trip_k0_t2.sl.v1294, trip_k0_t2.sl.v1311, trip_k0_t2.sl.v1330, trip_k0_t2.sl.v1341, trip_k0_t2.sl.v1358, trip_k0_t2.sl.v1377, trip_k0_t2.sl.v1388, trip_k0_t2.sl.v1405, trip_k0_t2.sl.v1424, trip_k0_t2.sl.v1435, trip_k0_t2.sl.v1452, trip_k0_t2.sl.v1471, trip_k0_t2.sl.v1482])
  all_goals simp only [ld3 _ _ _ _ o39, ld3 _ _ _ _ o41, ld3 _ _ _ _ o43, ld3 _ _ _ _ o45, ld3 _ _ _ _ o47, ld3 _ _ _ _ o49, ld3 _ _ _ _ o51, ld3 _ _ _ _ o53, ld4 _ _ _ _ o40, ld4 _ _ _ _ o42, ld4 _ _ _ _ o44, ld4 _ _ _ _ o46, ld4 _ _ _ _ o48, ld4 _ _ _ _ o50, ld4 _ _ _ _ o52, ld4 _ _ _ _ o54, ld3_zero]
  all_goals rfl

/-- One trip adds the key block's share of the queries' gradient in the trip's own rows. -/
theorem trip18 (b : Fin 4) (hb : b.val = (i 1).val + k.val + 1) (h : Fin 8) (r : Fin 512) (l : Fin 128) :
    arg18.view.read (Elt Ideal) (arg18.view.writes (Elt Ideal) f_arg18 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 k f_arg18 f_arg21 f_arg22).1) (ix3 h (at_ b r) l)
      = arg18.view.read (Elt Ideal) f_arg18 (ix3 h (at_ b r) l) + ∑ u : Fin 512, slope (arg14.view.read (Elt Ideal) X_arg14) (arg19.view.read (Elt Ideal) X_arg19) (arg15.view.read (Elt Ideal) X_arg15) (arg20.view.read (Elt Ideal) X_arg20) h (at_ b r) u * arg19.view.read (Elt Ideal) X_arg19 (ix3 h u l) := by
  obtain ⟨o39, o40, o41, o42, o43, o44, o45, o46, o47, o48, o49, o50, o51, o52, o53, o54⟩ := trip_offsets i k b hb
  unfold tripL_k0_t2 trip_k0_t2
  dsimp only
  refine (read8 (r0 := 512 * b.val) _ _ _ _ _ _ _ _ _ _ _ _ _ _ _ _ _ _ _ _ _ _ _ _ _ _ _ o39 o41 o43 o45 o47 o49 o51 o53 h _ _).trans ?_
  have q : 512 * b.val ≤ (at_ b r).val ∧ (at_ b r).val - 512 * b.val < 512 := by show 512 * b.val ≤ 512 * b.val + r.val ∧ 512 * b.val + r.val - 512 * b.val < 512; omega
  rw [dif_pos q]
  have er : (⟨(at_ b r).val - 512 * b.val, q.2⟩ : Fin 512) = r := Fin.ext (by show 512 * b.val + r.val - 512 * b.val = r.val; omega)
  rw [er]
  fin_cases h <;> simp only [pick8, Fin.zero_eta, Fin.mk_one, Fin.reduceFinMk, Matrix.cons_val, weight, slope, score]
  all_goals (pointwise [k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay316, trip_k0_t2.sl.cst_673, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.v1114, trip_k0_t2.sl.v1170, trip_k0_t2.sl.v1189, trip_k0_t2.sl.v1200, trip_k0_t2.sl.v1217, trip_k0_t2.sl.v1236, trip_k0_t2.sl.v1247, trip_k0_t2.sl.v1264, trip_k0_t2.sl.v1283, trip_k0_t2.sl.v1294, trip_k0_t2.sl.v1311, trip_k0_t2.sl.v1330, trip_k0_t2.sl.v1341, trip_k0_t2.sl.v1358, trip_k0_t2.sl.v1377, trip_k0_t2.sl.v1388, trip_k0_t2.sl.v1405, trip_k0_t2.sl.v1424, trip_k0_t2.sl.v1435, trip_k0_t2.sl.v1452, trip_k0_t2.sl.v1471, trip_k0_t2.sl.v1482])
  all_goals simp only [ld3 _ _ _ _ o39, ld3 _ _ _ _ o41, ld3 _ _ _ _ o43, ld3 _ _ _ _ o45, ld3 _ _ _ _ o47, ld3 _ _ _ _ o49, ld3 _ _ _ _ o51, ld3 _ _ _ _ o53, ld4 _ _ _ _ o40, ld4 _ _ _ _ o42, ld4 _ _ _ _ o44, ld4 _ _ _ _ o46, ld4 _ _ _ _ o48, ld4 _ _ _ _ o50, ld4 _ _ _ _ o52, ld4 _ _ _ _ o54, ld3_zero]
  all_goals rfl

/-- and leaves the other rows alone. -/
theorem trip18_other (b : Fin 4) (hb : b.val = (i 1).val + k.val + 1) (h : Fin 8) (t : Fin 2048) (l : Fin 128) (ht : t.val / 512 ≠ b.val) :
    arg18.view.read (Elt Ideal) (arg18.view.writes (Elt Ideal) f_arg18 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 k f_arg18 f_arg21 f_arg22).1) (ix3 h t l)
      = arg18.view.read (Elt Ideal) f_arg18 (ix3 h t l) := by
  obtain ⟨o39, o40, o41, o42, o43, o44, o45, o46, o47, o48, o49, o50, o51, o52, o53, o54⟩ := trip_offsets i k b hb
  unfold tripL_k0_t2 trip_k0_t2
  dsimp only
  refine (read8 (r0 := 512 * b.val) _ _ _ _ _ _ _ _ _ _ _ _ _ _ _ _ _ _ _ _ _ _ _ _ _ _ _ o39 o41 o43 o45 o47 o49 o51 o53 h _ _).trans ?_
  rw [dif_neg (fun q => ht (by omega))]
  rfl

end Cert.Attn
-- ==== Proof.Attn.Loop.lean ====
module

public import proofs.«01_k».proof.Proof.Attn.Trip
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The blocks below the diagonal, one after another -/

/-- One block's share of the values' gradient (transposed). -/
def dvPart (T : S8x4x128x512.Idx → EReal) (A : S8x2048x128.Idx → EReal) (K : S8x512x128.Idx → EReal) (h : Fin 8) (l : Fin 128) (u : Fin 512) (b : Fin 4) : EReal :=
  ∑ r : Fin 512, T (ix4 h b l r) * weight A K h (at_ b r) u

/-- One block's share of the keys' gradient (transposed). -/
def dkPart (T : S8x4x128x512.Idx → EReal) (A : S8x2048x128.Idx → EReal) (K : S8x512x128.Idx → EReal) (D : S8x2048x128.Idx → EReal) (W : S8x512x128.Idx → EReal)
    (h : Fin 8) (l : Fin 128) (u : Fin 512) (b : Fin 4) : EReal :=
  ∑ r : Fin 512, T (ix4 h b l r) * slope A K D W h (at_ b r) u

/-- The key block's share of the gradient of one query. -/
def dqPart (A : S8x2048x128.Idx → EReal) (K : S8x512x128.Idx → EReal) (D : S8x2048x128.Idx → EReal) (W : S8x512x128.Idx → EReal)
    (h : Fin 8) (t : Fin 2048) (l : Fin 128) : EReal :=
  ∑ u : Fin 512, slope A K D W h t u * K (ix3 h u l)

theorem trips_t2 : ∀ i : grid0.Coords, (k0_t2_loop i).trips = 3 - (i 1).val := by decide +kernel

theorem trips_t3 : ∀ i : grid0.Coords, (k0_t3_loop i).trips = 0 := by decide +kernel

/-- A sum over the blocks after the `j`-th up to one more. -/
theorem grow (C : Fin 4 → EReal) (j n : ℕ) (b : Fin 4) (hb : b.val = j + n + 1) :
    (∑ x : Fin 4, if j < x.val ∧ x.val ≤ j + n then C x else 0) + C b = ∑ x : Fin 4, if j < x.val ∧ x.val ≤ j + (n + 1) then C x else 0 := by
  have e : C b = ∑ x : Fin 4, if x = b then C x else 0 := by rw [Finset.sum_ite_eq' Finset.univ b C, if_pos (Finset.mem_univ b)]
  rw [e, ← Finset.sum_add_distrib]
  refine Finset.sum_congr rfl fun x _ => ?_
  by_cases hx : x = b
  · subst hx
    rw [if_neg (by omega), if_pos rfl, if_pos (by omega), zero_add]
  · have hx' : x.val ≠ b.val := fun h => hx (Fin.ext h)
    rw [if_neg hx, add_zero]
    exact if_congr (by omega) rfl rfl

variable (𝒱 : Variants) (c : Dev nD) (bd : Option 𝒱.V) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (arg1 : BitVec 32) (v534 : BitVec 32) (v905 : FVec Ideal S512x512 .bf16) (v912 : FVec Ideal S128x512 .f32) (v927 : BitVec 32)
  (X_arg14 : BufTy.Contents (Elt Ideal) arg14.view.ty)
  (X_arg15 : BufTy.Contents (Elt Ideal) arg15.view.ty)
  (X_arg16 : BufTy.Contents (Elt Ideal) arg16.view.ty)
  (X_arg17 : BufTy.Contents (Elt Ideal) arg17.view.ty)
  (X_arg19 : BufTy.Contents (Elt Ideal) arg19.view.ty)
  (X_arg20 : BufTy.Contents (Elt Ideal) arg20.view.ty)
  (G_arg18 : BufTy.Contents (Elt Ideal) arg18.view.ty)
  (G_arg21 : BufTy.Contents (Elt Ideal) arg21.view.ty)
  (G_arg22 : BufTy.Contents (Elt Ideal) arg22.view.ty)

/-- The values' gradient after `n` blocks. -/
theorem loop22 (h : Fin 8) (l : Fin 128) (u : Fin 512) (n : ℕ) (hn : n ≤ (k0_t2_loop i).trips) :
    arg22.view.read (Elt Ideal) (arg22.view.writes (Elt Ideal) G_arg22 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 G_arg18 G_arg21 G_arg22 n).2.2) (ix3 h l u)
      = arg22.view.read (Elt Ideal) G_arg22 (ix3 h l u)
        + ∑ x : Fin 4, if (i 1).val < x.val ∧ x.val ≤ (i 1).val + n then dvPart (arg17.view.read (Elt Ideal) X_arg17) (arg14.view.read (Elt Ideal) X_arg14) (arg19.view.read (Elt Ideal) X_arg19) h l u x else 0 := by
  induction n with
  | zero =>
    rw [Finset.sum_eq_zero (fun x _ => if_neg (by omega)), add_zero]
    rfl
  | succ n ih =>
    have hb : (i 1).val + n + 1 < 4 := by have := trips_t2 i; omega
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 G_arg18 G_arg21 G_arg22 ⟨n, hn⟩]
    dsimp only
    rw [View.writes_append, trip22 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 ⟨n, hn⟩ _ _ _ ⟨_, hb⟩ rfl h l u,
      ih (Nat.le_of_succ_le hn), add_assoc]
    exact congrArg _ (grow _ _ _ ⟨_, hb⟩ rfl)

/-- The keys' gradient after `n` blocks. -/
theorem loop21 (h : Fin 8) (l : Fin 128) (u : Fin 512) (n : ℕ) (hn : n ≤ (k0_t2_loop i).trips) :
    arg21.view.read (Elt Ideal) (arg21.view.writes (Elt Ideal) G_arg21 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 G_arg18 G_arg21 G_arg22 n).2.1) (ix3 h l u)
      = arg21.view.read (Elt Ideal) G_arg21 (ix3 h l u)
        + ∑ x : Fin 4, if (i 1).val < x.val ∧ x.val ≤ (i 1).val + n then dkPart (arg16.view.read (Elt Ideal) X_arg16) (arg14.view.read (Elt Ideal) X_arg14) (arg19.view.read (Elt Ideal) X_arg19) (arg15.view.read (Elt Ideal) X_arg15) (arg20.view.read (Elt Ideal) X_arg20) h l u x else 0 := by
  induction n with
  | zero =>
    rw [Finset.sum_eq_zero (fun x _ => if_neg (by omega)), add_zero]
    rfl
  | succ n ih =>
    have hb : (i 1).val + n + 1 < 4 := by have := trips_t2 i; omega
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 G_arg18 G_arg21 G_arg22 ⟨n, hn⟩]
    dsimp only
    rw [View.writes_append, trip21 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 ⟨n, hn⟩ _ _ _ ⟨_, hb⟩ rfl h l u,
      ih (Nat.le_of_succ_le hn), add_assoc]
    exact congrArg _ (grow _ _ _ ⟨_, hb⟩ rfl)

/-- The queries' gradient after `n` blocks. -/
theorem loop18 (h : Fin 8) (t : Fin 2048) (l : Fin 128) (n : ℕ) (hn : n ≤ (k0_t2_loop i).trips) :
    arg18.view.read (Elt Ideal) (arg18.view.writes (Elt Ideal) G_arg18 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 G_arg18 G_arg21 G_arg22 n).1) (ix3 h t l)
      = arg18.view.read (Elt Ideal) G_arg18 (ix3 h t l)
        + if (i 1).val < t.val / 512 ∧ t.val / 512 ≤ (i 1).val + n then dqPart (arg14.view.read (Elt Ideal) X_arg14) (arg19.view.read (Elt Ideal) X_arg19) (arg15.view.read (Elt Ideal) X_arg15) (arg20.view.read (Elt Ideal) X_arg20) h t l else 0 := by
  induction n with
  | zero =>
    rw [if_neg (by omega), add_zero]
    rfl
  | succ n ih =>
    have hb : (i 1).val + n + 1 < 4 := by have := trips_t2 i; omega
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 G_arg18 G_arg21 G_arg22 ⟨n, hn⟩]
    dsimp only
    rw [View.writes_append]
    by_cases ht : t.val / 512 = (i 1).val + n + 1
    · obtain ⟨r, rfl⟩ : ∃ r : Fin 512, t = at_ ⟨_, hb⟩ r := ⟨⟨t.val % 512, Nat.mod_lt _ (by decide)⟩, Fin.ext (by show t.val = 512 * ((i 1).val + n + 1) + t.val % 512; omega)⟩
      rw [trip18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 ⟨n, hn⟩ _ _ _ ⟨_, hb⟩ rfl h r l,
        ih (Nat.le_of_succ_le hn), if_neg (by omega), if_pos (by omega), add_zero]
      rfl
    · rw [trip18_other 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 X_arg14 X_arg15 X_arg16 X_arg17 X_arg19 X_arg20 ⟨n, hn⟩ _ _ _ ⟨_, hb⟩ rfl h t l ht,
        ih (Nat.le_of_succ_le hn)]
      exact congrArg _ (if_congr (by omega) rfl rfl)

end Cert.Attn
-- ==== Proof.Attn.Diag.lean ====
module

public import proofs.«01_k».proof.Proof.Attn.Loop
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The block on the diagonal -/

/-- The probability on the diagonal block: of a later key it is that of the logit −∞. -/
def weightM (A : S8x2048x128.Idx → EReal) (K : S8x512x128.Idx → EReal) (h : Fin 8) (b : Fin 4) (r u : Fin 512) : EReal :=
  Ideal.exp (if u.val ≤ r.val then score A K h (at_ b r) u else ⊥)

theorem neg_inf : Ideal.ofBits .f32 4286578688#32 = (⊥ : EReal) := by simp [Ideal.ofBits, Ideal.ieee]

/-- The causal comparison of the positions' words. -/
theorem mask_word (u r : Fin 512) (a b : EReal) :
    Scalar.select (IntOp.cmpi CmpIPredicate.sle (BitVec.ofNat 32 u.val) (BitVec.ofNat 32 r.val)) a b = if u.val ≤ r.val then a else b := by
  have e : IntOp.cmpi CmpIPredicate.sle (BitVec.ofNat 32 u.val) (BitVec.ofNat 32 r.val) = 1#1 ↔ u.val ≤ r.val := by
    rw [WordCmp.cmpi_sle_ofNat (by norm_num; omega) (by norm_num; omega)]
    by_cases h : u.val ≤ r.val <;> simp [h]
  unfold Scalar.select
  by_cases h : u.val ≤ r.val
  · rw [if_pos h]; exact if_pos (e.mpr h)
  · rw [if_neg h]; exact if_neg (fun q => h (e.mp q))

/-- The gradient of a logit there. -/
def slopeM (A : S8x2048x128.Idx → EReal) (K : S8x512x128.Idx → EReal) (D : S8x2048x128.Idx → EReal) (W : S8x512x128.Idx → EReal)
    (h : Fin 8) (b : Fin 4) (r u : Fin 512) : EReal :=
  weightM A K h b r u * score D W h (at_ b r) u

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)

/-- What the accumulator holds at a head not yet reached: zero. -/
theorem rest21 (k : ℕ) (hk : k < 8) (l : Fin 128) (u : Fin 512) :
    (0 ≤ k → (arg21.view.read (Elt Ideal) (arg21.view.writes (Elt Ideal) arg21.view.junk (runB.sl.H21_1)) (ix3 ⟨k, hk⟩ l u) : EReal) = 0) ∧
    (1 ≤ k → (arg21.view.read (Elt Ideal) (arg21.view.writes (Elt Ideal) arg21.view.junk (runB.sl.H21_2 i arg3 arg4 arg7 arg14 arg15 arg16 arg19 arg20 arg21 f3 f4 f7 f14 f15 f16)) (ix3 ⟨k, hk⟩ l u) : EReal) = 0) ∧
    (2 ≤ k → (arg21.view.read (Elt Ideal) (arg21.view.writes (Elt Ideal) arg21.view.junk (runB.sl.H21_3 i arg3 arg4 arg7 arg14 arg15 arg16 arg19 arg20 arg21 f3 f4 f7 f14 f15 f16)) (ix3 ⟨k, hk⟩ l u) : EReal) = 0) ∧
    (3 ≤ k → (arg21.view.read (Elt Ideal) (arg21.view.writes (Elt Ideal) arg21.view.junk (runB.sl.H21_4 i arg3 arg4 arg7 arg14 arg15 arg16 arg19 arg20 arg21 f3 f4 f7 f14 f15 f16)) (ix3 ⟨k, hk⟩ l u) : EReal) = 0) ∧
    (4 ≤ k → (arg21.view.read (Elt Ideal) (arg21.view.writes (Elt Ideal) arg21.view.junk (runB.sl.H21_5 i arg3 arg4 arg7 arg14 arg15 arg16 arg19 arg20 arg21 f3 f4 f7 f14 f15 f16)) (ix3 ⟨k, hk⟩ l u) : EReal) = 0) ∧
    (5 ≤ k → (arg21.view.read (Elt Ideal) (arg21.view.writes (Elt Ideal) arg21.view.junk (runB.sl.H21_6 i arg3 arg4 arg7 arg14 arg15 arg16 arg19 arg20 arg21 f3 f4 f7 f14 f15 f16)) (ix3 ⟨k, hk⟩ l u) : EReal) = 0) ∧
    (6 ≤ k → (arg21.view.read (Elt Ideal) (arg21.view.writes (Elt Ideal) arg21.view.junk (runB.sl.H21_7 i arg3 arg4 arg7 arg14 arg15 arg16 arg19 arg20 arg21 f3 f4 f7 f14 f15 f16)) (ix3 ⟨k, hk⟩ l u) : EReal) = 0) ∧
    (7 ≤ k → (arg21.view.read (Elt Ideal) (arg21.view.writes (Elt Ideal) arg21.view.junk (runB.sl.H21_8 i arg3 arg4 arg7 arg14 arg15 arg16 arg19 arg20 arg21 f3 f4 f7 f14 f15 f16)) (ix3 ⟨k, hk⟩ l u) : EReal) = 0) := by
  have z0 : (arg21.view.read (Elt Ideal) (arg21.view.writes (Elt Ideal) arg21.view.junk (runB.sl.H21_1)) (ix3 ⟨k, hk⟩ l u) : EReal) = 0 := by
    unfold runB.sl.H21_1
    refine (whole3 _ _ _ _ _ _ _ _).trans ?_
    pointwise [k0_pay262]
  have z1 : 1 ≤ k → (arg21.view.read (Elt Ideal) (arg21.view.writes (Elt Ideal) arg21.view.junk (runB.sl.H21_2 i arg3 arg4 arg7 arg14 arg15 arg16 arg19 arg20 arg21 f3 f4 f7 f14 f15 f16)) (ix3 ⟨k, hk⟩ l u) : EReal) = 0 := fun h => by
    unfold runB.sl.H21_2
    exact (cons_other (r0 := 0) _ _ _ _ _ _ k 0 hk rfl (by omega) l u).trans (z0)
  have z2 : 2 ≤ k → (arg21.view.read (Elt Ideal) (arg21.view.writes (Elt Ideal) arg21.view.junk (runB.sl.H21_3 i arg3 arg4 arg7 arg14 arg15 arg16 arg19 arg20 arg21 f3 f4 f7 f14 f15 f16)) (ix3 ⟨k, hk⟩ l u) : EReal) = 0 := fun h => by
    unfold runB.sl.H21_3
    exact (cons_other (r0 := 0) _ _ _ _ _ _ k 1 hk rfl (by omega) l u).trans (z1 (by omega))
  have z3 : 3 ≤ k → (arg21.view.read (Elt Ideal) (arg21.view.writes (Elt Ideal) arg21.view.junk (runB.sl.H21_4 i arg3 arg4 arg7 arg14 arg15 arg16 arg19 arg20 arg21 f3 f4 f7 f14 f15 f16)) (ix3 ⟨k, hk⟩ l u) : EReal) = 0 := fun h => by
    unfold runB.sl.H21_4
    exact (cons_other (r0 := 0) _ _ _ _ _ _ k 2 hk rfl (by omega) l u).trans (z2 (by omega))
  have z4 : 4 ≤ k → (arg21.view.read (Elt Ideal) (arg21.view.writes (Elt Ideal) arg21.view.junk (runB.sl.H21_5 i arg3 arg4 arg7 arg14 arg15 arg16 arg19 arg20 arg21 f3 f4 f7 f14 f15 f16)) (ix3 ⟨k, hk⟩ l u) : EReal) = 0 := fun h => by
    unfold runB.sl.H21_5
    exact (cons_other (r0 := 0) _ _ _ _ _ _ k 3 hk rfl (by omega) l u).trans (z3 (by omega))
  have z5 : 5 ≤ k → (arg21.view.read (Elt Ideal) (arg21.view.writes (Elt Ideal) arg21.view.junk (runB.sl.H21_6 i arg3 arg4 arg7 arg14 arg15 arg16 arg19 arg20 arg21 f3 f4 f7 f14 f15 f16)) (ix3 ⟨k, hk⟩ l u) : EReal) = 0 := fun h => by
    unfold runB.sl.H21_6
    exact (cons_other (r0 := 0) _ _ _ _ _ _ k 4 hk rfl (by omega) l u).trans (z4 (by omega))
  have z6 : 6 ≤ k → (arg21.view.read (Elt Ideal) (arg21.view.writes (Elt Ideal) arg21.view.junk (runB.sl.H21_7 i arg3 arg4 arg7 arg14 arg15 arg16 arg19 arg20 arg21 f3 f4 f7 f14 f15 f16)) (ix3 ⟨k, hk⟩ l u) : EReal) = 0 := fun h => by
    unfold runB.sl.H21_7
    exact (cons_other (r0 := 0) _ _ _ _ _ _ k 5 hk rfl (by omega) l u).trans (z5 (by omega))
  have z7 : 7 ≤ k → (arg21.view.read (Elt Ideal) (arg21.view.writes (Elt Ideal) arg21.view.junk (runB.sl.H21_8 i arg3 arg4 arg7 arg14 arg15 arg16 arg19 arg20 arg21 f3 f4 f7 f14 f15 f16)) (ix3 ⟨k, hk⟩ l u) : EReal) = 0 := fun h => by
    unfold runB.sl.H21_8
    exact (cons_other (r0 := 0) _ _ _ _ _ _ k 6 hk rfl (by omega) l u).trans (z6 (by omega))
  exact ⟨fun _ => z0, z1, z2, z3, z4, z5, z6, z7⟩

/-- What the accumulator holds at a head not yet reached: zero. -/
theorem rest22 (k : ℕ) (hk : k < 8) (l : Fin 128) (u : Fin 512) :
    (0 ≤ k → (arg22.view.read (Elt Ideal) (arg22.view.writes (Elt Ideal) arg22.view.junk (runB.sl.H22_1)) (ix3 ⟨k, hk⟩ l u) : EReal) = 0) ∧
    (1 ≤ k → (arg22.view.read (Elt Ideal) (arg22.view.writes (Elt Ideal) arg22.view.junk (runB.sl.H22_2 i arg3 arg7 arg14 arg17 arg19 arg22 f3 f7 f14 f17)) (ix3 ⟨k, hk⟩ l u) : EReal) = 0) ∧
    (2 ≤ k → (arg22.view.read (Elt Ideal) (arg22.view.writes (Elt Ideal) arg22.view.junk (runB.sl.H22_3 i arg3 arg7 arg14 arg17 arg19 arg22 f3 f7 f14 f17)) (ix3 ⟨k, hk⟩ l u) : EReal) = 0) ∧
    (3 ≤ k → (arg22.view.read (Elt Ideal) (arg22.view.writes (Elt Ideal) arg22.view.junk (runB.sl.H22_4 i arg3 arg7 arg14 arg17 arg19 arg22 f3 f7 f14 f17)) (ix3 ⟨k, hk⟩ l u) : EReal) = 0) ∧
    (4 ≤ k → (arg22.view.read (Elt Ideal) (arg22.view.writes (Elt Ideal) arg22.view.junk (runB.sl.H22_5 i arg3 arg7 arg14 arg17 arg19 arg22 f3 f7 f14 f17)) (ix3 ⟨k, hk⟩ l u) : EReal) = 0) ∧
    (5 ≤ k → (arg22.view.read (Elt Ideal) (arg22.view.writes (Elt Ideal) arg22.view.junk (runB.sl.H22_6 i arg3 arg7 arg14 arg17 arg19 arg22 f3 f7 f14 f17)) (ix3 ⟨k, hk⟩ l u) : EReal) = 0) ∧
    (6 ≤ k → (arg22.view.read (Elt Ideal) (arg22.view.writes (Elt Ideal) arg22.view.junk (runB.sl.H22_7 i arg3 arg7 arg14 arg17 arg19 arg22 f3 f7 f14 f17)) (ix3 ⟨k, hk⟩ l u) : EReal) = 0) ∧
    (7 ≤ k → (arg22.view.read (Elt Ideal) (arg22.view.writes (Elt Ideal) arg22.view.junk (runB.sl.H22_8 i arg3 arg7 arg14 arg17 arg19 arg22 f3 f7 f14 f17)) (ix3 ⟨k, hk⟩ l u) : EReal) = 0) := by
  have z0 : (arg22.view.read (Elt Ideal) (arg22.view.writes (Elt Ideal) arg22.view.junk (runB.sl.H22_1)) (ix3 ⟨k, hk⟩ l u) : EReal) = 0 := by
    unfold runB.sl.H22_1
    refine (whole3 _ _ _ _ _ _ _ _).trans ?_
    pointwise [k0_pay263]
  have z1 : 1 ≤ k → (arg22.view.read (Elt Ideal) (arg22.view.writes (Elt Ideal) arg22.view.junk (runB.sl.H22_2 i arg3 arg7 arg14 arg17 arg19 arg22 f3 f7 f14 f17)) (ix3 ⟨k, hk⟩ l u) : EReal) = 0 := fun h => by
    unfold runB.sl.H22_2
    exact (cons_other (r0 := 0) _ _ _ _ _ _ k 0 hk rfl (by omega) l u).trans (z0)
  have z2 : 2 ≤ k → (arg22.view.read (Elt Ideal) (arg22.view.writes (Elt Ideal) arg22.view.junk (runB.sl.H22_3 i arg3 arg7 arg14 arg17 arg19 arg22 f3 f7 f14 f17)) (ix3 ⟨k, hk⟩ l u) : EReal) = 0 := fun h => by
    unfold runB.sl.H22_3
    exact (cons_other (r0 := 0) _ _ _ _ _ _ k 1 hk rfl (by omega) l u).trans (z1 (by omega))
  have z3 : 3 ≤ k → (arg22.view.read (Elt Ideal) (arg22.view.writes (Elt Ideal) arg22.view.junk (runB.sl.H22_4 i arg3 arg7 arg14 arg17 arg19 arg22 f3 f7 f14 f17)) (ix3 ⟨k, hk⟩ l u) : EReal) = 0 := fun h => by
    unfold runB.sl.H22_4
    exact (cons_other (r0 := 0) _ _ _ _ _ _ k 2 hk rfl (by omega) l u).trans (z2 (by omega))
  have z4 : 4 ≤ k → (arg22.view.read (Elt Ideal) (arg22.view.writes (Elt Ideal) arg22.view.junk (runB.sl.H22_5 i arg3 arg7 arg14 arg17 arg19 arg22 f3 f7 f14 f17)) (ix3 ⟨k, hk⟩ l u) : EReal) = 0 := fun h => by
    unfold runB.sl.H22_5
    exact (cons_other (r0 := 0) _ _ _ _ _ _ k 3 hk rfl (by omega) l u).trans (z3 (by omega))
  have z5 : 5 ≤ k → (arg22.view.read (Elt Ideal) (arg22.view.writes (Elt Ideal) arg22.view.junk (runB.sl.H22_6 i arg3 arg7 arg14 arg17 arg19 arg22 f3 f7 f14 f17)) (ix3 ⟨k, hk⟩ l u) : EReal) = 0 := fun h => by
    unfold runB.sl.H22_6
    exact (cons_other (r0 := 0) _ _ _ _ _ _ k 4 hk rfl (by omega) l u).trans (z4 (by omega))
  have z6 : 6 ≤ k → (arg22.view.read (Elt Ideal) (arg22.view.writes (Elt Ideal) arg22.view.junk (runB.sl.H22_7 i arg3 arg7 arg14 arg17 arg19 arg22 f3 f7 f14 f17)) (ix3 ⟨k, hk⟩ l u) : EReal) = 0 := fun h => by
    unfold runB.sl.H22_7
    exact (cons_other (r0 := 0) _ _ _ _ _ _ k 5 hk rfl (by omega) l u).trans (z5 (by omega))
  have z7 : 7 ≤ k → (arg22.view.read (Elt Ideal) (arg22.view.writes (Elt Ideal) arg22.view.junk (runB.sl.H22_8 i arg3 arg7 arg14 arg17 arg19 arg22 f3 f7 f14 f17)) (ix3 ⟨k, hk⟩ l u) : EReal) = 0 := fun h => by
    unfold runB.sl.H22_8
    exact (cons_other (r0 := 0) _ _ _ _ _ _ k 6 hk rfl (by omega) l u).trans (z6 (by omega))
  exact ⟨fun _ => z0, z1, z2, z3, z4, z5, z6, z7⟩

/-- The diagonal block's share of the values' gradient. -/
theorem diag22 (b : Fin 4) (hb : b.val = (i 1).val) (h : Fin 8) (l : Fin 128) (u : Fin 512) :
    arg22.view.read (Elt Ideal) (arg22.view.writes (Elt Ideal) arg22.view.junk (runB.sl.H22_9 i arg3 arg7 arg14 arg17 arg19 arg22 f3 f7 f14 f17)) (ix3 h l u)
      = ∑ r : Fin 512, arg17.view.read (Elt Ideal) f17 (ix4 h b l r) * weightM (arg14.view.read (Elt Ideal) f14) (arg19.view.read (Elt Ideal) (arg19.view.writes (Elt Ideal) arg19.view.junk (runB.sl.H19_8 i arg3 arg7 f3 f7))) h b r u := by
  have e : b = i 1 := Fin.ext hb
  subst e
  have o23 := k0_off23_eq i
  have o24 := k0_off24_eq i
  have o25 := k0_off25_eq i
  have o26 := k0_off26_eq i
  have o27 := k0_off27_eq i
  have o28 := k0_off28_eq i
  have o29 := k0_off29_eq i
  have o30 := k0_off30_eq i
  have o31 := k0_off31_eq i
  have o32 := k0_off32_eq i
  have o33 := k0_off33_eq i
  have o34 := k0_off34_eq i
  have o35 := k0_off35_eq i
  have o36 := k0_off36_eq i
  have o37 := k0_off37_eq i
  have o38 := k0_off38_eq i
  have z := fun k hk => rest22 i arg3 arg7 arg14 arg17 arg19 arg22 f3 f7 f14 f17 k hk l u
  conv_lhs => unfold runB.sl.H22_9 runB.sl.H22_8 runB.sl.H22_7 runB.sl.H22_6 runB.sl.H22_5 runB.sl.H22_4 runB.sl.H22_3 runB.sl.H22_2
  refine (read8 (r0 := 0) _ _ _ _ _ _ _ _ _ _ _ _ _ _ _ _ _ _ _ _ _ _ _ _ _ _ _ rfl rfl rfl rfl rfl rfl rfl rfl h _ _).trans ?_
  rw [dif_pos ⟨Nat.zero_le _, by omega⟩]
  fin_cases h <;> simp only [pick8, Fin.zero_eta, Fin.mk_one, Fin.reduceFinMk, Matrix.cons_val, weightM, slopeM, score]
  all_goals (pointwise [k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.v533, runB.sl.v538, runB.sl.v544, runB.sl.v558, runB.sl.v563, runB.sl.v587, runB.sl.v593, runB.sl.v607, runB.sl.v612, runB.sl.v623, runB.sl.v636, runB.sl.v642, runB.sl.v656, runB.sl.v661, runB.sl.v672, runB.sl.v685, runB.sl.v691, runB.sl.v705, runB.sl.v710, runB.sl.v721, runB.sl.v734, runB.sl.v740, runB.sl.v754, runB.sl.v759, runB.sl.v770, runB.sl.v783, runB.sl.v789, runB.sl.v803, runB.sl.v808, runB.sl.v819, runB.sl.v832, runB.sl.v838, runB.sl.v852, runB.sl.v857, runB.sl.v868, runB.sl.v881, runB.sl.v887, runB.sl.v901, runB.sl.v906, runB.sl.v917])
  all_goals simp only [View.readCov, ld3 _ _ _ _ o23, ld3 _ _ _ _ o25, ld3 _ _ _ _ o27, ld3 _ _ _ _ o29, ld3 _ _ _ _ o31, ld3 _ _ _ _ o33, ld3 _ _ _ _ o35, ld3 _ _ _ _ o37, ld4 _ _ _ _ o24, ld4 _ _ _ _ o26, ld4 _ _ _ _ o28, ld4 _ _ _ _ o30, ld4 _ _ _ _ o32, ld4 _ _ _ _ o34, ld4 _ _ _ _ o36, ld4 _ _ _ _ o38, ld3_zero]
  · rw [(z 0 (by decide)).1 le_rfl, zero_add]; simp only [mask_word, neg_inf]; rfl
  · rw [(z 1 (by decide)).2.1 le_rfl, zero_add]; simp only [mask_word, neg_inf]; rfl
  · rw [(z 2 (by decide)).2.2.1 le_rfl, zero_add]; simp only [mask_word, neg_inf]; rfl
  · rw [(z 3 (by decide)).2.2.2.1 le_rfl, zero_add]; simp only [mask_word, neg_inf]; rfl
  · rw [(z 4 (by decide)).2.2.2.2.1 le_rfl, zero_add]; simp only [mask_word, neg_inf]; rfl
  · rw [(z 5 (by decide)).2.2.2.2.2.1 le_rfl, zero_add]; simp only [mask_word, neg_inf]; rfl
  · rw [(z 6 (by decide)).2.2.2.2.2.2.1 le_rfl, zero_add]; simp only [mask_word, neg_inf]; rfl
  · rw [(z 7 (by decide)).2.2.2.2.2.2.2 le_rfl, zero_add]; simp only [mask_word, neg_inf]; rfl

/-- The diagonal block's share of the keys' gradient. -/
theorem diag21 (b : Fin 4) (hb : b.val = (i 1).val) (h : Fin 8) (l : Fin 128) (u : Fin 512) :
    arg21.view.read (Elt Ideal) (arg21.view.writes (Elt Ideal) arg21.view.junk (runB.sl.H21_9 i arg3 arg4 arg7 arg14 arg15 arg16 arg19 arg20 arg21 f3 f4 f7 f14 f15 f16)) (ix3 h l u)
      = ∑ r : Fin 512, arg16.view.read (Elt Ideal) f16 (ix4 h b l r) * slopeM (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) h b r u := by
  have e : b = i 1 := Fin.ext hb
  subst e
  have o23 := k0_off23_eq i
  have o24 := k0_off24_eq i
  have o25 := k0_off25_eq i
  have o26 := k0_off26_eq i
  have o27 := k0_off27_eq i
  have o28 := k0_off28_eq i
  have o29 := k0_off29_eq i
  have o30 := k0_off30_eq i
  have o31 := k0_off31_eq i
  have o32 := k0_off32_eq i
  have o33 := k0_off33_eq i
  have o34 := k0_off34_eq i
  have o35 := k0_off35_eq i
  have o36 := k0_off36_eq i
  have o37 := k0_off37_eq i
  have o38 := k0_off38_eq i
  have z := fun k hk => rest21 i arg3 arg4 arg7 arg14 arg15 arg16 arg19 arg20 arg21 f3 f4 f7 f14 f15 f16 k hk l u
  conv_lhs => unfold runB.sl.H21_9 runB.sl.H21_8 runB.sl.H21_7 runB.sl.H21_6 runB.sl.H21_5 runB.sl.H21_4 runB.sl.H21_3 runB.sl.H21_2
  refine (read8 (r0 := 0) _ _ _ _ _ _ _ _ _ _ _ _ _ _ _ _ _ _ _ _ _ _ _ _ _ _ _ rfl rfl rfl rfl rfl rfl rfl rfl h _ _).trans ?_
  rw [dif_pos ⟨Nat.zero_le _, by omega⟩]
  fin_cases h <;> simp only [pick8, Fin.zero_eta, Fin.mk_one, Fin.reduceFinMk, Matrix.cons_val, weightM, slopeM, score]
  all_goals (pointwise [k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.v533, runB.sl.v538, runB.sl.v544, runB.sl.v558, runB.sl.v563, runB.sl.v587, runB.sl.v593, runB.sl.v607, runB.sl.v612, runB.sl.v623, runB.sl.v636, runB.sl.v642, runB.sl.v656, runB.sl.v661, runB.sl.v672, runB.sl.v685, runB.sl.v691, runB.sl.v705, runB.sl.v710, runB.sl.v721, runB.sl.v734, runB.sl.v740, runB.sl.v754, runB.sl.v759, runB.sl.v770, runB.sl.v783, runB.sl.v789, runB.sl.v803, runB.sl.v808, runB.sl.v819, runB.sl.v832, runB.sl.v838, runB.sl.v852, runB.sl.v857, runB.sl.v868, runB.sl.v881, runB.sl.v887, runB.sl.v901, runB.sl.v906, runB.sl.v917])
  all_goals simp only [View.readCov, ld3 _ _ _ _ o23, ld3 _ _ _ _ o25, ld3 _ _ _ _ o27, ld3 _ _ _ _ o29, ld3 _ _ _ _ o31, ld3 _ _ _ _ o33, ld3 _ _ _ _ o35, ld3 _ _ _ _ o37, ld4 _ _ _ _ o24, ld4 _ _ _ _ o26, ld4 _ _ _ _ o28, ld4 _ _ _ _ o30, ld4 _ _ _ _ o32, ld4 _ _ _ _ o34, ld4 _ _ _ _ o36, ld4 _ _ _ _ o38, ld3_zero]
  · rw [(z 0 (by decide)).1 le_rfl, zero_add]; simp only [mask_word, neg_inf]; rfl
  · rw [(z 1 (by decide)).2.1 le_rfl, zero_add]; simp only [mask_word, neg_inf]; rfl
  · rw [(z 2 (by decide)).2.2.1 le_rfl, zero_add]; simp only [mask_word, neg_inf]; rfl
  · rw [(z 3 (by decide)).2.2.2.1 le_rfl, zero_add]; simp only [mask_word, neg_inf]; rfl
  · rw [(z 4 (by decide)).2.2.2.2.1 le_rfl, zero_add]; simp only [mask_word, neg_inf]; rfl
  · rw [(z 5 (by decide)).2.2.2.2.2.1 le_rfl, zero_add]; simp only [mask_word, neg_inf]; rfl
  · rw [(z 6 (by decide)).2.2.2.2.2.2.1 le_rfl, zero_add]; simp only [mask_word, neg_inf]; rfl
  · rw [(z 7 (by decide)).2.2.2.2.2.2.2 le_rfl, zero_add]; simp only [mask_word, neg_inf]; rfl

end Cert.Attn
-- ==== Proof.Attn.Store.lean ====
module

public import proofs.«01_k».proof.Proof.Attn.Trip
public import Idealize.ShloMosaic.Lib.WordCmp
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## What the stores of the results hold -/

theorem low_word (n : ℕ) (hn : n < 128) (a b : EReal) :
    Scalar.select (IntOp.cmpi CmpIPredicate.slt (BitVec.ofNat 32 n) 64#32) a b = if n < 64 then a else b := by
  have e : IntOp.cmpi CmpIPredicate.slt (BitVec.ofNat 32 n) (BitVec.ofNat 32 64) = 1#1 ↔ n < 64 := by
    rw [WordCmp.cmpi_slt_ofNat (by norm_num; omega) (by norm_num)]
    by_cases h : n < 64 <;> simp [h]
  unfold Scalar.select
  by_cases h : n < 64
  · rw [if_pos h]; exact if_pos (e.mpr h)
  · rw [if_neg h]; exact if_neg (fun q => h (e.mp q))

theorem lane_word (n : ℕ) (hn : n < 128) (l : Fin 128) (a b : EReal) :
    Scalar.select (IntOp.cmpi CmpIPredicate.eq (BitVec.ofNat 32 l.val) (BitVec.ofNat 32 n)) a b = if l.val = n then a else b := by
  have e : IntOp.cmpi CmpIPredicate.eq (BitVec.ofNat 32 l.val) (BitVec.ofNat 32 n) = 1#1 ↔ l.val = n :=
    WordCmp.cmpi_eq_ofNat_eq_one_iff (by norm_num; omega) (by norm_num; omega)
  unfold Scalar.select
  by_cases h : l.val = n
  · rw [if_pos h]; exact if_pos (e.mpr h)
  · rw [if_neg h]; exact if_neg (fun q => h (e.mp q))

theorem eighth : Ideal.ofBits .f32 1040187392#32 = (((1 / 8 : ℝ)) : EReal) := by
  simp [Ideal.ofBits, Ideal.ieee]
  rw [← EReal.coe_mul]; norm_num

theorem dk_store0 (X Y : Vec Ideal S1x128x512 .f32) (u : Fin 512) (l : Fin 128) :
    (k0_pay322 k0_pay220 (k0_pay319 X) (k0_pay320 Y)) (ix2 u l) = (if l.val < 64 then X (ix3 0 l u) else Y (ix3 0 l u)) * (((1 / 8 : ℝ)) : EReal) := by
  pointwise [k0_pay322, k0_pay319, k0_pay320, k0_pay220, k0_pay219, k0_pay218]
  rw [low_word l.val l.isLt, eighth]

theorem dk_store1 (X Y : Vec Ideal S1x128x512 .f32) (u : Fin 512) (l : Fin 128) :
    (k0_pay327 k0_pay220 (k0_pay325 X) (k0_pay326 Y)) (ix2 u l) = (if l.val < 64 then X (ix3 0 l u) else Y (ix3 0 l u)) * (((1 / 8 : ℝ)) : EReal) := by
  pointwise [k0_pay327, k0_pay325, k0_pay326, k0_pay220, k0_pay219, k0_pay218]
  rw [low_word l.val l.isLt, eighth]

theorem dk_store2 (X Y : Vec Ideal S1x128x512 .f32) (u : Fin 512) (l : Fin 128) :
    (k0_pay332 k0_pay220 (k0_pay330 X) Y) (ix2 u l) = (if l.val < 64 then X (ix3 0 l u) else Y (ix3 0 l u)) * (((1 / 8 : ℝ)) : EReal) := by
  pointwise [k0_pay332, k0_pay330, k0_pay331, k0_pay220, k0_pay219, k0_pay218]
  rw [low_word l.val l.isLt, eighth]

theorem dk_store3 (X Y : Vec Ideal S1x128x512 .f32) (u : Fin 512) (l : Fin 128) :
    (k0_pay339 k0_pay220 X Y) (ix2 u l) = (if l.val < 64 then X (ix3 0 l u) else Y (ix3 0 l u)) * (((1 / 8 : ℝ)) : EReal) := by
  pointwise [k0_pay339, k0_pay337, k0_pay338, k0_pay220, k0_pay219, k0_pay218]
  rw [low_word l.val l.isLt, eighth]

theorem dv_store0 (X Y : Vec Ideal S1x128x512 .f32) (u : Fin 512) (l : Fin 128) :
    (k0_pay323 k0_pay220 (k0_pay321 X) Y) (ix2 u l) = if l.val < 64 then X (ix3 0 l u) else Y (ix3 0 l u) := by
  pointwise [k0_pay323, k0_pay321, k0_pay220, k0_pay219, k0_pay218]
  rw [low_word l.val l.isLt]

theorem dv_store1 (X Y : Vec Ideal S1x128x512 .f32) (u : Fin 512) (l : Fin 128) :
    (k0_pay328 k0_pay220 X Y) (ix2 u l) = if l.val < 64 then X (ix3 0 l u) else Y (ix3 0 l u) := by
  pointwise [k0_pay328, k0_pay220, k0_pay219, k0_pay218]
  rw [low_word l.val l.isLt]

theorem dv_store2 (X Y : Vec Ideal S1x128x512 .f32) (u : Fin 512) (l : Fin 128) :
    (k0_pay333 k0_pay220 X Y) (ix2 u l) = if l.val < 64 then X (ix3 0 l u) else Y (ix3 0 l u) := by
  pointwise [k0_pay333, k0_pay220, k0_pay219, k0_pay218]
  rw [low_word l.val l.isLt]

theorem dv_store3 (X Y : Vec Ideal S1x128x512 .f32) (u : Fin 512) (l : Fin 128) :
    (k0_pay340 k0_pay220 X Y) (ix2 u l) = if l.val < 64 then X (ix3 0 l u) else Y (ix3 0 l u) := by
  pointwise [k0_pay340, k0_pay220, k0_pay219, k0_pay218]
  rw [low_word l.val l.isLt]

/-- The lane of a key's row at head `h` that holds the first, and the fourth, of its added columns. -/
abbrev bias0 (h : Fin 8) : Fin 128 := ⟨64 * (1 - h.val % 2), by omega⟩
abbrev bias3 (h : Fin 8) : Fin 128 := ⟨64 * (1 - h.val % 2) + 3, by omega⟩

theorem dfk_store (v0 : IVec S1x128 32) (hv : ∀ l : Fin 128, v0 (ix2 0 l) = BitVec.ofNat 32 l.val) (X0 X1 X2 X3 X4 X5 X6 X7 : Vec Ideal S1x128x512 .f32) (u : Fin 512) (l : Fin 128) :
    (k0_pay1 (k0_pay341 v0 (k0_pay334 v0 (k0_pay329 v0 (k0_pay324 v0 k0_pay318 (k0_pay319 X0) (k0_pay320 X1)) (k0_pay325 X2) (k0_pay326 X3))
        (k0_pay330 X4)) (k0_pay335 v0) (k0_pay336 X5) X6) (k0_pay342 v0) (k0_pay343 X7)) (ix2 u l)
      = if h : l.val < 8 then (0 : EReal) - pick8 X0 X1 X2 X3 X4 X5 X6 X7 ⟨l.val, h⟩ (ix3 0 (bias3 ⟨l.val, h⟩) u) else 0 := by
  pointwise [k0_pay1, k0_pay341, k0_pay334, k0_pay329, k0_pay324, k0_pay318, k0_pay319, k0_pay320, k0_pay325, k0_pay326, k0_pay330, k0_pay331, k0_pay335, k0_pay336, k0_pay337, k0_pay338, k0_pay342, k0_pay343, k0_pay218]
  rw [hv]
  have w := fun n hn => lane_word n hn l
  rw [w 7 (by decide), w 6 (by decide), w 5 (by decide), w 4 (by decide), w 3 (by decide), w 2 (by decide), w 1 (by decide), w 0 (by decide)]
  obtain ⟨l, hl⟩ := l
  by_cases h : l < 8
  · rw [dif_pos h]
    interval_cases l <;> (simp [pick8]; rfl)
  · rw [dif_neg h]
    dsimp only
    rw [if_neg (by omega), if_neg (by omega), if_neg (by omega), if_neg (by omega), if_neg (by omega), if_neg (by omega), if_neg (by omega), if_neg (by omega)]

end Cert.Attn
-- ==== Proof.Attn.Acc.lean ====
module

public import proofs.«01_k».proof.Proof.Attn.Diag
public import proofs.«01_k».proof.Proof.Attn.Store
public import proofs.«01_k».proof.Proof.Attn.RunA
public import proofs.«01_k».proof.Proof.Attn.RunC
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The gradients of the keys and values of one block -/

/-- The keys' gradient (transposed): the block on the diagonal and the later ones. -/
def dkSum (T : S8x4x128x512.Idx → EReal) (A : S8x2048x128.Idx → EReal) (K : S8x512x128.Idx → EReal) (D : S8x2048x128.Idx → EReal) (W : S8x512x128.Idx → EReal)
    (b : Fin 4) (h : Fin 8) (l : Fin 128) (u : Fin 512) : EReal :=
  ∑ r : Fin 512, T (ix4 h b l r) * slopeM A K D W h b r u + ∑ x : Fin 4, if b.val < x.val then dkPart T A K D W h l u x else 0

/-- The values' gradient (transposed). -/
def dvSum (T : S8x4x128x512.Idx → EReal) (A : S8x2048x128.Idx → EReal) (K : S8x512x128.Idx → EReal)
    (b : Fin 4) (h : Fin 8) (l : Fin 128) (u : Fin 512) : EReal :=
  ∑ r : Fin 512, T (ix4 h b l r) * weightM A K h b r u + ∑ x : Fin 4, if b.val < x.val then dvPart T A K h l u x else 0

theorem trips_all (i : grid0.Coords) (x : Fin 4) (n : ℕ) (hn : n = (k0_t2_loop i).trips) :
    ((i 1).val < x.val ∧ x.val ≤ (i 1).val + n) ↔ (i 1).val < x.val := by
  have := trips_t2 i
  omega

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)

  (𝒱 : Variants) (bd : Option 𝒱.V)
  (arg1 : BitVec 32) (v534 : BitVec 32) (v905 : FVec Ideal S512x512 .bf16) (v912 : FVec Ideal S128x512 .f32) (v927 : BitVec 32)
  (G18 : BufTy.Contents (Elt Ideal) arg18.view.ty) (G21 : BufTy.Contents (Elt Ideal) arg21.view.ty) (G22 : BufTy.Contents (Elt Ideal) arg22.view.ty)

/-- The keys' gradient when the block's point is done. -/
theorem acc21 (b : Fin 4) (hb : b.val = (i 1).val) (h : Fin 8) (l : Fin 128) (u : Fin 512) (n : ℕ) (hn : n = (k0_t2_loop i).trips)
    (L3 : List (View.Piece (Elt Ideal) S8x128x512 (.f32))) (h3 : L3 = []) :
    arg21.view.read (Elt Ideal) (arg21.view.writes (Elt Ideal) arg21.view.junk (L3 ++ ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 f14 f15 f16 f17 (arg19.view.writes (Elt Ideal) arg19.view.junk (runB.sl.H19_8 i arg3 arg7 f3 f7)) (arg20.view.writes (Elt Ideal) arg20.view.junk (runB.sl.H20_8 arg4 f4)) G18 (arg21.view.writes (Elt Ideal) arg21.view.junk (runB.sl.H21_9 i arg3 arg4 arg7 arg14 arg15 arg16 arg19 arg20 arg21 f3 f4 f7 f14 f15 f16)) G22 n).2.1 ++ runB.sl.H21_9 i arg3 arg4 arg7 arg14 arg15 arg16 arg19 arg20 arg21 f3 f4 f7 f14 f15 f16))) (ix3 h l u)
      = dkSum (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h l u := by
  subst h3
  rw [List.nil_append, View.writes_append, loop21 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 f14 f15 f16 f17 (arg19.view.writes (Elt Ideal) arg19.view.junk (runB.sl.H19_8 i arg3 arg7 f3 f7)) (arg20.view.writes (Elt Ideal) arg20.view.junk (runB.sl.H20_8 arg4 f4)) G18 (arg21.view.writes (Elt Ideal) arg21.view.junk (runB.sl.H21_9 i arg3 arg4 arg7 arg14 arg15 arg16 arg19 arg20 arg21 f3 f4 f7 f14 f15 f16)) G22 h l u n hn.le,
    diag21 i arg3 arg4 arg7 arg14 arg15 arg16 arg19 arg20 arg21 f3 f4 f7 f14 f15 f16 b hb h l u]
  exact congrArg _ (Finset.sum_congr rfl fun x _ => if_congr (by rw [trips_all i x n hn, hb]) rfl rfl)

/-- The values' gradient. -/
theorem acc22 (b : Fin 4) (hb : b.val = (i 1).val) (h : Fin 8) (l : Fin 128) (u : Fin 512) (n : ℕ) (hn : n = (k0_t2_loop i).trips)
    (L3 : List (View.Piece (Elt Ideal) S8x128x512 (.f32))) (h3 : L3 = []) :
    arg22.view.read (Elt Ideal) (arg22.view.writes (Elt Ideal) arg22.view.junk (L3 ++ ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 f14 f15 f16 f17 (arg19.view.writes (Elt Ideal) arg19.view.junk (runB.sl.H19_8 i arg3 arg7 f3 f7)) (arg20.view.writes (Elt Ideal) arg20.view.junk (runB.sl.H20_8 arg4 f4)) G18 G21 (arg22.view.writes (Elt Ideal) arg22.view.junk (runB.sl.H22_9 i arg3 arg7 arg14 arg17 arg19 arg22 f3 f7 f14 f17)) n).2.2 ++ runB.sl.H22_9 i arg3 arg7 arg14 arg17 arg19 arg22 f3 f7 f14 f17))) (ix3 h l u)
      = dvSum (arg17.view.read (Elt Ideal) f17) (arg14.view.read (Elt Ideal) f14) (arg19.view.read (Elt Ideal) (arg19.view.writes (Elt Ideal) arg19.view.junk (runB.sl.H19_8 i arg3 arg7 f3 f7))) b h l u := by
  subst h3
  rw [List.nil_append, View.writes_append, loop22 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 f14 f15 f16 f17 (arg19.view.writes (Elt Ideal) arg19.view.junk (runB.sl.H19_8 i arg3 arg7 f3 f7)) (arg20.view.writes (Elt Ideal) arg20.view.junk (runB.sl.H20_8 arg4 f4)) G18 G21 (arg22.view.writes (Elt Ideal) arg22.view.junk (runB.sl.H22_9 i arg3 arg7 arg14 arg17 arg19 arg22 f3 f7 f14 f17)) h l u n hn.le,
    diag22 i arg3 arg7 arg14 arg17 arg19 arg22 f3 f7 f14 f17 b hb h l u]
  exact congrArg _ (Finset.sum_congr rfl fun x _ => if_congr (by rw [trips_all i x n hn, hb]) rfl rfl)

end Cert.Attn
-- ==== Proof.Attn.Place.lean ====
module

public import proofs.«01_k».proof.Proof.Attn.Store
public import proofs.«01_k».proof.Proof.Attn.RunA
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The added columns -/

theorem lt_word (n b : ℕ) (hn : n < 2048) (hb : b < 2048) (p q : EReal) :
    Scalar.select (IntOp.cmpi CmpIPredicate.slt (BitVec.ofNat 32 n) (BitVec.ofNat 32 b)) p q = if n < b then p else q := by
  have e : IntOp.cmpi CmpIPredicate.slt (BitVec.ofNat 32 n) (BitVec.ofNat 32 b) = 1#1 ↔ n < b := by
    rw [WordCmp.cmpi_slt_ofNat (by norm_num; omega) (by norm_num; omega)]
    by_cases h : n < b <;> simp [h]
  unfold Scalar.select
  by_cases h : n < b
  · rw [if_pos h]; exact if_pos (e.mpr h)
  · rw [if_neg h]; exact if_neg (fun q => h (e.mp q))

theorem range_word (n a b : ℕ) (hn : n < 2048) (ha : a < 2048) (hb : b < 2048) (p q : EReal) :
    Scalar.select (IntOp.andi (IntOp.cmpi CmpIPredicate.sge (BitVec.ofNat 32 n) (BitVec.ofNat 32 a))
        (IntOp.cmpi CmpIPredicate.slt (BitVec.ofNat 32 n) (BitVec.ofNat 32 b))) p q = if a ≤ n ∧ n < b then p else q := by
  have e1 : IntOp.cmpi CmpIPredicate.slt (BitVec.ofNat 32 n) (BitVec.ofNat 32 b) = BitVec.ofBool (decide (n < b)) :=
    WordCmp.cmpi_slt_ofNat (by norm_num; omega) (by norm_num; omega)
  have e2 : IntOp.cmpi CmpIPredicate.sge (BitVec.ofNat 32 n) (BitVec.ofNat 32 a) = BitVec.ofBool (decide (a ≤ n)) :=
    WordCmp.cmpi_sle_ofNat (by norm_num; omega) (by norm_num; omega)
  rw [e1, e2]
  unfold Scalar.select
  by_cases h1 : a ≤ n <;> by_cases h2 : n < b <;> simp [h1, h2, IntOp.andi]

/-- A rounding's parts side by side: the value, what its rounding dropped, and what that one's dropped. -/
def lanes (v : Fin 128 → EReal) (x : Fin 128) : EReal :=
  if x.val < 24 then
    (if x.val < 8 then v x
    else if x.val < 16 then v ⟨(x.val + 128 - 8) % 128, by omega⟩ - v ⟨(x.val + 128 - 8) % 128, by omega⟩
    else (v ⟨(x.val + 128 - 16) % 128, by omega⟩ - v ⟨(x.val + 128 - 16) % 128, by omega⟩)
      - (v ⟨(x.val + 128 - 16) % 128, by omega⟩ - v ⟨(x.val + 128 - 16) % 128, by omega⟩))
  else 0

/-- The first lane of head `c / 128`'s added columns in slot `s`. -/
abbrev first (s : ℕ) (c : Fin 1024) : ℕ := (if c.val / 128 % 2 = 0 then 64 else 0) + 3 * s

def inWord (s : ℕ) (c : Fin 1024) : BitVec 1 := if first s c ≤ c.val % 128 ∧ c.val % 128 < first s c + 3 then 1#1 else 0#1

def rowWord (s : ℕ) (c : Fin 1024) : BitVec 32 := BitVec.ofInt 32 (8 * ((c.val % 128 : ℕ) - (first s c : ℤ)) + (c.val / 128 : ℕ))

/-- The matrix that places the parts: lane `8 n + h` goes to column `n` of head `h`. -/
def place (s : ℕ) (x : Fin 128) (c : Fin 1024) : EReal :=
  if (first s c ≤ c.val % 128 ∧ c.val % 128 < first s c + 3) ∧ x.val = 8 * (c.val % 128 - first s c) + c.val / 128 then 1 else 0

theorem place_of (s : ℕ) (x : Fin 128) (c : Fin 1024) (A : BitVec 1) (B : BitVec 32) (hA : A = inWord s c) (hB : B = rowWord s c) :
    (FloatOps.sitofp .f32 (BitVec.setWidth 32 (IntOp.andi A (IntOp.cmpi CmpIPredicate.eq (BitVec.ofNat 32 x.val) B))) : Ideal .f32) = place s x c := by
  subst hA hB
  unfold inWord place
  have z : (FloatOps.sitofp FTy.f32 (BitVec.setWidth 32 (0#1)) : Ideal .f32) = (0 : EReal) := by
    show (((BitVec.setWidth 32 (0#1)).toInt : ℝ) : EReal) = 0; simp
  have o : (FloatOps.sitofp FTy.f32 (BitVec.setWidth 32 (1#1)) : Ideal .f32) = (1 : EReal) := by
    show (((BitVec.setWidth 32 (1#1)).toInt : ℝ) : EReal) = 1; simp
  by_cases h : first s c ≤ c.val % 128 ∧ c.val % 128 < first s c + 3
  · have hr : rowWord s c = BitVec.ofNat 32 (8 * (c.val % 128 - first s c) + c.val / 128) := by
      unfold rowWord
      rw [← BitVec.ofInt_natCast]
      congr 1
      push_cast [Nat.cast_sub h.1]
      ring
    have e := WordCmp.cmpi_eq_ofNat_eq_one_iff (w := 32) (a := x.val) (b := 8 * (c.val % 128 - first s c) + c.val / 128) (by norm_num; omega) (by norm_num; omega)
    have e0 := WordCmp.cmpi_eq_ofNat_eq_zero_iff (w := 32) (a := x.val) (b := 8 * (c.val % 128 - first s c) + c.val / 128) (by norm_num; omega) (by norm_num; omega)
    rw [if_pos h, hr]
    by_cases q : x.val = 8 * (c.val % 128 - first s c) + c.val / 128
    · rw [e.mpr q, if_pos ⟨h, q⟩]; exact o
    · rw [e0.mpr q, if_neg (fun w => q w.2)]; exact z
  · rw [if_neg h, if_neg (fun w => h w.1)]
    have : IntOp.andi 0#1 (IntOp.cmpi CmpIPredicate.eq (BitVec.ofNat 32 x.val) (rowWord s c)) = 0#1 := by
      unfold IntOp.andi; simp
    rw [this]; exact z

/-- The added columns of head `h` for a table of one value per head. -/
def spread (v : Fin 128 → EReal) (s : ℕ) (h : Fin 8) (l : Fin 128) : EReal :=
  ∑ x : Fin 128, lanes v x * place s x ⟨128 * h.val + l.val, by omega⟩

theorem q_table (Y Z : Vec Ideal S512x128 .f32) (r : Fin 512) (c : Fin 1024) :
    k0_pay23 (k0_pay89 runA.sl.v1118 k0_pay85 (128#32) k0_pay86 k0_pay87 k0_pay88) (k0_pay18 Y Z) (k0_pay20 Y Z) (k0_pay21 Y Z) trip_k0_t1.sl.v1432 k0_pay22 16#32 (ix2 r c)
      = ∑ x : Fin 128, lanes (fun x => Y (ix2 r x) - Z (ix2 r x)) x * place 0 x c := by
  pointwise [k0_pay17, k0_pay18, k0_pay19, k0_pay20, k0_pay21, k0_pay22, k0_pay23, k0_pay24, k0_pay25, k0_pay85, k0_pay86, k0_pay87, k0_pay88, k0_pay89, runA.sl.v1118, trip_k0_t1.sl.v1432]
  refine Finset.sum_congr rfl fun x hx => ?_
  clear hx
  rw [lt_word _ 24 (by omega) (by decide)]
  unfold lanes
  by_cases q : x.val < 24
  · rw [if_pos q, if_pos q]
    refine congrArg₂ (α := EReal) (β := EReal) (γ := EReal) (· * ·) ?_ (place_of 0 x c _ _ ?_ ?_)
    · rw [lt_word _ 8 (by omega) (by decide), lt_word _ 16 (by omega) (by decide)]
    · clear q x
      revert c; decide +kernel
    · clear q x
      revert c; decide +kernel
  · rw [if_neg q, if_neg q, zero_mul]

theorem do_table (R : FVec Ideal S512x128 .f32) (r : Fin 512) (c : Fin 1024) :
    k0_pay25 (k0_pay89 runA.sl.v1118 k0_pay85 (128#32) k0_pay86 k0_pay87 k0_pay88) (k0_pay24 R) (ix2 r c)
      = ∑ x : Fin 128, lanes (fun x => 0 - R (ix2 r x)) x * place 0 x c := by
  pointwise [k0_pay17, k0_pay18, k0_pay19, k0_pay20, k0_pay21, k0_pay22, k0_pay23, k0_pay24, k0_pay25, k0_pay85, k0_pay86, k0_pay87, k0_pay88, k0_pay89, runA.sl.v1118, trip_k0_t1.sl.v1432]
  refine Finset.sum_congr rfl fun x hx => ?_
  clear hx
  rw [lt_word _ 24 (by omega) (by decide)]
  unfold lanes
  by_cases q : x.val < 24
  · rw [if_pos q, if_pos q]
    refine congrArg₂ (α := EReal) (β := EReal) (γ := EReal) (· * ·) ?_ (place_of 0 x c _ _ ?_ ?_)
    · rw [lt_word _ 8 (by omega) (by decide), lt_word _ 16 (by omega) (by decide)]
    · clear q x
      revert c; decide +kernel
    · clear q x
      revert c; decide +kernel
  · rw [if_neg q, if_neg q, zero_mul]

end Cert.Attn
-- ==== Proof.Attn.Prep.lean ====
module

public import proofs.«01_k».proof.Proof.Attn.Place
public import proofs.«01_k».proof.Proof.Attn.RunA
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The prepared rows of a sequence -/

section
variable {Val : EltTy → Type} {sig : RefSig} {κ : Kind} {sp : Space} {e : EltTy}

/-- A load of some rows and columns of a matrix, read at an index. -/
theorem ld2 {A B a b o0 o1 : ℕ} (v : View sig κ sp (⟨2, ![A, B]⟩ : Shape) e) (f : v.ty.Contents Val) (o : Fin 2 → ℕ)
    (inb : ∀ x, o x + (![a, b] : Fin 2 → ℕ) x ≤ (⟨2, ![A, B]⟩ : Shape).size x) (ho : o = ![o0, o1]) (y : Fin a) (z : Fin b) :
    v.readAt Val (Rect.unit (s := ⟨2, ![A, B]⟩) o ![a, b] inb).toLoadRect f (ix2 y z)
      = v.read Val f (ix2 ⟨o0 + y.val, by subst ho; exact Nat.lt_of_lt_of_le (Nat.add_lt_add_left y.isLt _) (inb 0)⟩
          ⟨o1 + z.val, by subst ho; exact Nat.lt_of_lt_of_le (Nat.add_lt_add_left z.isLt _) (inb 1)⟩) := by
  subst ho
  rw [View.readAt_apply]
  congr 1
  funext q
  apply Fin.ext
  match q with
  | 0 => show o0 + 1 * y.val = o0 + y.val; omega
  | 1 => show o1 + 1 * z.val = o1 + z.val; omega

/-- Eight pieces, one of each head at the same block, read at an index. -/
theorem read8b {K C D k0 : ℕ} (v : View sig κ sp (⟨4, ![8, K, C, D]⟩ : Shape) e) (f : v.ty.Contents Val) (o0 o1 o2 o3 o4 o5 o6 o7 : Fin 4 → ℕ)
    (i0 : ∀ x, o0 x + (![1, 1, C, D] : Fin 4 → ℕ) x ≤ (⟨4, ![8, K, C, D]⟩ : Shape).size x)
    (i1 : ∀ x, o1 x + (![1, 1, C, D] : Fin 4 → ℕ) x ≤ (⟨4, ![8, K, C, D]⟩ : Shape).size x)
    (i2 : ∀ x, o2 x + (![1, 1, C, D] : Fin 4 → ℕ) x ≤ (⟨4, ![8, K, C, D]⟩ : Shape).size x)
    (i3 : ∀ x, o3 x + (![1, 1, C, D] : Fin 4 → ℕ) x ≤ (⟨4, ![8, K, C, D]⟩ : Shape).size x)
    (i4 : ∀ x, o4 x + (![1, 1, C, D] : Fin 4 → ℕ) x ≤ (⟨4, ![8, K, C, D]⟩ : Shape).size x)
    (i5 : ∀ x, o5 x + (![1, 1, C, D] : Fin 4 → ℕ) x ≤ (⟨4, ![8, K, C, D]⟩ : Shape).size x)
    (i6 : ∀ x, o6 x + (![1, 1, C, D] : Fin 4 → ℕ) x ≤ (⟨4, ![8, K, C, D]⟩ : Shape).size x)
    (i7 : ∀ x, o7 x + (![1, 1, C, D] : Fin 4 → ℕ) x ≤ (⟨4, ![8, K, C, D]⟩ : Shape).size x)
    (w0 w1 w2 w3 w4 w5 w6 w7 : (⟨4, ![1, 1, C, D]⟩ : Shape).Idx → Val e) (L : List (View.Piece Val (⟨4, ![8, K, C, D]⟩ : Shape) e))
    (e0 : o0 = ![0, k0, 0, 0]) (e1 : o1 = ![1, k0, 0, 0]) (e2 : o2 = ![2, k0, 0, 0]) (e3 : o3 = ![3, k0, 0, 0])
    (e4 : o4 = ![4, k0, 0, 0]) (e5 : o5 = ![5, k0, 0, 0]) (e6 : o6 = ![6, k0, 0, 0]) (e7 : o7 = ![7, k0, 0, 0])
    (h : Fin 8) (t : Fin K) (l : Fin C) (r : Fin D) :
    v.read Val (v.writes Val f (
        (⟨Rect.unit (s := ⟨4, ![8, K, C, D]⟩) o7 ![1, 1, C, D] i7, w7⟩ : View.Piece Val _ e)
        :: (⟨Rect.unit (s := ⟨4, ![8, K, C, D]⟩) o6 ![1, 1, C, D] i6, w6⟩ : View.Piece Val _ e)
        :: (⟨Rect.unit (s := ⟨4, ![8, K, C, D]⟩) o5 ![1, 1, C, D] i5, w5⟩ : View.Piece Val _ e)
        :: (⟨Rect.unit (s := ⟨4, ![8, K, C, D]⟩) o4 ![1, 1, C, D] i4, w4⟩ : View.Piece Val _ e)
        :: (⟨Rect.unit (s := ⟨4, ![8, K, C, D]⟩) o3 ![1, 1, C, D] i3, w3⟩ : View.Piece Val _ e)
        :: (⟨Rect.unit (s := ⟨4, ![8, K, C, D]⟩) o2 ![1, 1, C, D] i2, w2⟩ : View.Piece Val _ e)
        :: (⟨Rect.unit (s := ⟨4, ![8, K, C, D]⟩) o1 ![1, 1, C, D] i1, w1⟩ : View.Piece Val _ e)
        :: (⟨Rect.unit (s := ⟨4, ![8, K, C, D]⟩) o0 ![1, 1, C, D] i0, w0⟩ : View.Piece Val _ e) :: L)) (ix4 h t l r)
      = if t.val = k0 then pick8 w0 w1 w2 w3 w4 w5 w6 w7 h (ix4 0 0 l r) else v.read Val (v.writes Val f L) (ix4 h t l r) := by
  have skip : ∀ (k' : ℕ) (o : Fin 4 → ℕ) (inb : ∀ x, o x + (![1, 1, C, D] : Fin 4 → ℕ) x ≤ (⟨4, ![8, K, C, D]⟩ : Shape).size x)
      (w : (⟨4, ![1, 1, C, D]⟩ : Shape).Idx → Val e) (ho : o = ![k', k0, 0, 0]) (L : List (View.Piece Val (⟨4, ![8, K, C, D]⟩ : Shape) e)),
      (h.val ≠ k' ∨ t.val ≠ k0) →
      v.read Val (v.writes Val f ((⟨Rect.unit (s := ⟨4, ![8, K, C, D]⟩) o ![1, 1, C, D] inb, w⟩ : View.Piece Val _ e) :: L)) (ix4 h t l r)
        = v.read Val (v.writes Val f L) (ix4 h t l r) := by
    intro k' o inb w ho L q
    rcases q with q | q
    · refine View.read_writes_cons_unit_of_not_mem v f inb w L _ ho 0 ?_
      show h.val < k' ∨ k' + 1 ≤ h.val
      omega
    · refine View.read_writes_cons_unit_of_not_mem v f inb w L _ ho 1 ?_
      show t.val < k0 ∨ k0 + 1 ≤ t.val
      omega
  by_cases q : t.val = k0
  · rw [if_pos q]
    have hit : ∀ (k' : ℕ) (o : Fin 4 → ℕ) (inb : ∀ x, o x + (![1, 1, C, D] : Fin 4 → ℕ) x ≤ (⟨4, ![8, K, C, D]⟩ : Shape).size x)
        (w : (⟨4, ![1, 1, C, D]⟩ : Shape).Idx → Val e) (ho : o = ![k', k0, 0, 0]) (L : List (View.Piece Val (⟨4, ![8, K, C, D]⟩ : Shape) e)),
        h.val = k' →
        v.read Val (v.writes Val f ((⟨Rect.unit (s := ⟨4, ![8, K, C, D]⟩) o ![1, 1, C, D] inb, w⟩ : View.Piece Val _ e) :: L)) (ix4 h t l r)
          = w (ix4 0 0 l r) := by
      intro k' o inb w ho L hk
      refine View.read_writes_cons_unit_of_mem v f inb w L _ (ix4 0 0 l r) ho fun z => ?_
      match z with
      | 0 => show h.val = k' + 0; omega
      | 1 => show t.val = k0 + 0; omega
      | 2 => show l.val = 0 + l.val; omega
      | 3 => show r.val = 0 + r.val; omega
    obtain ⟨k, hk⟩ := h
    interval_cases k
    · rw [skip 7 _ _ _ e7 _ (Or.inl (Nat.ne_of_beq_eq_false rfl)), skip 6 _ _ _ e6 _ (Or.inl (Nat.ne_of_beq_eq_false rfl)), skip 5 _ _ _ e5 _ (Or.inl (Nat.ne_of_beq_eq_false rfl)), skip 4 _ _ _ e4 _ (Or.inl (Nat.ne_of_beq_eq_false rfl)), skip 3 _ _ _ e3 _ (Or.inl (Nat.ne_of_beq_eq_false rfl)), skip 2 _ _ _ e2 _ (Or.inl (Nat.ne_of_beq_eq_false rfl)), skip 1 _ _ _ e1 _ (Or.inl (Nat.ne_of_beq_eq_false rfl)), hit 0 _ _ _ e0 _ rfl]; rfl
    · rw [skip 7 _ _ _ e7 _ (Or.inl (Nat.ne_of_beq_eq_false rfl)), skip 6 _ _ _ e6 _ (Or.inl (Nat.ne_of_beq_eq_false rfl)), skip 5 _ _ _ e5 _ (Or.inl (Nat.ne_of_beq_eq_false rfl)), skip 4 _ _ _ e4 _ (Or.inl (Nat.ne_of_beq_eq_false rfl)), skip 3 _ _ _ e3 _ (Or.inl (Nat.ne_of_beq_eq_false rfl)), skip 2 _ _ _ e2 _ (Or.inl (Nat.ne_of_beq_eq_false rfl)), hit 1 _ _ _ e1 _ rfl]; rfl
    · rw [skip 7 _ _ _ e7 _ (Or.inl (Nat.ne_of_beq_eq_false rfl)), skip 6 _ _ _ e6 _ (Or.inl (Nat.ne_of_beq_eq_false rfl)), skip 5 _ _ _ e5 _ (Or.inl (Nat.ne_of_beq_eq_false rfl)), skip 4 _ _ _ e4 _ (Or.inl (Nat.ne_of_beq_eq_false rfl)), skip 3 _ _ _ e3 _ (Or.inl (Nat.ne_of_beq_eq_false rfl)), hit 2 _ _ _ e2 _ rfl]; rfl
    · rw [skip 7 _ _ _ e7 _ (Or.inl (Nat.ne_of_beq_eq_false rfl)), skip 6 _ _ _ e6 _ (Or.inl (Nat.ne_of_beq_eq_false rfl)), skip 5 _ _ _ e5 _ (Or.inl (Nat.ne_of_beq_eq_false rfl)), skip 4 _ _ _ e4 _ (Or.inl (Nat.ne_of_beq_eq_false rfl)), hit 3 _ _ _ e3 _ rfl]; rfl
    · rw [skip 7 _ _ _ e7 _ (Or.inl (Nat.ne_of_beq_eq_false rfl)), skip 6 _ _ _ e6 _ (Or.inl (Nat.ne_of_beq_eq_false rfl)), skip 5 _ _ _ e5 _ (Or.inl (Nat.ne_of_beq_eq_false rfl)), hit 4 _ _ _ e4 _ rfl]; rfl
    · rw [skip 7 _ _ _ e7 _ (Or.inl (Nat.ne_of_beq_eq_false rfl)), skip 6 _ _ _ e6 _ (Or.inl (Nat.ne_of_beq_eq_false rfl)), hit 5 _ _ _ e5 _ rfl]; rfl
    · rw [skip 7 _ _ _ e7 _ (Or.inl (Nat.ne_of_beq_eq_false rfl)), hit 6 _ _ _ e6 _ rfl]; rfl
    · rw [hit 7 _ _ _ e7 _ rfl]; rfl
  · rw [if_neg q, skip 7 _ _ _ e7 _ (Or.inr q), skip 6 _ _ _ e6 _ (Or.inr q), skip 5 _ _ _ e5 _ (Or.inr q), skip 4 _ _ _ e4 _ (Or.inr q), skip 3 _ _ _ e3 _ (Or.inr q), skip 2 _ _ _ e2 _ (Or.inr q), skip 1 _ _ _ e1 _ (Or.inr q), skip 0 _ _ _ e0 _ (Or.inr q)]

end

/-- The lanes a head's own columns have in its pair of heads. -/
abbrev Own (h : ℕ) (l : Fin 128) : Prop := 64 * (h % 2) ≤ l.val ∧ l.val < 64 * (h % 2) + 64

/-- A row of queries as the kernel widens it: the head's columns, beside them the row's logarithms and ones. -/
def qa (Q : S2048x512.Idx → EReal) (C S : S2048x128.Idx → EReal) (h : Fin 8) (t : Fin 2048) (l : Fin 128) : EReal :=
  if 64 * (1 - h.val % 2) + 3 ≤ l.val ∧ l.val < 64 * (1 - h.val % 2) + 6 then 1
  else if Own h.val l then Q (ix2 t ⟨128 * (h.val / 2) + l.val, by omega⟩)
  else spread (fun x => C (ix2 t x) - S (ix2 t x)) 0 h l

/-- The row sums of the cotangent times the output, one per head. -/
def delta (D O : S2048x512.Idx → EReal) (t : Fin 2048) (x : Fin 128) : EReal :=
  if h : x.val < 8 then
    ∑ l : Fin 128, if Own x.val l then D (ix2 t ⟨128 * (x.val / 2) + l.val, by omega⟩) * O (ix2 t ⟨128 * (x.val / 2) + l.val, by omega⟩) else 0
  else 0

/-- A row of cotangents as the kernel widens it. -/
def doa (D O : S2048x512.Idx → EReal) (h : Fin 8) (t : Fin 2048) (l : Fin 128) : EReal :=
  if Own h.val l then D (ix2 t ⟨128 * (h.val / 2) + l.val, by omega⟩) else spread (fun x => 0 - delta D O t x) 0 h l

/-- The places a trip loads from. -/
theorem load_offsets (k : Fin k0_t1_loop.trips) :
    k0_off1 k = ![512 * k.val, 0] ∧ k0_off2 k = ![512 * k.val, 128] ∧ k0_off3 k = ![512 * k.val, 256] ∧ k0_off4 k = ![512 * k.val, 384] ∧ k0_off5 k = ![512 * k.val, 0] :=
  ⟨k0_off1_eq k, k0_off2_eq k, k0_off3_eq k, k0_off4_eq k, k0_off5_eq k⟩

variable (𝒱 : Variants) (c : Dev nD) (bd : Option 𝒱.V) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (k0_h1 : k0_cond1 i = 1#1)
  (X_arg2 : BufTy.Contents (Elt Ideal) arg2.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (G_arg14 : BufTy.Contents (Elt Ideal) arg14.view.ty)
  (G_arg15 : BufTy.Contents (Elt Ideal) arg15.view.ty)
  (G_arg16 : BufTy.Contents (Elt Ideal) arg16.view.ty)
  (G_arg17 : BufTy.Contents (Elt Ideal) arg17.view.ty)

theorem delta_row (k : Fin k0_t1_loop.trips) (r : Fin 512) (y : Fin 128) :
    trip_k0_t1.sl.r_8 i arg5 arg6 runA.sl.v0 k0_h1 X_arg5 X_arg6 k (ix2 r y) = delta (arg5.view.read (Elt Ideal) X_arg5) (arg6.view.read (Elt Ideal) X_arg6) ⟨512 * k.val + r.val, by have := k.isLt; have := k0_t1_abs.2.1; omega⟩ y := by
  obtain ⟨o1, o2, o3, o4, o5⟩ := load_offsets k
  unfold delta
  pointwise [k0_pay9, k0_pay10, k0_pay11, k0_pay12, k0_pay13, k0_pay14, k0_pay15, k0_pay16, k0_pay17, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay1, k0_pay2, k0_pay3, k0_pay4, k0_pay5, k0_pay6, k0_pay7, k0_pay8, trip_k0_t1.sl.arg23, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.v1198, trip_k0_t1.sl.v1432]
  have hv : ∀ l : Fin 128, (runA.sl.v0 (ix2 0 l) : BitVec 32) = BitVec.ofNat 32 l.val := fun l => by pointwise [runA.sl.v0]
  simp only [hv]
  have w := fun n hn => lane_word n hn y
  rw [w 7 (by decide), w 6 (by decide), w 5 (by decide), w 4 (by decide), w 3 (by decide), w 2 (by decide), w 1 (by decide), w 0 (by decide)]
  obtain ⟨y, hy⟩ := y
  dsimp only
  by_cases h : y < 8
  · rw [dif_pos h]
    interval_cases y <;> simp only [Nat.reduceEqDiff, if_true, if_false, OfNat.zero_ne_ofNat, zero_ne_one, one_ne_zero, OfNat.one_ne_ofNat]
    all_goals
      refine Finset.sum_congr rfl fun x _ => (range_word x.val _ _ (by omega) (by decide) (by decide) _ _).trans (if_congr Iff.rfl ?_ rfl)
      simp only [ld2 _ _ _ _ o1, ld2 _ _ _ _ o2, ld2 _ _ _ _ o3, ld2 _ _ _ _ o4, ld2 _ _ _ _ o5, Nat.reduceDiv, Nat.reduceMul, Nat.zero_add]
  · rw [dif_neg h]
    rw [if_neg (by omega), if_neg (by omega), if_neg (by omega), if_neg (by omega), if_neg (by omega), if_neg (by omega), if_neg (by omega), if_neg (by omega)]

theorem rows14 (k : Fin k0_t1_loop.trips) (h : Fin 8) (t : Fin 2048) (l : Fin 128) :
    arg14.view.read (Elt Ideal) (arg14.view.writes (Elt Ideal) G_arg14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 k).1) (ix3 h t l)
      = if t.val / 512 = k.val then qa (arg2.view.read (Elt Ideal) X_arg2) (arg7.view.read (Elt Ideal) X_arg7) (arg8.view.read (Elt Ideal) X_arg8) h t l else arg14.view.read (Elt Ideal) G_arg14 (ix3 h t l) := by
  obtain ⟨o1, o2, o3, o4, o5⟩ := load_offsets k
  unfold tripL_k0_t1 trip_k0_t1
  dsimp only
  refine (read8 (r0 := 512 * k.val) _ _ _ _ _ _ _ _ _ _ _ _ _ _ _ _ _ _ _ _ _ _ _ _ _ _ _ (k0_off6_eq k) (k0_off8_eq k) (k0_off10_eq k) (k0_off12_eq k) (k0_off14_eq k) (k0_off16_eq k) (k0_off18_eq k) (k0_off20_eq k) h t l).trans ?_
  by_cases q : t.val / 512 = k.val
  · rw [if_pos q, dif_pos (by omega)]
    have ht : (⟨512 * k.val + (t.val - 512 * k.val), by omega⟩ : Fin 2048) = t := Fin.ext (by show 512 * k.val + (t.val - 512 * k.val) = t.val; omega)
    unfold qa
    fin_cases h <;> simp only [pick8, Fin.zero_eta, Fin.mk_one, Fin.reduceFinMk, Matrix.cons_val]
    all_goals (pointwise [k0_pay9, k0_pay10, k0_pay11, k0_pay12, k0_pay13, k0_pay14, k0_pay15, k0_pay16, k0_pay17, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, trip_k0_t1.sl.arg23, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.v1198, trip_k0_t1.sl.v1432])
    all_goals rw [range_word l.val _ _ (by omega) (by decide) (by decide), range_word l.val _ _ (by omega) (by decide) (by decide)]
    all_goals refine if_congr Iff.rfl rfl (if_congr Iff.rfl ?_ ?_)
    all_goals first
      | (simp only [ld2 _ _ _ _ o1, ld2 _ _ _ _ o2, ld2 _ _ _ _ o3, ld2 _ _ _ _ o4, ld2 _ _ _ _ o5, ht, Nat.zero_add]; done)
      | exact (q_table _ _ _ _).trans (Finset.sum_congr rfl fun x _ => congrArg₂ (α := EReal) (β := EReal) (γ := EReal) (· * ·)
          (congrArg (fun v => lanes v x) (funext fun y => by simp only [ld2 _ _ _ _ o1, ld2 _ _ _ _ o2, ld2 _ _ _ _ o3, ld2 _ _ _ _ o4, ld2 _ _ _ _ o5, ht, Nat.zero_add]))
          (congrArg (place 0 x) (Fin.ext (by first | rfl | exact (Nat.zero_add _).symm))))
  · rw [if_neg q, dif_neg (by omega)]
    rfl

theorem rows16 (k : Fin k0_t1_loop.trips) (h : Fin 8) (j : Fin 4) (l : Fin 128) (r : Fin 512) :
    arg16.view.read (Elt Ideal) (arg16.view.writes (Elt Ideal) G_arg16 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 k).2.2.1) (ix4 h j l r)
      = if j.val = k.val then qa (arg2.view.read (Elt Ideal) X_arg2) (arg7.view.read (Elt Ideal) X_arg7) (arg8.view.read (Elt Ideal) X_arg8) h ⟨512 * j.val + r.val, by omega⟩ l else arg16.view.read (Elt Ideal) G_arg16 (ix4 h j l r) := by
  obtain ⟨o1, o2, o3, o4, o5⟩ := load_offsets k
  unfold tripL_k0_t1 trip_k0_t1
  dsimp only
  refine (read8b (k0 := k.val) _ _ _ _ _ _ _ _ _ _ _ _ _ _ _ _ _ _ _ _ _ _ _ _ _ _ _ (k0_off7_eq k) (k0_off9_eq k) (k0_off11_eq k) (k0_off13_eq k) (k0_off15_eq k) (k0_off17_eq k) (k0_off19_eq k) (k0_off21_eq k) h j l r).trans ?_
  by_cases q : j.val = k.val
  · rw [if_pos q, if_pos q]
    have ht : (⟨512 * k.val + r.val, by omega⟩ : Fin 2048) = ⟨512 * j.val + r.val, by omega⟩ := Fin.ext (by show 512 * k.val + r.val = 512 * j.val + r.val; omega)
    unfold qa
    fin_cases h <;> simp only [pick8, Fin.zero_eta, Fin.mk_one, Fin.reduceFinMk, Matrix.cons_val]
    all_goals (pointwise [k0_pay9, k0_pay10, k0_pay11, k0_pay12, k0_pay13, k0_pay14, k0_pay15, k0_pay16, k0_pay17, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, trip_k0_t1.sl.arg23, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.v1198, trip_k0_t1.sl.v1432])
    all_goals rw [range_word l.val _ _ (by omega) (by decide) (by decide), range_word l.val _ _ (by omega) (by decide) (by decide)]
    all_goals refine if_congr Iff.rfl rfl (if_congr Iff.rfl ?_ ?_)
    all_goals first
      | (simp only [ld2 _ _ _ _ o1, ld2 _ _ _ _ o2, ld2 _ _ _ _ o3, ld2 _ _ _ _ o4, ld2 _ _ _ _ o5, ht, Nat.zero_add]; done)
      | exact (q_table _ _ _ _).trans (Finset.sum_congr rfl fun x _ => congrArg₂ (α := EReal) (β := EReal) (γ := EReal) (· * ·)
          (congrArg (fun v => lanes v x) (funext fun y => by simp only [ld2 _ _ _ _ o1, ld2 _ _ _ _ o2, ld2 _ _ _ _ o3, ld2 _ _ _ _ o4, ld2 _ _ _ _ o5, ht, Nat.zero_add]))
          (congrArg (place 0 x) (Fin.ext (by first | rfl | exact (Nat.zero_add _).symm))))
  · rw [if_neg q, if_neg q]
    rfl

theorem rows15 (k : Fin k0_t1_loop.trips) (h : Fin 8) (t : Fin 2048) (l : Fin 128) :
    arg15.view.read (Elt Ideal) (arg15.view.writes (Elt Ideal) G_arg15 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 k).2.1) (ix3 h t l)
      = if t.val / 512 = k.val then doa (arg5.view.read (Elt Ideal) X_arg5) (arg6.view.read (Elt Ideal) X_arg6) h t l else arg15.view.read (Elt Ideal) G_arg15 (ix3 h t l) := by
  obtain ⟨o1, o2, o3, o4, o5⟩ := load_offsets k
  unfold tripL_k0_t1 trip_k0_t1
  dsimp only
  refine (read8 (r0 := 512 * k.val) _ _ _ _ _ _ _ _ _ _ _ _ _ _ _ _ _ _ _ _ _ _ _ _ _ _ _ (k0_off6_eq k) (k0_off8_eq k) (k0_off10_eq k) (k0_off12_eq k) (k0_off14_eq k) (k0_off16_eq k) (k0_off18_eq k) (k0_off20_eq k) h t l).trans ?_
  by_cases q : t.val / 512 = k.val
  · rw [if_pos q, dif_pos (by omega)]
    have ht : (⟨512 * k.val + (t.val - 512 * k.val), by omega⟩ : Fin 2048) = t := Fin.ext (by show 512 * k.val + (t.val - 512 * k.val) = t.val; omega)
    unfold doa
    fin_cases h <;> simp only [pick8, Fin.zero_eta, Fin.mk_one, Fin.reduceFinMk, Matrix.cons_val]
    all_goals (pointwise [k0_pay9, k0_pay10, k0_pay11, k0_pay12, k0_pay13, k0_pay14, k0_pay15, k0_pay16, k0_pay17, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, trip_k0_t1.sl.arg23, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.v1198, trip_k0_t1.sl.v1432])
    all_goals rw [range_word l.val _ _ (by omega) (by decide) (by decide)]
    all_goals refine if_congr Iff.rfl ?_ ?_
    all_goals first
      | (simp only [ld2 _ _ _ _ o1, ld2 _ _ _ _ o2, ld2 _ _ _ _ o3, ld2 _ _ _ _ o4, ld2 _ _ _ _ o5, ht, Nat.zero_add]; done)
      | refine (do_table _ _ _).trans (Finset.sum_congr rfl fun x _ => congrArg₂ (α := EReal) (β := EReal) (γ := EReal) (· * ·)
          (congrArg (fun v => lanes v x) (funext fun y => congrArg (fun z => 0 - z) ?_))
          (congrArg (place 0 x) (Fin.ext (by first | rfl | exact (Nat.zero_add _).symm))))
    all_goals exact (delta_row i arg5 arg6 k0_h1 X_arg5 X_arg6 k _ _).trans (by simp only [ht])
  · rw [if_neg q, dif_neg (by omega)]
    rfl

theorem rows17 (k : Fin k0_t1_loop.trips) (h : Fin 8) (j : Fin 4) (l : Fin 128) (r : Fin 512) :
    arg17.view.read (Elt Ideal) (arg17.view.writes (Elt Ideal) G_arg17 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 k).2.2.2) (ix4 h j l r)
      = if j.val = k.val then doa (arg5.view.read (Elt Ideal) X_arg5) (arg6.view.read (Elt Ideal) X_arg6) h ⟨512 * j.val + r.val, by omega⟩ l else arg17.view.read (Elt Ideal) G_arg17 (ix4 h j l r) := by
  obtain ⟨o1, o2, o3, o4, o5⟩ := load_offsets k
  unfold tripL_k0_t1 trip_k0_t1
  dsimp only
  refine (read8b (k0 := k.val) _ _ _ _ _ _ _ _ _ _ _ _ _ _ _ _ _ _ _ _ _ _ _ _ _ _ _ (k0_off7_eq k) (k0_off9_eq k) (k0_off11_eq k) (k0_off13_eq k) (k0_off15_eq k) (k0_off17_eq k) (k0_off19_eq k) (k0_off21_eq k) h j l r).trans ?_
  by_cases q : j.val = k.val
  · rw [if_pos q, if_pos q]
    have ht : (⟨512 * k.val + r.val, by omega⟩ : Fin 2048) = ⟨512 * j.val + r.val, by omega⟩ := Fin.ext (by show 512 * k.val + r.val = 512 * j.val + r.val; omega)
    unfold doa
    fin_cases h <;> simp only [pick8, Fin.zero_eta, Fin.mk_one, Fin.reduceFinMk, Matrix.cons_val]
    all_goals (pointwise [k0_pay9, k0_pay10, k0_pay11, k0_pay12, k0_pay13, k0_pay14, k0_pay15, k0_pay16, k0_pay17, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, trip_k0_t1.sl.arg23, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.v1198, trip_k0_t1.sl.v1432])
    all_goals rw [range_word l.val _ _ (by omega) (by decide) (by decide)]
    all_goals refine if_congr Iff.rfl ?_ ?_
    all_goals first
      | (simp only [ld2 _ _ _ _ o1, ld2 _ _ _ _ o2, ld2 _ _ _ _ o3, ld2 _ _ _ _ o4, ld2 _ _ _ _ o5, ht, Nat.zero_add]; done)
      | refine (do_table _ _ _).trans (Finset.sum_congr rfl fun x _ => congrArg₂ (α := EReal) (β := EReal) (γ := EReal) (· * ·)
          (congrArg (fun v => lanes v x) (funext fun y => congrArg (fun z => 0 - z) ?_))
          (congrArg (place 0 x) (Fin.ext (by first | rfl | exact (Nat.zero_add _).symm))))
    all_goals exact (delta_row i arg5 arg6 k0_h1 X_arg5 X_arg6 k _ _).trans (by simp only [ht])
  · rw [if_neg q, if_neg q]
    rfl

theorem all14 (h : Fin 8) (t : Fin 2048) (l : Fin 128) (n : ℕ) (hn : n ≤ k0_t1_loop.trips) :
    arg14.view.read (Elt Ideal) (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 n).1) (ix3 h t l)
      = if t.val / 512 < n then qa (arg2.view.read (Elt Ideal) X_arg2) (arg7.view.read (Elt Ideal) X_arg7) (arg8.view.read (Elt Ideal) X_arg8) h t l else arg14.view.read (Elt Ideal) G_arg14 (ix3 h t l) := by
  induction n with
  | zero => rw [if_neg (by omega)]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 ⟨n, hn⟩
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 (n + 1)) = _ from hs]
    dsimp only
    rw [View.writes_append, rows14]
    by_cases q : t.val / 512 = n
    · rw [if_pos q, if_pos (by omega)]
    · rw [if_neg q, ih (by omega)]
      exact if_congr (by omega) rfl rfl

theorem all15 (h : Fin 8) (t : Fin 2048) (l : Fin 128) (n : ℕ) (hn : n ≤ k0_t1_loop.trips) :
    arg15.view.read (Elt Ideal) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 n).2.1) (ix3 h t l)
      = if t.val / 512 < n then doa (arg5.view.read (Elt Ideal) X_arg5) (arg6.view.read (Elt Ideal) X_arg6) h t l else arg15.view.read (Elt Ideal) G_arg15 (ix3 h t l) := by
  induction n with
  | zero => rw [if_neg (by omega)]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 ⟨n, hn⟩
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 (n + 1)) = _ from hs]
    dsimp only
    rw [View.writes_append, rows15]
    by_cases q : t.val / 512 = n
    · rw [if_pos q, if_pos (by omega)]
    · rw [if_neg q, ih (by omega)]
      exact if_congr (by omega) rfl rfl

theorem all16 (h : Fin 8) (j : Fin 4) (l : Fin 128) (r : Fin 512) (n : ℕ) (hn : n ≤ k0_t1_loop.trips) :
    arg16.view.read (Elt Ideal) (arg16.view.writes (Elt Ideal) G_arg16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 n).2.2.1) (ix4 h j l r)
      = if j.val < n then qa (arg2.view.read (Elt Ideal) X_arg2) (arg7.view.read (Elt Ideal) X_arg7) (arg8.view.read (Elt Ideal) X_arg8) h ⟨512 * j.val + r.val, by omega⟩ l else arg16.view.read (Elt Ideal) G_arg16 (ix4 h j l r) := by
  induction n with
  | zero => rw [if_neg (by omega)]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 ⟨n, hn⟩
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 (n + 1)) = _ from hs]
    dsimp only
    rw [View.writes_append, rows16]
    by_cases q : j.val = n
    · rw [if_pos q, if_pos (by omega)]
    · rw [if_neg q, ih (by omega)]
      exact if_congr (by omega) rfl rfl

theorem all17 (h : Fin 8) (j : Fin 4) (l : Fin 128) (r : Fin 512) (n : ℕ) (hn : n ≤ k0_t1_loop.trips) :
    arg17.view.read (Elt Ideal) (arg17.view.writes (Elt Ideal) G_arg17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 n).2.2.2) (ix4 h j l r)
      = if j.val < n then doa (arg5.view.read (Elt Ideal) X_arg5) (arg6.view.read (Elt Ideal) X_arg6) h ⟨512 * j.val + r.val, by omega⟩ l else arg17.view.read (Elt Ideal) G_arg17 (ix4 h j l r) := by
  induction n with
  | zero => rw [if_neg (by omega)]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 ⟨n, hn⟩
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 k0_h1 runA.sl.v1118 k0_pay85 (128#32) k0_pay86 k0_pay87 k0_pay88 X_arg2 X_arg5 X_arg6 X_arg7 X_arg8 (n + 1)) = _ from hs]
    dsimp only
    rw [View.writes_append, rows17]
    by_cases q : j.val = n
    · rw [if_pos q, if_pos (by omega)]
    · rw [if_neg q, ih (by omega)]
      exact if_congr (by omega) rfl rfl

end Cert.Attn
-- ==== Proof.Attn.Heads.lean ====
module

public import proofs.«01_k».proof.Proof.Attn.Acc
public import proofs.«01_k».proof.Proof.Attn.Prep
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The scratch of a sequence's first point is filled before its block is computed -/

section Prepared

variable {F : FTy → Type} [FloatOps F]
variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (h1 : k0_cond1 i = 1#1)
  (f2 : BufTy.Contents (Elt F) arg2.view.ty)
  (f3 : BufTy.Contents (Elt F) arg3.view.ty)
  (f4 : BufTy.Contents (Elt F) arg4.view.ty)
  (f5 : BufTy.Contents (Elt F) arg5.view.ty)
  (f6 : BufTy.Contents (Elt F) arg6.view.ty)
  (f7 : BufTy.Contents (Elt F) arg7.view.ty)
  (f8 : BufTy.Contents (Elt F) arg8.view.ty)
  (f9 : BufTy.Contents (Elt F) arg9.view.ty)
  (f10 : BufTy.Contents (Elt F) arg10.view.ty)
  (f11 : BufTy.Contents (Elt F) arg11.view.ty)
  (f12 : BufTy.Contents (Elt F) arg12.view.ty)
  (f13 : BufTy.Contents (Elt F) arg13.view.ty)
  (f14 : BufTy.Contents (Elt F) arg14.view.ty)
  (f15 : BufTy.Contents (Elt F) arg15.view.ty)
  (f16 : BufTy.Contents (Elt F) arg16.view.ty)
  (f17 : BufTy.Contents (Elt F) arg17.view.ty)
  (f18 : BufTy.Contents (Elt F) arg18.view.ty)
  (f19 : BufTy.Contents (Elt F) arg19.view.ty)
  (f20 : BufTy.Contents (Elt F) arg20.view.ty)
  (f21 : BufTy.Contents (Elt F) arg21.view.ty)
  (f22 : BufTy.Contents (Elt F) arg22.view.ty)

/-- The contents of the extended queries after the filling. -/
abbrev P14 : BufTy.Contents (Elt F) arg14.view.ty :=
  arg14.view.writes (Elt F) f14 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 h1 runA.sl.v1118 k0_pay85 (128#32) k0_pay86 k0_pay87 k0_pay88 f2 f5 f6 f7 f8 (Scf.trips k0_t1_loop.lb k0_t1_loop.ub k0_t1_loop.st)).1

/-- The contents of the extended cotangents after the filling. -/
abbrev P15 : BufTy.Contents (Elt F) arg15.view.ty :=
  arg15.view.writes (Elt F) f15 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 h1 runA.sl.v1118 k0_pay85 (128#32) k0_pay86 k0_pay87 k0_pay88 f2 f5 f6 f7 f8 (Scf.trips k0_t1_loop.lb k0_t1_loop.ub k0_t1_loop.st)).2.1

/-- The contents of the transposed queries after the filling. -/
abbrev P16 : BufTy.Contents (Elt F) arg16.view.ty :=
  arg16.view.writes (Elt F) f16 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 h1 runA.sl.v1118 k0_pay85 (128#32) k0_pay86 k0_pay87 k0_pay88 f2 f5 f6 f7 f8 (Scf.trips k0_t1_loop.lb k0_t1_loop.ub k0_t1_loop.st)).2.2.1

/-- The contents of the transposed cotangents after the filling. -/
abbrev P17 : BufTy.Contents (Elt F) arg17.view.ty :=
  arg17.view.writes (Elt F) f17 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 runA.sl.v0 h1 runA.sl.v1118 k0_pay85 (128#32) k0_pay86 k0_pay87 k0_pay88 f2 f5 f6 f7 f8 (Scf.trips k0_t1_loop.lb k0_t1_loop.ub k0_t1_loop.st)).2.2.2

theorem hA22 : runA.sl.H22_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f5 f6 f7 f8 f14 f17 h1
    = runB.sl.H22_9 i arg3 arg7 arg14 arg17 arg19 arg22 f3 f7 (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14) (P17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f17) := rfl

theorem hA21 : runA.sl.H21_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 h1
    = runB.sl.H21_9 i arg3 arg4 arg7 arg14 arg15 arg16 arg19 arg20 arg21 f3 f4 f7 (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14) (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15) (P16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f16) := rfl

/-- A loop of no trips stores nothing. -/
theorem nil3a (𝒱 : Variants) (bd : Option 𝒱.V) (arg1 : BitVec 32) (v534 : BitVec 32) (v905 : FVec F S512x512 .bf16) (v912 : FVec F S128x512 .f32) (v932 : BitVec 32)
    (f20 : BufTy.Contents (Elt F) arg20.view.ty) (n : ℕ) (hn : n = 0) :
    (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v932 f14 f15 f16 f17 f19 f20 f18 f21 f22 n).1 = [] := by
  subst hn
  rfl

theorem nil3b (𝒱 : Variants) (bd : Option 𝒱.V) (arg1 : BitVec 32) (v534 : BitVec 32) (v905 : FVec F S512x512 .bf16) (v912 : FVec F S128x512 .f32) (v932 : BitVec 32)
    (f20 : BufTy.Contents (Elt F) arg20.view.ty) (n : ℕ) (hn : n = 0) :
    (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v932 f14 f15 f16 f17 f19 f20 f18 f21 f22 n).2.1 = [] := by
  subst hn
  rfl

theorem nil3c (𝒱 : Variants) (bd : Option 𝒱.V) (arg1 : BitVec 32) (v534 : BitVec 32) (v905 : FVec F S512x512 .bf16) (v912 : FVec F S128x512 .f32) (v932 : BitVec 32)
    (f20 : BufTy.Contents (Elt F) arg20.view.ty) (n : ℕ) (hn : n = 0) :
    (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v932 f14 f15 f16 f17 f19 f20 f18 f21 f22 n).2.2 = [] := by
  subst hn
  rfl

end Prepared

section Heads

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)
  (h1 : k0_cond1 i = 1#1) (b : Fin 4) (hb : b.val = (i 1).val) (l : Fin 128) (u : Fin 512)
include hb

set_option maxHeartbeats 2000000 in
/-- The keys' gradient of every head at a later point of a sequence. -/
theorem dk_B (h : Fin 8) :
    pick8 (runB.sl.v934 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v978 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v981 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1022 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1025 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1066 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1069 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) h (ix3 0 l u) = dkSum (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h l u := by
  fin_cases h <;> simp only [pick8, Fin.zero_eta, Fin.mk_one, Fin.reduceFinMk, Matrix.cons_val]
  all_goals first
    | unfold runB.sl.v934
    | unfold runB.sl.v937
    | unfold runB.sl.v978
    | unfold runB.sl.v981
    | unfold runB.sl.v1022
    | unfold runB.sl.v1025
    | unfold runB.sl.v1066
    | unfold runB.sl.v1069
  all_goals (simp only [View.readCov])
  all_goals (rw [ld3_zero])
  all_goals (exact acc21 c i _ _ _ _ _ _ _ _ _ _ _ _ _ _ _ _ _ _ _ _ _ _ _ _ _ _ _ _ _ _ _ _ _ _ _ _ _ _ _ _ _ _ f3 f4 f7 f14 f15 f16 f17 _ _ _ _ _ _ _ _ _ b hb _ l u _ rfl _ (by apply nil3b; exact trips_t3 i))

set_option maxHeartbeats 2000000 in
/-- The values' gradient. -/
theorem dv_B (h : Fin 8) :
    pick8 (runB.sl.v940 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v943 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v984 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v987 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1028 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1031 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1072 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runB.sl.v1075 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) h (ix3 0 l u) = dvSum (arg17.view.read (Elt Ideal) f17) (arg14.view.read (Elt Ideal) f14) (arg19.view.read (Elt Ideal) (arg19.view.writes (Elt Ideal) arg19.view.junk (runB.sl.H19_8 i arg3 arg7 f3 f7))) b h l u := by
  fin_cases h <;> simp only [pick8, Fin.zero_eta, Fin.mk_one, Fin.reduceFinMk, Matrix.cons_val]
  all_goals first
    | unfold runB.sl.v940
    | unfold runB.sl.v943
    | unfold runB.sl.v984
    | unfold runB.sl.v987
    | unfold runB.sl.v1028
    | unfold runB.sl.v1031
    | unfold runB.sl.v1072
    | unfold runB.sl.v1075
  all_goals (simp only [View.readCov])
  all_goals (rw [ld3_zero])
  all_goals (exact acc22 c i _ _ _ _ _ _ _ _ _ _ _ _ _ _ _ _ _ _ _ _ _ _ _ _ _ _ _ _ _ _ _ _ _ _ _ _ _ _ _ _ _ _ f3 f4 f7 f14 f15 f16 f17 _ _ _ _ _ _ _ _ _ b hb _ l u _ rfl _ (by apply nil3c; exact trips_t3 i))

set_option maxHeartbeats 2000000 in
/-- The keys' gradient at a sequence's last point. -/
theorem dk_C (h : Fin 8) :
    pick8 (runC.sl.v934 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v978 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v981 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1022 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1025 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1066 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1069 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) h (ix3 0 l u) = dkSum (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h l u := by
  fin_cases h <;> simp only [pick8, Fin.zero_eta, Fin.mk_one, Fin.reduceFinMk, Matrix.cons_val]
  all_goals first
    | unfold runC.sl.v934
    | unfold runC.sl.v937
    | unfold runC.sl.v978
    | unfold runC.sl.v981
    | unfold runC.sl.v1022
    | unfold runC.sl.v1025
    | unfold runC.sl.v1066
    | unfold runC.sl.v1069
  all_goals (simp only [View.readCov])
  all_goals (rw [ld3_zero])
  all_goals (exact acc21 c i _ _ _ _ _ _ _ _ _ _ _ _ _ _ _ _ _ _ _ _ _ _ _ _ _ _ _ _ _ _ _ _ _ _ _ _ _ _ _ _ _ _ f3 f4 f7 f14 f15 f16 f17 _ _ _ _ _ _ _ _ _ b hb _ l u _ rfl _ (by apply nil3b; exact trips_t3 i))

set_option maxHeartbeats 2000000 in
/-- The values' gradient there. -/
theorem dv_C (h : Fin 8) :
    pick8 (runC.sl.v940 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v943 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v984 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v987 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1028 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1031 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1072 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) (runC.sl.v1075 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f3 f4 f7 f14 f15 f16 f17 f18) h (ix3 0 l u) = dvSum (arg17.view.read (Elt Ideal) f17) (arg14.view.read (Elt Ideal) f14) (arg19.view.read (Elt Ideal) (arg19.view.writes (Elt Ideal) arg19.view.junk (runB.sl.H19_8 i arg3 arg7 f3 f7))) b h l u := by
  fin_cases h <;> simp only [pick8, Fin.zero_eta, Fin.mk_one, Fin.reduceFinMk, Matrix.cons_val]
  all_goals first
    | unfold runC.sl.v940
    | unfold runC.sl.v943
    | unfold runC.sl.v984
    | unfold runC.sl.v987
    | unfold runC.sl.v1028
    | unfold runC.sl.v1031
    | unfold runC.sl.v1072
    | unfold runC.sl.v1075
  all_goals (simp only [View.readCov])
  all_goals (rw [ld3_zero])
  all_goals (exact acc22 c i _ _ _ _ _ _ _ _ _ _ _ _ _ _ _ _ _ _ _ _ _ _ _ _ _ _ _ _ _ _ _ _ _ _ _ _ _ _ _ _ _ _ f3 f4 f7 f14 f15 f16 f17 _ _ _ _ _ _ _ _ _ b hb _ l u _ rfl _ (by apply nil3c; exact trips_t3 i))

set_option maxHeartbeats 2000000 in
/-- The keys' gradient at a sequence's first point. -/
theorem dk_A (h : Fin 8) :
    pick8 (runA.sl.v934 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v937 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v978 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v981 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1022 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1025 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1066 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1069 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) h (ix3 0 l u) = dkSum (arg16.view.read (Elt Ideal) (P16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f16)) (arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14)) (arg19.view.read (Elt Ideal) (arg19.view.writes (Elt Ideal) arg19.view.junk (runB.sl.H19_8 i arg3 arg7 f3 f7))) (arg15.view.read (Elt Ideal) (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15)) (arg20.view.read (Elt Ideal) (arg20.view.writes (Elt Ideal) arg20.view.junk (runB.sl.H20_8 arg4 f4))) b h l u := by
  fin_cases h <;> simp only [pick8, Fin.zero_eta, Fin.mk_one, Fin.reduceFinMk, Matrix.cons_val]
  all_goals first
    | unfold runA.sl.v934
    | unfold runA.sl.v937
    | unfold runA.sl.v978
    | unfold runA.sl.v981
    | unfold runA.sl.v1022
    | unfold runA.sl.v1025
    | unfold runA.sl.v1066
    | unfold runA.sl.v1069
  all_goals (simp only [View.readCov])
  all_goals (rw [ld3_zero])
  all_goals (rw [hA21]; exact acc21 c i _ _ _ _ _ _ _ _ _ _ _ _ _ _ _ _ _ _ _ _ _ _ _ _ _ _ _ _ _ _ _ _ _ _ _ _ _ _ _ _ _ _ f3 f4 f7 _ _ _ _ _ _ _ _ _ _ _ _ _ b hb _ l u _ rfl _ (by apply nil3b; exact trips_t3 i))

set_option maxHeartbeats 2000000 in
/-- The values' gradient there. -/
theorem dv_A (h : Fin 8) :
    pick8 (runA.sl.v940 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v943 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v984 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v987 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1028 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1031 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1072 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) (runA.sl.v1075 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 f16 f17 h1) h (ix3 0 l u) = dvSum (arg17.view.read (Elt Ideal) (P17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f17)) (arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14)) (arg19.view.read (Elt Ideal) (arg19.view.writes (Elt Ideal) arg19.view.junk (runB.sl.H19_8 i arg3 arg7 f3 f7))) b h l u := by
  fin_cases h <;> simp only [pick8, Fin.zero_eta, Fin.mk_one, Fin.reduceFinMk, Matrix.cons_val]
  all_goals first
    | unfold runA.sl.v940
    | unfold runA.sl.v943
    | unfold runA.sl.v984
    | unfold runA.sl.v987
    | unfold runA.sl.v1028
    | unfold runA.sl.v1031
    | unfold runA.sl.v1072
    | unfold runA.sl.v1075
  all_goals (simp only [View.readCov])
  all_goals (rw [ld3_zero])
  all_goals (rw [hA22]; exact acc22 c i _ _ _ _ _ _ _ _ _ _ _ _ _ _ _ _ _ _ _ _ _ _ _ _ _ _ _ _ _ _ _ _ _ _ _ _ _ _ _ _ _ _ f3 f4 f7 _ _ _ _ _ _ _ _ _ _ _ _ _ b hb _ l u _ rfl _ (by apply nil3c; exact trips_t3 i))

end Heads

end Cert.Attn
-- ==== Proof.Attn.Outs.lean ====
module

public import proofs.«01_k».proof.Proof.Attn.Heads
public import proofs.«01_k».proof.Proof.Attn.Store
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## What a point stores for its block of keys -/

theorem half {X Y : Vec Ideal S1x128x512 .f32} (p : ℕ) (l : Fin 128) (u : Fin 512) (X0 X1 X2 X3 X4 X5 X6 X7 : Vec Ideal S1x128x512 .f32) (x : Fin 512)
    (hx : x.val = 128 * p + l.val) (h0 : ∀ q : 2 * p < 8, pick8 X0 X1 X2 X3 X4 X5 X6 X7 ⟨2 * p, q⟩ = X)
    (h1 : ∀ q : 2 * p + 1 < 8, pick8 X0 X1 X2 X3 X4 X5 X6 X7 ⟨2 * p + 1, q⟩ = Y) :
    (if l.val < 64 then (X (ix3 0 l u) : EReal) else Y (ix3 0 l u))
      = pick8 X0 X1 X2 X3 X4 X5 X6 X7 ⟨x.val / 64, by omega⟩ (ix3 0 ⟨x.val % 128, Nat.mod_lt _ (by decide)⟩ u) := by
  have el : (⟨x.val % 128, Nat.mod_lt _ (by decide)⟩ : Fin 128) = l := Fin.ext (by show x.val % 128 = l.val; omega)
  rw [el]
  by_cases q : l.val < 64
  · have e : (⟨x.val / 64, by omega⟩ : Fin 8) = ⟨2 * p, by omega⟩ := Fin.ext (by show x.val / 64 = 2 * p; omega)
    rw [if_pos q, e, h0]
  · have e : (⟨x.val / 64, by omega⟩ : Fin 8) = ⟨2 * p + 1, by omega⟩ := Fin.ext (by show x.val / 64 = 2 * p + 1; omega)
    rw [if_neg q, e, h1]

section Stored

variable (arg10 : Memref sig .tc .vmem S512x512 .bf16) (f10 : BufTy.Contents (Elt Ideal) arg10.view.ty)
  (X0 X1 X2 X3 X4 X5 X6 X7 : Vec Ideal S1x128x512 .f32) (u x : Fin 512)

theorem out10 : (arg10.view.read (Elt Ideal) (arg10.view.writes (Elt Ideal) f10
      [⟨Rect.unit ![0, 384] ![512, 128] inb_S512x512_S512x128_0_384, k0_pay339 k0_pay220 X6 X7⟩, ⟨Rect.unit ![0, 256] ![512, 128] inb_S512x512_S512x128_0_256, k0_pay332 k0_pay220 (k0_pay330 X4) X5⟩, ⟨Rect.unit ![0, 128] ![512, 128] inb_S512x512_S512x128_0_128, k0_pay327 k0_pay220 (k0_pay325 X2) (k0_pay326 X3)⟩, ⟨Rect.unit ![0, 0] ![512, 128] inb_S512x512_S512x128_0_0, k0_pay322 k0_pay220 (k0_pay319 X0) (k0_pay320 X1)⟩]) (ix2 u x) : EReal)
      = pick8 X0 X1 X2 X3 X4 X5 X6 X7 ⟨x.val / 64, by omega⟩ (ix3 0 ⟨x.val % 128, Nat.mod_lt _ (by decide)⟩ u) * ((1 / 8 : ℝ) : EReal) := by
  refine (read4 (r0 := 0) _ _ _ _ _ _ _ _ _ _ _ _ _ _ _ rfl rfl rfl rfl u x).trans ?_
  rw [dif_pos ⟨Nat.zero_le _, by omega⟩]
  obtain ⟨p, l, hx⟩ : ∃ (p : Fin 4) (l : Fin 128), x.val = 128 * p.val + l.val :=
    ⟨⟨x.val / 128, by omega⟩, ⟨x.val % 128, by omega⟩, by show x.val = 128 * (x.val / 128) + x.val % 128; omega⟩
  have ep : (⟨x.val / 128, by omega⟩ : Fin 4) = p := Fin.ext (by show x.val / 128 = p.val; omega)
  have el : (⟨x.val % 128, by omega⟩ : Fin 128) = l := Fin.ext (by show x.val % 128 = l.val; omega)
  rw [ep]
  conv_lhs => rw [el]
  fin_cases p
  · exact (dk_store0 _ _ _ _).trans (congrArg (· * ((1 / 8 : ℝ) : EReal)) (half 0 l u X0 X1 X2 X3 X4 X5 X6 X7 x hx (fun _ => rfl) (fun _ => rfl)))
  · exact (dk_store1 _ _ _ _).trans (congrArg (· * ((1 / 8 : ℝ) : EReal)) (half 1 l u X0 X1 X2 X3 X4 X5 X6 X7 x hx (fun _ => rfl) (fun _ => rfl)))
  · exact (dk_store2 _ _ _ _).trans (congrArg (· * ((1 / 8 : ℝ) : EReal)) (half 2 l u X0 X1 X2 X3 X4 X5 X6 X7 x hx (fun _ => rfl) (fun _ => rfl)))
  · exact (dk_store3 _ _ _ _).trans (congrArg (· * ((1 / 8 : ℝ) : EReal)) (half 3 l u X0 X1 X2 X3 X4 X5 X6 X7 x hx (fun _ => rfl) (fun _ => rfl)))

theorem out11 : (arg10.view.read (Elt Ideal) (arg10.view.writes (Elt Ideal) f10
      [⟨Rect.unit ![0, 384] ![512, 128] inb_S512x512_S512x128_0_384, k0_pay340 k0_pay220 X6 X7⟩, ⟨Rect.unit ![0, 256] ![512, 128] inb_S512x512_S512x128_0_256, k0_pay333 k0_pay220 X4 X5⟩, ⟨Rect.unit ![0, 128] ![512, 128] inb_S512x512_S512x128_0_128, k0_pay328 k0_pay220 X2 X3⟩, ⟨Rect.unit ![0, 0] ![512, 128] inb_S512x512_S512x128_0_0, k0_pay323 k0_pay220 (k0_pay321 X0) X1⟩]) (ix2 u x) : EReal)
      = pick8 X0 X1 X2 X3 X4 X5 X6 X7 ⟨x.val / 64, by omega⟩ (ix3 0 ⟨x.val % 128, Nat.mod_lt _ (by decide)⟩ u) := by
  refine (read4 (r0 := 0) _ _ _ _ _ _ _ _ _ _ _ _ _ _ _ rfl rfl rfl rfl u x).trans ?_
  rw [dif_pos ⟨Nat.zero_le _, by omega⟩]
  obtain ⟨p, l, hx⟩ : ∃ (p : Fin 4) (l : Fin 128), x.val = 128 * p.val + l.val :=
    ⟨⟨x.val / 128, by omega⟩, ⟨x.val % 128, by omega⟩, by show x.val = 128 * (x.val / 128) + x.val % 128; omega⟩
  have ep : (⟨x.val / 128, by omega⟩ : Fin 4) = p := Fin.ext (by show x.val / 128 = p.val; omega)
  have el : (⟨x.val % 128, by omega⟩ : Fin 128) = l := Fin.ext (by show x.val % 128 = l.val; omega)
  rw [ep]
  conv_lhs => rw [el]
  fin_cases p
  · exact (dv_store0 _ _ _ _).trans (half 0 l u X0 X1 X2 X3 X4 X5 X6 X7 x hx (fun _ => rfl) (fun _ => rfl))
  · exact (dv_store1 _ _ _ _).trans (half 1 l u X0 X1 X2 X3 X4 X5 X6 X7 x hx (fun _ => rfl) (fun _ => rfl))
  · exact (dv_store2 _ _ _ _).trans (half 2 l u X0 X1 X2 X3 X4 X5 X6 X7 x hx (fun _ => rfl) (fun _ => rfl))
  · exact (dv_store3 _ _ _ _).trans (half 3 l u X0 X1 X2 X3 X4 X5 X6 X7 x hx (fun _ => rfl) (fun _ => rfl))

end Stored

/-- One block of the keys' gradient, as it is stored. -/
def dkOut (T : S8x4x128x512.Idx → EReal) (A : S8x2048x128.Idx → EReal) (K : S8x512x128.Idx → EReal) (D : S8x2048x128.Idx → EReal) (W : S8x512x128.Idx → EReal)
    (b : Fin 4) (u x : Fin 512) : EReal :=
  dkSum T A K D W b ⟨x.val / 64, by omega⟩ ⟨x.val % 128, Nat.mod_lt _ (by decide)⟩ u * ((1 / 8 : ℝ) : EReal)

/-- One block of the values' gradient. -/
def dvOut (T : S8x4x128x512.Idx → EReal) (A : S8x2048x128.Idx → EReal) (K : S8x512x128.Idx → EReal)
    (b : Fin 4) (u x : Fin 512) : EReal :=
  dvSum T A K b ⟨x.val / 64, by omega⟩ ⟨x.val % 128, Nat.mod_lt _ (by decide)⟩ u

/-- One block of the gradient of the keys' decays. -/
def dfkOut (T : S8x4x128x512.Idx → EReal) (A : S8x2048x128.Idx → EReal) (K : S8x512x128.Idx → EReal) (D : S8x2048x128.Idx → EReal) (W : S8x512x128.Idx → EReal)
    (b : Fin 4) (u : Fin 512) (l : Fin 128) : EReal :=
  if h : l.val < 8 then (0 : EReal) - dkSum T A K D W b ⟨l.val, h⟩ (bias3 ⟨l.val, h⟩) u else 0

section Points

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)
  (h1 : k0_cond1 i = 1#1) (h1n : ¬k0_cond1 i = 1#1) (h2 : k0_cond2 i = 1#1) (h2n : ¬k0_cond2 i = 1#1) (b : Fin 4) (hb : b.val = (i 1).val)
include hb

theorem B_dk (u x : Fin 512) : (arg10.view.read (Elt Ideal) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2n).1 (ix2 u x) : EReal)
    = dkOut (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b u x := by
  unfold runB
  dsimp only
  refine (out10 arg10 _ _ _ _ _ _ _ _ _ u x).trans ?_
  exact congrArg (· * ((1 / 8 : ℝ) : EReal)) (dk_B c i _ _ _ _ _ _ _ _ _ _ _ _ _ _ _ _ _ _ _ _ _ _ _ _ _ _ _ _ _ _ _ _ _ _ _ _ _ _ _ _ _ _ f3 f4 f7 f14 f15 f16 f17 f18 b hb _ u _)

theorem B_dv (u x : Fin 512) : (arg11.view.read (Elt Ideal) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2n).2.1 (ix2 u x) : EReal)
    = dvOut (arg17.view.read (Elt Ideal) f17) (arg14.view.read (Elt Ideal) f14) (arg19.view.read (Elt Ideal) (arg19.view.writes (Elt Ideal) arg19.view.junk (runB.sl.H19_8 i arg3 arg7 f3 f7))) b u x := by
  unfold runB
  dsimp only
  refine (out11 arg11 _ _ _ _ _ _ _ _ _ u x).trans ?_
  exact (dv_B c i _ _ _ _ _ _ _ _ _ _ _ _ _ _ _ _ _ _ _ _ _ _ _ _ _ _ _ _ _ _ _ _ _ _ _ _ _ _ _ _ _ _ f3 f4 f7 f14 f15 f16 f17 f18 b hb _ u _)

theorem B_dfk (u : Fin 512) (l : Fin 128) : (arg12.view.read (Elt Ideal) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2n).2.2.1 (ix2 u l) : EReal)
    = dfkOut (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b u l := by
  unfold runB
  dsimp only
  refine (rows2 (r0 := 0) _ _ _ _ _ _ rfl u l).trans ?_
  rw [dif_pos ⟨Nat.zero_le _, by omega⟩]
  refine (dfk_store _ ?_ _ _ _ _ _ _ _ _ ⟨u.val - 0, _⟩ l).trans ?_
  · intro l
    pointwise [runB.sl.v0]
  unfold dfkOut
  by_cases h : l.val < 8
  · rw [dif_pos h, dif_pos h]
    exact congrArg (fun z : EReal => 0 - z) (dk_B c i _ _ _ _ _ _ _ _ _ _ _ _ _ _ _ _ _ _ _ _ _ _ _ _ _ _ _ _ _ _ _ _ _ _ _ _ _ _ _ _ _ _ f3 f4 f7 f14 f15 f16 f17 f18 b hb _ u _)
  · rw [dif_neg h, dif_neg h]

theorem A_dk (u x : Fin 512) : (arg10.view.read (Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).1 (ix2 u x) : EReal)
    = dkOut (arg16.view.read (Elt Ideal) (P16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f16)) (arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14)) (arg19.view.read (Elt Ideal) (arg19.view.writes (Elt Ideal) arg19.view.junk (runB.sl.H19_8 i arg3 arg7 f3 f7))) (arg15.view.read (Elt Ideal) (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15)) (arg20.view.read (Elt Ideal) (arg20.view.writes (Elt Ideal) arg20.view.junk (runB.sl.H20_8 arg4 f4))) b u x := by
  unfold runA
  dsimp only
  refine (out10 arg10 _ _ _ _ _ _ _ _ _ u x).trans ?_
  exact congrArg (· * ((1 / 8 : ℝ) : EReal)) (dk_A c i _ _ _ _ _ _ _ _ _ _ _ _ _ _ _ _ _ _ _ _ _ _ _ _ _ _ _ _ _ _ _ _ _ _ _ _ _ _ _ _ _ _ f2 f3 f4 f5 f6 f7 f8 f14 f15 f16 f17 h1 b hb _ u _)

theorem A_dv (u x : Fin 512) : (arg11.view.read (Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.1 (ix2 u x) : EReal)
    = dvOut (arg17.view.read (Elt Ideal) (P17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f17)) (arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14)) (arg19.view.read (Elt Ideal) (arg19.view.writes (Elt Ideal) arg19.view.junk (runB.sl.H19_8 i arg3 arg7 f3 f7))) b u x := by
  unfold runA
  dsimp only
  refine (out11 arg11 _ _ _ _ _ _ _ _ _ u x).trans ?_
  exact (dv_A c i _ _ _ _ _ _ _ _ _ _ _ _ _ _ _ _ _ _ _ _ _ _ _ _ _ _ _ _ _ _ _ _ _ _ _ _ _ _ _ _ _ _ f2 f3 f4 f5 f6 f7 f8 f14 f15 f16 f17 h1 b hb _ u _)

theorem A_dfk (u : Fin 512) (l : Fin 128) : (arg12.view.read (Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.2.1 (ix2 u l) : EReal)
    = dfkOut (arg16.view.read (Elt Ideal) (P16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f16)) (arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14)) (arg19.view.read (Elt Ideal) (arg19.view.writes (Elt Ideal) arg19.view.junk (runB.sl.H19_8 i arg3 arg7 f3 f7))) (arg15.view.read (Elt Ideal) (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15)) (arg20.view.read (Elt Ideal) (arg20.view.writes (Elt Ideal) arg20.view.junk (runB.sl.H20_8 arg4 f4))) b u l := by
  unfold runA
  dsimp only
  refine (rows2 (r0 := 0) _ _ _ _ _ _ rfl u l).trans ?_
  rw [dif_pos ⟨Nat.zero_le _, by omega⟩]
  refine (dfk_store _ ?_ _ _ _ _ _ _ _ _ ⟨u.val - 0, _⟩ l).trans ?_
  · intro l
    pointwise [runA.sl.v0]
  unfold dfkOut
  by_cases h : l.val < 8
  · rw [dif_pos h, dif_pos h]
    exact congrArg (fun z : EReal => 0 - z) (dk_A c i _ _ _ _ _ _ _ _ _ _ _ _ _ _ _ _ _ _ _ _ _ _ _ _ _ _ _ _ _ _ _ _ _ _ _ _ _ _ _ _ _ _ f2 f3 f4 f5 f6 f7 f8 f14 f15 f16 f17 h1 b hb _ u _)
  · rw [dif_neg h, dif_neg h]

theorem C_dk (u x : Fin 512) : (arg10.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.1 (ix2 u x) : EReal)
    = dkOut (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b u x := by
  unfold runC
  dsimp only
  unfold runC.sl.H10_4
  refine (out10 arg10 _ _ _ _ _ _ _ _ _ u x).trans ?_
  exact congrArg (· * ((1 / 8 : ℝ) : EReal)) (dk_C c i _ _ _ _ _ _ _ _ _ _ _ _ _ _ _ _ _ _ _ _ _ _ _ _ _ _ _ _ _ _ _ _ _ _ _ _ _ _ _ _ _ _ f3 f4 f7 f14 f15 f16 f17 f18 b hb _ u _)

theorem C_dv (u x : Fin 512) : (arg11.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.2.1 (ix2 u x) : EReal)
    = dvOut (arg17.view.read (Elt Ideal) f17) (arg14.view.read (Elt Ideal) f14) (arg19.view.read (Elt Ideal) (arg19.view.writes (Elt Ideal) arg19.view.junk (runB.sl.H19_8 i arg3 arg7 f3 f7))) b u x := by
  unfold runC
  dsimp only
  unfold runC.sl.H11_4
  refine (out11 arg11 _ _ _ _ _ _ _ _ _ u x).trans ?_
  exact (dv_C c i _ _ _ _ _ _ _ _ _ _ _ _ _ _ _ _ _ _ _ _ _ _ _ _ _ _ _ _ _ _ _ _ _ _ _ _ _ _ _ _ _ _ f3 f4 f7 f14 f15 f16 f17 f18 b hb _ u _)

theorem C_dfk (u : Fin 512) (l : Fin 128) : (arg12.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.2.2.1 (ix2 u l) : EReal)
    = dfkOut (arg16.view.read (Elt Ideal) f16) (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b u l := by
  unfold runC
  dsimp only
  refine (rows2 (r0 := 0) _ _ _ _ _ _ rfl u l).trans ?_
  rw [dif_pos ⟨Nat.zero_le _, by omega⟩]
  refine (dfk_store _ ?_ _ _ _ _ _ _ _ _ ⟨u.val - 0, _⟩ l).trans ?_
  · intro l
    pointwise [runC.sl.v0]
  unfold dfkOut
  by_cases h : l.val < 8
  · rw [dif_pos h, dif_pos h]
    exact congrArg (fun z : EReal => 0 - z) (dk_C c i _ _ _ _ _ _ _ _ _ _ _ _ _ _ _ _ _ _ _ _ _ _ _ _ _ _ _ _ _ _ _ _ _ _ _ _ _ _ _ _ _ _ f3 f4 f7 f14 f15 f16 f17 f18 b hb _ u _)
  · rw [dif_neg h, dif_neg h]

end Points

end Cert.Attn
-- ==== Proof.Attn.DiagQ.lean ====
module

public import proofs.«01_k».proof.Proof.Attn.Diag
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The queries' gradient on the diagonal block -/

/-- The diagonal block's share of the gradient of one query. -/
def dqDiag (A : S8x2048x128.Idx → EReal) (K : S8x512x128.Idx → EReal) (D : S8x2048x128.Idx → EReal) (W : S8x512x128.Idx → EReal)
    (b : Fin 4) (h : Fin 8) (r : Fin 512) (l : Fin 128) : EReal :=
  ∑ u : Fin 512, slopeM A K D W h b r u * K (ix3 h u l)

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)
  (X0 X1 X2 X3 X4 X5 X6 X7 : Vec Ideal S1x512x128 .f32)

/-- What is stored for the rows of the diagonal block: what was there and the block's share. -/
theorem pay18 (b : Fin 4) (hb : b.val = (i 1).val) (h : Fin 8) (r : Fin 512) (l : Fin 128) :
    pick8 (k0_pay270 (runB.sl.r_11 i arg3 arg4 arg7 arg14 arg15 arg19 arg20 f3 f4 f7 f14 f15) X0 (runB.sl.v538 i arg3 arg7 arg19 f3 f7))
      (k0_pay278 (k0_pay277 (runB.sl.r_13 i arg3 arg7 arg14 arg19 f3 f7 f14) (View.readAt (Elt Ideal) arg15.view (Rect.unit (s := S8x2048x128) (k0_off25 i) S1x512x128.size (k0_off25_inb i)).toLoadRect f15) (runB.sl.v607 arg4 arg20 f4) X1 (runB.sl.v587 i arg3 arg7 arg19 f3 f7)))
      (k0_pay283 (runB.sl.r_17 i arg3 arg4 arg7 arg14 arg15 arg19 arg20 f3 f4 f7 f14 f15) X2 (runB.sl.v636 i arg3 arg7 arg19 f3 f7))
      (k0_pay290 (runB.sl.r_20 i arg3 arg4 arg7 arg14 arg15 arg19 arg20 f3 f4 f7 f14 f15) (k0_pay289 X3) (runB.sl.v685 i arg3 arg7 arg19 f3 f7))
      (k0_pay297 (runB.sl.r_22 i arg3 arg7 arg14 arg19 f3 f7 f14) (runB.sl.r_23 i arg15 f15) (runB.sl.r_24 arg4 arg20 f4) X4 (runB.sl.v734 i arg3 arg7 arg19 f3 f7))
      (k0_pay303 (runB.sl.r_26 i arg3 arg4 arg7 arg14 arg15 arg19 arg20 f3 f4 f7 f14 f15) X5 (runB.sl.v783 i arg3 arg7 arg19 f3 f7))
      (k0_pay308 (runB.sl.r_27 i arg3 arg7 arg14 arg19 f3 f7 f14) (runB.sl.r_28 i arg15 f15) (runB.sl.v852 arg4 arg20 f4) X6 (runB.sl.v832 i arg3 arg7 arg19 f3 f7))
      (k0_pay315 (runB.sl.r_30 i arg3 arg4 arg7 arg14 arg15 arg19 arg20 f3 f4 f7 f14 f15) X7 (runB.sl.v881 i arg3 arg7 arg19 f3 f7)) h (ix3 0 r l)
      = pick8 X0 X1 X2 X3 X4 X5 X6 X7 h (ix3 0 r l) + dqDiag (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h r l := by
  have e : b = i 1 := Fin.ext hb
  subst e
  have o23 := k0_off23_eq i
  have o24 := k0_off24_eq i
  have o25 := k0_off25_eq i
  have o26 := k0_off26_eq i
  have o27 := k0_off27_eq i
  have o28 := k0_off28_eq i
  have o29 := k0_off29_eq i
  have o30 := k0_off30_eq i
  have o31 := k0_off31_eq i
  have o32 := k0_off32_eq i
  have o33 := k0_off33_eq i
  have o34 := k0_off34_eq i
  have o35 := k0_off35_eq i
  have o36 := k0_off36_eq i
  have o37 := k0_off37_eq i
  have o38 := k0_off38_eq i
  fin_cases h <;> simp only [pick8, Fin.zero_eta, Fin.mk_one, Fin.reduceFinMk, Matrix.cons_val, dqDiag, weightM, slopeM, score]
  all_goals (pointwise [k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, runB.sl.r_11, runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.v533, runB.sl.v538, runB.sl.v544, runB.sl.v558, runB.sl.v563, runB.sl.v587, runB.sl.v593, runB.sl.v607, runB.sl.v612, runB.sl.v623, runB.sl.v636, runB.sl.v642, runB.sl.v656, runB.sl.v661, runB.sl.v672, runB.sl.v685, runB.sl.v691, runB.sl.v705, runB.sl.v710, runB.sl.v721, runB.sl.v734, runB.sl.v740, runB.sl.v754, runB.sl.v759, runB.sl.v770, runB.sl.v783, runB.sl.v789, runB.sl.v803, runB.sl.v808, runB.sl.v819, runB.sl.v832, runB.sl.v838, runB.sl.v852, runB.sl.v857, runB.sl.v868, runB.sl.v881, runB.sl.v887, runB.sl.v901, runB.sl.v906, runB.sl.v917])
  all_goals simp only [View.readCov, ld3 _ _ _ _ o23, ld3 _ _ _ _ o25, ld3 _ _ _ _ o27, ld3 _ _ _ _ o29, ld3 _ _ _ _ o31, ld3 _ _ _ _ o33, ld3 _ _ _ _ o35, ld3 _ _ _ _ o37, ld4 _ _ _ _ o24, ld4 _ _ _ _ o26, ld4 _ _ _ _ o28, ld4 _ _ _ _ o30, ld4 _ _ _ _ o32, ld4 _ _ _ _ o34, ld4 _ _ _ _ o36, ld4 _ _ _ _ o38, ld3_zero]
  all_goals (simp only [mask_word, neg_inf]; try rfl)

/-- The accumulator after the diagonal block. -/
theorem diag18 (b : Fin 4) (hb : b.val = (i 1).val) (g : BufTy.Contents (Elt Ideal) arg18.view.ty) (L : List (View.Piece (Elt Ideal) S8x2048x128 .f32))
    (hX : ∀ (h : Fin 8) (r : Fin 512) (l : Fin 128), (pick8 X0 X1 X2 X3 X4 X5 X6 X7 h (ix3 0 r l) : EReal) = arg18.view.read (Elt Ideal) (arg18.view.writes (Elt Ideal) g L) (ix3 h (at_ b r) l))
    (h : Fin 8) (t : Fin 2048) (l : Fin 128) :
    (arg18.view.read (Elt Ideal) (arg18.view.writes (Elt Ideal) g
      ((⟨Rect.unit (s := S8x2048x128) (k0_off37 i) S1x512x128.size (k0_off37_inb i), k0_pay315 (runB.sl.r_30 i arg3 arg4 arg7 arg14 arg15 arg19 arg20 f3 f4 f7 f14 f15) X7 (runB.sl.v881 i arg3 arg7 arg19 f3 f7)⟩ : View.Piece (Elt Ideal) S8x2048x128 .f32) :: (⟨Rect.unit (s := S8x2048x128) (k0_off35 i) S1x512x128.size (k0_off35_inb i), k0_pay308 (runB.sl.r_27 i arg3 arg7 arg14 arg19 f3 f7 f14) (runB.sl.r_28 i arg15 f15) (runB.sl.v852 arg4 arg20 f4) X6 (runB.sl.v832 i arg3 arg7 arg19 f3 f7)⟩ : View.Piece (Elt Ideal) S8x2048x128 .f32) :: (⟨Rect.unit (s := S8x2048x128) (k0_off33 i) S1x512x128.size (k0_off33_inb i), k0_pay303 (runB.sl.r_26 i arg3 arg4 arg7 arg14 arg15 arg19 arg20 f3 f4 f7 f14 f15) X5 (runB.sl.v783 i arg3 arg7 arg19 f3 f7)⟩ : View.Piece (Elt Ideal) S8x2048x128 .f32) :: (⟨Rect.unit (s := S8x2048x128) (k0_off31 i) S1x512x128.size (k0_off31_inb i), k0_pay297 (runB.sl.r_22 i arg3 arg7 arg14 arg19 f3 f7 f14) (runB.sl.r_23 i arg15 f15) (runB.sl.r_24 arg4 arg20 f4) X4 (runB.sl.v734 i arg3 arg7 arg19 f3 f7)⟩ : View.Piece (Elt Ideal) S8x2048x128 .f32) :: (⟨Rect.unit (s := S8x2048x128) (k0_off29 i) S1x512x128.size (k0_off29_inb i), k0_pay290 (runB.sl.r_20 i arg3 arg4 arg7 arg14 arg15 arg19 arg20 f3 f4 f7 f14 f15) (k0_pay289 X3) (runB.sl.v685 i arg3 arg7 arg19 f3 f7)⟩ : View.Piece (Elt Ideal) S8x2048x128 .f32) :: (⟨Rect.unit (s := S8x2048x128) (k0_off27 i) S1x512x128.size (k0_off27_inb i), k0_pay283 (runB.sl.r_17 i arg3 arg4 arg7 arg14 arg15 arg19 arg20 f3 f4 f7 f14 f15) X2 (runB.sl.v636 i arg3 arg7 arg19 f3 f7)⟩ : View.Piece (Elt Ideal) S8x2048x128 .f32) :: (⟨Rect.unit (s := S8x2048x128) (k0_off25 i) S1x512x128.size (k0_off25_inb i), k0_pay278 (k0_pay277 (runB.sl.r_13 i arg3 arg7 arg14 arg19 f3 f7 f14) (View.readAt (Elt Ideal) arg15.view (Rect.unit (s := S8x2048x128) (k0_off25 i) S1x512x128.size (k0_off25_inb i)).toLoadRect f15) (runB.sl.v607 arg4 arg20 f4) X1 (runB.sl.v587 i arg3 arg7 arg19 f3 f7))⟩ : View.Piece (Elt Ideal) S8x2048x128 .f32) :: (⟨Rect.unit (s := S8x2048x128) (k0_off23 i) S1x512x128.size (k0_off23_inb i), k0_pay270 (runB.sl.r_11 i arg3 arg4 arg7 arg14 arg15 arg19 arg20 f3 f4 f7 f14 f15) X0 (runB.sl.v538 i arg3 arg7 arg19 f3 f7)⟩ : View.Piece (Elt Ideal) S8x2048x128 .f32) :: L)) (ix3 h t l) : EReal)
      = arg18.view.read (Elt Ideal) (arg18.view.writes (Elt Ideal) g L) (ix3 h t l)
        + if t.val / 512 = b.val then dqDiag (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h ⟨t.val % 512, Nat.mod_lt _ (by decide)⟩ l else 0 := by
  have o23 := k0_off23_eq i
  have o25 := k0_off25_eq i
  have o27 := k0_off27_eq i
  have o29 := k0_off29_eq i
  have o31 := k0_off31_eq i
  have o33 := k0_off33_eq i
  have o35 := k0_off35_eq i
  have o37 := k0_off37_eq i
  refine (read8 (r0 := 512 * (i 1).val) _ _ _ _ _ _ _ _ _ _ _ _ _ _ _ _ _ _ _ _ _ _ _ _ _ _ _ o23 o25 o27 o29 o31 o33 o35 o37 h _ _).trans ?_
  by_cases q : t.val / 512 = b.val
  · rw [dif_pos (by omega), if_pos q]
    obtain ⟨r, rfl⟩ : ∃ r : Fin 512, t = at_ b r := ⟨⟨t.val % 512, Nat.mod_lt _ (by decide)⟩, Fin.ext (by show t.val = 512 * b.val + t.val % 512; omega)⟩
    have er : (⟨(at_ b r).val - 512 * (i 1).val, by show 512 * b.val + r.val - 512 * (i 1).val < 512; omega⟩ : Fin 512) = r := Fin.ext (by show 512 * b.val + r.val - 512 * (i 1).val = r.val; omega)
    have em : (⟨(at_ b r).val % 512, Nat.mod_lt _ (by decide)⟩ : Fin 512) = r := Fin.ext (by show (512 * b.val + r.val) % 512 = r.val; omega)
    rw [er, em, ← hX h r l]
    exact pay18 i arg3 arg4 arg7 arg14 arg15 arg19 arg20 f3 f4 f7 f14 f15 X0 X1 X2 X3 X4 X5 X6 X7 b hb h r l
  · rw [dif_neg (by omega), if_neg q, add_zero]

end Cert.Attn
-- ==== Proof.Attn.Last.lean ====
module

public import proofs.«01_k».proof.Proof.Attn.Store
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The last key block's copy of the queries' gradient -/

variable (𝒱 : Variants) (c : Dev nD) (bd : Option 𝒱.V) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (v0 : IVec S1x128 32) (k0_h2 : k0_cond2 i = 1#1) (X_arg18 : BufTy.Contents (Elt Ideal) arg18.view.ty)
  (G_arg9 : BufTy.Contents (Elt Ideal) arg9.view.ty) (G_arg13 : BufTy.Contents (Elt Ideal) arg13.view.ty)

/-- The gradient of a query's entry: that of its head in the entry's pair of heads. -/
def dqOut (X : S8x2048x128.Idx → EReal) (t : Fin 2048) (x : Fin 512) : EReal :=
  if x.val % 128 < 64 then X (ix3 ⟨2 * (x.val / 128), by omega⟩ t ⟨x.val % 128, by omega⟩) else X (ix3 ⟨2 * (x.val / 128) + 1, by omega⟩ t ⟨x.val % 128, by omega⟩)

def dfqOut (X : S8x2048x128.Idx → EReal) (t : Fin 2048) (l : Fin 128) : EReal :=
  if h : l.val < 8 then X (ix3 ⟨l.val, h⟩ t (bias0 ⟨l.val, h⟩)) else 0

theorem rows9 (k : Fin k0_t4_loop.trips) (t : Fin 2048) (x : Fin 512) :
    arg9.view.read (Elt Ideal) (arg9.view.writes (Elt Ideal) G_arg9 (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 k).1) (ix2 t x)
      = if t.val / 512 = k.val then dqOut (arg18.view.read (Elt Ideal) X_arg18) t x else arg9.view.read (Elt Ideal) G_arg9 (ix2 t x) := by
  have o71 : k0_off71 k = ![0, 512 * k.val, 0] := k0_off71_eq k
  have o72 : k0_off72 k = ![1, 512 * k.val, 0] := k0_off72_eq k
  have o74 : k0_off74 k = ![2, 512 * k.val, 0] := k0_off74_eq k
  have o75 : k0_off75 k = ![3, 512 * k.val, 0] := k0_off75_eq k
  have o77 : k0_off77 k = ![4, 512 * k.val, 0] := k0_off77_eq k
  have o78 : k0_off78 k = ![5, 512 * k.val, 0] := k0_off78_eq k
  have o80 : k0_off80 k = ![6, 512 * k.val, 0] := k0_off80_eq k
  have o81 : k0_off81 k = ![7, 512 * k.val, 0] := k0_off81_eq k
  unfold tripL_k0_t4 trip_k0_t4
  dsimp only
  refine (read4 (r0 := 512 * k.val) _ _ _ _ _ _ _ _ _ _ _ _ _ _ _ (k0_off73_eq k) (k0_off76_eq k) (k0_off79_eq k) (k0_off82_eq k) t x).trans ?_
  by_cases q : t.val / 512 = k.val
  · rw [if_pos q, dif_pos (by omega)]
    obtain ⟨p, hp⟩ : ∃ p : Fin 4, (⟨x.val / 128, by omega⟩ : Fin 4) = p := ⟨_, rfl⟩
    have hx : x.val / 128 = p.val := congrArg Fin.val hp
    have ht : (⟨512 * k.val + (t.val - 512 * k.val), by omega⟩ : Fin 2048) = t := Fin.ext (by show 512 * k.val + (t.val - 512 * k.val) = t.val; omega)
    rw [hp]
    unfold dqOut
    simp only [hx]
    fin_cases p <;> simp only [pick4, Fin.zero_eta, Fin.mk_one, Fin.reduceFinMk, Matrix.cons_val]
    all_goals (pointwise [k0_pay2, k0_pay3, k0_pay4, k0_pay207, k0_pay208, k0_pay209, k0_pay210, k0_pay211, k0_pay212, k0_pay213, k0_pay214, k0_pay215, k0_pay216, k0_pay217, k0_pay218, k0_pay219, k0_pay220, trip_k0_t4.sl.arg23, trip_k0_t4.sl.r, trip_k0_t4.sl.r_1, trip_k0_t4.sl.r_2, trip_k0_t4.sl.r_3, trip_k0_t4.sl.r_4, trip_k0_t4.sl.v1115])
    all_goals rw [low_word (x.val % 128) (by omega)]
    all_goals simp only [ld3 _ _ _ _ o71, ld3 _ _ _ _ o72, ld3 _ _ _ _ o74, ld3 _ _ _ _ o75, ld3 _ _ _ _ o77, ld3 _ _ _ _ o78, ld3 _ _ _ _ o80, ld3 _ _ _ _ o81]
    all_goals simp only [ht]
    all_goals rfl
  · rw [if_neg q, dif_neg (by omega)]
    rfl

theorem rows13 (hv0 : ∀ l : Fin 128, v0 (ix2 0 l) = BitVec.ofNat 32 l.val) (k : Fin k0_t4_loop.trips) (t : Fin 2048) (l : Fin 128) :
    arg13.view.read (Elt Ideal) (arg13.view.writes (Elt Ideal) G_arg13 (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 k).2) (ix2 t l)
      = if t.val / 512 = k.val then dfqOut (arg18.view.read (Elt Ideal) X_arg18) t l else arg13.view.read (Elt Ideal) G_arg13 (ix2 t l) := by
  have o71 : k0_off71 k = ![0, 512 * k.val, 0] := k0_off71_eq k
  have o72 : k0_off72 k = ![1, 512 * k.val, 0] := k0_off72_eq k
  have o74 : k0_off74 k = ![2, 512 * k.val, 0] := k0_off74_eq k
  have o75 : k0_off75 k = ![3, 512 * k.val, 0] := k0_off75_eq k
  have o77 : k0_off77 k = ![4, 512 * k.val, 0] := k0_off77_eq k
  have o78 : k0_off78 k = ![5, 512 * k.val, 0] := k0_off78_eq k
  have o80 : k0_off80 k = ![6, 512 * k.val, 0] := k0_off80_eq k
  have o81 : k0_off81 k = ![7, 512 * k.val, 0] := k0_off81_eq k
  unfold tripL_k0_t4 trip_k0_t4
  dsimp only
  refine (rows2 (r0 := 512 * k.val) _ _ _ _ _ _ (k0_off83_eq k) t l).trans ?_
  by_cases q : t.val / 512 = k.val
  · rw [if_pos q, dif_pos (by omega)]
    have ht : (⟨512 * k.val + (t.val - 512 * k.val), by omega⟩ : Fin 2048) = t := Fin.ext (by show 512 * k.val + (t.val - 512 * k.val) = t.val; omega)
    unfold dfqOut
    pointwise [k0_pay2, k0_pay3, k0_pay4, k0_pay207, k0_pay208, k0_pay209, k0_pay210, k0_pay211, k0_pay212, k0_pay213, k0_pay214, k0_pay215, k0_pay216, k0_pay217, k0_pay218, k0_pay219, k0_pay220, trip_k0_t4.sl.arg23, trip_k0_t4.sl.r, trip_k0_t4.sl.r_1, trip_k0_t4.sl.r_2, trip_k0_t4.sl.r_3, trip_k0_t4.sl.r_4, trip_k0_t4.sl.v1115]
    rw [hv0]
    have w := fun n hn => lane_word n hn l
    rw [w 7 (by decide), w 6 (by decide), w 5 (by decide), w 4 (by decide), w 3 (by decide), w 2 (by decide), w 1 (by decide), w 0 (by decide)]
    simp only [ld3 _ _ _ _ o71, ld3 _ _ _ _ o72, ld3 _ _ _ _ o74, ld3 _ _ _ _ o75, ld3 _ _ _ _ o77, ld3 _ _ _ _ o78, ld3 _ _ _ _ o80, ld3 _ _ _ _ o81]
    simp only [ht]
    obtain ⟨l, hl⟩ := l
    by_cases h : l < 8
    · rw [dif_pos h]
      interval_cases l <;> (simp; rfl)
    · rw [dif_neg h]
      dsimp only
      rw [if_neg (by omega), if_neg (by omega), if_neg (by omega), if_neg (by omega), if_neg (by omega), if_neg (by omega), if_neg (by omega), if_neg (by omega)]
  · rw [if_neg q, dif_neg (by omega)]
    rfl

theorem all9 (t : Fin 2048) (x : Fin 512) (n : ℕ) (hn : n ≤ k0_t4_loop.trips) :
    arg9.view.read (Elt Ideal) (arg9.view.writes (Elt Ideal) G_arg9 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 n).1) (ix2 t x)
      = if t.val / 512 < n then dqOut (arg18.view.read (Elt Ideal) X_arg18) t x else arg9.view.read (Elt Ideal) G_arg9 (ix2 t x) := by
  induction n with
  | zero => rw [if_neg (by omega)]; rfl
  | succ n ih =>
    have hs := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 ⟨n, hn⟩
    rw [show (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 (n + 1)) = _ from hs]
    dsimp only
    rw [View.writes_append, rows9]
    by_cases q : t.val / 512 = n
    · rw [if_pos q, if_pos (by omega)]
    · rw [if_neg q, ih (by omega)]
      exact if_congr (by omega) rfl rfl

theorem all13 (hv0 : ∀ l : Fin 128, v0 (ix2 0 l) = BitVec.ofNat 32 l.val) (t : Fin 2048) (x : Fin 128) (n : ℕ) (hn : n ≤ k0_t4_loop.trips) :
    arg13.view.read (Elt Ideal) (arg13.view.writes (Elt Ideal) G_arg13 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 n).2) (ix2 t x)
      = if t.val / 512 < n then dfqOut (arg18.view.read (Elt Ideal) X_arg18) t x else arg13.view.read (Elt Ideal) G_arg13 (ix2 t x) := by
  induction n with
  | zero => rw [if_neg (by omega)]; rfl
  | succ n ih =>
    have hs := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 ⟨n, hn⟩
    rw [show (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 k0_pay220 k0_h2 X_arg18 (n + 1)) = _ from hs]
    dsimp only
    rw [View.writes_append, rows13 (hv0 := hv0)]
    by_cases q : t.val / 512 = n
    · rw [if_pos q, if_pos (by omega)]
    · rw [if_neg q, ih (by omega)]
      exact if_congr (by omega) rfl rfl

end Cert.Attn
-- ==== Proof.Attn.OutQ.lean ====
module

public import proofs.«01_k».proof.Proof.Attn.DiagQ
public import proofs.«01_k».proof.Proof.Attn.Heads
public import proofs.«01_k».proof.Proof.Attn.Last
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The queries' gradient after one point -/

/-- A block of keys adds to the gradient of one query what the diagonal block, or a full one, gives. -/
def dqStep (A : S8x2048x128.Idx → EReal) (K : S8x512x128.Idx → EReal) (D : S8x2048x128.Idx → EReal) (W : S8x512x128.Idx → EReal)
    (b : Fin 4) (h : Fin 8) (t : Fin 2048) (l : Fin 128) : EReal :=
  (if t.val / 512 = b.val then dqDiag A K D W b h ⟨t.val % 512, Nat.mod_lt _ (by decide)⟩ l else 0)
    + if b.val < t.val / 512 then dqPart A K D W h t l else 0

section Any

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)
  (X0 X1 X2 X3 X4 X5 X6 X7 : Vec Ideal S1x512x128 .f32)
  (𝒱 : Variants) (bd : Option 𝒱.V) (arg1 : BitVec 32) (v534 : BitVec 32) (v905 : FVec Ideal S512x512 .bf16) (v912 : FVec Ideal S128x512 .f32) (v927 : BitVec 32)
  (G21 : BufTy.Contents (Elt Ideal) arg21.view.ty) (G22 : BufTy.Contents (Elt Ideal) arg22.view.ty)

theorem acc18 (b : Fin 4) (hb : b.val = (i 1).val) (g : BufTy.Contents (Elt Ideal) arg18.view.ty) (L : List (View.Piece (Elt Ideal) S8x2048x128 .f32))
    (n : ℕ) (hn : n = (k0_t2_loop i).trips) (L3 : List (View.Piece (Elt Ideal) S8x2048x128 .f32)) (h3 : L3 = [])
    (hX : ∀ (h : Fin 8) (r : Fin 512) (l : Fin 128), (pick8 X0 X1 X2 X3 X4 X5 X6 X7 h (ix3 0 r l) : EReal) = arg18.view.read (Elt Ideal) (arg18.view.writes (Elt Ideal) g L) (ix3 h (at_ b r) l))
    (h : Fin 8) (t : Fin 2048) (l : Fin 128) :
    (arg18.view.read (Elt Ideal) (arg18.view.writes (Elt Ideal) g (L3 ++ ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 f14 f15 f16 f17 (arg19.view.writes (Elt Ideal) arg19.view.junk (runB.sl.H19_8 i arg3 arg7 f3 f7)) (arg20.view.writes (Elt Ideal) arg20.view.junk (runB.sl.H20_8 arg4 f4))
        (arg18.view.writes (Elt Ideal) g ((⟨Rect.unit (s := S8x2048x128) (k0_off37 i) S1x512x128.size (k0_off37_inb i), k0_pay315 (runB.sl.r_30 i arg3 arg4 arg7 arg14 arg15 arg19 arg20 f3 f4 f7 f14 f15) X7 (runB.sl.v881 i arg3 arg7 arg19 f3 f7)⟩ : View.Piece (Elt Ideal) S8x2048x128 .f32) :: (⟨Rect.unit (s := S8x2048x128) (k0_off35 i) S1x512x128.size (k0_off35_inb i), k0_pay308 (runB.sl.r_27 i arg3 arg7 arg14 arg19 f3 f7 f14) (runB.sl.r_28 i arg15 f15) (runB.sl.v852 arg4 arg20 f4) X6 (runB.sl.v832 i arg3 arg7 arg19 f3 f7)⟩ : View.Piece (Elt Ideal) S8x2048x128 .f32) :: (⟨Rect.unit (s := S8x2048x128) (k0_off33 i) S1x512x128.size (k0_off33_inb i), k0_pay303 (runB.sl.r_26 i arg3 arg4 arg7 arg14 arg15 arg19 arg20 f3 f4 f7 f14 f15) X5 (runB.sl.v783 i arg3 arg7 arg19 f3 f7)⟩ : View.Piece (Elt Ideal) S8x2048x128 .f32) :: (⟨Rect.unit (s := S8x2048x128) (k0_off31 i) S1x512x128.size (k0_off31_inb i), k0_pay297 (runB.sl.r_22 i arg3 arg7 arg14 arg19 f3 f7 f14) (runB.sl.r_23 i arg15 f15) (runB.sl.r_24 arg4 arg20 f4) X4 (runB.sl.v734 i arg3 arg7 arg19 f3 f7)⟩ : View.Piece (Elt Ideal) S8x2048x128 .f32) :: (⟨Rect.unit (s := S8x2048x128) (k0_off29 i) S1x512x128.size (k0_off29_inb i), k0_pay290 (runB.sl.r_20 i arg3 arg4 arg7 arg14 arg15 arg19 arg20 f3 f4 f7 f14 f15) (k0_pay289 X3) (runB.sl.v685 i arg3 arg7 arg19 f3 f7)⟩ : View.Piece (Elt Ideal) S8x2048x128 .f32) :: (⟨Rect.unit (s := S8x2048x128) (k0_off27 i) S1x512x128.size (k0_off27_inb i), k0_pay283 (runB.sl.r_17 i arg3 arg4 arg7 arg14 arg15 arg19 arg20 f3 f4 f7 f14 f15) X2 (runB.sl.v636 i arg3 arg7 arg19 f3 f7)⟩ : View.Piece (Elt Ideal) S8x2048x128 .f32) :: (⟨Rect.unit (s := S8x2048x128) (k0_off25 i) S1x512x128.size (k0_off25_inb i), k0_pay278 (k0_pay277 (runB.sl.r_13 i arg3 arg7 arg14 arg19 f3 f7 f14) (View.readAt (Elt Ideal) arg15.view (Rect.unit (s := S8x2048x128) (k0_off25 i) S1x512x128.size (k0_off25_inb i)).toLoadRect f15) (runB.sl.v607 arg4 arg20 f4) X1 (runB.sl.v587 i arg3 arg7 arg19 f3 f7))⟩ : View.Piece (Elt Ideal) S8x2048x128 .f32) :: (⟨Rect.unit (s := S8x2048x128) (k0_off23 i) S1x512x128.size (k0_off23_inb i), k0_pay270 (runB.sl.r_11 i arg3 arg4 arg7 arg14 arg15 arg19 arg20 f3 f4 f7 f14 f15) X0 (runB.sl.v538 i arg3 arg7 arg19 f3 f7)⟩ : View.Piece (Elt Ideal) S8x2048x128 .f32) :: L)) G21 G22 n).1 ++ ((⟨Rect.unit (s := S8x2048x128) (k0_off37 i) S1x512x128.size (k0_off37_inb i), k0_pay315 (runB.sl.r_30 i arg3 arg4 arg7 arg14 arg15 arg19 arg20 f3 f4 f7 f14 f15) X7 (runB.sl.v881 i arg3 arg7 arg19 f3 f7)⟩ : View.Piece (Elt Ideal) S8x2048x128 .f32) :: (⟨Rect.unit (s := S8x2048x128) (k0_off35 i) S1x512x128.size (k0_off35_inb i), k0_pay308 (runB.sl.r_27 i arg3 arg7 arg14 arg19 f3 f7 f14) (runB.sl.r_28 i arg15 f15) (runB.sl.v852 arg4 arg20 f4) X6 (runB.sl.v832 i arg3 arg7 arg19 f3 f7)⟩ : View.Piece (Elt Ideal) S8x2048x128 .f32) :: (⟨Rect.unit (s := S8x2048x128) (k0_off33 i) S1x512x128.size (k0_off33_inb i), k0_pay303 (runB.sl.r_26 i arg3 arg4 arg7 arg14 arg15 arg19 arg20 f3 f4 f7 f14 f15) X5 (runB.sl.v783 i arg3 arg7 arg19 f3 f7)⟩ : View.Piece (Elt Ideal) S8x2048x128 .f32) :: (⟨Rect.unit (s := S8x2048x128) (k0_off31 i) S1x512x128.size (k0_off31_inb i), k0_pay297 (runB.sl.r_22 i arg3 arg7 arg14 arg19 f3 f7 f14) (runB.sl.r_23 i arg15 f15) (runB.sl.r_24 arg4 arg20 f4) X4 (runB.sl.v734 i arg3 arg7 arg19 f3 f7)⟩ : View.Piece (Elt Ideal) S8x2048x128 .f32) :: (⟨Rect.unit (s := S8x2048x128) (k0_off29 i) S1x512x128.size (k0_off29_inb i), k0_pay290 (runB.sl.r_20 i arg3 arg4 arg7 arg14 arg15 arg19 arg20 f3 f4 f7 f14 f15) (k0_pay289 X3) (runB.sl.v685 i arg3 arg7 arg19 f3 f7)⟩ : View.Piece (Elt Ideal) S8x2048x128 .f32) :: (⟨Rect.unit (s := S8x2048x128) (k0_off27 i) S1x512x128.size (k0_off27_inb i), k0_pay283 (runB.sl.r_17 i arg3 arg4 arg7 arg14 arg15 arg19 arg20 f3 f4 f7 f14 f15) X2 (runB.sl.v636 i arg3 arg7 arg19 f3 f7)⟩ : View.Piece (Elt Ideal) S8x2048x128 .f32) :: (⟨Rect.unit (s := S8x2048x128) (k0_off25 i) S1x512x128.size (k0_off25_inb i), k0_pay278 (k0_pay277 (runB.sl.r_13 i arg3 arg7 arg14 arg19 f3 f7 f14) (View.readAt (Elt Ideal) arg15.view (Rect.unit (s := S8x2048x128) (k0_off25 i) S1x512x128.size (k0_off25_inb i)).toLoadRect f15) (runB.sl.v607 arg4 arg20 f4) X1 (runB.sl.v587 i arg3 arg7 arg19 f3 f7))⟩ : View.Piece (Elt Ideal) S8x2048x128 .f32) :: (⟨Rect.unit (s := S8x2048x128) (k0_off23 i) S1x512x128.size (k0_off23_inb i), k0_pay270 (runB.sl.r_11 i arg3 arg4 arg7 arg14 arg15 arg19 arg20 f3 f4 f7 f14 f15) X0 (runB.sl.v538 i arg3 arg7 arg19 f3 f7)⟩ : View.Piece (Elt Ideal) S8x2048x128 .f32) :: L)))) (ix3 h t l) : EReal)
      = arg18.view.read (Elt Ideal) (arg18.view.writes (Elt Ideal) g L) (ix3 h t l) + dqStep (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h t l := by
  subst h3
  rw [List.nil_append, View.writes_append, loop18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v534 v905 v912 v927 f14 f15 f16 f17 (arg19.view.writes (Elt Ideal) arg19.view.junk (runB.sl.H19_8 i arg3 arg7 f3 f7)) (arg20.view.writes (Elt Ideal) arg20.view.junk (runB.sl.H20_8 arg4 f4)) _ G21 G22 h t l n hn.le,
    diag18 i arg3 arg4 arg7 arg14 arg15 arg18 arg19 arg20 f3 f4 f7 f14 f15 X0 X1 X2 X3 X4 X5 X6 X7 b hb g L hX h t l, add_assoc]
  exact congrArg _ (congrArg _ (if_congr (by rw [hb]; exact trips_all i ⟨t.val / 512, by omega⟩ n hn) rfl rfl))

end Any

section Points

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)
  (h1 : k0_cond1 i = 1#1) (h1n : ¬k0_cond1 i = 1#1) (h2 : k0_cond2 i = 1#1) (h2n : ¬k0_cond2 i = 1#1) (b : Fin 4) (hb : b.val = (i 1).val)
include hb

omit hb in
/-- At a sequence's first point the accumulator holds zero at a head not yet reached. -/
theorem rest18 (k : ℕ) (hk : k < 8) (t : Fin 2048) (l : Fin 128) :
    (0 ≤ k → (arg18.view.read (Elt Ideal) (arg18.view.writes (Elt Ideal) arg18.view.junk (runA.sl.H18_1)) (ix3 ⟨k, hk⟩ t l) : EReal) = 0) ∧
    (1 ≤ k → (arg18.view.read (Elt Ideal) (arg18.view.writes (Elt Ideal) arg18.view.junk (runA.sl.H18_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) ∧
    (2 ≤ k → (arg18.view.read (Elt Ideal) (arg18.view.writes (Elt Ideal) arg18.view.junk (runA.sl.H18_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) ∧
    (3 ≤ k → (arg18.view.read (Elt Ideal) (arg18.view.writes (Elt Ideal) arg18.view.junk (runA.sl.H18_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) ∧
    (4 ≤ k → (arg18.view.read (Elt Ideal) (arg18.view.writes (Elt Ideal) arg18.view.junk (runA.sl.H18_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) ∧
    (5 ≤ k → (arg18.view.read (Elt Ideal) (arg18.view.writes (Elt Ideal) arg18.view.junk (runA.sl.H18_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) ∧
    (6 ≤ k → (arg18.view.read (Elt Ideal) (arg18.view.writes (Elt Ideal) arg18.view.junk (runA.sl.H18_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) ∧
    (7 ≤ k → (arg18.view.read (Elt Ideal) (arg18.view.writes (Elt Ideal) arg18.view.junk (runA.sl.H18_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0) := by
  have o23 := k0_off23_eq i
  have o25 := k0_off25_eq i
  have o27 := k0_off27_eq i
  have o29 := k0_off29_eq i
  have o31 := k0_off31_eq i
  have o33 := k0_off33_eq i
  have o35 := k0_off35_eq i
  have o37 := k0_off37_eq i
  have z0 : (arg18.view.read (Elt Ideal) (arg18.view.writes (Elt Ideal) arg18.view.junk (runA.sl.H18_1)) (ix3 ⟨k, hk⟩ t l) : EReal) = 0 := by
    unfold runA.sl.H18_1
    refine (whole3 _ _ _ _ _ _ _ _).trans ?_
    pointwise [k0_pay84]
  have z1 : 1 ≤ k → (arg18.view.read (Elt Ideal) (arg18.view.writes (Elt Ideal) arg18.view.junk (runA.sl.H18_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_2
    exact (cons_other (r0 := 512 * (i 1).val) _ _ _ _ _ _ k 0 hk o23 (by omega) t l).trans (z0)
  have z2 : 2 ≤ k → (arg18.view.read (Elt Ideal) (arg18.view.writes (Elt Ideal) arg18.view.junk (runA.sl.H18_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_3
    exact (cons_other (r0 := 512 * (i 1).val) _ _ _ _ _ _ k 1 hk o25 (by omega) t l).trans (z1 (by omega))
  have z3 : 3 ≤ k → (arg18.view.read (Elt Ideal) (arg18.view.writes (Elt Ideal) arg18.view.junk (runA.sl.H18_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_4
    exact (cons_other (r0 := 512 * (i 1).val) _ _ _ _ _ _ k 2 hk o27 (by omega) t l).trans (z2 (by omega))
  have z4 : 4 ≤ k → (arg18.view.read (Elt Ideal) (arg18.view.writes (Elt Ideal) arg18.view.junk (runA.sl.H18_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_5
    exact (cons_other (r0 := 512 * (i 1).val) _ _ _ _ _ _ k 3 hk o29 (by omega) t l).trans (z3 (by omega))
  have z5 : 5 ≤ k → (arg18.view.read (Elt Ideal) (arg18.view.writes (Elt Ideal) arg18.view.junk (runA.sl.H18_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_6
    exact (cons_other (r0 := 512 * (i 1).val) _ _ _ _ _ _ k 4 hk o31 (by omega) t l).trans (z4 (by omega))
  have z6 : 6 ≤ k → (arg18.view.read (Elt Ideal) (arg18.view.writes (Elt Ideal) arg18.view.junk (runA.sl.H18_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_7
    exact (cons_other (r0 := 512 * (i 1).val) _ _ _ _ _ _ k 5 hk o33 (by omega) t l).trans (z5 (by omega))
  have z7 : 7 ≤ k → (arg18.view.read (Elt Ideal) (arg18.view.writes (Elt Ideal) arg18.view.junk (runA.sl.H18_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1)) (ix3 ⟨k, hk⟩ t l) : EReal) = 0 := fun h => by
    unfold runA.sl.H18_8
    exact (cons_other (r0 := 512 * (i 1).val) _ _ _ _ _ _ k 6 hk o35 (by omega) t l).trans (z6 (by omega))
  exact ⟨fun _ => z0, z1, z2, z3, z4, z5, z6, z7⟩

theorem B_dq (h : Fin 8) (t : Fin 2048) (l : Fin 128) : (arg18.view.read (Elt Ideal) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2n).2.2.2.1 (ix3 h t l) : EReal)
    = arg18.view.read (Elt Ideal) f18 (ix3 h t l) + dqStep (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h t l := by
  have e : b = i 1 := Fin.ext hb
  subst e
  unfold runB
  dsimp only
  refine acc18 c i _ _ _ _ _ _ _ _ _ _ _ _ _ _ _ _ _ _ _ _ _ _ _ _ _ _ _ _ _ _ _ _ _ _ _ _ _ _ _ _ _ _ f3 f4 f7 f14 f15 f16 f17 (View.readAt (Elt Ideal) arg18.view (Rect.unit (s := S8x2048x128) (k0_off23 i) S1x512x128.size (k0_off23_inb i)).toLoadRect f18) (View.readAt (Elt Ideal) arg18.view (Rect.unit (s := S8x2048x128) (k0_off25 i) S1x512x128.size (k0_off25_inb i)).toLoadRect f18) (View.readAt (Elt Ideal) arg18.view (Rect.unit (s := S8x2048x128) (k0_off27 i) S1x512x128.size (k0_off27_inb i)).toLoadRect f18) (View.readAt (Elt Ideal) arg18.view (Rect.unit (s := S8x2048x128) (k0_off29 i) S1x512x128.size (k0_off29_inb i)).toLoadRect f18) (View.readAt (Elt Ideal) arg18.view (Rect.unit (s := S8x2048x128) (k0_off31 i) S1x512x128.size (k0_off31_inb i)).toLoadRect f18) (View.readAt (Elt Ideal) arg18.view (Rect.unit (s := S8x2048x128) (k0_off33 i) S1x512x128.size (k0_off33_inb i)).toLoadRect f18) (View.readAt (Elt Ideal) arg18.view (Rect.unit (s := S8x2048x128) (k0_off35 i) S1x512x128.size (k0_off35_inb i)).toLoadRect f18) (View.readAt (Elt Ideal) arg18.view (Rect.unit (s := S8x2048x128) (k0_off37 i) S1x512x128.size (k0_off37_inb i)).toLoadRect f18) _ _ _ _ _ _ _ _ _ (i 1) rfl f18 [] _ rfl _ (by apply nil3a; exact trips_t3 i) (fun h r l => ?_) h t l
  fin_cases h <;> simp only [pick8, Fin.zero_eta, Fin.mk_one, Fin.reduceFinMk, Matrix.cons_val]
  · exact ld3 _ _ _ _ (k0_off23_eq i) _ _ _
  · exact ld3 _ _ _ _ (k0_off25_eq i) _ _ _
  · exact ld3 _ _ _ _ (k0_off27_eq i) _ _ _
  · exact ld3 _ _ _ _ (k0_off29_eq i) _ _ _
  · exact ld3 _ _ _ _ (k0_off31_eq i) _ _ _
  · exact ld3 _ _ _ _ (k0_off33_eq i) _ _ _
  · exact ld3 _ _ _ _ (k0_off35_eq i) _ _ _
  · exact ld3 _ _ _ _ (k0_off37_eq i) _ _ _

theorem C_dq (h : Fin 8) (t : Fin 2048) (l : Fin 128) : (arg18.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.2.2.2.2.1 (ix3 h t l) : EReal)
    = arg18.view.read (Elt Ideal) f18 (ix3 h t l) + dqStep (arg14.view.read (Elt Ideal) f14) (arg19.view.read (Elt Ideal) (arg19.view.writes (Elt Ideal) arg19.view.junk (runB.sl.H19_8 i arg3 arg7 f3 f7))) (arg15.view.read (Elt Ideal) f15) (arg20.view.read (Elt Ideal) (arg20.view.writes (Elt Ideal) arg20.view.junk (runB.sl.H20_8 arg4 f4))) b h t l := by
  have e : b = i 1 := Fin.ext hb
  subst e
  unfold runC
  dsimp only
  refine acc18 c i _ _ _ _ _ _ _ _ _ _ _ _ _ _ _ _ _ _ _ _ _ _ _ _ _ _ _ _ _ _ _ _ _ _ _ _ _ _ _ _ _ _ f3 f4 f7 f14 f15 f16 f17 (View.readAt (Elt Ideal) arg18.view (Rect.unit (s := S8x2048x128) (k0_off23 i) S1x512x128.size (k0_off23_inb i)).toLoadRect f18) (View.readAt (Elt Ideal) arg18.view (Rect.unit (s := S8x2048x128) (k0_off25 i) S1x512x128.size (k0_off25_inb i)).toLoadRect f18) (View.readAt (Elt Ideal) arg18.view (Rect.unit (s := S8x2048x128) (k0_off27 i) S1x512x128.size (k0_off27_inb i)).toLoadRect f18) (View.readAt (Elt Ideal) arg18.view (Rect.unit (s := S8x2048x128) (k0_off29 i) S1x512x128.size (k0_off29_inb i)).toLoadRect f18) (View.readAt (Elt Ideal) arg18.view (Rect.unit (s := S8x2048x128) (k0_off31 i) S1x512x128.size (k0_off31_inb i)).toLoadRect f18) (View.readAt (Elt Ideal) arg18.view (Rect.unit (s := S8x2048x128) (k0_off33 i) S1x512x128.size (k0_off33_inb i)).toLoadRect f18) (View.readAt (Elt Ideal) arg18.view (Rect.unit (s := S8x2048x128) (k0_off35 i) S1x512x128.size (k0_off35_inb i)).toLoadRect f18) (View.readAt (Elt Ideal) arg18.view (Rect.unit (s := S8x2048x128) (k0_off37 i) S1x512x128.size (k0_off37_inb i)).toLoadRect f18) _ _ _ _ _ _ _ _ _ (i 1) rfl f18 [] _ rfl _ (by apply nil3a; exact trips_t3 i) (fun h r l => ?_) h t l
  fin_cases h <;> simp only [pick8, Fin.zero_eta, Fin.mk_one, Fin.reduceFinMk, Matrix.cons_val]
  · exact ld3 _ _ _ _ (k0_off23_eq i) _ _ _
  · exact ld3 _ _ _ _ (k0_off25_eq i) _ _ _
  · exact ld3 _ _ _ _ (k0_off27_eq i) _ _ _
  · exact ld3 _ _ _ _ (k0_off29_eq i) _ _ _
  · exact ld3 _ _ _ _ (k0_off31_eq i) _ _ _
  · exact ld3 _ _ _ _ (k0_off33_eq i) _ _ _
  · exact ld3 _ _ _ _ (k0_off35_eq i) _ _ _
  · exact ld3 _ _ _ _ (k0_off37_eq i) _ _ _

theorem A_dq (h : Fin 8) (t : Fin 2048) (l : Fin 128) : (arg18.view.read (Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.2.2.2.2.2.2.1 (ix3 h t l) : EReal)
    = 0 + dqStep (arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14)) (arg19.view.read (Elt Ideal) (arg19.view.writes (Elt Ideal) arg19.view.junk (runB.sl.H19_8 i arg3 arg7 f3 f7))) (arg15.view.read (Elt Ideal) (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15)) (arg20.view.read (Elt Ideal) (arg20.view.writes (Elt Ideal) arg20.view.junk (runB.sl.H20_8 arg4 f4))) b h t l := by
  have e : b = i 1 := Fin.ext hb
  subst e
  unfold runA
  dsimp only
  have z : ∀ (k : ℕ) (hk : k < 8) (t : Fin 2048) (l : Fin 128), (arg18.view.read (Elt Ideal) (arg18.view.writes (Elt Ideal) arg18.view.junk (runA.sl.H18_1)) (ix3 ⟨k, hk⟩ t l) : EReal) = 0 :=
    fun k hk t l => (rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 k hk t l).1 (Nat.zero_le _)
  refine (acc18 c i _ _ _ _ _ _ _ _ _ _ _ _ _ _ _ _ _ _ _ _ _ _ _ _ _ _ _ _ _ _ _ _ _ _ _ _ _ _ _ _ _ _ f3 f4 f7 (P14 c i _ _ _ _ _ _ _ _ _ _ _ _ _ _ _ _ _ _ _ _ _ _ _ _ _ _ _ _ _ _ _ _ _ _ _ _ _ _ _ _ _ _ h1 f2 f5 f6 f7 f8 f14) (P15 c i _ _ _ _ _ _ _ _ _ _ _ _ _ _ _ _ _ _ _ _ _ _ _ _ _ _ _ _ _ _ _ _ _ _ _ _ _ _ _ _ _ _ h1 f2 f5 f6 f7 f8 f15) (P16 c i _ _ _ _ _ _ _ _ _ _ _ _ _ _ _ _ _ _ _ _ _ _ _ _ _ _ _ _ _ _ _ _ _ _ _ _ _ _ _ _ _ _ h1 f2 f5 f6 f7 f8 f16) (P17 c i _ _ _ _ _ _ _ _ _ _ _ _ _ _ _ _ _ _ _ _ _ _ _ _ _ _ _ _ _ _ _ _ _ _ _ _ _ _ _ _ _ _ h1 f2 f5 f6 f7 f8 f17) (View.readAt (Elt Ideal) arg18.view (Rect.unit (s := S8x2048x128) (k0_off23 i) S1x512x128.size (k0_off23_inb i)).toLoadRect (arg18.view.writes (Elt Ideal) arg18.view.junk (runA.sl.H18_1))) (View.readAt (Elt Ideal) arg18.view (Rect.unit (s := S8x2048x128) (k0_off25 i) S1x512x128.size (k0_off25_inb i)).toLoadRect (arg18.view.writes (Elt Ideal) arg18.view.junk (runA.sl.H18_2 c i _ _ _ _ _ _ _ _ _ _ _ _ _ _ _ _ _ _ _ _ _ _ _ _ _ _ _ _ _ _ _ _ _ _ _ _ _ _ _ _ _ _ f2 f3 f4 f5 f6 f7 f8 f14 f15 h1))) (View.readAt (Elt Ideal) arg18.view (Rect.unit (s := S8x2048x128) (k0_off27 i) S1x512x128.size (k0_off27_inb i)).toLoadRect (arg18.view.writes (Elt Ideal) arg18.view.junk (runA.sl.H18_3 c i _ _ _ _ _ _ _ _ _ _ _ _ _ _ _ _ _ _ _ _ _ _ _ _ _ _ _ _ _ _ _ _ _ _ _ _ _ _ _ _ _ _ f2 f3 f4 f5 f6 f7 f8 f14 f15 h1))) (View.readAt (Elt Ideal) arg18.view (Rect.unit (s := S8x2048x128) (k0_off29 i) S1x512x128.size (k0_off29_inb i)).toLoadRect (arg18.view.writes (Elt Ideal) arg18.view.junk (runA.sl.H18_4 c i _ _ _ _ _ _ _ _ _ _ _ _ _ _ _ _ _ _ _ _ _ _ _ _ _ _ _ _ _ _ _ _ _ _ _ _ _ _ _ _ _ _ f2 f3 f4 f5 f6 f7 f8 f14 f15 h1))) (View.readAt (Elt Ideal) arg18.view (Rect.unit (s := S8x2048x128) (k0_off31 i) S1x512x128.size (k0_off31_inb i)).toLoadRect (arg18.view.writes (Elt Ideal) arg18.view.junk (runA.sl.H18_5 c i _ _ _ _ _ _ _ _ _ _ _ _ _ _ _ _ _ _ _ _ _ _ _ _ _ _ _ _ _ _ _ _ _ _ _ _ _ _ _ _ _ _ f2 f3 f4 f5 f6 f7 f8 f14 f15 h1))) (View.readAt (Elt Ideal) arg18.view (Rect.unit (s := S8x2048x128) (k0_off33 i) S1x512x128.size (k0_off33_inb i)).toLoadRect (arg18.view.writes (Elt Ideal) arg18.view.junk (runA.sl.H18_6 c i _ _ _ _ _ _ _ _ _ _ _ _ _ _ _ _ _ _ _ _ _ _ _ _ _ _ _ _ _ _ _ _ _ _ _ _ _ _ _ _ _ _ f2 f3 f4 f5 f6 f7 f8 f14 f15 h1))) (View.readAt (Elt Ideal) arg18.view (Rect.unit (s := S8x2048x128) (k0_off35 i) S1x512x128.size (k0_off35_inb i)).toLoadRect (arg18.view.writes (Elt Ideal) arg18.view.junk (runA.sl.H18_7 c i _ _ _ _ _ _ _ _ _ _ _ _ _ _ _ _ _ _ _ _ _ _ _ _ _ _ _ _ _ _ _ _ _ _ _ _ _ _ _ _ _ _ f2 f3 f4 f5 f6 f7 f8 f14 f15 h1))) (View.readAt (Elt Ideal) arg18.view (Rect.unit (s := S8x2048x128) (k0_off37 i) S1x512x128.size (k0_off37_inb i)).toLoadRect (arg18.view.writes (Elt Ideal) arg18.view.junk (runA.sl.H18_8 c i _ _ _ _ _ _ _ _ _ _ _ _ _ _ _ _ _ _ _ _ _ _ _ _ _ _ _ _ _ _ _ _ _ _ _ _ _ _ _ _ _ _ f2 f3 f4 f5 f6 f7 f8 f14 f15 h1))) _ _ _ _ _ _ _ _ _ (i 1) rfl _ (runA.sl.H18_1) _ rfl _ (by apply nil3a; exact trips_t3 i) (fun h r l => ?_) h t l).trans (congrArg (· + _) (z h.val h.isLt t l))
  refine Eq.trans ?_ (z h.val h.isLt _ l).symm
  fin_cases h <;> simp only [pick8, Fin.zero_eta, Fin.mk_one, Fin.reduceFinMk, Matrix.cons_val]
  · exact (ld3 _ _ _ _ (k0_off23_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 0 (by decide) _ l).1 le_rfl)
  · exact (ld3 _ _ _ _ (k0_off25_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 1 (by decide) _ l).2.1 le_rfl)
  · exact (ld3 _ _ _ _ (k0_off27_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 2 (by decide) _ l).2.2.1 le_rfl)
  · exact (ld3 _ _ _ _ (k0_off29_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 3 (by decide) _ l).2.2.2.1 le_rfl)
  · exact (ld3 _ _ _ _ (k0_off31_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 4 (by decide) _ l).2.2.2.2.1 le_rfl)
  · exact (ld3 _ _ _ _ (k0_off33_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 5 (by decide) _ l).2.2.2.2.2.1 le_rfl)
  · exact (ld3 _ _ _ _ (k0_off35_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 6 (by decide) _ l).2.2.2.2.2.2.1 le_rfl)
  · exact (ld3 _ _ _ _ (k0_off37_eq i) _ _ _).trans ((rest18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f14 f15 h1 7 (by decide) _ l).2.2.2.2.2.2.2  le_rfl)

end Points

end Cert.Attn
-- ==== Proof.Attn.Keys.lean ====
module

public import proofs.«01_k».proof.Proof.Attn.Prep
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The prepared rows of a key block -/

theorem k_table (Y : Vec Ideal S512x128 .f32) (r : Fin 512) (c : Fin 1024) :
    k0_pay227 (k0_pay221 Y) runB.sl.v41 runB.sl.v66 runB.sl.v82 2#32 (remsi runB.sl.v66 runB.sl.v85) runB.sl.v45 (ix2 r c)
      = ∑ x : Fin 128, lanes (fun x => 0 - Y (ix2 r x)) x * place 1 x c := by
  pointwise [k0_pay221, k0_pay222, k0_pay223, k0_pay224, k0_pay225, k0_pay226, k0_pay227, k0_pay228, k0_pay229, k0_pay230, runB.sl.v41, runB.sl.v42, runB.sl.v45, runB.sl.v47, runB.sl.v50, runB.sl.v57, runB.sl.v58, runB.sl.v59, runB.sl.v62, runB.sl.v65, runB.sl.v66, runB.sl.v74, runB.sl.v76, runB.sl.v78, runB.sl.v81, runB.sl.v82, runB.sl.v85]
  refine Finset.sum_congr rfl fun x hx => ?_
  clear hx
  rw [lt_word _ 24 (by omega) (by decide)]
  unfold lanes
  by_cases q : x.val < 24
  · rw [if_pos q, if_pos q]
    refine congrArg₂ (α := EReal) (β := EReal) (γ := EReal) (· * ·) ?_ (place_of 1 x _ _ _ ?_ ?_)
    · rw [lt_word _ 8 (by omega) (by decide), lt_word _ 16 (by omega) (by decide)]
    · clear q x
      revert c; decide +kernel
    · clear q x
      revert c; decide +kernel
  · rw [if_neg q, if_neg q, zero_mul]

theorem k_table0 (Y : Vec Ideal S512x128 .f32) (r : Fin 512) (l : Fin 128) :
    k0_pay230 (k0_pay221 Y) runB.sl.v41 runB.sl.v66 runB.sl.v82 2#32 (remsi runB.sl.v66 runB.sl.v85) runB.sl.v45 (ix2 r l)
      = k0_pay227 (k0_pay221 Y) runB.sl.v41 runB.sl.v66 runB.sl.v82 2#32 (remsi runB.sl.v66 runB.sl.v85) runB.sl.v45 (ix2 r ⟨l.val, by omega⟩) := by
  pointwise [k0_pay221, k0_pay222, k0_pay223, k0_pay224, k0_pay225, k0_pay226, k0_pay227, k0_pay228, k0_pay229, k0_pay230, runB.sl.v41, runB.sl.v42, runB.sl.v45, runB.sl.v47, runB.sl.v50, runB.sl.v57, runB.sl.v58, runB.sl.v59, runB.sl.v62, runB.sl.v65, runB.sl.v66, runB.sl.v74, runB.sl.v76, runB.sl.v78, runB.sl.v81, runB.sl.v82, runB.sl.v85]

/-- A row of keys as the kernel widens it: the head's columns scaled, beside them ones and the row's cumulative logarithm subtracted. -/
def ka (A : S512x512.Idx → EReal) (C : Fin 512 → Fin 128 → EReal) (h : Fin 8) (u : Fin 512) (l : Fin 128) : EReal :=
  if 64 * (1 - h.val % 2) ≤ l.val ∧ l.val < 64 * (1 - h.val % 2) + 3 then 1
  else if Own h.val l then A (ix2 u ⟨128 * (h.val / 2) + l.val, by omega⟩) * ((1 / 8 : ℝ) : EReal)
  else spread (fun x => 0 - C u x) 1 h l

/-- A row of values as the kernel widens it. -/
def va (A : S512x512.Idx → EReal) (h : Fin 8) (u : Fin 512) (l : Fin 128) : EReal :=
  if 64 * (1 - h.val % 2) ≤ l.val ∧ l.val < 64 * (1 - h.val % 2) + 3 then 1
  else if Own h.val l then A (ix2 u ⟨128 * (h.val / 2) + l.val, by omega⟩)
  else 0

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)

theorem eighth16 : Ideal.ofBits .bf16 15872#16 = ((1 / 8 : ℝ) : EReal) := by
  simp [Ideal.ofBits, Ideal.ieee]
  rw [← EReal.coe_mul]
  norm_num

theorem k_col (r : Fin 512) (c : Fin 1024) :
    runB.sl.r_1 i arg7 f7 (ix2 r c)
      = ∑ x : Fin 128, lanes (fun x => 0 - arg7.view.readAt (Elt Ideal) (Rect.unit (s := S2048x128) (k0_off22 i) S512x128.size (k0_off22_inb i)).toLoadRect f7 (ix2 r x)) x * place 1 x c := by
  unfold runB.sl.r_1 runB.sl.r
  exact k_table _ _ _

theorem k_col0 (r : Fin 512) (l : Fin 128) :
    runB.sl.r_3 i arg7 f7 (ix2 r l)
      = ∑ x : Fin 128, lanes (fun x => 0 - arg7.view.readAt (Elt Ideal) (Rect.unit (s := S2048x128) (k0_off22 i) S512x128.size (k0_off22_inb i)).toLoadRect f7 (ix2 r x)) x * place 1 x ⟨l.val, by omega⟩ := by
  unfold runB.sl.r_3 runB.sl.r
  exact (k_table0 _ _ _).trans (k_table _ _ _)

theorem keys (b : Fin 4) (hb : b.val = (i 1).val) (h : Fin 8) (u : Fin 512) (l : Fin 128) :
    arg19.view.read (Elt Ideal) (arg19.view.writes (Elt Ideal) arg19.view.junk (runB.sl.H19_8 i arg3 arg7 f3 f7)) (ix3 h u l) = ka (arg3.view.read (Elt Ideal) f3) (fun u x => arg7.view.read (Elt Ideal) f7 (ix2 (at_ b u) x)) h u l := by
  have e : b = i 1 := Fin.ext hb
  subst e
  have o22 := k0_off22_eq i
  unfold runB.sl.H19_8
  refine (read8 (r0 := 0) _ _ _ _ _ _ _ _ _ _ _ _ _ _ _ _ _ _ _ _ _ _ _ _ _ _ _ rfl rfl rfl rfl rfl rfl rfl rfl h _ _).trans ?_
  rw [dif_pos ⟨Nat.zero_le _, by omega⟩]
  unfold ka
  fin_cases h <;> simp only [pick8, Fin.zero_eta, Fin.mk_one, Fin.reduceFinMk, Matrix.cons_val]
  all_goals (pointwise [k0_pay228, k0_pay229, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, runB.sl.r_10, runB.sl.r_11, runB.sl.r_2, runB.sl.r_4, runB.sl.r_5, runB.sl.r_6, runB.sl.r_7, runB.sl.r_8, runB.sl.r_9, runB.sl.v0, runB.sl.v533, runB.sl.v0])
  all_goals rw [range_word l.val _ _ (by omega) (by decide) (by decide), range_word l.val _ _ (by omega) (by decide) (by decide)]
  all_goals refine if_congr (by first | exact Iff.rfl | exact ⟨fun q => q.2, fun q => ⟨Nat.zero_le _, q⟩⟩) rfl (if_congr (by first | exact Iff.rfl | exact ⟨fun q => q.2, fun q => ⟨Nat.zero_le _, q⟩⟩) ?_ ?_)
  all_goals first
    | (rw [eighth16]
       simp only [ld2 _ _ _ _ rfl, Nat.zero_add, Nat.reduceDiv, Nat.reduceMul]
       done)
    | rw [k_col0]
    | rw [k_col]
  all_goals
    exact Finset.sum_congr rfl fun x _ => congrArg₂ (α := EReal) (β := EReal) (γ := EReal) (· * ·)
      (congrArg (fun v => lanes v x) (funext fun y => congrArg (fun z => 0 - z) (by rw [ld2 _ _ _ _ o22]; simp only [Nat.zero_add])))
      (congrArg (place 1 x) (Fin.ext (by first | rfl | exact (Nat.zero_add _).symm)))

theorem vals (h : Fin 8) (u : Fin 512) (l : Fin 128) :
    arg20.view.read (Elt Ideal) (arg20.view.writes (Elt Ideal) arg20.view.junk (runB.sl.H20_8 arg4 f4)) (ix3 h u l) = va (arg4.view.read (Elt Ideal) f4) h u l := by
  unfold runB.sl.H20_8
  refine (read8 (r0 := 0) _ _ _ _ _ _ _ _ _ _ _ _ _ _ _ _ _ _ _ _ _ _ _ _ _ _ _ rfl rfl rfl rfl rfl rfl rfl rfl h _ _).trans ?_
  rw [dif_pos ⟨Nat.zero_le _, by omega⟩]
  unfold va
  fin_cases h <;> simp only [pick8, Fin.zero_eta, Fin.mk_one, Fin.reduceFinMk, Matrix.cons_val]
  all_goals (pointwise [k0_pay228, k0_pay229, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, runB.sl.r_10, runB.sl.r_11, runB.sl.r_2, runB.sl.r_4, runB.sl.r_5, runB.sl.r_6, runB.sl.r_7, runB.sl.r_8, runB.sl.r_9, runB.sl.v0, runB.sl.v533, runB.sl.v0])
  all_goals rw [range_word l.val _ _ (by omega) (by decide) (by decide), range_word l.val _ _ (by omega) (by decide) (by decide)]
  all_goals refine if_congr (by first | exact Iff.rfl | exact ⟨fun q => q.2, fun q => ⟨Nat.zero_le _, q⟩⟩) rfl (if_congr (by first | exact Iff.rfl | exact ⟨fun q => q.2, fun q => ⟨Nat.zero_le _, q⟩⟩) ?_ ?_)
  all_goals first
    | rfl
    | (simp only [ld2 _ _ _ _ rfl, Nat.zero_add, Nat.reduceDiv, Nat.reduceMul]; done)

end Cert.Attn
-- ==== Proof.Attn.Fill.lean ====
module

public import proofs.«01_k».proof.Proof.Attn.OutQ
public import proofs.«01_k».proof.Proof.Attn.Outs
public import proofs.«01_k».proof.Proof.Attn.Keys
public import proofs.«01_k».proof.Proof.Attn.RunB
public import Idealize.ShloMosaic.Lib.WordCmp
public import Idealize.ShloMosaic.Lib.Pipeline.ValueKit
public import proofs.«01_k».proof.Proof.Gen.AttnBwdIdeal.Loops

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The scratch buffers as functions of the blocks staged -/

/-- The extended queries of a sequence. -/
def QA (Q : S2048x512.Idx → EReal) (C S : S2048x128.Idx → EReal) : S8x2048x128.Idx → EReal := fun y => qa Q C S (y 0) (y 1) (y 2)

/-- The same transposed, block by block. -/
def QAT (Q : S2048x512.Idx → EReal) (C S : S2048x128.Idx → EReal) : S8x4x128x512.Idx → EReal :=
  fun y => qa Q C S (y 0) (at_ (y 1) (y 3)) (y 2)

/-- The extended cotangents. -/
def DOA (D O : S2048x512.Idx → EReal) : S8x2048x128.Idx → EReal := fun y => doa D O (y 0) (y 1) (y 2)

/-- The same transposed. -/
def DOAT (D O : S2048x512.Idx → EReal) : S8x4x128x512.Idx → EReal := fun y => doa D O (y 0) (at_ (y 1) (y 3)) (y 2)

/-- The extended keys of block `b`. -/
def KA (A : S512x512.Idx → EReal) (C : S2048x128.Idx → EReal) (b : Fin 4) : S8x512x128.Idx → EReal :=
  fun y => ka A (fun u x => C (ix2 (at_ b u) x)) (y 0) (y 1) (y 2)

/-- The extended values. -/
def VA (A : S512x512.Idx → EReal) : S8x512x128.Idx → EReal := fun y => va A (y 0) (y 1) (y 2)

section Filled

variable (c : Dev nD) (i : grid0.Coords)
  (arg2 : Memref sig .tc .vmem S2048x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S2048x512 .bf16) (harg5 : arg5.IsWhole)
  (arg6 : Memref sig .tc .vmem S2048x512 .bf16) (harg6 : arg6.IsWhole)
  (arg7 : Memref sig .tc .vmem S2048x128 .f32) (harg7 : arg7.IsWhole)
  (arg8 : Memref sig .tc .vmem S2048x128 .f32) (harg8 : arg8.IsWhole)
  (arg9 : Memref sig .tc .vmem S2048x512 .bf16) (harg9 : arg9.IsWhole)
  (arg10 : Memref sig .tc .vmem S512x512 .bf16) (harg10 : arg10.IsWhole)
  (arg11 : Memref sig .tc .vmem S512x512 .bf16) (harg11 : arg11.IsWhole)
  (arg12 : Memref sig .tc .vmem S512x128 .f32) (harg12 : arg12.IsWhole)
  (arg13 : Memref sig .tc .vmem S2048x128 .f32) (harg13 : arg13.IsWhole)
  (arg14 : Memref sig .tc .vmem S8x2048x128 .bf16) (harg14 : arg14.IsWhole)
  (arg15 : Memref sig .tc .vmem S8x2048x128 .bf16) (harg15 : arg15.IsWhole)
  (arg16 : Memref sig .tc .vmem S8x4x128x512 .bf16) (harg16 : arg16.IsWhole)
  (arg17 : Memref sig .tc .vmem S8x4x128x512 .bf16) (harg17 : arg17.IsWhole)
  (arg18 : Memref sig .tc .vmem S8x2048x128 .f32) (harg18 : arg18.IsWhole)
  (arg19 : Memref sig .tc .vmem S8x512x128 .bf16) (harg19 : arg19.IsWhole)
  (arg20 : Memref sig .tc .vmem S8x512x128 .bf16) (harg20 : arg20.IsWhole)
  (arg21 : Memref sig .tc .vmem S8x128x512 .f32) (harg21 : arg21.IsWhole)
  (arg22 : Memref sig .tc .vmem S8x128x512 .f32) (harg22 : arg22.IsWhole)
  (f2 : BufTy.Contents (Elt Ideal) arg2.view.ty)
  (f3 : BufTy.Contents (Elt Ideal) arg3.view.ty)
  (f4 : BufTy.Contents (Elt Ideal) arg4.view.ty)
  (f5 : BufTy.Contents (Elt Ideal) arg5.view.ty)
  (f6 : BufTy.Contents (Elt Ideal) arg6.view.ty)
  (f7 : BufTy.Contents (Elt Ideal) arg7.view.ty)
  (f8 : BufTy.Contents (Elt Ideal) arg8.view.ty)
  (f9 : BufTy.Contents (Elt Ideal) arg9.view.ty)
  (f10 : BufTy.Contents (Elt Ideal) arg10.view.ty)
  (f11 : BufTy.Contents (Elt Ideal) arg11.view.ty)
  (f12 : BufTy.Contents (Elt Ideal) arg12.view.ty)
  (f13 : BufTy.Contents (Elt Ideal) arg13.view.ty)
  (f14 : BufTy.Contents (Elt Ideal) arg14.view.ty)
  (f15 : BufTy.Contents (Elt Ideal) arg15.view.ty)
  (f16 : BufTy.Contents (Elt Ideal) arg16.view.ty)
  (f17 : BufTy.Contents (Elt Ideal) arg17.view.ty)
  (f18 : BufTy.Contents (Elt Ideal) arg18.view.ty)
  (f19 : BufTy.Contents (Elt Ideal) arg19.view.ty)
  (f20 : BufTy.Contents (Elt Ideal) arg20.view.ty)
  (f21 : BufTy.Contents (Elt Ideal) arg21.view.ty)
  (f22 : BufTy.Contents (Elt Ideal) arg22.view.ty)
  (h1 : k0_cond1 i = 1#1) (h1n : ¬k0_cond1 i = 1#1) (h2 : k0_cond2 i = 1#1) (h2n : ¬k0_cond2 i = 1#1)

theorem fill14 : arg14.view.read (Elt Ideal) (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14) = QA (arg2.view.read (Elt Ideal) f2) (arg7.view.read (Elt Ideal) f7) (arg8.view.read (Elt Ideal) f8) := by
  funext y
  obtain ⟨h, t, l, rfl⟩ : ∃ h t l, y = ix3 h t l := ⟨y 0, y 1, y 2, eq_ix3 y⟩
  exact (all14 Variants.none c none i _ _ _ _ _ _ _ _ _ _ _ _ _ _ _ _ _ _ _ _ _ _ _ _ _ _ _ _ _ _ _ _ _ _ _ _ _ _ _ _ _ _ h1 f2 f5 f6 f7 f8 f14 h t l _ le_rfl).trans (if_pos (by show t.val / 512 < 4; omega))

theorem fill15 : arg15.view.read (Elt Ideal) (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15) = DOA (arg5.view.read (Elt Ideal) f5) (arg6.view.read (Elt Ideal) f6) := by
  funext y
  obtain ⟨h, t, l, rfl⟩ : ∃ h t l, y = ix3 h t l := ⟨y 0, y 1, y 2, eq_ix3 y⟩
  exact (all15 Variants.none c none i _ _ _ _ _ _ _ _ _ _ _ _ _ _ _ _ _ _ _ _ _ _ _ _ _ _ _ _ _ _ _ _ _ _ _ _ _ _ _ _ _ _ h1 f2 f5 f6 f7 f8 f15 h t l _ le_rfl).trans (if_pos (by show t.val / 512 < 4; omega))

theorem fill16 : arg16.view.read (Elt Ideal) (P16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f16) = QAT (arg2.view.read (Elt Ideal) f2) (arg7.view.read (Elt Ideal) f7) (arg8.view.read (Elt Ideal) f8) := by
  funext y
  obtain ⟨h, j, l, u, rfl⟩ : ∃ h j l u, y = ix4 h j l u := ⟨y 0, y 1, y 2, y 3, eq_ix4 y⟩
  exact (all16 Variants.none c none i _ _ _ _ _ _ _ _ _ _ _ _ _ _ _ _ _ _ _ _ _ _ _ _ _ _ _ _ _ _ _ _ _ _ _ _ _ _ _ _ _ _ h1 f2 f5 f6 f7 f8 f16 h j l u _ le_rfl).trans (if_pos j.isLt)

theorem fill17 : arg17.view.read (Elt Ideal) (P17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f17) = DOAT (arg5.view.read (Elt Ideal) f5) (arg6.view.read (Elt Ideal) f6) := by
  funext y
  obtain ⟨h, j, l, u, rfl⟩ : ∃ h j l u, y = ix4 h j l u := ⟨y 0, y 1, y 2, y 3, eq_ix4 y⟩
  exact (all17 Variants.none c none i _ _ _ _ _ _ _ _ _ _ _ _ _ _ _ _ _ _ _ _ _ _ _ _ _ _ _ _ _ _ _ _ _ _ _ _ _ _ _ _ _ _ h1 f2 f5 f6 f7 f8 f17 h j l u _ le_rfl).trans (if_pos j.isLt)

theorem fillK (b : Fin 4) (hb : b.val = (i 1).val) : arg19.view.read (Elt Ideal) (arg19.view.writes (Elt Ideal) arg19.view.junk (runB.sl.H19_8 i arg3 arg7 f3 f7)) = KA (arg3.view.read (Elt Ideal) f3) (arg7.view.read (Elt Ideal) f7) b := by
  funext y
  obtain ⟨h, t, l, rfl⟩ : ∃ h t l, y = ix3 h t l := ⟨y 0, y 1, y 2, eq_ix3 y⟩
  exact keys i arg3 arg7 arg19 f3 f7 b hb h t l

theorem fillV : arg20.view.read (Elt Ideal) (arg20.view.writes (Elt Ideal) arg20.view.junk (runB.sl.H20_8 arg4 f4)) = VA (arg4.view.read (Elt Ideal) f4) := by
  funext y
  obtain ⟨h, t, l, rfl⟩ : ∃ h t l, y = ix3 h t l := ⟨y 0, y 1, y 2, eq_ix3 y⟩
  exact vals arg4 arg20 f4 h t l

theorem A_14 : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.2.2.1 = (P14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f14) := rfl
theorem A_15 : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.2.2.2.1 = (P15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f15) := rfl
theorem A_16 : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.2.2.2.2.1 = (P16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f16) := rfl
theorem A_17 : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1 h2n).2.2.2.2.2.2.1 = (P17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 h1 f2 f5 f6 f7 f8 f17) := rfl

theorem C_9 (t : Fin 2048) (x : Fin 512) : arg9.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).1 (ix2 t x)
    = dqOut (arg18.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.2.2.2.2.1) t x := by
  unfold runC
  dsimp only
  exact (all9 Variants.none c none i _ _ _ _ _ _ _ _ _ _ _ _ _ _ _ _ _ _ _ _ _ _ _ _ _ _ _ _ _ _ _ _ _ _ _ _ _ _ _ _ _ _ _ h2 _ f9 t x _ le_rfl).trans (if_pos (by show t.val / 512 < 4; omega))

theorem C_13 (t : Fin 2048) (x : Fin 128) : arg13.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.2.2.2.1 (ix2 t x)
    = dfqOut (arg18.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 f2 f3 f4 f5 f6 f7 f8 f9 f10 f11 f12 f13 f14 f15 f16 f17 f18 f19 f20 f21 f22 h1n h2).2.2.2.2.2.1) t x := by
  unfold runC
  dsimp only
  exact (all13 Variants.none c none i _ _ _ _ _ _ _ _ _ _ _ _ _ _ _ _ _ _ _ _ _ _ _ _ _ _ _ _ _ _ _ _ _ _ _ _ _ _ _ _ _ _ _ h2 _ f13 (fun l => by pointwise [runC.sl.v0]) t x _ le_rfl).trans (if_pos (by show t.val / 512 < 4; omega))

end Filled

end Cert.Attn
-- ==== Proof.Attn.Follow.lean ====
module

public import proofs.«01_k».proof.Proof.Attn.Frame
public import proofs.«01_k».proof.Proof.Attn.Outs
public import proofs.«01_k».proof.Proof.Attn.OutQ
public import proofs.«01_k».proof.Proof.Attn.Fill

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## What the eight points leave, from the blocks they read -/

theorem idx : ∀ t : Fin cfg0.N, win0_0.index t = ![t.val / 4, 0] ∧ win0_1.index t = ![t.val, 1] ∧ win0_2.index t = ![t.val, 2]
    ∧ win0_3.index t = ![t.val / 4, 0] ∧ win0_4.index t = ![t.val / 4, 0] ∧ win0_5.index t = ![t.val / 4, 0] ∧ win0_6.index t = ![t.val / 4, 0]
    ∧ win0_7.index t = ![t.val / 4, 0] ∧ win0_8.index t = ![t.val, 0] ∧ win0_9.index t = ![t.val, 0] ∧ win0_10.index t = ![t.val, 0] ∧ win0_11.index t = ![t.val / 4, 0]
    ∧ t.val < 8 :=
  (by decide +kernel : ∀ t : Fin grid0.N, _)

theorem small (t : Fin cfg0.N) : t.val < 8 := by have := idx t; simp only [this]

theorem crd : ∀ t : Fin cfg0.N, (grid0.coords t 1).val = t.val % 4 := (by decide +kernel : ∀ t : Fin grid0.N, _)

variable (m : (ℓ : Loc nD τ sig) → Buf (Elt Ideal) ℓ) (c : Dev nD)

/-- The point of sequence `a` and key block `j`. -/
def blkOf (a : Fin 2) (j : Fin 4) : Fin cfg0.N := ⟨4 * a.val + j.val, by show _ < 8; omega⟩

/-- The sequence of a point. -/
def sq (t : Fin cfg0.N) : Fin 2 := ⟨t.val / 4, by have := small t; omega⟩

/-- The key block of a point. -/
def kb (t : Fin cfg0.N) : Fin 4 := ⟨t.val % 4, Nat.mod_lt _ (by decide)⟩

theorem blkOf_sq (t : Fin cfg0.N) : blkOf (sq t) (kb t) = t := Fin.ext (by show 4 * (t.val / 4) + t.val % 4 = t.val; omega)

/-- The queries, cotangents, outputs, sums of the log forget gates and log-sums of sequence `a`. -/
def bQ (a : Fin 2) : S2048x512.Idx → EReal := fun y => V m c main_v71 (ix2 ⟨a.val * 2048 + (y 0).val, by have h0 : (y 0).val < 2048 := (y 0).isLt; omega⟩ ⟨(y 1).val, by have h1 : (y 1).val < 512 := (y 1).isLt; omega⟩)
def bD (a : Fin 2) : S2048x512.Idx → EReal := fun y => V m c main_v73 (ix2 ⟨a.val * 2048 + (y 0).val, by have h0 : (y 0).val < 2048 := (y 0).isLt; omega⟩ (y 1))
def bO (a : Fin 2) : S2048x512.Idx → EReal := fun y => V m c main_v75 (ix2 ⟨a.val * 2048 + (y 0).val, by have h0 : (y 0).val < 2048 := (y 0).isLt; omega⟩ (y 1))
def bC (a : Fin 2) : S2048x128.Idx → EReal := fun y => V m c main_v77 (ix2 ⟨a.val * 2048 + (y 0).val, by have h0 : (y 0).val < 2048 := (y 0).isLt; omega⟩ (y 1))
def bS (a : Fin 2) : S2048x128.Idx → EReal := fun y => V m c main_v79 (ix2 ⟨a.val * 2048 + (y 0).val, by have h0 : (y 0).val < 2048 := (y 0).isLt; omega⟩ (y 1))

/-- The keys and values of block `j`. -/
def bK (a : Fin 2) (j : Fin 4) : S512x512.Idx → EReal := fun y => V m c main_v71 (ix2 ⟨a.val * 2048 + 512 * j.val + (y 0).val, by have h0 : (y 0).val < 512 := (y 0).isLt; omega⟩ ⟨512 + (y 1).val, by have h1 : (y 1).val < 512 := (y 1).isLt; omega⟩)
def bV (a : Fin 2) (j : Fin 4) : S512x512.Idx → EReal := fun y => V m c main_v71 (ix2 ⟨a.val * 2048 + 512 * j.val + (y 0).val, by have h0 : (y 0).val < 512 := (y 0).isLt; omega⟩ ⟨1024 + (y 1).val, by have h1 : (y 1).val < 512 := (y 1).isLt; omega⟩)

/-- The extended arrays of sequence `a`. -/
def xQ (a : Fin 2) := QA (bQ m c a) (bC m c a) (bS m c a)
def xQT (a : Fin 2) := QAT (bQ m c a) (bC m c a) (bS m c a)
def xD (a : Fin 2) := DOA (bD m c a) (bO m c a)
def xDT (a : Fin 2) := DOAT (bD m c a) (bO m c a)
def xK (a : Fin 2) (j : Fin 4) := KA (bK m c a j) (bC m c a) j
def xV (a : Fin 2) (j : Fin 4) := VA (bV m c a j)

theorem blkQ (t : Fin cfg0.N) : (show S2048x512.Idx → EReal from iblk m c 0 t) = bQ m c (sq t) := by
  refine funext fun y => ?_
  obtain ⟨r, k, rfl⟩ : ∃ (r : Fin 2048) (k : Fin 512), y = ix2 r k := ⟨y 0, y 1, eq_ix2 y⟩
  have h : iblk m c 0 t (ix2 r k) = V m c main_v71 (ix2 ⟨t.val / 4 * 2048 + r.val, by have := small t; omega⟩ ⟨k.val, by omega⟩) := by blk_ext [iblk, idx t]
  refine h.trans ?_
  unfold bQ
  rfl

theorem blkD (t : Fin cfg0.N) : (show S2048x512.Idx → EReal from iblk m c 3 t) = bD m c (sq t) := by
  refine funext fun y => ?_
  obtain ⟨r, k, rfl⟩ : ∃ (r : Fin 2048) (k : Fin 512), y = ix2 r k := ⟨y 0, y 1, eq_ix2 y⟩
  have h : iblk m c 3 t (ix2 r k) = V m c main_v73 (ix2 ⟨t.val / 4 * 2048 + r.val, by have := small t; omega⟩ k) := by blk_ext [iblk, idx t]
  refine h.trans ?_
  unfold bD
  rfl

theorem blkO (t : Fin cfg0.N) : (show S2048x512.Idx → EReal from iblk m c 4 t) = bO m c (sq t) := by
  refine funext fun y => ?_
  obtain ⟨r, k, rfl⟩ : ∃ (r : Fin 2048) (k : Fin 512), y = ix2 r k := ⟨y 0, y 1, eq_ix2 y⟩
  have h : iblk m c 4 t (ix2 r k) = V m c main_v75 (ix2 ⟨t.val / 4 * 2048 + r.val, by have := small t; omega⟩ k) := by blk_ext [iblk, idx t]
  refine h.trans ?_
  unfold bO
  rfl

theorem blkC (t : Fin cfg0.N) : (show S2048x128.Idx → EReal from iblk m c 5 t) = bC m c (sq t) := by
  refine funext fun y => ?_
  obtain ⟨r, k, rfl⟩ : ∃ (r : Fin 2048) (k : Fin 128), y = ix2 r k := ⟨y 0, y 1, eq_ix2 y⟩
  have h : iblk m c 5 t (ix2 r k) = V m c main_v77 (ix2 ⟨t.val / 4 * 2048 + r.val, by have := small t; omega⟩ k) := by blk_ext [iblk, idx t]
  refine h.trans ?_
  unfold bC
  rfl

theorem blkS (t : Fin cfg0.N) : (show S2048x128.Idx → EReal from iblk m c 6 t) = bS m c (sq t) := by
  refine funext fun y => ?_
  obtain ⟨r, k, rfl⟩ : ∃ (r : Fin 2048) (k : Fin 128), y = ix2 r k := ⟨y 0, y 1, eq_ix2 y⟩
  have h : iblk m c 6 t (ix2 r k) = V m c main_v79 (ix2 ⟨t.val / 4 * 2048 + r.val, by have := small t; omega⟩ k) := by blk_ext [iblk, idx t]
  refine h.trans ?_
  unfold bS
  rfl

theorem blkK (t : Fin cfg0.N) : (show S512x512.Idx → EReal from iblk m c 1 t) = bK m c (sq t) (kb t) := by
  refine funext fun y => ?_
  obtain ⟨r, k, rfl⟩ : ∃ (r : Fin 512) (k : Fin 512), y = ix2 r k := ⟨y 0, y 1, eq_ix2 y⟩
  have h : iblk m c 1 t (ix2 r k) = V m c main_v71 (ix2 ⟨t.val * 512 + r.val, by have := small t; omega⟩ ⟨512 + k.val, by omega⟩) := by blk_ext [iblk, idx t]
  refine h.trans ?_
  unfold bK
  exact congrArg (fun x => (V m c main_v71 (ix2 x _) : EReal)) (Fin.ext (by show t.val * 512 + r.val = t.val / 4 * 2048 + 512 * (t.val % 4) + r.val; omega))

theorem blkV (t : Fin cfg0.N) : (show S512x512.Idx → EReal from iblk m c 2 t) = bV m c (sq t) (kb t) := by
  refine funext fun y => ?_
  obtain ⟨r, k, rfl⟩ : ∃ (r : Fin 512) (k : Fin 512), y = ix2 r k := ⟨y 0, y 1, eq_ix2 y⟩
  have h : iblk m c 2 t (ix2 r k) = V m c main_v71 (ix2 ⟨t.val * 512 + r.val, by have := small t; omega⟩ ⟨1024 + k.val, by omega⟩) := by blk_ext [iblk, idx t]
  refine h.trans ?_
  unfold bV
  exact congrArg (fun x => (V m c main_v71 (ix2 x _) : EReal)) (Fin.ext (by show t.val * 512 + r.val = t.val / 4 * 2048 + 512 * (t.val % 4) + r.val; omega))

/-- The query gradients of sequence `a`, summed over the key blocks below `n`. -/
def dqTo (a : Fin 2) (n : ℕ) (h : Fin 8) (t : Fin 2048) (l : Fin 128) : EReal :=
  ∑ j : Fin 4, if j.val < n then dqStep (xQ m c a) (xK m c a j) (xD m c a) (xV m c a j) j h t l else 0

theorem dqTo_succ (a : Fin 2) (j : Fin 4) (h : Fin 8) (t : Fin 2048) (l : Fin 128) :
    dqTo m c a (j.val + 1) h t l = dqTo m c a j.val h t l + dqStep (xQ m c a) (xK m c a j) (xD m c a) (xV m c a j) j h t l := by
  unfold dqTo
  simp only [Fin.sum_univ_four]
  fin_cases j <;> simp <;> abel

/-- What the scratch holds before position `n` of the order of the points. -/
def Held (n : ℕ) (x14 x15 : S8x2048x128.Idx → EReal) (x16 x17 : S8x4x128x512.Idx → EReal) (x18 : S8x2048x128.Idx → EReal) : Prop :=
  ∀ a : Fin 2, n / 4 = a.val → n % 4 ≠ 0 → x14 = xQ m c a ∧ x15 = xD m c a ∧ x16 = xQT m c a ∧ x17 = xDT m c a
    ∧ ∀ h t l, x18 (ix3 h t l) = dqTo m c a (n % 4) h t l

/-- What a point leaves in each window. -/
def Left : (w : Fin cfg0.W) → (t : Fin cfg0.N) → ((cfg0.win w).block.Idx → Elt Ideal (cfg0.win w).elt) → Prop
  | ⟨7, _⟩, t, X => t.val % 4 = 3 → ∀ (r : Fin 2048) (x : Fin 512), (X (ix2 r x) : EReal) = dqOut (fun y => dqTo m c (sq t) 4 (y 0) (y 1) (y 2)) r x
  | ⟨8, _⟩, t, X => ∀ u x : Fin 512, (X (ix2 u x) : EReal) = dkOut (xQT m c (sq t)) (xQ m c (sq t)) (xK m c (sq t) (kb t)) (xD m c (sq t)) (xV m c (sq t) (kb t)) (kb t) u x
  | ⟨9, _⟩, t, X => ∀ u x : Fin 512, (X (ix2 u x) : EReal) = dvOut (xDT m c (sq t)) (xQ m c (sq t)) (xK m c (sq t) (kb t)) (kb t) u x
  | ⟨10, _⟩, t, X => ∀ (u : Fin 512) (l : Fin 128), (X (ix2 u l) : EReal) = dfkOut (xQT m c (sq t)) (xQ m c (sq t)) (xK m c (sq t) (kb t)) (xD m c (sq t)) (xV m c (sq t) (kb t)) (kb t) u l
  | ⟨11, _⟩, t, X => t.val % 4 = 3 → ∀ (r : Fin 2048) (x : Fin 128), (X (ix2 r x) : EReal) = dfqOut (fun y => dqTo m c (sq t) 4 (y 0) (y 1) (y 2)) r x
  | _, _, _ => True

set_option maxHeartbeats 4000000 in
/-- The plan that follows every gradient. -/
def follow : Plan (F := Ideal) m c where
  Inv := Held m c
  Out := Left m c
  start := fun _ _ _ _ _ a _ h => absurd rfl h
  step := by
    intro t f2 f3 f4 f5 f6 f7 f8 f9 f10 f11 f12 f13 f14 f15 f16 f17 f18 f19 f20 f21 f22 e2 e3 e4 e5 e6 e7 e8 hI
    replace e2 := e2.trans (blkQ m c t); replace e3 := e3.trans (blkK m c t); replace e4 := e4.trans (blkV m c t); replace e5 := e5.trans (blkD m c t); replace e6 := e6.trans (blkO m c t); replace e7 := e7.trans (blkC m c t); replace e8 := e8.trans (blkS m c t)
    have hb : (kb t).val = (grid0.coords t 1).val := (crd t).symm
    have eK := (fillK (i := grid0.coords t) (arg3 := ms0_1 t) (arg7 := ms0_5 t) (arg19 := scM0_5) (f3 := f3) (f7 := f7) (b := kb t) (hb := hb) ..)
    rw [e3, e7] at eK; replace eK : _ = xK m c (sq t) (kb t) := eK
    have eV := (fillV (arg4 := ms0_2 t) (arg20 := scM0_6) (f4 := f4) ..)
    rw [e4] at eV; replace eV : _ = xV m c (sq t) (kb t) := eV
    by_cases h1 : t.val % 4 = 0
    · have hk : (kb t).val = 0 := h1
      have e14 := fill14 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := hsc0_0) (arg15 := scM0_1) (harg15 := hsc0_1) (arg16 := scM0_2) (harg16 := hsc0_2) (arg17 := scM0_3) (harg17 := hsc0_3) (arg18 := scM0_4) (harg18 := hsc0_4) (arg19 := scM0_5) (harg19 := hsc0_5) (arg20 := scM0_6) (harg20 := hsc0_6) (arg21 := scM0_7) (harg21 := hsc0_7) (arg22 := scM0_8) (harg22 := hsc0_8) (f2 := f2) (f5 := f5) (f6 := f6) (f7 := f7) (f8 := f8) (f14 := f14) (h1 := ((cond1_iff t).2 h1))
      rw [e2, e7, e8] at e14; replace e14 : _ = xQ m c (sq t) := e14
      have e15 := fill15 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := hsc0_0) (arg15 := scM0_1) (harg15 := hsc0_1) (arg16 := scM0_2) (harg16 := hsc0_2) (arg17 := scM0_3) (harg17 := hsc0_3) (arg18 := scM0_4) (harg18 := hsc0_4) (arg19 := scM0_5) (harg19 := hsc0_5) (arg20 := scM0_6) (harg20 := hsc0_6) (arg21 := scM0_7) (harg21 := hsc0_7) (arg22 := scM0_8) (harg22 := hsc0_8) (f2 := f2) (f5 := f5) (f6 := f6) (f7 := f7) (f8 := f8) (f15 := f15) (h1 := ((cond1_iff t).2 h1))
      rw [e5, e6] at e15; replace e15 : _ = xD m c (sq t) := e15
      have e16 := fill16 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := hsc0_0) (arg15 := scM0_1) (harg15 := hsc0_1) (arg16 := scM0_2) (harg16 := hsc0_2) (arg17 := scM0_3) (harg17 := hsc0_3) (arg18 := scM0_4) (harg18 := hsc0_4) (arg19 := scM0_5) (harg19 := hsc0_5) (arg20 := scM0_6) (harg20 := hsc0_6) (arg21 := scM0_7) (harg21 := hsc0_7) (arg22 := scM0_8) (harg22 := hsc0_8) (f2 := f2) (f5 := f5) (f6 := f6) (f7 := f7) (f8 := f8) (f16 := f16) (h1 := ((cond1_iff t).2 h1))
      rw [e2, e7, e8] at e16; replace e16 : _ = xQT m c (sq t) := e16
      have e17 := fill17 (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := scM0_0) (harg14 := hsc0_0) (arg15 := scM0_1) (harg15 := hsc0_1) (arg16 := scM0_2) (harg16 := hsc0_2) (arg17 := scM0_3) (harg17 := hsc0_3) (arg18 := scM0_4) (harg18 := hsc0_4) (arg19 := scM0_5) (harg19 := hsc0_5) (arg20 := scM0_6) (harg20 := hsc0_6) (arg21 := scM0_7) (harg21 := hsc0_7) (arg22 := scM0_8) (harg22 := hsc0_8) (f2 := f2) (f5 := f5) (f6 := f6) (f7 := f7) (f8 := f8) (f17 := f17) (h1 := ((cond1_iff t).2 h1))
      rw [e5, e6] at e17; replace e17 : _ = xDT m c (sq t) := e17
      let r := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 ((cond1_iff t).2 h1) (fun h => by have := (cond2_iff t).1 h; omega)
      have o8 : Left m c 8 t ((ms0_8 t).view.read (Elt Ideal) r.1) := by
        intro u x
        refine (A_dk (b := kb t) (hb := hb) ..).trans ?_
        rw [e16, e14, eK, e15, eV]
      have o9 : Left m c 9 t ((ms0_9 t).view.read (Elt Ideal) r.2.1) := by
        intro u x
        refine (A_dv (b := kb t) (hb := hb) ..).trans ?_
        rw [e17, e14, eK]
      have o10 : Left m c 10 t ((ms0_10 t).view.read (Elt Ideal) r.2.2.1) := by
        intro u l
        refine (A_dfk (b := kb t) (hb := hb) ..).trans ?_
        rw [e16, e14, eK, e15, eV]
      have q : ∀ h x l, (scM0_4.view.read (Elt Ideal) r.2.2.2.2.2.2.2.1 (ix3 h x l) : EReal) = dqTo m c (sq t) 1 h x l := by
        intro h x l
        refine (A_dq (b := kb t) (hb := hb) ..).trans ?_
        rw [e14, eK, e15, eV]
        have s := dqTo_succ m c (sq t) (kb t) h x l
        rw [hk] at s
        rw [s]
        exact congrArg (· + _) (by unfold dqTo; simp)
      have hI' : Held m c (t.val + 1) (scM0_0.view.read (Elt Ideal) r.2.2.2.1) (scM0_1.view.read (Elt Ideal) r.2.2.2.2.1) (scM0_2.view.read (Elt Ideal) r.2.2.2.2.2.1) (scM0_3.view.read (Elt Ideal) r.2.2.2.2.2.2.1) (scM0_4.view.read (Elt Ideal) r.2.2.2.2.2.2.2.1) := by
        intro a ha _
        have ea : a = sq t := Fin.ext (by show a.val = t.val / 4; omega)
        subst ea
        have e1 : (t.val + 1) % 4 = 1 := by omega
        rw [e1]
        exact ⟨(congrArg (scM0_0.view.read (Elt Ideal)) (A_14 ..)).trans e14, (congrArg (scM0_1.view.read (Elt Ideal)) (A_15 ..)).trans e15, (congrArg (scM0_2.view.read (Elt Ideal)) (A_16 ..)).trans e16, (congrArg (scM0_3.view.read (Elt Ideal)) (A_17 ..)).trans e17, q⟩
      exact ⟨f9, r.1, r.2.1, r.2.2.1, f13, r.2.2.2.1, r.2.2.2.2.1, r.2.2.2.2.2.1, r.2.2.2.2.2.2.1, r.2.2.2.2.2.2.2.1, r.2.2.2.2.2.2.2.2.1, r.2.2.2.2.2.2.2.2.2.1, r.2.2.2.2.2.2.2.2.2.2.1, r.2.2.2.2.2.2.2.2.2.2.2.1, r.2.2.2.2.2.2.2.2.2.2.2.2, fun h => by omega, o8, o9, o10, fun h => by omega, hI'⟩
    obtain ⟨e14, e15, e16, e17, e18⟩ := hI (sq t) rfl h1
    by_cases h2 : t.val % 4 = 3
    · let r := runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 (fun h => h1 ((cond1_iff t).1 h)) ((cond2_iff t).2 h2)
      have o8 : Left m c 8 t ((ms0_8 t).view.read (Elt Ideal) r.2.1) := by
        intro u x
        refine (C_dk (b := kb t) (hb := hb) ..).trans ?_
        rw [e16, e14, eK, e15, eV]
      have o9 : Left m c 9 t ((ms0_9 t).view.read (Elt Ideal) r.2.2.1) := by
        intro u x
        refine (C_dv (b := kb t) (hb := hb) ..).trans ?_
        rw [e17, e14, eK]
      have o10 : Left m c 10 t ((ms0_10 t).view.read (Elt Ideal) r.2.2.2.1) := by
        intro u l
        refine (C_dfk (b := kb t) (hb := hb) ..).trans ?_
        rw [e16, e14, eK, e15, eV]
      have q : ∀ h x l, (scM0_4.view.read (Elt Ideal) r.2.2.2.2.2.1 (ix3 h x l) : EReal) = dqTo m c (sq t) ((kb t).val + 1) h x l := by
        intro h x l
        refine (C_dq (b := kb t) (hb := hb) ..).trans ?_
        rw [e14, eK, e15, eV, e18, dqTo_succ]
        rfl
      have hk : (kb t).val + 1 = 4 := by show t.val % 4 + 1 = 4; omega
      rw [hk] at q
      have qe : (scM0_4.view.read (Elt Ideal) r.2.2.2.2.2.1 : S8x2048x128.Idx → EReal) = fun y => dqTo m c (sq t) 4 (y 0) (y 1) (y 2) := by
        funext y
        obtain ⟨h, x, l, rfl⟩ : ∃ h x l, y = ix3 h x l := ⟨y 0, y 1, y 2, eq_ix3 y⟩
        exact q h x l
      have o7 : Left m c 7 t ((ms0_7 t).view.read (Elt Ideal) r.1) := by
        intro _ x k
        refine (C_9 ..).trans ?_
        exact congrArg (fun X => dqOut X x k) qe
      have o11 : Left m c 11 t ((ms0_11 t).view.read (Elt Ideal) r.2.2.2.2.1) := by
        intro _ x k
        refine (C_13 ..).trans ?_
        exact congrArg (fun X => dfqOut X x k) qe
      exact ⟨r.1, r.2.1, r.2.2.1, r.2.2.2.1, r.2.2.2.2.1, f14, f15, f16, f17, r.2.2.2.2.2.1, r.2.2.2.2.2.2.1, r.2.2.2.2.2.2.2.1, r.2.2.2.2.2.2.2.2.1, r.2.2.2.2.2.2.2.2.2.1, r.2.2.2.2.2.2.2.2.2.2, o7, o8, o9, o10, o11, fun a _ h => absurd (by omega) h⟩
    · let r := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 (fun h => h1 ((cond1_iff t).1 h)) (fun h => h2 ((cond2_iff t).1 h))
      have o8 : Left m c 8 t ((ms0_8 t).view.read (Elt Ideal) r.1) := by
        intro u x
        refine (B_dk (b := kb t) (hb := hb) ..).trans ?_
        rw [e16, e14, eK, e15, eV]
      have o9 : Left m c 9 t ((ms0_9 t).view.read (Elt Ideal) r.2.1) := by
        intro u x
        refine (B_dv (b := kb t) (hb := hb) ..).trans ?_
        rw [e17, e14, eK]
      have o10 : Left m c 10 t ((ms0_10 t).view.read (Elt Ideal) r.2.2.1) := by
        intro u l
        refine (B_dfk (b := kb t) (hb := hb) ..).trans ?_
        rw [e16, e14, eK, e15, eV]
      have q : ∀ h x l, (scM0_4.view.read (Elt Ideal) r.2.2.2.1 (ix3 h x l) : EReal) = dqTo m c (sq t) ((kb t).val + 1) h x l := by
        intro h x l
        refine (B_dq (b := kb t) (hb := hb) ..).trans ?_
        rw [e14, eK, e15, eV, e18, dqTo_succ]
        rfl
      have hI' : Held m c (t.val + 1) (scM0_0.view.read (Elt Ideal) f14) (scM0_1.view.read (Elt Ideal) f15) (scM0_2.view.read (Elt Ideal) f16) (scM0_3.view.read (Elt Ideal) f17) (scM0_4.view.read (Elt Ideal) r.2.2.2.1) := by
        intro a ha _
        have ea : a = sq t := Fin.ext (by show a.val = t.val / 4; omega)
        subst ea
        have e1 : (t.val + 1) % 4 = (kb t).val + 1 := by show _ = t.val % 4 + 1; omega
        rw [e1]
        exact ⟨e14, e15, e16, e17, q⟩
      exact ⟨f9, r.1, r.2.1, r.2.2.1, f13, f14, f15, f16, f17, r.2.2.2.1, r.2.2.2.2.1, r.2.2.2.2.2.1, r.2.2.2.2.2.2.1, r.2.2.2.2.2.2.2.1, r.2.2.2.2.2.2.2.2, fun h => absurd h h2, o8, o9, o10, fun h => absurd h h2, hI'⟩

end Cert.Attn

end
-- ==== Proof.Attn.Saved.lean ====
module

public import proofs.«01_k».proof.Proof.Attn.Follow
public import proofs.«01_k».proof.Proof.Gen.AttnGradIdeal.Read

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The arrays the host prepares: what the forward saved -/

theorem zero_word : (FloatOps.sitofp FTy.f32 0#32 : Ideal .f32) = (0 : EReal) := by show (((0#32 : BitVec 32).toInt : ℝ) : EReal) = 0; simp

theorem zero_bits : Ideal.ofBits .f32 0#32 = (0 : EReal) := by simp [Ideal.ofBits, Ideal.ieee]

/-- The log-sums in rows and lanes, from the masked logits and their maxima. -/
def lseOf (s : S2x8x2048x2048.Idx → Ideal .f32) (M : S2x8x2048.Idx → Ideal .f32) : S4096x128.Idx → Ideal .f32 :=
  pad S4096x128 ![0, 0] ![0, 120] ![0, 0]
    (shapeCast S4096x8
      (transpose S2x2048x8 [0, 2, 1]
        (shapeCast S2x8x2048
          (addf (F := Ideal) (broadcastInDim S2x8x2048x1 ![0, 1, 2] bcast_S2x8x2048_S2x8x2048x1_0_1_2 M)
            (Host.log
              (broadcastInDim S2x8x2048x1 ![0, 1, 2] bcast_S2x8x2048_S2x8x2048x1_0_1_2
                (Host.reduceAdd
                  (Host.exp
                    (subf (F := Ideal) s (broadcastInDim S2x8x2048x2048 ![0, 1, 2, 3] bcast_S2x8x2048x1_S2x8x2048x2048_0_1_2_3
                      (broadcastInDim S2x8x2048x1 ![0, 1, 2] bcast_S2x8x2048_S2x8x2048x1_0_1_2 M))))
                  (constant S_ FTy.f32 0#32) reducesTo_S2x8x2048x2048_S2x8x2048_d3 h_S_))))
          shapeCasts_S2x8x2048x1_S2x8x2048)
        transposes_S2x8x2048_S2x2048x8_0_2_1)
      shapeCasts_S2x2048x8_S4096x8)
    (sitofp (F := Ideal) FTy.f32 (constantI S_ 32 0#32)) pads_S4096x8_S4096x128_000_01200 h_S_

theorem lseOf_apply (s : S2x8x2048x2048.Idx → Ideal .f32) (M : S2x8x2048.Idx → Ideal .f32) (r : Fin 4096) (h : Fin 8) :
    (lseOf s M (ix2 r ⟨h.val, by omega⟩) : EReal)
      = (M (ix3 ⟨r.val / 2048, by omega⟩ h ⟨r.val % 2048, by omega⟩) : EReal)
        + Ideal.log (∑ u : Fin 2048, Ideal.exp ((s (ix4 ⟨r.val / 2048, by omega⟩ h ⟨r.val % 2048, by omega⟩ u) : EReal) - M (ix3 ⟨r.val / 2048, by omega⟩ h ⟨r.val % 2048, by omega⟩))) := by
  unfold lseOf
  pointwise

variable (m : (ℓ : Loc nD τ sig) → Buf (Elt Ideal) ℓ) (c : Dev nD)

/-- The arguments. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)

theorem after_append (l k : List (HloOp τ sig (Elt Ideal))) (W : Valuation τ sig (Elt Ideal)) :
    StableHlo.after (l ++ k) W = StableHlo.after k (StableHlo.after l W) := by
  induction l generalizing W with
  | nil => rfl
  | cons a l ih => simp only [List.cons_append, StableHlo.after_cons, ih]

/-- The host's values up to the masked logits. -/
def upTo20 : Valuation τ sig (Elt Ideal) := StableHlo.after (hostOps0 ++ (hostOps0_1 ++ (hostOps0_2 ++ []))) (fun b => m (c, b))

/-- The host's values up to the second masked logits. -/
def upTo51 : Valuation τ sig (Elt Ideal) := StableHlo.after (hostOps0 ++ (hostOps0_1 ++ (hostOps0_2 ++ (hostOps0_3 ++ (hostOps0_4 ++ []))))) (fun b => m (c, b))

theorem V_from20 (b : Ref sig .tc) : V m c b = StableHlo.after [hostOps0_3, hostOps0_4, hostOps0_5, hostOps0_6, hostOps0_7, hostOps0_8].flatten (upTo20 m c) (Proc.tc.devRef b) := by
  unfold V upTo20
  rw [← after_append]
  simp only [List.flatten_cons, List.flatten_nil, List.append_assoc, List.append_nil, List.nil_append]

theorem V_from51 (b : Ref sig .tc) : V m c b = StableHlo.after [hostOps0_5, hostOps0_6, hostOps0_7, hostOps0_8].flatten (upTo51 m c) (Proc.tc.devRef b) := by
  unfold V upTo51
  rw [← after_append]
  simp only [List.flatten_cons, List.flatten_nil, List.append_assoc, List.append_nil, List.nil_append]

open Cert.AttnGradIdeal.Read in
set_option maxHeartbeats 4000000 in
theorem at20 : (upTo20 m c (Proc.tc.devRef main_v20) : S2x8x2048x2048.Idx → Ideal .f32) = val_main_v20_0 (F := Ideal) (x0 m c) (x1 m c) (x3 m c) := by
  unfold upTo20; simp only [List.cons_append, List.nil_append, List.append_nil]
  entry_read
  simp only [StableHlo.TRef.toBuf, StableHlo.TRef.ofBuf, cast_eq]
  rfl

theorem at51_0 : upTo51 m c (Proc.tc.devRef main_arg0) = x0 m c := by
  unfold upTo51; simp only [List.cons_append, List.nil_append, List.append_nil]
  entry_read
  rfl
theorem at51_1 : upTo51 m c (Proc.tc.devRef main_arg1) = x1 m c := by
  unfold upTo51; simp only [List.cons_append, List.nil_append, List.append_nil]
  entry_read
  rfl
theorem at51_2 : upTo51 m c (Proc.tc.devRef main_arg2) = x2 m c := by
  unfold upTo51; simp only [List.cons_append, List.nil_append, List.append_nil]
  entry_read
  rfl

theorem cat_at (W : Valuation τ sig (Elt Ideal)) : (StableHlo.after hostOps0_5 W (Proc.tc.devRef main_v71) : S4096x1536.Idx → EReal)
   = concatenate S4096x1536 1 [⟨S4096x512, shapeCast S4096x512 (W (Proc.tc.devRef main_arg0) : S2x2048x512.Idx → EReal) shapeCasts_S2x2048x512_S4096x512⟩, ⟨S4096x512, shapeCast S4096x512 (W (Proc.tc.devRef main_arg1) : S2x2048x512.Idx → EReal) shapeCasts_S2x2048x512_S4096x512⟩, ⟨S4096x512, shapeCast S4096x512 (W (Proc.tc.devRef main_arg2) : S2x2048x512.Idx → EReal) shapeCasts_S2x2048x512_S4096x512⟩] concatenates_S4096x512_S4096x512_S4096x512_S4096x1536_d1 := by
  sl_kernel_rfl

theorem qkv_at (W : Valuation τ sig (Elt Ideal)) :
    StableHlo.after [hostOps0_5, hostOps0_6, hostOps0_7, hostOps0_8].flatten W (Proc.tc.devRef main_v71) = StableHlo.after hostOps0_5 W (Proc.tc.devRef main_v71) := by
  sl_kernel_rfl

set_option maxHeartbeats 4000000 in
theorem V_v71 (r : Fin 4096) (k : Fin 1536) : (V m c main_v71 (ix2 r k) : EReal)
    = if h : k.val < 512 then x0 m c (ix3 ⟨r.val / 2048, by omega⟩ ⟨r.val % 2048, by omega⟩ ⟨k.val, h⟩)
      else if h' : k.val - 512 < 512 then x1 m c (ix3 ⟨r.val / 2048, by omega⟩ ⟨r.val % 2048, by omega⟩ ⟨k.val - 512, h'⟩)
      else x2 m c (ix3 ⟨r.val / 2048, by omega⟩ ⟨r.val % 2048, by omega⟩ ⟨k.val - 512 - 512, by omega⟩) := by
  rw [V_from51, ← at51_0, ← at51_1, ← at51_2]
  rw [qkv_at, cat_at]
  pointwise

/-- The forward's output in rows. -/
def rowsOf (y : S2x2048x512.Idx → Ideal .f32) : S4096x512.Idx → Ideal .bf16 :=
  truncf (F := Ideal) .bf16 (shapeCast S4096x512 y shapeCasts_S2x2048x512_S4096x512) bitsLt_bf16_f32

theorem rowsOf_apply (y : S2x2048x512.Idx → Ideal .f32) (r : Fin 4096) (k : Fin 512) :
    (rowsOf y (ix2 r k) : EReal) = y (ix3 ⟨r.val / 2048, by omega⟩ ⟨r.val % 2048, by omega⟩ k) := by
  unfold rowsOf; pointwise

open Cert.AttnGradIdeal.Read in
set_option maxHeartbeats 4000000 in
theorem V_v75 (r : Fin 4096) (k : Fin 512) : (V m c main_v75 (ix2 r k) : EReal)
    = val_main_v52 (F := Ideal) (x0 m c) (x1 m c) (x2 m c) (x3 m c) (ix3 ⟨r.val / 2048, by omega⟩ ⟨r.val % 2048, by omega⟩ k) := by
  refine Eq.trans ?_ (rowsOf_apply _ r k)
  unfold V; simp only [List.flatten_cons, List.flatten_nil, List.cons_append, List.nil_append, List.append_nil]
  entry_read
  simp only [StableHlo.TRef.toBuf, StableHlo.TRef.ofBuf, cast_eq]
  rfl

set_option maxHeartbeats 4000000 in
theorem V_v73 (r : Fin 4096) (k : Fin 512) : (V m c main_v73 (ix2 r k) : EReal) = x4 m c (ix3 ⟨r.val / 2048, by omega⟩ ⟨r.val % 2048, by omega⟩ k) := by
  unfold V; simp only [List.flatten_cons, List.flatten_nil, List.cons_append, List.nil_append, List.append_nil]
  entry_read
  pointwise

open Cert.AttnGradIdeal.Read in
set_option maxHeartbeats 4000000 in
theorem V_v77 (r : Fin 4096) (h : Fin 8) : (V m c main_v77 (ix2 r ⟨h.val, by omega⟩) : EReal)
    = val_main_v0 (F := Ideal) (x3 m c) (ix3 ⟨r.val / 2048, by omega⟩ ⟨r.val % 2048, by omega⟩ h) := by
  unfold V; simp only [List.flatten_cons, List.flatten_nil, List.cons_append, List.nil_append, List.append_nil]
  entry_read
  simp only [StableHlo.TRef.toBuf, StableHlo.TRef.ofBuf, cast_eq]
  pointwise
  rfl

end Cert.Attn

end
-- ==== Proof.Attn.LogSum.lean ====
module

public import proofs.«01_k».proof.Proof.Attn.Saved
public import proofs.«01_k».proof.Proof.Gen.AttnGradIdeal.Read

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The log-sums the forward saved -/

/-- The maxima of the masked logits. -/
def maxOf (s : S2x8x2048x2048.Idx → Ideal .f32) : S2x8x2048.Idx → Ideal .f32 :=
  Host.reduce FloatOps.maximumf s (constant (F := Ideal) S_ .f32 0xFF800000#32) reducesTo_S2x8x2048x2048_S2x8x2048_d3 h_S_

/-- The log-sums by sequence, row and head. -/
def sumOf (s : S2x8x2048x2048.Idx → Ideal .f32) : S2x2048x8.Idx → Ideal .f32 :=
  transpose S2x2048x8 [0, 2, 1]
        (shapeCast S2x8x2048
          (addf (F := Ideal) (broadcastInDim S2x8x2048x1 ![0, 1, 2] bcast_S2x8x2048_S2x8x2048x1_0_1_2 (maxOf s))
            (Host.log
              (broadcastInDim S2x8x2048x1 ![0, 1, 2] bcast_S2x8x2048_S2x8x2048x1_0_1_2
                (Host.reduceAdd
                  (Host.exp
                    (subf (F := Ideal) s (broadcastInDim S2x8x2048x2048 ![0, 1, 2, 3] bcast_S2x8x2048x1_S2x8x2048x2048_0_1_2_3
                      (broadcastInDim S2x8x2048x1 ![0, 1, 2] bcast_S2x8x2048_S2x8x2048x1_0_1_2 (maxOf s)))))
                  (constant S_ FTy.f32 0#32) reducesTo_S2x8x2048x2048_S2x8x2048_d3 h_S_))))
          shapeCasts_S2x8x2048x1_S2x8x2048)
        transposes_S2x8x2048_S2x2048x8_0_2_1

theorem sum_at (W : Valuation τ sig (Elt Ideal)) :
    (StableHlo.after hostOps0_3 W (Proc.tc.devRef main_v31) : S2x2048x8.Idx → EReal) = sumOf (W (Proc.tc.devRef main_v20)) := by
  entry_read
  rfl

theorem pad_at (W : Valuation τ sig (Elt Ideal)) :
    (StableHlo.after [hostOps0_4, hostOps0_5, hostOps0_6, hostOps0_7, hostOps0_8].flatten W (Proc.tc.devRef main_v79) : S4096x128.Idx → EReal)
      = pad S4096x128 ![0, 0] ![0, 120] ![0, 0] (shapeCast S4096x8 (W (Proc.tc.devRef main_v31) : S2x2048x8.Idx → EReal) shapeCasts_S2x2048x8_S4096x8)
          (sitofp (F := Ideal) FTy.f32 (constantI S_ 32 0#32)) pads_S4096x8_S4096x128_000_01200 h_S_ := by
  simp only [List.flatten_cons, List.flatten_nil, List.cons_append, List.nil_append, List.append_nil]
  entry_read
  rfl

/-- The log-sums from the masked logits. -/
theorem lse_at (W : Valuation τ sig (Elt Ideal)) :
    (StableHlo.after [hostOps0_3, hostOps0_4, hostOps0_5, hostOps0_6, hostOps0_7, hostOps0_8].flatten W (Proc.tc.devRef main_v79) : S4096x128.Idx → EReal)
      = lseOf (W (Proc.tc.devRef main_v20)) (maxOf (W (Proc.tc.devRef main_v20))) := by
  rw [List.flatten_cons, after_append]
  refine (pad_at _).trans ?_
  rw [sum_at]
  rfl

variable (m : (ℓ : Loc nD τ sig) → Buf (Elt Ideal) ℓ) (c : Dev nD)

open Cert.AttnGradIdeal.Read in
set_option maxHeartbeats 4000000 in
theorem V_v79 (r : Fin 4096) (h : Fin 8) : (V m c main_v79 (ix2 r ⟨h.val, by omega⟩) : EReal)
    = (val_main_v21 (F := Ideal) (x0 m c) (x1 m c) (x3 m c) (ix3 ⟨r.val / 2048, by omega⟩ h ⟨r.val % 2048, by omega⟩) : EReal)
      + Ideal.log (∑ u : Fin 2048, Ideal.exp ((val_main_v20_0 (F := Ideal) (x0 m c) (x1 m c) (x3 m c) (ix4 ⟨r.val / 2048, by omega⟩ h ⟨r.val % 2048, by omega⟩ u) : EReal)
        - val_main_v21 (F := Ideal) (x0 m c) (x1 m c) (x3 m c) (ix3 ⟨r.val / 2048, by omega⟩ h ⟨r.val % 2048, by omega⟩))) := by
  refine Eq.trans ?_ (lseOf_apply _ _ r h)
  have e : V m c main_v79 = lseOf (val_main_v20_0 (F := Ideal) (x0 m c) (x1 m c) (x3 m c)) (val_main_v21 (F := Ideal) (x0 m c) (x1 m c) (x3 m c)) :=
    (V_from20 m c main_v79).trans ((lse_at (upTo20 m c)).trans (by rw [at20 m c]; rfl))
  rw [e]

end Cert.Attn

end
-- ==== Proof.Attn.Lane.lean ====
module

public import proofs.«01_k».proof.Proof.Attn.Outs
public import proofs.«01_k».proof.Proof.Attn.OutQ
public import proofs.«01_k».proof.Proof.Attn.Fill

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The widened arrays of one sequence, as reals -/

/-- The real arrays of a sequence: queries, keys, values, cotangents, outputs, sums of the log forget gates and log-sums. -/
structure Seq where
  q : Fin 2048 → Fin 512 → ℝ
  k : Fin 2048 → Fin 512 → ℝ
  v : Fin 2048 → Fin 512 → ℝ
  d : Fin 2048 → Fin 512 → ℝ
  o : Fin 2048 → Fin 512 → ℝ
  f : Fin 2048 → Fin 8 → ℝ
  s : Fin 2048 → Fin 8 → ℝ

/-- The blocks the kernel reads hold the real arrays. -/
structure Seq.Is (z : Seq) (Q D O : S2048x512.Idx → EReal) (C S : S2048x128.Idx → EReal) (A W : Fin 4 → S512x512.Idx → EReal) : Prop where
  hq : ∀ t x, Q (ix2 t x) = z.q t x
  hd : ∀ t x, D (ix2 t x) = z.d t x
  ho : ∀ t x, O (ix2 t x) = z.o t x
  hf : ∀ t (h : Fin 8), C (ix2 t ⟨h.val, by omega⟩) = z.f t h
  hs : ∀ t (h : Fin 8), S (ix2 t ⟨h.val, by omega⟩) = z.s t h
  hk : ∀ j u x, A j (ix2 u x) = z.k (at_ j u) x
  hv : ∀ j u x, W j (ix2 u x) = z.v (at_ j u) x

/-- Column `e` of head `h`, and the two halves of the lanes: the head's own and the other. -/
abbrev col (h : Fin 8) (e : Fin 64) : Fin 512 := ⟨64 * h.val + e.val, by omega⟩
abbrev own (h : Fin 8) (e : Fin 64) : Fin 128 := ⟨64 * (h.val % 2) + e.val, by omega⟩
abbrev oth (h : Fin 8) (e : Fin 64) : Fin 128 := ⟨64 * (1 - h.val % 2) + e.val, by omega⟩

theorem sum_halves {M : Type} [AddCommMonoid M] (h : Fin 8) (f : Fin 128 → M) : ∑ l, f l = ∑ e, f (own h e) + ∑ e, f (oth h e) := by
  have s := Fin.sum_univ_add (a := 64) (b := 64) f
  rcases Nat.mod_two_eq_zero_or_one h.val with p | p
  · refine s.trans (congrArg₂ (· + ·) (Finset.sum_congr rfl fun e _ => congrArg f (Fin.ext ?_)) (Finset.sum_congr rfl fun e _ => congrArg f (Fin.ext ?_)))
    · show e.val = 64 * (h.val % 2) + e.val; omega
    · show 64 + e.val = 64 * (1 - h.val % 2) + e.val; omega
  · rw [add_comm]
    refine s.trans (congrArg₂ (· + ·) (Finset.sum_congr rfl fun e _ => congrArg f (Fin.ext ?_)) (Finset.sum_congr rfl fun e _ => congrArg f (Fin.ext ?_)))
    · show e.val = 64 * (1 - h.val % 2) + e.val; omega
    · show 64 + e.val = 64 * (h.val % 2) + e.val; omega

theorem sum_blocks {M : Type} [AddCommMonoid M] (f : Fin 2048 → M) : ∑ t, f t = ∑ j : Fin 4, ∑ r : Fin 512, f (at_ j r) := by
  rw [← Fintype.sum_prod_type']
  refine (Fintype.sum_equiv (finProdFinEquiv (m := 4) (n := 512)) _ _ fun y => ?_).symm
  refine congrArg f (Fin.ext ?_)
  show 512 * y.1.val + y.2.val = y.2.val + 512 * y.1.val
  omega

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem own_own (h : Fin 8) (e : Fin 64) : Own h.val (own h e) := ⟨by show 64 * (h.val % 2) ≤ 64 * (h.val % 2) + e.val; omega, by show 64 * (h.val % 2) + e.val < _; omega⟩

theorem oth_own (h : Fin 8) (e : Fin 64) : ¬ Own h.val (oth h e) := by
  rintro ⟨a, b⟩
  replace a : 64 * (h.val % 2) ≤ 64 * (1 - h.val % 2) + e.val := a
  replace b : 64 * (1 - h.val % 2) + e.val < 64 * (h.val % 2) + 64 := b
  omega

/-- A value spread over the lanes of a head is at one lane, the parts below it being zero. -/
theorem spread_real (v : Fin 128 → EReal) (r : Fin 8 → ℝ) (hv : ∀ h : Fin 8, v ⟨h.val, by omega⟩ = r h) (s : ℕ) (hs : s < 2) (h : Fin 8) (e : Fin 64) :
    spread v s h (oth h e) = ((if e.val = 3 * s then r h else 0 : ℝ) : EReal) := by
  have z (h : Fin 8) : v ⟨h.val, by omega⟩ - v ⟨h.val, by omega⟩ = 0 := by rw [hv, ← EReal.coe_sub, sub_self]; rfl
  have c1 : (128 * h.val + (oth h e).val) / 128 = h.val := by have := (oth h e).isLt; omega
  have c2 : (128 * h.val + (oth h e).val) % 128 = 64 * (1 - h.val % 2) + e.val := by have := (oth h e).isLt; show (128 * h.val + (64 * (1 - h.val % 2) + e.val)) % 128 = _; omega
  have fst : first s ⟨128 * h.val + (oth h e).val, by have := (oth h e).isLt; omega⟩ = 64 * (1 - h.val % 2) + 3 * s := by
    unfold first
    dsimp only
    rw [c1]
    split_ifs <;> omega
  unfold spread place
  dsimp only
  simp only [fst, c1, c2]
  by_cases hin : 3 * s ≤ e.val ∧ e.val < 3 * s + 3
  · have hx : 8 * (e.val - 3 * s) + h.val < 128 := by omega
    rw [Finset.sum_eq_single (⟨8 * (e.val - 3 * s) + h.val, hx⟩ : Fin 128)]
    · rw [if_pos ⟨⟨by omega, by omega⟩, by show 8 * (e.val - 3 * s) + h.val = _; omega⟩, mul_one]
      unfold lanes
      dsimp only
      rw [if_pos (by omega)]
      by_cases e0 : e.val = 3 * s
      · rw [if_pos (by omega), if_pos e0, ← hv]
        exact congrArg v (Fin.ext (by show 8 * (e.val - 3 * s) + h.val = h.val; omega))
      · rw [if_neg (by omega), if_neg e0]
        by_cases e1 : e.val = 3 * s + 1
        · rw [if_pos (by omega)]
          refine Eq.trans ?_ ((z h).trans rfl)
          have e' : (⟨(8 * (e.val - 3 * s) + h.val + 128 - 8) % 128, by omega⟩ : Fin 128) = ⟨h.val, by omega⟩ := Fin.ext (by show (8 * (e.val - 3 * s) + h.val + 128 - 8) % 128 = h.val; omega)
          rw [e']
        · rw [if_neg (by omega)]
          have e' : (⟨(8 * (e.val - 3 * s) + h.val + 128 - 16) % 128, by omega⟩ : Fin 128) = ⟨h.val, by omega⟩ := Fin.ext (by show (8 * (e.val - 3 * s) + h.val + 128 - 16) % 128 = h.val; omega)
          rw [e', z h]
          simp
    · intro x _ hx'
      rw [if_neg, mul_zero]
      rintro ⟨_, q⟩
      exact hx' (Fin.ext (by show x.val = 8 * (e.val - 3 * s) + h.val; omega))
    · intro q; exact absurd (Finset.mem_univ _) q
  · rw [Finset.sum_eq_zero, if_neg (by omega)]
    · rfl
    · intro x _
      rw [if_neg (by rintro ⟨_, _⟩; omega), mul_zero]

namespace Seq

variable (z : Seq)

/-- The widened rows. -/
def rq (h : Fin 8) (t : Fin 2048) (l : Fin 128) : ℝ :=
  if Own h.val l then z.q t ⟨128 * (h.val / 2) + l.val, by omega⟩
  else if l.val = 64 * (1 - h.val % 2) then z.f t h - z.s t h
  else if 64 * (1 - h.val % 2) + 3 ≤ l.val ∧ l.val < 64 * (1 - h.val % 2) + 6 then 1 else 0

def rk (h : Fin 8) (u : Fin 2048) (l : Fin 128) : ℝ :=
  if Own h.val l then z.k u ⟨128 * (h.val / 2) + l.val, by omega⟩ * (1 / 8)
  else if 64 * (1 - h.val % 2) ≤ l.val ∧ l.val < 64 * (1 - h.val % 2) + 3 then 1
  else if l.val = 64 * (1 - h.val % 2) + 3 then - z.f u h else 0

def rv (h : Fin 8) (u : Fin 2048) (l : Fin 128) : ℝ :=
  if Own h.val l then z.v u ⟨128 * (h.val / 2) + l.val, by omega⟩
  else if 64 * (1 - h.val % 2) ≤ l.val ∧ l.val < 64 * (1 - h.val % 2) + 3 then 1 else 0

def rd (h : Fin 8) (t : Fin 2048) (l : Fin 128) : ℝ :=
  if Own h.val l then z.d t ⟨128 * (h.val / 2) + l.val, by omega⟩
  else if l.val = 64 * (1 - h.val % 2) then - ∑ e, z.d t (col h e) * z.o t (col h e) else 0

variable {z} {Q D O : S2048x512.Idx → EReal} {C S : S2048x128.Idx → EReal} {A W : Fin 4 → S512x512.Idx → EReal}

/-- A lane is the head's own or of the other half. -/
theorem lane_cases (h : Fin 8) (l : Fin 128) : (∃ e, l = own h e) ∨ ∃ e, l = oth h e := by
  by_cases p : Own h.val l
  · exact Or.inl ⟨⟨l.val - 64 * (h.val % 2), by have := p.1; have := p.2; omega⟩, Fin.ext (by have := p.1; show l.val = 64 * (h.val % 2) + (l.val - 64 * (h.val % 2)); omega)⟩
  · have : l.val < 128 := l.isLt
    unfold Own at p
    exact Or.inr ⟨⟨l.val - 64 * (1 - h.val % 2), by omega⟩, Fin.ext (by show l.val = 64 * (1 - h.val % 2) + (l.val - 64 * (1 - h.val % 2)); omega)⟩

theorem qa_real (H : z.Is Q D O C S A W) (h : Fin 8) (t : Fin 2048) (l : Fin 128) : qa Q C S h t l = (z.rq h t l : EReal) := by
  unfold qa rq
  rcases lane_cases h l with ⟨e, rfl⟩ | ⟨e, rfl⟩
  · have := own_own h e
    rw [if_neg (by show ¬ (_ ≤ 64 * (h.val % 2) + e.val ∧ 64 * (h.val % 2) + e.val < _); omega), if_pos this, if_pos this, H.hq]
  · have n := oth_own h e
    have oe : (oth h e).val = 64 * (1 - h.val % 2) + e.val := rfl
    rw [if_neg n, if_neg n, spread_real _ (fun h => z.f t h - z.s t h) (fun h => by rw [H.hf, H.hs, EReal.coe_sub]) 0 (by decide)]
    dsimp only
    by_cases p : 3 ≤ e.val ∧ e.val < 6
    · rw [if_pos (by omega), if_neg (by omega), if_pos (by omega)]; rfl
    · rw [if_neg (by omega)]
      by_cases p0 : e.val = 0
      · rw [if_pos (by omega), if_pos (by omega)]
      · rw [if_neg (by omega), if_neg (by omega), if_neg (by omega)]

theorem ka_real (H : z.Is Q D O C S A W) (j : Fin 4) (h : Fin 8) (u : Fin 512) (l : Fin 128) : KA (A j) C j (ix3 h u l) = (z.rk h (at_ j u) l : EReal) := by
  show ka (A j) (fun u x => C (ix2 (at_ j u) x)) h u l = _
  unfold ka rk
  rcases lane_cases h l with ⟨e, rfl⟩ | ⟨e, rfl⟩
  · have := own_own h e
    rw [if_neg (by show ¬ (_ ≤ 64 * (h.val % 2) + e.val ∧ 64 * (h.val % 2) + e.val < _); omega), if_pos this, if_pos this, H.hk, EReal.coe_mul]
  · have n := oth_own h e
    have oe : (oth h e).val = 64 * (1 - h.val % 2) + e.val := rfl
    rw [if_neg n, if_neg n, spread_real _ (fun h => - z.f (at_ j u) h) (fun h => by show 0 - C (ix2 (at_ j u) ⟨h.val, _⟩) = _; rw [H.hf, zero_sub, EReal.coe_neg]) 1 (by decide)]
    dsimp only
    split_ifs <;> first | rfl | (exfalso; omega)

theorem va_real (H : z.Is Q D O C S A W) (j : Fin 4) (h : Fin 8) (u : Fin 512) (l : Fin 128) : VA (W j) (ix3 h u l) = (z.rv h (at_ j u) l : EReal) := by
  show va (W j) h u l = _
  unfold va rv
  rcases lane_cases h l with ⟨e, rfl⟩ | ⟨e, rfl⟩
  · have := own_own h e
    rw [if_neg (by show ¬ (_ ≤ 64 * (h.val % 2) + e.val ∧ 64 * (h.val % 2) + e.val < _); omega), if_pos this, if_pos this, H.hv]
  · have n := oth_own h e
    have oe : (oth h e).val = 64 * (1 - h.val % 2) + e.val := rfl
    rw [if_neg n, if_neg n]
    split_ifs <;> rfl

theorem own_col (h : Fin 8) (e : Fin 64) (p : 128 * (h.val / 2) + (own h e).val < 512) : (⟨128 * (h.val / 2) + (own h e).val, p⟩ : Fin 512) = col h e :=
  Fin.ext (by show 128 * (h.val / 2) + (64 * (h.val % 2) + e.val) = 64 * h.val + e.val; omega)

theorem doa_real (H : z.Is Q D O C S A W) (h : Fin 8) (t : Fin 2048) (l : Fin 128) : doa D O h t l = (z.rd h t l : EReal) := by
  have hd (h : Fin 8) : delta D O t ⟨h.val, by omega⟩ = ((∑ e, z.d t (col h e) * z.o t (col h e) : ℝ) : EReal) := by
    unfold delta
    rw [dif_pos (show (⟨h.val, by omega⟩ : Fin 128).val < 8 from h.isLt), sum_halves h]
    dsimp only
    rw [Finset.sum_eq_zero (s := Finset.univ) (f := fun e => if Own h.val (oth h e) then _ else _) (fun e _ => if_neg (oth_own h e)), add_zero, coe_sum]
    refine Finset.sum_congr rfl fun e _ => ?_
    rw [if_pos (own_own h e), own_col, H.hd, H.ho, EReal.coe_mul]
  unfold doa rd
  rcases lane_cases h l with ⟨e, rfl⟩ | ⟨e, rfl⟩
  · have := own_own h e
    rw [if_pos this, if_pos this, H.hd]
  · have n := oth_own h e
    have oe : (oth h e).val = 64 * (1 - h.val % 2) + e.val := rfl
    rw [if_neg n, if_neg n, spread_real _ (fun h => - ∑ e, z.d t (col h e) * z.o t (col h e)) (fun h => by rw [hd, zero_sub, EReal.coe_neg]) 0 (by decide)]
    dsimp only
    by_cases p0 : e.val = 0
    · rw [if_pos (by omega), if_pos (by omega)]
    · rw [if_neg (by omega), if_neg (by omega)]

end Seq

end Cert.Attn

end
-- ==== Proof.Attn.Sums.lean ====
module

public import proofs.«01_k».proof.Proof.Attn.Lane

@[expose] public section

set_option maxRecDepth 16384

noncomputable section

namespace Cert.Attn

open Cert.AttnBwdIdeal Cert.AttnBwdIdeal.Gen Idealize.ShloMosaic Idealize.ShloMosaic.TcCoe Idealize.ShloMosaic.Tactic

/-! ## The gradients of one sequence, as real sums -/

namespace Seq

variable (z : Seq)

/-- The logit less the log-sum, the probability, the gradient of the probability and of the logit. -/
def sc (h : Fin 8) (t u : Fin 2048) : ℝ := ∑ e, z.q t (col h e) * (z.k u (col h e) * (1 / 8)) + (z.f t h - z.s t h) - z.f u h
def gp (h : Fin 8) (t u : Fin 2048) : ℝ := ∑ e, z.d t (col h e) * z.v u (col h e) - ∑ e, z.d t (col h e) * z.o t (col h e)
def w (h : Fin 8) (t u : Fin 2048) : ℝ := Real.exp (z.sc h t u)
def sl (h : Fin 8) (t u : Fin 2048) : ℝ := z.w h t u * z.gp h t u

theorem rq_own (h : Fin 8) (t : Fin 2048) (e : Fin 64) : z.rq h t (own h e) = z.q t (col h e) := by unfold rq; rw [if_pos (own_own h e), own_col]
theorem rk_own (h : Fin 8) (t : Fin 2048) (e : Fin 64) : z.rk h t (own h e) = z.k t (col h e) * (1 / 8) := by unfold rk; rw [if_pos (own_own h e), own_col]
theorem rv_own (h : Fin 8) (t : Fin 2048) (e : Fin 64) : z.rv h t (own h e) = z.v t (col h e) := by unfold rv; rw [if_pos (own_own h e), own_col]
theorem rd_own (h : Fin 8) (t : Fin 2048) (e : Fin 64) : z.rd h t (own h e) = z.d t (col h e) := by unfold rd; rw [if_pos (own_own h e), own_col]

theorem rk_bias0 (h : Fin 8) (t : Fin 2048) : z.rk h t (bias0 h) = 1 := by
  unfold rk
  rw [if_neg (by rintro ⟨a, b⟩; dsimp only [bias0] at a b; omega), if_pos ⟨le_rfl, by show 64 * (1 - h.val % 2) < _; omega⟩]

theorem rq_bias3 (h : Fin 8) (t : Fin 2048) : z.rq h t (bias3 h) = 1 := by
  unfold rq
  rw [if_neg (by rintro ⟨a, b⟩; dsimp only [bias3] at a b; omega), if_neg (by show ¬ 64 * (1 - h.val % 2) + 3 = _; omega), if_pos ⟨le_rfl, by show 64 * (1 - h.val % 2) + 3 < _; omega⟩]

theorem qk_sum (h : Fin 8) (t u : Fin 2048) : ∑ l, z.rq h t l * z.rk h u l = z.sc h t u := by
  rw [sum_halves h]
  unfold sc
  have e1 : ∑ e, z.rq h t (own h e) * z.rk h u (own h e) = ∑ e, z.q t (col h e) * (z.k u (col h e) * (1 / 8)) :=
    Finset.sum_congr rfl fun e _ => by rw [rq_own, rk_own]
  have e2 : ∑ e, z.rq h t (oth h e) * z.rk h u (oth h e) = ∑ e : Fin 64, ((if e = 0 then z.f t h - z.s t h else 0) + if e = 3 then - z.f u h else 0) := by
    refine Finset.sum_congr rfl fun e _ => ?_
    unfold rq rk
    have oe : (oth h e).val = 64 * (1 - h.val % 2) + e.val := rfl
    have c0 : (e = 0) = (e.val = 0) := propext ⟨fun q => congrArg Fin.val q, fun q => Fin.ext q⟩
    have c3 : (e = 3) = (e.val = 3) := propext ⟨fun q => congrArg Fin.val q, fun q => Fin.ext q⟩
    rw [if_neg (oth_own h e), if_neg (oth_own h e)]
    simp only [c0, c3]
    split_ifs <;> first | (exfalso; omega) | simp
  rw [e1, e2, Finset.sum_add_distrib, Finset.sum_ite_eq' Finset.univ (0 : Fin 64), Finset.sum_ite_eq' Finset.univ (3 : Fin 64), if_pos (Finset.mem_univ _), if_pos (Finset.mem_univ _)]
  ring

theorem dv_sum (h : Fin 8) (t u : Fin 2048) : ∑ l, z.rd h t l * z.rv h u l = z.gp h t u := by
  rw [sum_halves h]
  unfold gp
  have e1 : ∑ e, z.rd h t (own h e) * z.rv h u (own h e) = ∑ e, z.d t (col h e) * z.v u (col h e) :=
    Finset.sum_congr rfl fun e _ => by rw [rd_own, rv_own]
  have e2 : ∑ e, z.rd h t (oth h e) * z.rv h u (oth h e) = ∑ e : Fin 64, (if e = 0 then - ∑ e, z.d t (col h e) * z.o t (col h e) else 0) := by
    refine Finset.sum_congr rfl fun e _ => ?_
    unfold rd rv
    have oe : (oth h e).val = 64 * (1 - h.val % 2) + e.val := rfl
    have c0 : (e = 0) = (e.val = 0) := propext ⟨fun q => congrArg Fin.val q, fun q => Fin.ext q⟩
    rw [if_neg (oth_own h e), if_neg (oth_own h e)]
    simp only [c0]
    split_ifs <;> first | (exfalso; omega) | simp
  rw [e1, e2, Finset.sum_ite_eq' Finset.univ (0 : Fin 64), if_pos (Finset.mem_univ _)]
  ring

/-- The sum over the queries that see a key, block by block. -/
theorem sum_from (f : Fin 2048 → ℝ) (b : Fin 4) (u : Fin 512) :
    (∑ t, if (at_ b u).val ≤ t.val then f t else 0) = (∑ r : Fin 512, if u.val ≤ r.val then f (at_ b r) else 0) + ∑ x : Fin 4, if b.val < x.val then ∑ r : Fin 512, f (at_ x r) else 0 := by
  have one : (∑ r : Fin 512, if u.val ≤ r.val then f (at_ b r) else 0) = ∑ x : Fin 4, if x = b then (∑ r : Fin 512, if u.val ≤ r.val then f (at_ b r) else 0) else 0 := by
    rw [Finset.sum_ite_eq', if_pos (Finset.mem_univ _)]
  rw [sum_blocks, one, ← Finset.sum_add_distrib]
  refine Finset.sum_congr rfl fun x _ => ?_
  have e (r : Fin 512) : (at_ x r).val = 512 * x.val + r.val := rfl
  have e' : (at_ b u).val = 512 * b.val + u.val := rfl
  simp only [e, e']
  rcases lt_trichotomy x.val b.val with p | p | p
  · rw [if_neg (fun q => by rw [q] at p; omega), if_neg (by omega), add_zero]
    exact Finset.sum_eq_zero fun r _ => if_neg (by omega)
  · have q : x = b := Fin.ext p
    subst q
    rw [if_pos rfl, if_neg (by omega), add_zero]
    exact Finset.sum_congr rfl fun r _ => if_congr (by omega) rfl rfl
  · rw [if_neg (fun q => by rw [q] at p; omega), if_pos p, zero_add]
    exact Finset.sum_congr rfl fun r _ => if_pos (by omega)

variable {z} {Q D O : S2048x512.Idx → EReal} {C S : S2048x128.Idx → EReal} {A W : Fin 4 → S512x512.Idx → EReal} (H : z.Is Q D O C S A W)
include H

theorem QA_real (h : Fin 8) (t : Fin 2048) (l : Fin 128) : QA Q C S (ix3 h t l) = (z.rq h t l : EReal) := qa_real H h t l
theorem DOA_real (h : Fin 8) (t : Fin 2048) (l : Fin 128) : DOA D O (ix3 h t l) = (z.rd h t l : EReal) := doa_real H h t l
theorem QAT_real (h : Fin 8) (b : Fin 4) (l : Fin 128) (r : Fin 512) : QAT Q C S (ix4 h b l r) = (z.rq h (at_ b r) l : EReal) := qa_real H h _ l
theorem DOAT_real (h : Fin 8) (b : Fin 4) (l : Fin 128) (r : Fin 512) : DOAT D O (ix4 h b l r) = (z.rd h (at_ b r) l : EReal) := doa_real H h _ l

theorem score_real (j : Fin 4) (h : Fin 8) (t : Fin 2048) (u : Fin 512) : score (QA Q C S) (KA (A j) C j) h t u = (z.sc h t (at_ j u) : EReal) := by
  unfold score
  rw [← qk_sum, coe_sum]
  exact Finset.sum_congr rfl fun l _ => by rw [QA_real H, ka_real H, EReal.coe_mul]

theorem grad_real (j : Fin 4) (h : Fin 8) (t : Fin 2048) (u : Fin 512) : score (DOA D O) (VA (W j)) h t u = (z.gp h t (at_ j u) : EReal) := by
  unfold score
  rw [← dv_sum, coe_sum]
  exact Finset.sum_congr rfl fun l _ => by rw [DOA_real H, va_real H, EReal.coe_mul]

theorem weight_real (j : Fin 4) (h : Fin 8) (t : Fin 2048) (u : Fin 512) : weight (QA Q C S) (KA (A j) C j) h t u = (z.w h t (at_ j u) : EReal) := by
  unfold weight; rw [score_real H, Ideal.exp_coe]; rfl

theorem slope_real (j : Fin 4) (h : Fin 8) (t : Fin 2048) (u : Fin 512) : slope (QA Q C S) (KA (A j) C j) (DOA D O) (VA (W j)) h t u = (z.sl h t (at_ j u) : EReal) := by
  unfold slope; rw [weight_real H, grad_real H, ← EReal.coe_mul]; rfl

theorem weightM_real (b : Fin 4) (h : Fin 8) (r u : Fin 512) : weightM (QA Q C S) (KA (A b) C b) h b r u = ((if u.val ≤ r.val then z.w h (at_ b r) (at_ b u) else 0 : ℝ) : EReal) := by
  unfold weightM
  split_ifs
  · rw [score_real H, Ideal.exp_coe]; rfl
  · rw [Ideal.exp_bot]; rfl

theorem slopeM_real (b : Fin 4) (h : Fin 8) (r u : Fin 512) : slopeM (QA Q C S) (KA (A b) C b) (DOA D O) (VA (W b)) h b r u = ((if u.val ≤ r.val then z.sl h (at_ b r) (at_ b u) else 0 : ℝ) : EReal) := by
  unfold slopeM
  rw [weightM_real H, grad_real H, ← EReal.coe_mul]
  split_ifs
  · rfl
  · rw [zero_mul]

theorem dkSum_real (b : Fin 4) (h : Fin 8) (l : Fin 128) (u : Fin 512) :
    dkSum (QAT Q C S) (QA Q C S) (KA (A b) C b) (DOA D O) (VA (W b)) b h l u = ((∑ t, if (at_ b u).val ≤ t.val then z.rq h t l * z.sl h t (at_ b u) else 0 : ℝ) : EReal) := by
  rw [sum_from (fun t => z.rq h t l * z.sl h t (at_ b u)), EReal.coe_add, coe_sum, coe_sum]
  unfold dkSum
  refine congrArg₂ (α := EReal) (β := EReal) (γ := EReal) (· + ·) (Finset.sum_congr rfl fun r _ => ?_) (Finset.sum_congr rfl fun x _ => ?_)
  · rw [QAT_real H, slopeM_real H, ← EReal.coe_mul, mul_ite, mul_zero]
  · split_ifs
    · unfold dkPart
      rw [coe_sum]
      exact Finset.sum_congr rfl fun r _ => by rw [QAT_real H, slope_real H, EReal.coe_mul]
    · rfl

theorem dvSum_real (b : Fin 4) (h : Fin 8) (l : Fin 128) (u : Fin 512) :
    dvSum (DOAT D O) (QA Q C S) (KA (A b) C b) b h l u = ((∑ t, if (at_ b u).val ≤ t.val then z.rd h t l * z.w h t (at_ b u) else 0 : ℝ) : EReal) := by
  rw [sum_from (fun t => z.rd h t l * z.w h t (at_ b u)), EReal.coe_add, coe_sum, coe_sum]
  unfold dvSum
  refine congrArg₂ (α := EReal) (β := EReal) (γ := EReal) (· + ·) (Finset.sum_congr rfl fun r _ => ?_) (Finset.sum_congr rfl fun x _ => ?_)
  · rw [DOAT_real H, weightM_real H, ← EReal.coe_mul, mul_ite, mul_zero]
  · split_ifs
    · unfold dvPart
      rw [coe_sum]
      exact Finset.sum_congr rfl fun r _ => by rw [DOAT_real H, weight_real H, EReal.coe_mul]
    · rfl

theorem dqStep_real (j : Fin 4) (h : Fin 8) (t : Fin 2048) (l : Fin 128) :
    dqStep (QA Q C S) (KA (A j) C j) (DOA D O) (VA (W j)) j h t l = ((∑ u : Fin 512, if (at_ j u).val ≤ t.val then z.sl h t (at_ j u) * z.rk h (at_ j u) l else 0 : ℝ) : EReal) := by
  rw [coe_sum]
  unfold dqStep
  have e (r : Fin 512) : (at_ j r).val = 512 * j.val + r.val := rfl
  rcases lt_trichotomy j.val (t.val / 512) with p | p | p
  · rw [if_neg (by omega), if_pos p, zero_add]
    unfold dqPart
    exact Finset.sum_congr rfl fun u _ => by rw [slope_real H, ka_real H, if_pos (by rw [e]; omega), EReal.coe_mul]
  · rw [if_pos p.symm, if_neg (by omega), add_zero]
    unfold dqDiag
    refine Finset.sum_congr rfl fun u _ => ?_
    have et : at_ j ⟨t.val % 512, Nat.mod_lt _ (by decide)⟩ = t := Fin.ext (by show 512 * j.val + t.val % 512 = t.val; omega)
    rw [slopeM_real H, ka_real H, et, ← EReal.coe_mul, ite_mul, zero_mul]
    refine congrArg _ (if_congr ?_ rfl rfl)
    rw [e]
    show u.val ≤ t.val % 512 ↔ _
    omega
  · rw [if_neg (by omega), if_neg (by omega), add_zero, Finset.sum_eq_zero]
    intro u _
    rw [if_neg (by rw [e]; omega)]
    rfl

theorem dqSum_real (h : Fin 8) (t : Fin 2048) (l : Fin 128) :
    (∑ j : Fin 4, if j.val < 4 then dqStep (QA Q C S) (KA (A j) C j) (DOA D O) (VA (W j)) j h t l else 0)
      = ((∑ u, if u.val ≤ t.val then z.sl h t u * z.rk h u l else 0 : ℝ) : EReal) := by
  rw [sum_blocks, coe_sum]
  exact Finset.sum_congr rfl fun j _ => by rw [if_pos j.isLt, dqStep_real H]

end Seq

end Cert.Attn

end
-- ==== Proof.Finite.lean ====
module

public import Idealize.ShloMosaic.Lib.Pointwise
public import Idealize.ShloMosaic.Lib.ReduceAll

@[expose] public section

noncomputable section

/-! # Finite numbers

The extended reals that are real numbers: they are closed under sums and products, and a precondition `jnp.all(jnp.abs(x) < jnp.inf)`
says that every entry of `x` is one. -/

namespace Cert.Finite

open Idealize.ShloMosaic

/-- `x` is a real number. -/
abbrev IsReal (x : EReal) : Prop := ∃ r : ℝ, x = (r : EReal)

theorem zero : IsReal 0 := ⟨0, rfl⟩

theorem mul {x y : EReal} : IsReal x → IsReal y → IsReal (x * y)
  | ⟨a, ha⟩, ⟨b, hb⟩ => ⟨a * b, by rw [ha, hb, EReal.coe_mul]⟩

theorem add {x y : EReal} : IsReal x → IsReal y → IsReal (x + y)
  | ⟨a, ha⟩, ⟨b, hb⟩ => ⟨a + b, by rw [ha, hb, EReal.coe_add]⟩

theorem sum {ι : Type} (s : Finset ι) (f : ι → EReal) (h : ∀ i, IsReal (f i)) : IsReal (∑ i ∈ s, f i) := by
  classical
  induction s using Finset.induction_on with
  | empty => exact zero
  | insert a s ha ih => rw [Finset.sum_insert ha]; exact add (h a) ih

theorem dite {p : Prop} [Decidable p] {f : p → EReal} {g : ¬ p → EReal} (hf : ∀ h, IsReal (f h)) (hg : ∀ h, IsReal (g h)) :
    IsReal (if h : p then f h else g h) := by
  split
  · exact hf _
  · exact hg _

theorem infinity : Ideal.ofBits .f32 2139095040#32 = ⊤ := by simp [Ideal.ofBits, Ideal.ieee]

/-- A number whose absolute value is below infinity is real. -/
theorem of_abs_lt {x : EReal} (h : Ideal.cmp .olt (max x (-x)) ⊤ = 1#1) : IsReal x := by
  induction x with
  | bot => simp [Ideal.cmp] at h
  | top => simp [Ideal.cmp] at h
  | coe r => exact ⟨r, rfl⟩

/-- An array of which every absolute value is below infinity, as the program of a precondition says it, has real entries. -/
theorem of_all {s t u : Shape} {axes : List (Fin s.rank)} [Subsingleton t.Idx] (x b : FVec Ideal s .f32) (hb : ∀ i, b i = (⊤ : EReal))
    (init : u.Idx → BitVec 1) (h : s.ReducesTo axes t) (hu : 0 < u.numel) (j : t.Idx)
    (e : Host.reduce IntOp.andi (cmpf .olt (Host.absf x) b) init h hu j = 1#1) (i : s.Idx) : IsReal (x i) := by
  have g := Host.reduce_andi_all _ init h hu j e i
  refine of_abs_lt ?_
  rw [← hb i]
  exact g

end Cert.Finite
-- ==== Proof.Attn.Logits.lean ====
module

public import proofs.«01_k».proof.Proof.Attn.Sums
public import proofs.«01_k».proof.Proof.Finite
public import proofs.«01_k».proof.Proof.Gen.AttnGradIdeal.Read

@[expose] public section

set_option maxRecDepth 16384

noncomputable section

/-! # The reference's softmax as real numbers -/

namespace Cert.Attn

open Cert.AttnGradIdeal Cert.AttnGradIdeal.Read Idealize.ShloMosaic Idealize.ShloMosaic.TcCoe Idealize.ShloMosaic.Tactic Cert.Finite

theorem col_of (x : Fin 512) : x = col ⟨x.val / 64, by have := x.isLt; omega⟩ ⟨x.val % 64, Nat.mod_lt _ (by norm_num)⟩ := Fin.ext (by
  show x.val = 64 * (x.val / 64) + x.val % 64
  exact (Nat.div_add_mod _ _).symm)

/-- Running sums of reals are reals. -/
theorem windowSum_real {s t : Shape} (window strides lo hi : Fin s.rank → Nat) (h : s.ReduceWindows window strides lo hi t) (x : s.Idx → EReal)
    (hx : ∀ i, IsReal (x i)) (j : t.Idx) : IsReal (Ideal.hostReduceWindowAdd window strides lo hi h x 0 j) := by
  have g : ∀ {ι : Type} (F : ι → EReal), (∀ n, IsReal (F n)) → ∀ (l : List ι) (r : EReal), IsReal r → IsReal (l.foldl (fun r n => r + F n) r) := by
    intro ι F hF l
    induction l with
    | nil => intro r hr; exact hr
    | cons n l ih => intro r hr; exact ih _ (add hr (hF n))
  unfold Ideal.hostReduceWindowAdd Host.reduceWindow
  dsimp only
  refine g _ (fun n => ?_) _ 0 zero
  split
  · exact hx _
  · exact zero

/-- The largest of finitely many numbers, each real or negative infinity, one of them real, is real. -/
theorem max_real {ι : Type} [Fintype ι] (f : ι → EReal) (hf : ∀ i, f i ≠ ⊤) (i₀ : ι) (hi : IsReal (f i₀)) : IsReal (Finset.fold max ⊥ f Finset.univ) := by
  have ht : Finset.fold max ⊥ f Finset.univ < ⊤ := (Finset.fold_max_lt _).2 ⟨bot_lt_top, fun i _ => lt_top_iff_ne_top.2 (hf i)⟩
  obtain ⟨r, hr⟩ := hi
  have hb : ⊥ < Finset.fold max ⊥ f Finset.univ := (Finset.lt_fold_max _).2 (.inr ⟨i₀, Finset.mem_univ _, by rw [hr]; exact EReal.bot_lt_coe r⟩)
  exact ⟨_, (EReal.coe_toReal ht.ne hb.ne').symm⟩

theorem toReal_eq {x : EReal} (h : IsReal x) : x = ((x.toReal : ℝ) : EReal) := by
  obtain ⟨r, rfl⟩ := h
  rfl

theorem eighth_word : Ideal.ofBits .f32 1040187392#32 = ((1 / 8 : ℝ) : EReal) := by
  simp [Ideal.ofBits, Ideal.ieee]
  rw [← EReal.coe_mul]
  norm_num

theorem bot_word : Ideal.ofBits .f32 4286578688#32 = (⊥ : EReal) := by simp [Ideal.ofBits, Ideal.ieee]
theorem zero32 : Ideal.ofBits .f32 0#32 = (0 : EReal) := by simp [Ideal.ofBits, Ideal.ieee]
theorem one32 : Ideal.ofBits .f32 1065353216#32 = ((1 : ℝ) : EReal) := by
  simp [Ideal.ofBits, Ideal.ieee]
  rw [← EReal.coe_mul]
  norm_num

/-- The causal comparison of two positions. -/
theorem causal_word (t u : Fin 2048) (a b : EReal) :
    Scalar.select (IntOp.cmpi CmpIPredicate.sge (BitVec.ofNat 32 t.val) (BitVec.ofNat 32 u.val)) a b = if u.val ≤ t.val then a else b := by
  have e : IntOp.cmpi CmpIPredicate.sge (BitVec.ofNat 32 t.val) (BitVec.ofNat 32 u.val) = 1#1 ↔ u.val ≤ t.val := by
    rw [WordCmp.cmpi_sge_ofNat (by norm_num; omega) (by norm_num; omega)]
    by_cases h : u.val ≤ t.val <;> simp [h]
  unfold Scalar.select
  by_cases h : u.val ≤ t.val
  · rw [if_pos h]; exact if_pos (e.mpr h)
  · rw [if_neg h]; exact if_neg (fun q => h (e.mp q))

/-- The largest of a row. -/
theorem row_max (s : S2x8x2048x2048.Idx → Ideal .f32) (a : Fin 2) (h : Fin 8) (t : Fin 2048) :
    Host.reduce (FloatOps.maximumf (F := Ideal) (φ := .f32)) s (constant (F := Ideal) S_ .f32 0xFF800000#32) Gen.reducesTo_S2x8x2048x2048_S2x8x2048_d3 Gen.h_S_ (ix3 a h t)
      = Finset.fold max ⊥ (fun u => (s (ix4 a h t u) : EReal)) Finset.univ := by
  pointwise
  simp only [bot_word]

theorem bot_max (M : S2x8x2048.Idx → Ideal .f32) (j : S2x8x2048.Idx) :
    (maximumf (val_main_v27 (F := Ideal)) M j : EReal) = M j := by
  have b : (val_main_v27 (F := Ideal) j : EReal) = ⊥ := by
    pointwise [val_main_v27, val_main_cst_3]
    exact bot_word
  show max (val_main_v27 (F := Ideal) j : EReal) (M j : EReal) = M j
  rw [b]
  exact max_eq_right bot_le

variable (x0 x1 x2 : S2x2048x512.Idx → Ideal .f32) (x3 : S2x2048x8.Idx → Ideal .f32) (x4 : S2x2048x512.Idx → Ideal .f32)

/-- Finite arguments. -/
structure Real5 : Prop where
  r0 : ∀ i, IsReal (x0 i)
  r1 : ∀ i, IsReal (x1 i)
  r2 : ∀ i, IsReal (x2 i)
  r3 : ∀ i, IsReal (x3 i)
  r4 : ∀ i, IsReal (x4 i)

/-- The log-sum of a row. -/
def logSum (a : Fin 2) (h : Fin 8) (t : Fin 2048) : EReal :=
  (val_main_v21 (F := Ideal) x0 x1 x3 (ix3 a h t) : EReal)
    + Ideal.log (∑ u : Fin 2048, Ideal.exp ((val_main_v20_0 (F := Ideal) x0 x1 x3 (ix4 a h t u) : EReal) - val_main_v21 (F := Ideal) x0 x1 x3 (ix3 a h t)))

def oR (a : Fin 2) (t : Fin 2048) (x : Fin 512) : ℝ := EReal.toReal (val_main_v52 (F := Ideal) x0 x1 x2 x3 (ix3 a t x))
def fR (a : Fin 2) (t : Fin 2048) (h : Fin 8) : ℝ := EReal.toReal (val_main_v0 (F := Ideal) x3 (ix3 a t h))
def sR (a : Fin 2) (t : Fin 2048) (h : Fin 8) : ℝ := EReal.toReal (logSum x0 x1 x3 a h t)

/-- The real arrays of sequence `a`. -/
def seqOf (a : Fin 2) : Seq where
  q t x := EReal.toReal (x0 (ix3 a t x))
  k t x := EReal.toReal (x1 (ix3 a t x))
  v t x := EReal.toReal (x2 (ix3 a t x))
  d t x := EReal.toReal (x4 (ix3 a t x))
  o t x := oR x0 x1 x2 x3 a t x
  f t h := fR x3 a t h
  s t h := sR x0 x1 x3 a t h

attribute [local irreducible] oR fR sR

theorem seqOf_o (a : Fin 2) : (seqOf x0 x1 x2 x3 x4 a).o = oR x0 x1 x2 x3 a := by simp only [seqOf]
theorem seqOf_f (a : Fin 2) : (seqOf x0 x1 x2 x3 x4 a).f = fR x3 a := by simp only [seqOf]
theorem seqOf_s (a : Fin 2) : (seqOf x0 x1 x2 x3 x4 a).s = sR x0 x1 x3 a := by simp only [seqOf]

/-- The logits, their maxima, the exponentials and their sums. -/
def lg (a : Fin 2) (h : Fin 8) (t u : Fin 2048) : ℝ :=
  (∑ e : Fin 64, (seqOf x0 x1 x2 x3 x4 a).q t (col h e) * (seqOf x0 x1 x2 x3 x4 a).k u (col h e)) * (1 / 8)
    + (seqOf x0 x1 x2 x3 x4 a).f t h - (seqOf x0 x1 x2 x3 x4 a).f u h
def mx (a : Fin 2) (h : Fin 8) (t : Fin 2048) : ℝ := EReal.toReal (val_main_v21 (F := Ideal) x0 x1 x3 (ix3 a h t))
def ex (a : Fin 2) (h : Fin 8) (t u : Fin 2048) : ℝ := if u.val ≤ t.val then Real.exp (lg x0 x1 x2 x3 x4 a h t u - mx x0 x1 x3 a h t) else 0
def su (a : Fin 2) (h : Fin 8) (t : Fin 2048) : ℝ := ∑ u, ex x0 x1 x2 x3 x4 a h t u

variable {x0 x1 x2 x3 x4} (H : Real5 x0 x1 x2 x3 x4) (a : Fin 2) (h : Fin 8) (t u : Fin 2048) (e : Fin 64) (x : Fin 512)
include H

local notation "z" => seqOf x0 x1 x2 x3 x4 a

theorem v0_real (i) : IsReal (val_main_v0 (F := Ideal) x3 i) := by
  have := windowSum_real ![1, 2048, 1] ![1, 1, 1] ![0, 2047, 0] ![0, 0, 0] Gen.reduceWindows_S2x2048x8_S2x2048x8_w1s1p0_0_w2048s1p2047_0_w1s1p0_0 x3 H.r3 i
  unfold val_main_v0 Host.reduceWindowAdd
  rw [Ideal.hostReduceWindowAdd_def]
  have z0 : (val_main_call0_call0_v0 (F := Ideal) (Shape.Idx.first Gen.h_S_) : EReal) = 0 := by
    pointwise [val_main_call0_call0_v0, val_main_call0_call0_cst]
  rw [z0]
  exact this

theorem q_real : (x0 (ix3 a t x) : EReal) = (z).q t x := toReal_eq (H.r0 _)
theorem k_real : (x1 (ix3 a t x) : EReal) = (z).k t x := toReal_eq (H.r1 _)
theorem v_real : (x2 (ix3 a t x) : EReal) = (z).v t x := toReal_eq (H.r2 _)
theorem d_real : (x4 (ix3 a t x) : EReal) = (z).d t x := toReal_eq (H.r4 _)
theorem f_real : (val_main_v0 (F := Ideal) x3 (ix3 a t h) : EReal) = (z).f t h := by
  rw [seqOf_f]
  unfold fR
  exact toReal_eq (v0_real H (ix3 a t h))

theorem r13 : (val_main_v13 (F := Ideal) x0 x1 x3 (ix4 a h t u) : EReal) = lg x0 x1 x2 x3 x4 a h t u := by
  pointwise [val_main_v13, val_main_v12, val_main_v11, val_main_v10, val_main_v9, val_main_v8, val_main_v7, val_main_v6, val_main_v5, val_main_v4, val_main_v3, val_main_v2, val_main_v1, val_main_cst]
  rw [eighth_word, f_real H, f_real H]
  have s : (∑ y : Fin 64, (x0 (ix3 a t ⟨h.val * 64 + y.val, by omega⟩) : EReal) * x1 (ix3 a u ⟨h.val * 64 + y.val, by omega⟩))
      = ((∑ y : Fin 64, (seqOf x0 x1 x2 x3 x4 a).q t (col h y) * (seqOf x0 x1 x2 x3 x4 a).k u (col h y) : ℝ) : EReal) := by
    rw [coe_sum]
    refine Finset.sum_congr rfl fun y _ => ?_
    have c : (⟨h.val * 64 + y.val, by omega⟩ : Fin 512) = col h y := Fin.ext (by show h.val * 64 + y.val = 64 * h.val + y.val; omega)
    rw [c, EReal.coe_mul, q_real H, k_real H]
  rw [s]
  unfold lg
  rw [EReal.coe_sub, EReal.coe_add, EReal.coe_mul]

theorem r20 : (val_main_v20_0 (F := Ideal) x0 x1 x3 (ix4 a h t u) : EReal) = if u.val ≤ t.val then ((lg x0 x1 x2 x3 x4 a h t u : ℝ) : EReal) else ⊥ := by
  pointwise [val_main_v20_0, val_main_v20_1, val_main_call1_v2, val_main_v19, val_main_v18, val_main_v17, val_main_v16, val_main_v15, val_main_v14, val_main_cst_0, val_main_call1_v0]
  rw [causal_word, r13 H]
  simp only [id_eq, constant]
  rw [show (FloatOps.ofBits (F := Ideal) FTy.f32 4286578688#32 : EReal) = ⊥ from bot_word]

theorem r21 : (val_main_v21 (F := Ideal) x0 x1 x3 (ix3 a h t) : EReal) = mx x0 x1 x3 a h t := by
  refine toReal_eq ?_
  have e : (val_main_v21 (F := Ideal) x0 x1 x3 (ix3 a h t) : EReal) = _ := row_max (val_main_v20_0 (F := Ideal) x0 x1 x3) a h t
  rw [e]
  refine max_real _ (fun i => ?_) t ?_
  · rw [r20 H]; split_ifs
    · exact EReal.coe_ne_top _
    · exact bot_ne_top
  · rw [r20 H, if_pos le_rfl]; exact ⟨_, rfl⟩

theorem r28 : (val_main_v28 (F := Ideal) x0 x1 x3 (ix3 a h t) : EReal) = mx x0 x1 x3 a h t :=
  (bot_max _ _).trans (r21 H a h t)

theorem ex_real (y : EReal) (hy : y = mx x0 x1 x3 a h t) : Ideal.exp ((val_main_v20_0 (F := Ideal) x0 x1 x3 (ix4 a h t u) : EReal) - y) = ex x0 x1 x2 x3 x4 a h t u := by
  rw [r20 H, hy]
  unfold ex
  split_ifs
  · rw [← EReal.coe_sub, Ideal.exp_coe]
  · rw [EReal.bot_sub, Ideal.exp_bot]; rfl

theorem r41 : (val_main_v41 (F := Ideal) x0 x1 x3 (ix4 a h t u) : EReal) = ex x0 x1 x2 x3 x4 a h t u := by
  pointwise [val_main_v41, val_main_v40, val_main_v39, val_main_v38]
  exact ex_real H a h t u _ (r28 H a h t)

theorem r42 : (val_main_v42 (F := Ideal) x0 x1 x3 (ix3 a h t) : EReal) = su x0 x1 x2 x3 x4 a h t := by
  pointwise [val_main_v42, val_main_cst_9]
  unfold su
  rw [coe_sum]
  exact Finset.sum_congr rfl fun u _ => r41 H a h t u

theorem su_pos : 0 < su x0 x1 x2 x3 x4 a h t := by
  unfold su
  refine Finset.sum_pos' (fun u _ => ?_) ⟨t, Finset.mem_univ _, ?_⟩
  · unfold ex; split_ifs
    · exact (Real.exp_pos _).le
    · exact le_rfl
  · unfold ex; rw [if_pos le_rfl]; exact Real.exp_pos _

theorem r45 : (val_main_v45 (F := Ideal) x0 x1 x3 (ix4 a h t u) : EReal) = ((ex x0 x1 x2 x3 x4 a h t u / su x0 x1 x2 x3 x4 a h t : ℝ) : EReal) := by
  pointwise [val_main_v45, val_main_v44, val_main_v43]
  rw [r42 H, r41 H, Ideal.div_coe (su_pos H a h t).ne', ← EReal.coe_mul, mul_one_div]

theorem log_real : logSum x0 x1 x3 a h t = ((mx x0 x1 x3 a h t + Real.log (su x0 x1 x2 x3 x4 a h t) : ℝ) : EReal) := by
  have e : (∑ u : Fin 2048, Ideal.exp ((val_main_v20_0 (F := Ideal) x0 x1 x3 (ix4 a h t u) : EReal) - val_main_v21 (F := Ideal) x0 x1 x3 (ix3 a h t)))
      = ((su x0 x1 x2 x3 x4 a h t : ℝ) : EReal) := by
    unfold su
    rw [coe_sum]
    exact Finset.sum_congr rfl fun u _ => ex_real H a h t u _ (r21 H a h t)
  unfold logSum
  rw [e, r21 H, Ideal.log_coe, if_neg (not_le.2 (su_pos H a h t)), ← EReal.coe_add]

theorem s_real : logSum x0 x1 x3 a h t = (z).s t h := by
  rw [seqOf_s]
  unfold sR
  exact toReal_eq ⟨_, log_real H a h t⟩

theorem s_eq : (z).s t h = mx x0 x1 x3 a h t + Real.log (su x0 x1 x2 x3 x4 a h t) :=
  EReal.coe_injective ((s_real H a h t).symm.trans (log_real H a h t))

/-- The forward's output. -/
theorem r52 : (val_main_v52 (F := Ideal) x0 x1 x2 x3 (ix3 a t (col h e)) : EReal)
    = ((∑ u, ex x0 x1 x2 x3 x4 a h t u / su x0 x1 x2 x3 x4 a h t * (z).v u (col h e) : ℝ) : EReal) := by
  pointwise [val_main_v52, val_main_v51, val_main_v50, val_main_v49]
  rw [coe_sum]
  refine Finset.sum_congr rfl fun u _ => ?_
  have ch : (64 * h.val + e.val) / 64 = h.val := by omega
  have cx : (64 * h.val + e.val) / 64 * 64 + (64 * h.val + e.val) % 64 = 64 * h.val + e.val := by omega
  have g1 : (⟨(64 * h.val + e.val) / 64, by omega⟩ : Fin 8) = h := Fin.ext ch
  have g2 : ∀ p, (⟨(64 * h.val + e.val) / 64 * 64 + (64 * h.val + e.val) % 64, p⟩ : Fin 512) = col h e := fun _ => Fin.ext cx
  rw [g2]
  refine (congrArg (fun y => (x2 (ix3 a u (col h e)) : EReal) * val_main_v45 (F := Ideal) x0 x1 x3 (ix4 a y t u)) g1).trans ?_
  dsimp only
  rw [r45 H, EReal.coe_mul, mul_comm, ← v_real H]

theorem o_real : (val_main_v52 (F := Ideal) x0 x1 x2 x3 (ix3 a t x) : EReal) = (z).o t x := by
  rw [seqOf_o]
  unfold oR
  refine toReal_eq ?_
  have c := col_of x
  rw [c, r52 H]
  exact ⟨_, rfl⟩

theorem o_eq : (z).o t (col h e) = ∑ u, ex x0 x1 x2 x3 x4 a h t u / su x0 x1 x2 x3 x4 a h t * (z).v u (col h e) := by
  exact EReal.coe_injective ((o_real H a t (col h e)).symm.trans (r52 H a h t e))

end Cert.Attn

end
-- ==== Proof.Attn.Slopes.lean ====
module

public import proofs.«01_k».proof.Proof.Attn.Logits

@[expose] public section

set_option maxRecDepth 16384

noncomputable section

/-! # The reference's gradients as real numbers -/

namespace Cert.Attn

open Cert.AttnGradIdeal Cert.AttnGradIdeal.Read Idealize.ShloMosaic Idealize.ShloMosaic.TcCoe Idealize.ShloMosaic.Tactic Cert.Finite

/-- The gradient of a probability before its mean is taken off. -/
def dp (z : Seq) (h : Fin 8) (t u : Fin 2048) : ℝ := ∑ e, z.d t (col h e) * z.v u (col h e)

variable {x0 x1 x2 : S2x2048x512.Idx → Ideal .f32} {x3 : S2x2048x8.Idx → Ideal .f32} {x4 : S2x2048x512.Idx → Ideal .f32}
  (H : Real5 x0 x1 x2 x3 x4) (a : Fin 2) (h : Fin 8) (t u : Fin 2048) (e : Fin 64) (x : Fin 512)
include H

local notation "z" => seqOf x0 x1 x2 x3 x4 a
local notation "E" => ex x0 x1 x2 x3 x4 a
local notation "L" => su x0 x1 x2 x3 x4 a

/-- The forward's probability is the exponential of the logit less the log-sum. -/
theorem w_eq (p : u.val ≤ t.val) : (z).w h t u = E h t u / L h t := by
  have sc : (z).sc h t u = lg x0 x1 x2 x3 x4 a h t u - mx x0 x1 x3 a h t - Real.log (L h t) := by
    unfold Seq.sc lg
    rw [s_eq H, Finset.sum_mul, ← Finset.sum_congr rfl fun e _ => mul_assoc ((z).q t (col h e)) _ _]
    ring
  unfold Seq.w
  rw [sc, Real.exp_sub, Real.exp_log (su_pos H a h t)]
  unfold ex
  rw [if_pos p]

theorem gp_eq : (z).gp h t u = dp (z) h t u - ∑ y, E h t y / L h t * dp (z) h t y := by
  unfold Seq.gp
  refine congrArg₂ (· - ·) rfl ?_
  unfold dp
  simp only [o_eq H, Finset.mul_sum]
  rw [Finset.sum_comm]
  exact Finset.sum_congr rfl fun y _ => Finset.sum_congr rfl fun e _ => by ring

theorem r55 : (val_main_v55 (F := Ideal) x2 x4 (ix4 a h t u) : EReal) = dp (z) h t u := by
  pointwise [val_main_v55, val_main_v54, val_main_v53, val_main_v49]
  unfold dp
  rw [coe_sum]
  refine Finset.sum_congr rfl fun y _ => ?_
  have c : (⟨h.val * 64 + y.val, by omega⟩ : Fin 512) = col h y := Fin.ext (by show h.val * 64 + y.val = 64 * h.val + y.val; omega)
  rw [c, EReal.coe_mul, d_real H, v_real H]

theorem r62 : (val_main_v62 (F := Ideal) x0 x1 x2 x3 x4 (ix3 a h t) : EReal) = ((∑ y, dp (z) h t y * (1 / (L h t * L h t)) * E h t y : ℝ) : EReal) := by
  pointwise [val_main_v62, val_main_v61, val_main_v60, val_main_v59, val_main_v48, val_main_v47, val_main_v46, val_main_v43, val_main_cst_10, val_main_cst_11]
  rw [coe_sum]
  refine Finset.sum_congr rfl fun y _ => ?_
  have p := su_pos H a h t
  rw [r55 H, r41 H, r42 H, ← EReal.coe_mul, Ideal.div_coe (mul_pos p p).ne', one_mul, ← EReal.coe_mul, ← EReal.coe_mul]

theorem r70 : (val_main_v70 (F := Ideal) x0 x1 x2 x3 x4 (ix4 a h t u) : EReal)
    = (((dp (z) h t u * (1 / L h t) + -∑ y, dp (z) h t y * (1 / (L h t * L h t)) * E h t y) * E h t u : ℝ) : EReal) := by
  pointwise [val_main_v70, val_main_v69, val_main_v68, val_main_v67, val_main_v66, val_main_v65, val_main_v64, val_main_v63, val_main_v44, val_main_v43, val_main_cst_12]
  rw [r55 H, r41 H, r42 H, Ideal.div_coe (su_pos H a h t).ne']
  simp only [r62 H, Fin.sum_univ_one]
  rw [← EReal.coe_neg, ← EReal.coe_mul, ← EReal.coe_add, ← EReal.coe_mul]

theorem slope_eq (p : u.val ≤ t.val) : (dp (z) h t u * (1 / L h t) + -∑ y, dp (z) h t y * (1 / (L h t * L h t)) * E h t y) * E h t u = (z).sl h t u := by
  unfold Seq.sl
  rw [w_eq H a h t u p, gp_eq H]
  have n := (su_pos H a h t).ne'
  have s : ∑ y, dp (z) h t y * (1 / (L h t * L h t)) * E h t y = (1 / L h t) * ∑ y, E h t y / L h t * dp (z) h t y := by
    rw [Finset.mul_sum]
    exact Finset.sum_congr rfl fun y _ => by field_simp
  rw [s]
  field_simp
  ring

/-- The gradient of a logit. -/
theorem r71 : (val_main_v71 (F := Ideal) x0 x1 x2 x3 x4 (ix4 a h t u) : EReal) = ((if u.val ≤ t.val then (z).sl h t u else 0 : ℝ) : EReal) := by
  pointwise [val_main_v71, val_main_v20_1, val_main_v19, val_main_v18, val_main_v17, val_main_v16, val_main_v15, val_main_v14, val_main_call2_v0, val_main_call2_cst]
  rw [causal_word, r70 H]
  split_ifs with p
  · rw [slope_eq H a h t u p]
  · first | exact zero32 | rfl

theorem r76 : (val_main_v76 (F := Ideal) x0 x1 x2 x3 x4 (ix3 a t h) : EReal) = ((-∑ y, if t.val ≤ y.val then (z).sl h y t else 0 : ℝ) : EReal) := by
  pointwise [val_main_v72, val_main_v73, val_main_v74, val_main_v75, val_main_v76, val_main_cst_13, val_main_cst_14]
  simp only [Fin.sum_univ_one, r71 H]
  rw [← Finset.sum_neg_distrib, coe_sum]
  exact Finset.sum_congr rfl fun y _ => (EReal.coe_neg _).symm

theorem r80 : (val_main_v80 (F := Ideal) x0 x1 x2 x3 x4 (ix3 a t h) : EReal) = ((∑ y, if y.val ≤ t.val then (z).sl h t y else 0 : ℝ) : EReal) := by
  pointwise [val_main_v77, val_main_v78, val_main_v79, val_main_v80, val_main_cst_15, val_main_cst_16]
  simp only [Fin.sum_univ_one, r71 H]
  rw [coe_sum]

theorem r87 : (val_main_v87 (F := Ideal) x0 x1 x2 x3 x4 (ix3 a u (col h e)) : EReal)
    = ((∑ y, if u.val ≤ y.val then (z).q y (col h e) * (z).sl h y u else 0 : ℝ) : EReal) * ((1 / 8 : ℝ) : EReal) := by
  rw [← EReal.coe_mul, Finset.sum_mul]
  pointwise [val_main_v82, val_main_v83, val_main_v84, val_main_v87, val_main_v81, val_main_v1, val_main_cst_17]
  rw [coe_sum, eighth_word]
  refine Finset.sum_congr rfl fun y _ => ?_
  have g1 : (⟨(64 * h.val + e.val) / 64, by omega⟩ : Fin 8) = h := Fin.ext (by show (64 * h.val + e.val) / 64 = h.val; omega)
  have g2 : ∀ p, (⟨(64 * h.val + e.val) / 64 * 64 + (64 * h.val + e.val) % 64, p⟩ : Fin 512) = col h e := fun _ => Fin.ext (by
    show (64 * h.val + e.val) / 64 * 64 + (64 * h.val + e.val) % 64 = 64 * h.val + e.val; omega)
  rw [g2]
  refine (congrArg (fun w => (val_main_v71 (F := Ideal) x0 x1 x2 x3 x4 (ix4 a w y u) : EReal) * ((1 / 8 : ℝ) : EReal) * x0 (ix3 a y (col h e))) g1).trans ?_
  dsimp only
  rw [r71 H, q_real H, ← EReal.coe_mul, ← EReal.coe_mul]
  refine congrArg _ ?_
  split_ifs <;> ring

theorem r88 : (val_main_v88 (F := Ideal) x0 x1 x2 x3 x4 (ix3 a t (col h e)) : EReal)
    = ((∑ y, if y.val ≤ t.val then (z).sl h t y * ((z).k y (col h e) * (1 / 8)) else 0 : ℝ) : EReal) := by
  pointwise [val_main_v82, val_main_v85, val_main_v86, val_main_v88, val_main_v81, val_main_v2, val_main_cst_17]
  rw [coe_sum, eighth_word]
  refine Finset.sum_congr rfl fun y _ => ?_
  have g1 : (⟨(64 * h.val + e.val) / 64, by omega⟩ : Fin 8) = h := Fin.ext (by show (64 * h.val + e.val) / 64 = h.val; omega)
  have g2 : ∀ p, (⟨(64 * h.val + e.val) / 64 * 64 + (64 * h.val + e.val) % 64, p⟩ : Fin 512) = col h e := fun _ => Fin.ext (by
    show (64 * h.val + e.val) / 64 * 64 + (64 * h.val + e.val) % 64 = 64 * h.val + e.val; omega)
  rw [g2]
  refine (congrArg (fun w => (val_main_v71 (F := Ideal) x0 x1 x2 x3 x4 (ix4 a w t y) : EReal) * ((1 / 8 : ℝ) : EReal) * x1 (ix3 a y (col h e))) g1).trans ?_
  dsimp only
  rw [r71 H, k_real H, ← EReal.coe_mul, ← EReal.coe_mul]
  refine congrArg _ ?_
  split_ifs <;> ring

theorem r58 : (val_main_v58 (F := Ideal) x0 x1 x3 x4 (ix3 a u (col h e)) : EReal)
    = ((∑ y, if u.val ≤ y.val then (z).d y (col h e) * (z).w h y u else 0 : ℝ) : EReal) := by
  pointwise [val_main_v58, val_main_v57, val_main_v56, val_main_v54, val_main_v53]
  rw [coe_sum]
  refine Finset.sum_congr rfl fun y _ => ?_
  have g1 : (⟨(64 * h.val + e.val) / 64, by omega⟩ : Fin 8) = h := Fin.ext (by show (64 * h.val + e.val) / 64 = h.val; omega)
  have g2 : ∀ p, (⟨(64 * h.val + e.val) / 64 * 64 + (64 * h.val + e.val) % 64, p⟩ : Fin 512) = col h e := fun _ => Fin.ext (by
    show (64 * h.val + e.val) / 64 * 64 + (64 * h.val + e.val) % 64 = 64 * h.val + e.val; omega)
  rw [g2]
  refine (congrArg (fun w => (x4 (ix3 a y (col h e)) : EReal) * val_main_v45 (F := Ideal) x0 x1 x3 (ix4 a w y u)) g1).trans ?_
  dsimp only
  rw [r45 H, d_real H, ← EReal.coe_mul]
  refine congrArg _ ?_
  split_ifs with p
  · rw [w_eq H a h y u p]
  · unfold ex; rw [if_neg p]; simp

end Cert.Attn

end
-- ==== Proof.Attn.Grad.lean ====
module

public import proofs.«01_k».proof.Proof.Attn.LogSum
public import proofs.«01_k».proof.Proof.Attn.Slopes

@[expose] public section

set_option maxRecDepth 16384

noncomputable section

/-! # The gradients the kernel leaves are the reference's -/

namespace Cert.Attn

open Cert.AttnBwdIdeal Cert.AttnBwdIdeal.Gen Idealize.ShloMosaic Idealize.ShloMosaic.TcCoe Idealize.ShloMosaic.Tactic
open Cert.AttnGradIdeal.Read (val_main_v90 val_main_v92 val_main_v94 val_main_v96 val_main_v98 val_main_v76 val_main_v80 val_main_v87 val_main_v88 val_main_v58)

variable (m : (ℓ : Loc nD τ sig) → Buf (Elt Ideal) ℓ) (c : Dev nD)

/-- Finite arguments. -/
abbrev Finite5 : Prop := Real5 (x0 m c) (x1 m c) (x2 m c) (x3 m c) (x4 m c)

/-- The real arrays of sequence `a`. -/
abbrev arrays (a : Fin 2) : Seq := seqOf (x0 m c) (x1 m c) (x2 m c) (x3 m c) (x4 m c) a

variable (H : Finite5 m c) (a : Fin 2)
include H

omit H in
theorem row_sq (t : Fin 2048) : (⟨(a.val * 2048 + t.val) / 2048, by omega⟩ : Fin 2) = a := Fin.ext (by show (a.val * 2048 + t.val) / 2048 = a.val; omega)
omit H in
theorem row_at (t : Fin 2048) : (⟨(a.val * 2048 + t.val) % 2048, by omega⟩ : Fin 2048) = t := Fin.ext (by show (a.val * 2048 + t.val) % 2048 = t.val; omega)
omit H in
theorem key_sq (j : Fin 4) (u : Fin 512) : (⟨(a.val * 2048 + 512 * j.val + u.val) / 2048, by omega⟩ : Fin 2) = a := Fin.ext (by show (a.val * 2048 + 512 * j.val + u.val) / 2048 = a.val; omega)
omit H in
theorem key_at (j : Fin 4) (u : Fin 512) : (⟨(a.val * 2048 + 512 * j.val + u.val) % 2048, by omega⟩ : Fin 2048) = at_ j u := Fin.ext (by show (a.val * 2048 + 512 * j.val + u.val) % 2048 = 512 * j.val + u.val; omega)

omit H in
/-- An array at a row of the sequences laid one after another. -/
theorem at_row {β : Type} (g : Fin 2 → Fin 2048 → β) (t : Fin 2048) : g ⟨(a.val * 2048 + t.val) / 2048, by omega⟩ ⟨(a.val * 2048 + t.val) % 2048, by omega⟩ = g a t := by
  rw [row_sq, row_at]
omit H in
theorem at_key {β : Type} (g : Fin 2 → Fin 2048 → β) (j : Fin 4) (u : Fin 512) : g ⟨(a.val * 2048 + 512 * j.val + u.val) / 2048, by omega⟩ ⟨(a.val * 2048 + 512 * j.val + u.val) % 2048, by omega⟩ = g a (at_ j u) := by
  rw [key_sq, key_at]

theorem bQ_real (t : Fin 2048) (x : Fin 512) : bQ m c a (ix2 t x) = (((arrays m c a).q t x : ℝ) : EReal) := by
  refine (V_v71 m c ⟨a.val * 2048 + t.val, by omega⟩ ⟨x.val, by omega⟩).trans ?_
  rw [dif_pos (show x.val < 512 from x.isLt)]
  exact (at_row a (fun i j => x0 m c (ix3 i j x)) t).trans (q_real H a t x)

theorem bD_real (t : Fin 2048) (x : Fin 512) : bD m c a (ix2 t x) = (((arrays m c a).d t x : ℝ) : EReal) :=
  (V_v73 m c ⟨a.val * 2048 + t.val, by omega⟩ x).trans ((at_row a (fun i j => x4 m c (ix3 i j x)) t).trans (d_real H a t x))

theorem bO_real (t : Fin 2048) (x : Fin 512) : bO m c a (ix2 t x) = (((arrays m c a).o t x : ℝ) : EReal) :=
  (V_v75 m c ⟨a.val * 2048 + t.val, by omega⟩ x).trans
    ((at_row a (fun i j => (Cert.AttnGradIdeal.Read.val_main_v52 (F := Ideal) (x0 m c) (x1 m c) (x2 m c) (x3 m c) (ix3 i j x) : EReal)) t).trans (o_real H a t x))

theorem bC_real (t : Fin 2048) (h : Fin 8) : bC m c a (ix2 t ⟨h.val, by omega⟩) = (((arrays m c a).f t h : ℝ) : EReal) :=
  (V_v77 m c ⟨a.val * 2048 + t.val, by omega⟩ h).trans
    ((at_row a (fun i j => (Cert.AttnGradIdeal.Read.val_main_v0 (F := Ideal) (x3 m c) (ix3 i j h) : EReal)) t).trans (f_real H a h t))

theorem bS_real (t : Fin 2048) (h : Fin 8) : bS m c a (ix2 t ⟨h.val, by omega⟩) = (((arrays m c a).s t h : ℝ) : EReal) :=
  (V_v79 m c ⟨a.val * 2048 + t.val, by omega⟩ h).trans
    ((at_row a (fun i j => logSum (x0 m c) (x1 m c) (x3 m c) i h j) t).trans (s_real H a h t))

theorem bK_real (j : Fin 4) (u x : Fin 512) : bK m c a j (ix2 u x) = (((arrays m c a).k (at_ j u) x : ℝ) : EReal) := by
  refine (V_v71 m c ⟨a.val * 2048 + 512 * j.val + u.val, by omega⟩ ⟨512 + x.val, by omega⟩).trans ?_
  rw [dif_neg (show ¬ 512 + x.val < 512 by omega), dif_pos (show 512 + x.val - 512 < 512 by omega)]
  have e3 : (⟨512 + x.val - 512, by omega⟩ : Fin 512) = x := Fin.ext (by show 512 + x.val - 512 = x.val; omega)
  exact (at_key a (fun i j => x1 m c (ix3 i j _)) j u).trans ((congrArg (fun i => x1 m c (ix3 a (at_ j u) i)) e3).trans (k_real H a _ x))

theorem bV_real (j : Fin 4) (u x : Fin 512) : bV m c a j (ix2 u x) = (((arrays m c a).v (at_ j u) x : ℝ) : EReal) := by
  refine (V_v71 m c ⟨a.val * 2048 + 512 * j.val + u.val, by omega⟩ ⟨1024 + x.val, by omega⟩).trans ?_
  rw [dif_neg (show ¬ 1024 + x.val < 512 by omega), dif_neg (show ¬ 1024 + x.val - 512 < 512 by omega)]
  have e3 : (⟨1024 + x.val - 512 - 512, by omega⟩ : Fin 512) = x := Fin.ext (by show 1024 + x.val - 512 - 512 = x.val; omega)
  exact (at_key a (fun i j => x2 m c (ix3 i j _)) j u).trans ((congrArg (fun i => x2 m c (ix3 a (at_ j u) i)) e3).trans (v_real H a _ x))

theorem blocks_real : (arrays m c a).Is (bQ m c a) (bD m c a) (bO m c a) (bC m c a) (bS m c a) (bK m c a) (bV m c a) := by
  exact ⟨bQ_real m c H a, bD_real m c H a, bO_real m c H a, bC_real m c H a, bS_real m c H a, bK_real m c H a, bV_real m c H a⟩

omit H in
theorem dq_lane (X : S8x2048x128.Idx → EReal) (t : Fin 2048) (h : Fin 8) (e : Fin 64) : dqOut X t (col h e) = X (ix3 h t (own h e)) := by
  unfold dqOut
  have e1 : (⟨(64 * h.val + e.val) % 128, Nat.mod_lt _ (by decide)⟩ : Fin 128) = own h e := Fin.ext (by show (64 * h.val + e.val) % 128 = 64 * (h.val % 2) + e.val; omega)
  split_ifs with p
  · have p' : (64 * h.val + e.val) % 128 < 64 := p
    have e2 : (⟨2 * ((64 * h.val + e.val) / 128), by omega⟩ : Fin 8) = h := Fin.ext (by show 2 * ((64 * h.val + e.val) / 128) = h.val; omega)
    exact congrArg₂ (fun i j => X (ix3 i t j)) e2 e1
  · have p' : ¬ (64 * h.val + e.val) % 128 < 64 := p
    have e2 : (⟨2 * ((64 * h.val + e.val) / 128) + 1, by omega⟩ : Fin 8) = h := Fin.ext (by show 2 * ((64 * h.val + e.val) / 128) + 1 = h.val; omega)
    exact congrArg₂ (fun i j => X (ix3 i t j)) e2 e1

theorem dq_eq (t : Fin 2048) (x : Fin 512) :
    dqOut (fun y => dqTo m c a 4 (y 0) (y 1) (y 2)) t x = (val_main_v88 (F := Ideal) (x0 m c) (x1 m c) (x2 m c) (x3 m c) (x4 m c) (ix3 a t x) : EReal) := by
  rw [col_of x]
  generalize (⟨x.val / 64, _⟩ : Fin 8) = h
  generalize (⟨x.val % 64, _⟩ : Fin 64) = e
  rw [dq_lane, r88 H]
  refine (Seq.dqSum_real (blocks_real m c H a) h t (own h e)).trans (congrArg _ ?_)
  exact Finset.sum_congr rfl fun u _ => by rw [Seq.rk_own]

theorem dfq_eq (t : Fin 2048) (l : Fin 128) :
    dfqOut (fun y => dqTo m c a 4 (y 0) (y 1) (y 2)) t l
      = if h : l.val < 8 then (val_main_v80 (F := Ideal) (x0 m c) (x1 m c) (x2 m c) (x3 m c) (x4 m c) (ix3 a t ⟨l.val, h⟩) : EReal) else 0 := by
  unfold dfqOut
  split_ifs with p
  · rw [r80 H]
    refine (Seq.dqSum_real (blocks_real m c H a) ⟨l.val, p⟩ t (bias0 ⟨l.val, p⟩)).trans (congrArg _ ?_)
    exact Finset.sum_congr rfl fun u _ => by rw [Seq.rk_bias0, mul_one]
  · rfl

omit H in
theorem head_of (h : Fin 8) (e : Fin 64) : (⟨(col h e).val / 64, by have := (col h e).isLt; omega⟩ : Fin 8) = h := Fin.ext (by show (64 * h.val + e.val) / 64 = h.val; omega)
omit H in
theorem lane_of (h : Fin 8) (e : Fin 64) : (⟨(col h e).val % 128, Nat.mod_lt _ (by decide)⟩ : Fin 128) = own h e := Fin.ext (by show (64 * h.val + e.val) % 128 = 64 * (h.val % 2) + e.val; omega)

theorem dk_eq (b : Fin 4) (u x : Fin 512) :
    dkOut (xQT m c a) (xQ m c a) (xK m c a b) (xD m c a) (xV m c a b) b u x = (val_main_v87 (F := Ideal) (x0 m c) (x1 m c) (x2 m c) (x3 m c) (x4 m c) (ix3 a (at_ b u) x) : EReal) := by
  rw [col_of x]
  generalize (⟨x.val / 64, _⟩ : Fin 8) = h
  generalize (⟨x.val % 64, _⟩ : Fin 64) = e
  rw [r87 H]
  unfold dkOut
  rw [head_of, lane_of]
  refine congrArg (· * ((1 / 8 : ℝ) : EReal)) ?_
  refine (Seq.dkSum_real (blocks_real m c H a) b h (own h e) u).trans (congrArg _ ?_)
  exact Finset.sum_congr rfl fun t _ => by rw [Seq.rq_own]

theorem dv_eq (b : Fin 4) (u x : Fin 512) :
    dvOut (xDT m c a) (xQ m c a) (xK m c a b) b u x = (val_main_v58 (F := Ideal) (x0 m c) (x1 m c) (x3 m c) (x4 m c) (ix3 a (at_ b u) x) : EReal) := by
  rw [col_of x]
  generalize (⟨x.val / 64, _⟩ : Fin 8) = h
  generalize (⟨x.val % 64, _⟩ : Fin 64) = e
  rw [r58 H]
  unfold dvOut
  rw [head_of, lane_of]
  refine (Seq.dvSum_real (blocks_real m c H a) b h (own h e) u).trans (congrArg _ ?_)
  exact Finset.sum_congr rfl fun t _ => by rw [Seq.rd_own]

theorem dfk_eq (b : Fin 4) (u : Fin 512) (l : Fin 128) :
    dfkOut (xQT m c a) (xQ m c a) (xK m c a b) (xD m c a) (xV m c a b) b u l
      = if h : l.val < 8 then (val_main_v76 (F := Ideal) (x0 m c) (x1 m c) (x2 m c) (x3 m c) (x4 m c) (ix3 a (at_ b u) ⟨l.val, h⟩) : EReal) else 0 := by
  unfold dfkOut
  split_ifs with p
  · rw [r76 H, zero_sub, EReal.coe_neg]
    refine congrArg (- ·) ((Seq.dkSum_real (blocks_real m c H a) b ⟨l.val, p⟩ (bias3 ⟨l.val, p⟩) u).trans (congrArg _ ?_))
    exact Finset.sum_congr rfl fun t _ => by rw [Seq.rq_bias3, one_mul]
  · rfl

end Cert.Attn

end
-- ==== Proof.Attn.Ends.lean ====
module

public import proofs.«01_k».proof.Proof.Attn.Grad

@[expose] public section

set_option maxRecDepth 16384

noncomputable section

/-! # What the kernel's run leaves -/

namespace Cert.Attn

open Cert.AttnBwdIdeal Cert.AttnBwdIdeal.Gen Idealize.ShloMosaic Idealize.ShloMosaic.TcCoe Idealize.ShloMosaic.Tactic
open Idealize.SL.Sem
open Cert.AttnGradIdeal.Read

variable (m : (ℓ : Loc nD τ sig) → Buf (Elt Ideal) ℓ) (c : Dev nD)

section Reference
variable (y0 y1 y2 : S2x2048x512.Idx → EReal) (y3 : S2x2048x8.Idx → EReal) (y4 : S2x2048x512.Idx → EReal) (r : Fin 4096)

theorem r90 (x : Fin 512) : (val_main_v90 (F := Ideal) y0 y1 y2 y3 y4 (ix2 r x) : EReal) = val_main_v88 (F := Ideal) y0 y1 y2 y3 y4 (ix3 ⟨r.val / 2048, by omega⟩ ⟨r.val % 2048, by omega⟩ x) := by
  pointwise [val_main_v90, val_main_v89]
theorem r92 (x : Fin 512) : (val_main_v92 (F := Ideal) y0 y1 y2 y3 y4 (ix2 r x) : EReal) = val_main_v87 (F := Ideal) y0 y1 y2 y3 y4 (ix3 ⟨r.val / 2048, by omega⟩ ⟨r.val % 2048, by omega⟩ x) := by
  pointwise [val_main_v92, val_main_v91]
theorem r94 (x : Fin 512) : (val_main_v94 (F := Ideal) y0 y1 y3 y4 (ix2 r x) : EReal) = val_main_v58 (F := Ideal) y0 y1 y3 y4 (ix3 ⟨r.val / 2048, by omega⟩ ⟨r.val % 2048, by omega⟩ x) := by
  pointwise [val_main_v94, val_main_v93]
theorem r96 (l : Fin 128) : (val_main_v96 (F := Ideal) y0 y1 y2 y3 y4 (ix2 r l) : EReal) = if h : l.val < 8 then (val_main_v76 (F := Ideal) y0 y1 y2 y3 y4 (ix3 ⟨r.val / 2048, by omega⟩ ⟨r.val % 2048, by omega⟩ ⟨l.val, h⟩) : EReal) else 0 := by
  pointwise [val_main_v96, val_main_v95, val_main_call3_v0]
  split_ifs with h
  · rfl
  · unfold val_main_c
    exact zero_word
theorem r98 (l : Fin 128) : (val_main_v98 (F := Ideal) y0 y1 y2 y3 y4 (ix2 r l) : EReal) = if h : l.val < 8 then (val_main_v80 (F := Ideal) y0 y1 y2 y3 y4 (ix3 ⟨r.val / 2048, by omega⟩ ⟨r.val % 2048, by omega⟩ ⟨l.val, h⟩) : EReal) else 0 := by
  pointwise [val_main_v98, val_main_v97, val_main_call4_v0]
  split_ifs with h
  · rfl
  · unfold val_main_c_18
    exact zero_word
end Reference

/-- The proof data at what some run may have left. -/
abbrev ran (after : (w' : Fin cfg0.W) → Fin cfg0.N → (cfg0.win w').block.Idx → Elt Ideal (cfg0.win w').elt) : Pipeline.Dat τ (Elt Ideal) Unit ℕ (UR sig nD τ) ℕ cfg0 c :=
  ((dats m (follow m) 0 c).toRRel results (rel m (follow m) c)).withAfter after

variable (H : Finite5 m c) (after : (w' : Fin cfg0.W) → Fin cfg0.N → (cfg0.win w').block.Idx → Elt Ideal (cfg0.win w').elt)
  (L : ∀ (w : Fin cfg0.W) (t : Fin cfg0.N), (cfg0.win w).flush t = true → ((dats m (follow m) 0 c).toRRel results (rel m (follow m) c)).Leaves w t (after w t))

omit H in
include L in
theorem left (w : Fin cfg0.W) (hw : results w = true) (t : Fin cfg0.N) (hf : (cfg0.win w).flush t = true) : Left m c w t (after w t) :=
  Pipeline.Dat.toRRel_leaves (fgt := results) (dat := dats m (follow m) 0 c) hw (L w t hf)

theorem last : ∀ t : Fin cfg0.N, (cfg0.win 7).flush t = true → t.val % 4 = 3 := (by decide +kernel)
theorem last' : ∀ t : Fin cfg0.N, (cfg0.win 11).flush t = true → t.val % 4 = 3 := (by decide +kernel)

include H L

theorem end7 : (ran m c after).arrAt 7 cfg0.N = (val_main_v90 (F := Ideal) (x0 m c) (x1 m c) (x2 m c) (x3 m c) (x4 m c) : _ → EReal) := by
  refine (ran m c after).arrAt_eq_of_covers 7 _ (by decide +kernel) fun t hf y => ?_
  blk_simp
  obtain ⟨r, x, rfl⟩ : ∃ (r : Fin 2048) (x : Fin 512), y = ix2 r x := ⟨y 0, y 1, eq_ix2 ..⟩
  have hy : ((View.whole main_v80_0).slice (win0_7.rect t)).emb (ix2 r x) = ix2 ⟨(sq t).val * 2048 + r.val, by omega⟩ x := by blk_ext [idx t, sq, kb]
  have e := left m c after L 7 (by decide) t hf (last t hf) r x
  refine e.trans ((dq_eq m c H (sq t) r x).trans ?_)
  refine Eq.trans ?_ (congrArg (val_main_v90 (F := Ideal) (x0 m c) (x1 m c) (x2 m c) (x3 m c) (x4 m c) : _ → EReal) hy).symm
  rw [r90]
  exact (at_row (sq t) (fun i j => (val_main_v88 (F := Ideal) (x0 m c) (x1 m c) (x2 m c) (x3 m c) (x4 m c) (ix3 i j x) : EReal)) r).symm

theorem end8 : (ran m c after).arrAt 8 cfg0.N = (val_main_v92 (F := Ideal) (x0 m c) (x1 m c) (x2 m c) (x3 m c) (x4 m c) : _ → EReal) := by
  refine (ran m c after).arrAt_eq_of_covers 8 _ (by decide +kernel) fun t hf y => ?_
  blk_simp
  obtain ⟨r, x, rfl⟩ : ∃ (r : Fin 512) (x : Fin 512), y = ix2 r x := ⟨y 0, y 1, eq_ix2 ..⟩
  have hy : ((View.whole main_v80_1).slice (win0_8.rect t)).emb (ix2 r x) = ix2 ⟨(sq t).val * 2048 + 512 * (kb t).val + r.val, by omega⟩ x := by blk_ext [idx t, sq, kb]
  have e := left m c after L 8 (by decide) t hf r x
  refine e.trans ((dk_eq m c H (sq t) (kb t) r x).trans ?_)
  refine Eq.trans ?_ (congrArg (val_main_v92 (F := Ideal) (x0 m c) (x1 m c) (x2 m c) (x3 m c) (x4 m c) : _ → EReal) hy).symm
  rw [r92]
  exact (at_key (sq t) (fun i j => (val_main_v87 (F := Ideal) (x0 m c) (x1 m c) (x2 m c) (x3 m c) (x4 m c) (ix3 i j x) : EReal)) (kb t) r).symm

theorem end9 : (ran m c after).arrAt 9 cfg0.N = (val_main_v94 (F := Ideal) (x0 m c) (x1 m c) (x3 m c) (x4 m c) : _ → EReal) := by
  refine (ran m c after).arrAt_eq_of_covers 9 _ (by decide +kernel) fun t hf y => ?_
  blk_simp
  obtain ⟨r, x, rfl⟩ : ∃ (r : Fin 512) (x : Fin 512), y = ix2 r x := ⟨y 0, y 1, eq_ix2 ..⟩
  have hy : ((View.whole main_v80_2).slice (win0_9.rect t)).emb (ix2 r x) = ix2 ⟨(sq t).val * 2048 + 512 * (kb t).val + r.val, by omega⟩ x := by blk_ext [idx t, sq, kb]
  have e := left m c after L 9 (by decide) t hf r x
  refine e.trans ((dv_eq m c H (sq t) (kb t) r x).trans ?_)
  refine Eq.trans ?_ (congrArg (val_main_v94 (F := Ideal) (x0 m c) (x1 m c) (x3 m c) (x4 m c) : _ → EReal) hy).symm
  rw [r94]
  exact (at_key (sq t) (fun i j => (val_main_v58 (F := Ideal) (x0 m c) (x1 m c) (x3 m c) (x4 m c) (ix3 i j x) : EReal)) (kb t) r).symm

theorem end10 : (ran m c after).arrAt 10 cfg0.N = (val_main_v96 (F := Ideal) (x0 m c) (x1 m c) (x2 m c) (x3 m c) (x4 m c) : _ → EReal) := by
  refine (ran m c after).arrAt_eq_of_covers 10 _ (by decide +kernel) fun t hf y => ?_
  blk_simp
  obtain ⟨r, x, rfl⟩ : ∃ (r : Fin 512) (x : Fin 128), y = ix2 r x := ⟨y 0, y 1, eq_ix2 ..⟩
  have hy : ((View.whole main_v80_3).slice (win0_10.rect t)).emb (ix2 r x) = ix2 ⟨(sq t).val * 2048 + 512 * (kb t).val + r.val, by omega⟩ x := by blk_ext [idx t, sq, kb]
  have e := left m c after L 10 (by decide) t hf r x
  refine e.trans ((dfk_eq m c H (sq t) (kb t) r x).trans ?_)
  refine Eq.trans ?_ (congrArg (val_main_v96 (F := Ideal) (x0 m c) (x1 m c) (x2 m c) (x3 m c) (x4 m c) : _ → EReal) hy).symm
  rw [r96]
  exact (at_key (sq t) (fun i j => if h : x.val < 8 then (val_main_v76 (F := Ideal) (x0 m c) (x1 m c) (x2 m c) (x3 m c) (x4 m c) (ix3 i j ⟨x.val, h⟩) : EReal) else 0) (kb t) r).symm

theorem end11 : (ran m c after).arrAt 11 cfg0.N = (val_main_v98 (F := Ideal) (x0 m c) (x1 m c) (x2 m c) (x3 m c) (x4 m c) : _ → EReal) := by
  refine (ran m c after).arrAt_eq_of_covers 11 _ (by decide +kernel) fun t hf y => ?_
  blk_simp
  obtain ⟨r, x, rfl⟩ : ∃ (r : Fin 2048) (x : Fin 128), y = ix2 r x := ⟨y 0, y 1, eq_ix2 ..⟩
  have hy : ((View.whole main_v80_4).slice (win0_11.rect t)).emb (ix2 r x) = ix2 ⟨(sq t).val * 2048 + r.val, by omega⟩ x := by blk_ext [idx t, sq, kb]
  have e := left m c after L 11 (by decide) t hf (last' t hf) r x
  refine e.trans ((dfq_eq m c H (sq t) r x).trans ?_)
  refine Eq.trans ?_ (congrArg (val_main_v98 (F := Ideal) (x0 m c) (x1 m c) (x2 m c) (x3 m c) (x4 m c) : _ → EReal) hy).symm
  rw [r98]
  exact (at_row (sq t) (fun i j => if h : x.val < 8 then (val_main_v80 (F := Ideal) (x0 m c) (x1 m c) (x2 m c) (x3 m c) (x4 m c) (ix3 i j ⟨x.val, h⟩) : EReal) else 0) r).symm

omit H L

section Names
variable (r : PUnit × MemSt nD τ sig (Elt Ideal)) (D : Pipeline.Dat τ (Elt Ideal) Unit ℕ (UR sig nD τ) ℕ cfg0 c)
  (E : ∀ w, r.2.mem ((cfg0.spec w).arr.view.loc (c.tc : Thread nD τ)) = D.arrAt w cfg0.N)
include E
theorem mem7 : r.2.mem ((c : Thread nD τ).loc main_v80_0) = D.arrAt 7 cfg0.N := E 7
theorem mem8 : r.2.mem ((c : Thread nD τ).loc main_v80_1) = D.arrAt 8 cfg0.N := E 8
theorem mem9 : r.2.mem ((c : Thread nD τ).loc main_v80_2) = D.arrAt 9 cfg0.N := E 9
theorem mem10 : r.2.mem ((c : Thread nD τ).loc main_v80_3) = D.arrAt 10 cfg0.N := E 10
theorem mem11 : r.2.mem ((c : Thread nD τ).loc main_v80_4) = D.arrAt 11 cfg0.N := E 11
end Names

theorem held7 (H : Finite5 m c) (after : (w' : Fin cfg0.W) → Fin cfg0.N → (cfg0.win w').block.Idx → Elt Ideal (cfg0.win w').elt)
    (L : ∀ (w : Fin cfg0.W) (t : Fin cfg0.N), (cfg0.win w).flush t = true → ((dats m (follow m) 0 c).toRRel results (rel m (follow m) c)).Leaves w t (after w t))
    (r : PUnit × MemSt nD τ sig (Elt Ideal)) (E : ∀ w, r.2.mem ((cfg0.spec w).arr.view.loc (c.tc : Thread nD τ)) = (ran m c after).arrAt w cfg0.N) :
    r.2.mem ((c : Thread nD τ).loc main_v80_0) = (val_main_v90 (F := Ideal) (x0 m c) (x1 m c) (x2 m c) (x3 m c) (x4 m c) : _ → EReal) :=
  (mem7 c r (ran m c after) E).trans (end7 m c H after L)

theorem held8 (H : Finite5 m c) (after : (w' : Fin cfg0.W) → Fin cfg0.N → (cfg0.win w').block.Idx → Elt Ideal (cfg0.win w').elt)
    (L : ∀ (w : Fin cfg0.W) (t : Fin cfg0.N), (cfg0.win w).flush t = true → ((dats m (follow m) 0 c).toRRel results (rel m (follow m) c)).Leaves w t (after w t))
    (r : PUnit × MemSt nD τ sig (Elt Ideal)) (E : ∀ w, r.2.mem ((cfg0.spec w).arr.view.loc (c.tc : Thread nD τ)) = (ran m c after).arrAt w cfg0.N) :
    r.2.mem ((c : Thread nD τ).loc main_v80_1) = (val_main_v92 (F := Ideal) (x0 m c) (x1 m c) (x2 m c) (x3 m c) (x4 m c) : _ → EReal) :=
  (mem8 c r (ran m c after) E).trans (end8 m c H after L)

theorem held9 (H : Finite5 m c) (after : (w' : Fin cfg0.W) → Fin cfg0.N → (cfg0.win w').block.Idx → Elt Ideal (cfg0.win w').elt)
    (L : ∀ (w : Fin cfg0.W) (t : Fin cfg0.N), (cfg0.win w).flush t = true → ((dats m (follow m) 0 c).toRRel results (rel m (follow m) c)).Leaves w t (after w t))
    (r : PUnit × MemSt nD τ sig (Elt Ideal)) (E : ∀ w, r.2.mem ((cfg0.spec w).arr.view.loc (c.tc : Thread nD τ)) = (ran m c after).arrAt w cfg0.N) :
    r.2.mem ((c : Thread nD τ).loc main_v80_2) = (val_main_v94 (F := Ideal) (x0 m c) (x1 m c) (x3 m c) (x4 m c) : _ → EReal) :=
  (mem9 c r (ran m c after) E).trans (end9 m c H after L)

theorem held10 (H : Finite5 m c) (after : (w' : Fin cfg0.W) → Fin cfg0.N → (cfg0.win w').block.Idx → Elt Ideal (cfg0.win w').elt)
    (L : ∀ (w : Fin cfg0.W) (t : Fin cfg0.N), (cfg0.win w).flush t = true → ((dats m (follow m) 0 c).toRRel results (rel m (follow m) c)).Leaves w t (after w t))
    (r : PUnit × MemSt nD τ sig (Elt Ideal)) (E : ∀ w, r.2.mem ((cfg0.spec w).arr.view.loc (c.tc : Thread nD τ)) = (ran m c after).arrAt w cfg0.N) :
    r.2.mem ((c : Thread nD τ).loc main_v80_3) = (val_main_v96 (F := Ideal) (x0 m c) (x1 m c) (x2 m c) (x3 m c) (x4 m c) : _ → EReal) :=
  (mem10 c r (ran m c after) E).trans (end10 m c H after L)

theorem held11 (H : Finite5 m c) (after : (w' : Fin cfg0.W) → Fin cfg0.N → (cfg0.win w').block.Idx → Elt Ideal (cfg0.win w').elt)
    (L : ∀ (w : Fin cfg0.W) (t : Fin cfg0.N), (cfg0.win w).flush t = true → ((dats m (follow m) 0 c).toRRel results (rel m (follow m) c)).Leaves w t (after w t))
    (r : PUnit × MemSt nD τ sig (Elt Ideal)) (E : ∀ w, r.2.mem ((cfg0.spec w).arr.view.loc (c.tc : Thread nD τ)) = (ran m c after).arrAt w cfg0.N) :
    r.2.mem ((c : Thread nD τ).loc main_v80_4) = (val_main_v98 (F := Ideal) (x0 m c) (x1 m c) (x2 m c) (x3 m c) (x4 m c) : _ → EReal) :=
  (mem11 c r (ran m c after) E).trans (end11 m c H after L)

/-- Every execution of the kernel on finite arguments ends, its results holding the reference's gradients and its arguments unchanged. -/
theorem run (ρ : Dev nD → PrngReg) (H : ∀ c, Finite5 m c) : θ_run defs (onTc (τ := τ) (main (F := Ideal))) ⟨m, fun _ => 0, ρ⟩ (fun r => ∀ c : Dev nD,
      r.2.mem ((c.tc : Thread nD τ).loc main_v80_0) = (val_main_v90 (F := Ideal) (x0 m c) (x1 m c) (x2 m c) (x3 m c) (x4 m c) : _ → EReal)
      ∧ r.2.mem ((c.tc : Thread nD τ).loc main_v80_1) = (val_main_v92 (F := Ideal) (x0 m c) (x1 m c) (x2 m c) (x3 m c) (x4 m c) : _ → EReal)
      ∧ r.2.mem ((c.tc : Thread nD τ).loc main_v80_2) = (val_main_v94 (F := Ideal) (x0 m c) (x1 m c) (x3 m c) (x4 m c) : _ → EReal)
      ∧ r.2.mem ((c.tc : Thread nD τ).loc main_v80_3) = (val_main_v96 (F := Ideal) (x0 m c) (x1 m c) (x2 m c) (x3 m c) (x4 m c) : _ → EReal)
      ∧ r.2.mem ((c.tc : Thread nD τ).loc main_v80_4) = (val_main_v98 (F := Ideal) (x0 m c) (x1 m c) (x2 m c) (x3 m c) (x4 m c) : _ → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_quiescent m ρ (follow m))
  obtain ⟨after, L, E⟩ := h.1.exists_exact c
  replace E : ∀ w, r.2.mem ((cfg0.spec w).arr.view.loc (c.tc : Thread nD τ)) = (ran m c after).arrAt w cfg0.N := E
  refine ⟨?_, ?_, ?_, ?_, ?_,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩
  · exact held7 m c (H c) after L r E
  · exact held8 m c (H c) after L r E
  · exact held9 m c (H c) after L r E
  · exact held10 m c (H c) after L r E
  · exact held11 m c (H c) after L r E

end Cert.Attn

end
-- ==== Proof.Attn.Unchanged.lean ====
module

public import proofs.«01_k».proof.Proof.Attn.Frame

@[expose] public section

set_option maxRecDepth 16384

noncomputable section

namespace Cert.Attn

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The plan that follows nothing. -/
def idle (c : Dev nD) : Plan m c where
  Inv _ _ _ _ _ _ := True
  Out _ _ _ := True
  start _ _ _ _ _ := trivial
  step := by
    intro t f2 f3 f4 f5 f6 f7 f8 f9 f10 f11 f12 f13 f14 f15 f16 f17 f18 f19 f20 f21 f22 _ _ _ _ _ _ _ _
    by_cases h1 : t.val % 4 = 0
    · let r := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 ((cond1_iff t).2 h1) (fun h => by have := (cond2_iff t).1 h; omega)
      exact ⟨f9, r.1, r.2.1, r.2.2.1, f13, r.2.2.2.1, r.2.2.2.2.1, r.2.2.2.2.2.1, r.2.2.2.2.2.2.1, r.2.2.2.2.2.2.2.1, r.2.2.2.2.2.2.2.2.1, r.2.2.2.2.2.2.2.2.2.1, r.2.2.2.2.2.2.2.2.2.2.1, r.2.2.2.2.2.2.2.2.2.2.2.1, r.2.2.2.2.2.2.2.2.2.2.2.2, trivial, trivial, trivial, trivial, trivial, trivial⟩
    by_cases h2 : t.val % 4 = 3
    · let r := runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 (fun h => h1 ((cond1_iff t).1 h)) ((cond2_iff t).2 h2)
      exact ⟨r.1, r.2.1, r.2.2.1, r.2.2.2.1, r.2.2.2.2.1, f14, f15, f16, f17, r.2.2.2.2.2.1, r.2.2.2.2.2.2.1, r.2.2.2.2.2.2.2.1, r.2.2.2.2.2.2.2.2.1, r.2.2.2.2.2.2.2.2.2.1, r.2.2.2.2.2.2.2.2.2.2, trivial, trivial, trivial, trivial, trivial, trivial⟩
    · let r := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 hsc0_0 scM0_1 hsc0_1 scM0_2 hsc0_2 scM0_3 hsc0_3 scM0_4 hsc0_4 scM0_5 hsc0_5 scM0_6 hsc0_6 scM0_7 hsc0_7 scM0_8 hsc0_8 f2 f3 f4 f5 f6 f7 f8 f9 f10 f11 f12 f13 f14 f15 f16 f17 f18 f19 f20 f21 f22 (fun h => h1 ((cond1_iff t).1 h)) (fun h => h2 ((cond2_iff t).1 h))
      exact ⟨f9, r.1, r.2.1, r.2.2.1, f13, f14, f15, f16, f17, r.2.2.2.1, r.2.2.2.2.1, r.2.2.2.2.2.1, r.2.2.2.2.2.2.1, r.2.2.2.2.2.2.2.1, r.2.2.2.2.2.2.2.2, trivial, trivial, trivial, trivial, trivial, trivial⟩

/-- Every execution ends, with the argument arrays unchanged and every counter at zero. -/
theorem unchanged : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩)
    (run_quiescent m ρ (idle m))

end Cert.Attn

end
-- ==== Proof.Norm.lean ====
module

public import Idealize.ShloMosaic.Lib.Pointwise

@[expose] public section

noncomputable section

/-! # The gradient of the root-mean-square norm

For a row `x` of 1024 numbers the norm divides by the root of the mean square plus a small constant. Differentiating it step by step gives
`D * r + x * s + s * x`, with `r` the reciprocal root and `s` what comes back through the mean square; the closed form is
`r * (D - xh * mean (D * xh))` with `xh = x * r`. On real numbers both are the same. -/

namespace Cert.Norm

open Idealize.ShloMosaic

/-- The word of the row's length. -/
abbrev width : EReal := Ideal.ofBits .f32 1149239296#32

/-- The constant added to the mean square. -/
abbrev eps : EReal := Ideal.ofBits .f32 897988541#32

/-- Minus a half. -/
abbrev half : EReal := Ideal.ofBits .f32 3204448256#32

theorem width_coe : width = ((1024 : ℝ) : EReal) := by
  simp [width, Ideal.ofBits, Ideal.ieee]
  rw [← EReal.coe_mul]; norm_num

theorem half_coe : half = ((-(1 / 2) : ℝ) : EReal) := by
  simp [half, Ideal.ofBits, Ideal.ieee]
  rw [← EReal.coe_mul]; norm_num

theorem eps_coe : ∃ e : ℝ, 0 < e ∧ eps = (e : EReal) := by
  refine ⟨8796093 / 2 ^ 43, by norm_num, ?_⟩
  simp [eps, Ideal.ofBits, Ideal.ieee]
  rw [← EReal.coe_mul]; norm_num

/-- The mean square of a row, plus the constant. -/
def mean (x : Fin 1024 → EReal) : EReal := Ideal.div (∑ k, x k * x k) width + eps

/-- The reciprocal root of the mean square. -/
def inv (x : Fin 1024 → EReal) : EReal := Ideal.rsqrt (mean x)

/-- What the cotangent `D` sends back through the mean square. -/
def slope (x D : Fin 1024 → EReal) : EReal := Ideal.div ((∑ k, x k * D k) * (half * Ideal.div (inv x) (mean x))) width

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem mean_coe (x : Fin 1024 → ℝ) : ∃ u : ℝ, 0 < u ∧ mean (fun k => (x k : EReal)) = (u : EReal) := by
  obtain ⟨e, he, h⟩ := eps_coe
  refine ⟨(∑ k, x k * x k) / 1024 + e, by have : 0 ≤ ∑ k, x k * x k := Finset.sum_nonneg fun k _ => mul_self_nonneg _; positivity, ?_⟩
  rw [mean, h, width_coe]
  simp only [← EReal.coe_mul, coe_sum]
  rw [Ideal.div_coe (by norm_num), ← EReal.coe_mul, ← EReal.coe_add, mul_one_div]

/-- The two forms of the gradient. -/
theorem grad (x D : Fin 1024 → EReal) (hx : ∀ k, ∃ r : ℝ, x k = (r : EReal)) (hD : ∀ k, ∃ r : ℝ, D k = (r : EReal)) (j : Fin 1024) :
    D j * inv x + x j * slope x D + slope x D * x j = inv x * (D j - x j * inv x * Ideal.div (∑ k, D k * (x k * inv x)) width) := by
  choose x' hx using hx
  choose D' hD using hD
  obtain rfl : x = fun k => (x' k : EReal) := funext hx
  obtain rfl : D = fun k => (D' k : EReal) := funext hD
  obtain ⟨u, hu, hm⟩ := mean_coe x'
  have hs : 0 < Real.sqrt u := Real.sqrt_pos.mpr hu
  have hi : inv (fun k => (x' k : EReal)) = ((1 / Real.sqrt u : ℝ) : EReal) := by
    rw [inv, hm, Ideal.rsqrt_coe, if_neg (not_lt.mpr hu.le), if_neg hu.ne', one_div]
  have hr : 1 / Real.sqrt u * (1 / u) = 1 / Real.sqrt u * (1 / Real.sqrt u) * (1 / Real.sqrt u) := by
    have := Real.mul_self_sqrt hu.le
    field_simp
    rw [sq, this]
  rw [slope, hi, hm, width_coe, half_coe]
  generalize 1 / Real.sqrt u = r at hr ⊢
  simp only [Ideal.div_coe hu.ne', Ideal.div_coe (show (1024 : ℝ) ≠ 0 by norm_num), ← EReal.coe_mul, coe_sum, ← EReal.coe_add, ← EReal.coe_sub]
  congr 1
  have h1 : ∑ k, D' k * (x' k * r) = (∑ k, x' k * D' k) * r := by
    rw [Finset.sum_mul]; exact Finset.sum_congr rfl fun k _ => by ring
  rw [h1, hr]
  ring

end Cert.Norm
-- ==== Proof.Window.lean ====
module

public import Idealize.ShloMosaic.Lib.Pointwise

@[expose] public section

set_option maxRecDepth 16384

noncomputable section

/-! # Running sums along the middle axis of a rank-3 array

The host's windowed sum whose window runs along the middle axis only, read at an index, as a sum over the window. -/

namespace Cert.Window

open Idealize.ShloMosaic

/-- A left fold of additions is the start plus the sum of the terms. -/
theorem foldl_add {M : Type} [AddCommMonoid M] {N : ℕ} (f : Fin N → M) (v : M) :
    (List.finRange N).foldl (fun r n => r + f n) v = v + ∑ n : Fin N, f n := by
  have h : ∀ (l : List (Fin N)) (v : M), l.foldl (fun r n => r + f n) v = v + (l.map f).sum := by
    intro l
    induction l with
    | nil => intro v; simp
    | cons a l ih => intro v; rw [List.foldl_cons, ih, List.map_cons, List.sum_cons, add_assoc]
  rw [h, ← Fin.sum_univ_def]

/-- The indices of a window that runs along the middle axis only are the positions along that axis. -/
def middle (W : ℕ) : (⟨3, ![1, W, 1]⟩ : Shape).Idx ≃ Fin W where
  toFun w := w 1
  invFun k := ix3 (0 : Fin 1) k (0 : Fin 1)
  left_inv w := by
    funext a
    match a with
    | ⟨0, _⟩ => exact Subsingleton.elim (α := Fin 1) _ _
    | ⟨1, _⟩ => rfl
    | ⟨2, _⟩ => exact Subsingleton.elim (α := Fin 1) _ _
  right_inv k := rfl

/-- The windowed sum along the middle axis at an index: the sum over the window of the operand's entries that the
    window meets, padding counting as nothing. -/
theorem reduceWindowAdd_middle {A B C W p q : ℕ} {t : Shape} (h : (⟨3, ![A, B, C]⟩ : Shape).ReduceWindows ![1, W, 1] ![1, 1, 1] ![0, p, 0] ![0, q, 0] t)
    (x : (⟨3, ![A, B, C]⟩ : Shape).Idx → EReal) (j : t.Idx) (a : Fin A) (l : ℕ) (c : Fin C)
    (ha : (j ((0 : Fin 3).cast h.1.symm)).val = a.val) (hl : (j ((1 : Fin 3).cast h.1.symm)).val = l)
    (hc : (j ((2 : Fin 3).cast h.1.symm)).val = c.val) :
    Ideal.hostReduceWindowAdd ![1, W, 1] ![1, 1, 1] ![0, p, 0] ![0, q, 0] h x 0 j
      = ∑ k : Fin W, if h : p ≤ l + k.val ∧ l + k.val - p < B then x (ix3 a ⟨l + k.val - p, h.2⟩ c) else 0 := by
  unfold Ideal.hostReduceWindowAdd Host.reduceWindow
  refine (foldl_add (M := EReal) _ _).trans ?_
  rw [zero_add]
  refine Fintype.sum_equiv ((⟨3, ![1, W, 1]⟩ : Shape).rowMajor.symm.trans (middle W)) _ _ fun n => ?_
  have key : ∀ (w : (⟨3, ![1, W, 1]⟩ : Shape).Idx) (_ : Decidable (∀ b : Fin 3, ![0, p, 0] b ≤ (j (b.cast h.1.symm)).val * ![1, 1, 1] b + (w b).val
          ∧ (j (b.cast h.1.symm)).val * ![1, 1, 1] b + (w b).val - ![0, p, 0] b < (⟨3, ![A, B, C]⟩ : Shape).size b)),
      (if hin : ∀ b : Fin 3, ![0, p, 0] b ≤ (j (b.cast h.1.symm)).val * ![1, 1, 1] b + (w b).val
          ∧ (j (b.cast h.1.symm)).val * ![1, 1, 1] b + (w b).val - ![0, p, 0] b < (⟨3, ![A, B, C]⟩ : Shape).size b then
        x (fun b => ⟨(j (b.cast h.1.symm)).val * ![1, 1, 1] b + (w b).val - ![0, p, 0] b, (hin b).2⟩) else 0)
      = if h : p ≤ l + (w 1).val ∧ l + (w 1).val - p < B then x (ix3 a ⟨l + (w 1).val - p, h.2⟩ c) else 0 := by
    intro w _
    have w0 : (w 0).val = 0 := by have := (w 0).isLt; change (w 0).val < 1 at this; omega
    have w2 : (w 2).val = 0 := by have := (w 2).isLt; change (w 2).val < 1 at this; omega
    by_cases hk : p ≤ l + (w 1).val ∧ l + (w 1).val - p < B
    · rw [dif_pos hk, dif_pos]
      · refine congrArg x (funext fun b => Fin.ext ?_)
        match b with
        | ⟨0, _⟩ => show (j (Fin.cast h.1.symm 0)).val * 1 + (w 0).val - 0 = a.val; rw [w0, ← ha]; omega
        | ⟨1, _⟩ => show (j (Fin.cast h.1.symm 1)).val * 1 + (w 1).val - p = l + (w 1).val - p; rw [← hl]; omega
        | ⟨2, _⟩ => show (j (Fin.cast h.1.symm 2)).val * 1 + (w 2).val - 0 = c.val; rw [w2, ← hc]; omega
      · intro b
        match b with
        | ⟨0, _⟩ => show 0 ≤ (j (Fin.cast h.1.symm 0)).val * 1 + (w 0).val ∧ (j (Fin.cast h.1.symm 0)).val * 1 + (w 0).val - 0 < A; have := a.isLt; rw [w0]; change (j (Fin.cast h.1.symm 0)).val = _ at ha; omega
        | ⟨1, _⟩ => show p ≤ (j (Fin.cast h.1.symm 1)).val * 1 + (w 1).val ∧ (j (Fin.cast h.1.symm 1)).val * 1 + (w 1).val - p < B; change (j (Fin.cast h.1.symm 1)).val = _ at hl; omega
        | ⟨2, _⟩ => show 0 ≤ (j (Fin.cast h.1.symm 2)).val * 1 + (w 2).val ∧ (j (Fin.cast h.1.symm 2)).val * 1 + (w 2).val - 0 < C; have := c.isLt; rw [w2]; change (j (Fin.cast h.1.symm 2)).val = _ at hc; omega
    · rw [dif_neg hk, dif_neg]
      intro hin
      have h1 : p ≤ (j (Fin.cast h.1.symm 1)).val * 1 + (w 1).val ∧ (j (Fin.cast h.1.symm 1)).val * 1 + (w 1).val - p < B := hin 1
      exact hk (by omega)
  exact key _ _

/-- The host's sum over the two leading axes at an entry of the last one. -/
theorem hostReduceAdd_leading {A B C : ℕ} {axes : List (Fin 3)} (h : (⟨3, ![A, B, C]⟩ : Shape).ReducesTo axes ⟨1, ![C]⟩)
    (hd : ∀ i, ((h.drop i) 0).val = (i 2).val) (x : (⟨3, ![A, B, C]⟩ : Shape).Idx → EReal) (init : EReal) (c : Fin C) :
    Ideal.hostReduceAdd h x init (ix1 c) = init + ∑ a : Fin A, ∑ b : Fin B, x (ix3 a b c) := by
  unfold Ideal.hostReduceAdd
  congr 1
  rw [← Fintype.sum_prod_type']
  refine Finset.sum_nbij' (fun i => ((i 0 : Fin A), (i 1 : Fin B))) (fun q => ix3 q.1 q.2 c) (fun _ _ => Finset.mem_univ _) ?_ ?_ (fun _ _ => rfl) ?_
  · intro q _
    rw [Finset.mem_filter]
    refine ⟨Finset.mem_univ _, ?_⟩
    funext a
    match a with
    | ⟨0, _⟩ => exact Fin.ext (hd _)
  · intro i hi
    have e := (Finset.mem_filter.mp hi).2
    funext a
    match a with
    | ⟨0, _⟩ => rfl
    | ⟨1, _⟩ => rfl
    | ⟨2, _⟩ => exact Fin.ext ((congrArg (fun j : (⟨1, ![C]⟩ : Shape).Idx => (j 0).val) e).symm.trans (hd i))
  · intro i hi
    have e := (Finset.mem_filter.mp hi).2
    refine congrArg x ?_
    funext a
    match a with
    | ⟨0, _⟩ => rfl
    | ⟨1, _⟩ => rfl
    | ⟨2, _⟩ => exact Fin.ext ((hd i).symm.trans (congrArg (fun j : (⟨1, ![C]⟩ : Shape).Idx => (j 0).val) e))

end Cert.Window
-- ==== Proof.InProj.lean ====
module

public import proofs.«01_k».proof.Proof.Norm
public import proofs.«01_k».proof.Proof.Finite
public import Idealize.ShloMosaic.Lib.Pipeline.ValueKit
public import Idealize.ShloMosaic.Lib.Pointwise
public import proofs.«01_k».proof.Proof.Window
public import proofs.«01_k».proof.Proof.Gen.InProjBwdIdeal.Value
public import proofs.«01_k».proof.Proof.Gen.InProjGradIdeal.Read

@[expose] public section

set_option maxRecDepth 16384

noncomputable section

namespace Cert.InProj

open Cert.InProjBwdIdeal Cert.InProjBwdIdeal.Gen Idealize.ShloMosaic Idealize.ShloMosaic.TcCoe Idealize.SL.Sem

/-- The cotangent of the projection's 4104 columns: each column's one part, and zeros for the others. -/
def dz (x3 x4 x5 x6 : S2x2048x512.Idx → EReal) (x7 : S2x2048x8.Idx → EReal) (x8 x9 : S2x2048x1024.Idx → EReal) (a : Fin 2) (l : Fin 2048) (k : Fin 4104) : EReal :=
  ((((((if h : 3080 ≤ k.val ∧ k.val - 3080 < 1024 then x9 (ix3 a l ⟨k.val - 3080, h.2⟩) else 0)
    + if h : 2056 ≤ k.val ∧ k.val - 2056 < 1024 then x8 (ix3 a l ⟨k.val - 2056, h.2⟩) else 0)
    + if h : 2048 ≤ k.val ∧ k.val - 2048 < 8 then x7 (ix3 a l ⟨k.val - 2048, h.2⟩) else 0)
    + if h : 1536 ≤ k.val ∧ k.val - 1536 < 512 then x6 (ix3 a l ⟨k.val - 1536, h.2⟩) else 0)
    + if h : 1024 ≤ k.val ∧ k.val - 1024 < 512 then x5 (ix3 a l ⟨k.val - 1024, h.2⟩) else 0)
    + if h : 512 ≤ k.val ∧ k.val - 512 < 512 then x4 (ix3 a l ⟨k.val - 512, h.2⟩) else 0)
    + if h : k.val < 512 then x3 (ix3 a l ⟨k.val, h⟩) else 0

/-- The cotangent of the normed input. -/
def dh (x2 : S1x1024x4104.Idx → EReal) (x3 x4 x5 x6 : S2x2048x512.Idx → EReal) (x7 : S2x2048x8.Idx → EReal) (x8 x9 : S2x2048x1024.Idx → EReal)
    (a : Fin 2) (l : Fin 2048) (j : Fin 1024) : EReal :=
  ∑ k : Fin 4104, dz x3 x4 x5 x6 x7 x8 x9 a l k * x2 (ix3 0 j k)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0] ∧ win0_11.index t = ![0, 0]
    ∧ win0_12.index t = ![t.val, 0] ∧ win0_13.index t = ![0, 0] ∧ t.val < 8 :=
  (by decide +kernel : ∀ t : Fin grid0.N, _)

theorem zero_word : (FloatOps.sitofp FTy.bf16 0#32 : Ideal .bf16) = (0 : EReal) := by
  show (((0#32 : BitVec 32).toInt : ℝ) : EReal) = 0
  simp

section Reference

open Cert.InProjGradIdeal.Read

variable (x0 : S2x2048x1024.Idx → EReal) (x1 : S1x1024.Idx → EReal) (x2 : S1x1024x4104.Idx → EReal) (x3 x4 x5 x6 : S2x2048x512.Idx → EReal)
  (x7 : S2x2048x8.Idx → EReal) (x8 x9 x10 : S2x2048x1024.Idx → EReal) (a : Fin 2) (l : Fin 2048)

theorem ref_dz (k : Fin 4104) : val_main_v38 (F := Ideal) x3 x4 x5 x6 x7 x8 x9 (ix3 a l k) = dz x3 x4 x5 x6 x7 x8 x9 a l k := by
  pointwise [val_main_v38, val_main_v37, val_main_v36, val_main_v35, val_main_v34, val_main_v33, val_main_v32, val_main_v31, val_main_v30, val_main_v29, val_main_v28, val_main_v27, val_main_v26, val_main_cst_3, val_main_cst_4, val_main_cst_5, val_main_cst_6, val_main_cst_7, val_main_cst_8, val_main_cst_9, dz]

theorem ref_dh (j : Fin 1024) : val_main_v39 (F := Ideal) x2 x3 x4 x5 x6 x7 x8 x9 (ix3 a l j) = dh x2 x3 x4 x5 x6 x7 x8 x9 a l j := by
  pointwise [val_main_v39, val_main_v17, dh]
  simp only [ref_dz]

/-- A row of the input, and the cotangent of the row's normed entries. -/
def row : Fin 1024 → EReal := fun k => x0 (ix3 a l k)
def back : Fin 1024 → EReal := fun k => dh x2 x3 x4 x5 x6 x7 x8 x9 a l k * x1 (ix2 0 k)

theorem ref_dx (j : Fin 1024) : val_main_v60 (F := Ideal) x0 x1 x2 x3 x4 x5 x6 x7 x8 x9 x10 (ix3 a l j)
    = x10 (ix3 a l j) + (back x1 x2 x3 x4 x5 x6 x7 x8 x9 a l j * Norm.inv (row x0 a l) + row x0 a l j * Norm.slope (row x0 a l) (back x1 x2 x3 x4 x5 x6 x7 x8 x9 a l)
      + Norm.slope (row x0 a l) (back x1 x2 x3 x4 x5 x6 x7 x8 x9 a l) * row x0 a l j) := by
  pointwise [val_main_v60, val_main_v59, val_main_v58, val_main_v57, val_main_v56, val_main_v55, val_main_v54, val_main_v53, val_main_v52, val_main_v51, val_main_v50, val_main_v49, val_main_v48, val_main_v47, val_main_v46, val_main_v44, val_main_v43, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_12, val_main_cst_13, val_main_cst_14]
  simp only [ref_dh, Fin.sum_univ_one, add_assoc]
  rfl

theorem ref_dg (j : Fin 1024) : val_main_v40 (F := Ideal) x0 x2 x3 x4 x5 x6 x7 x8 x9 (ix3 a l j)
    = row x0 a l j * Norm.inv (row x0 a l) * dh x2 x3 x4 x5 x6 x7 x8 x9 a l j := by
  pointwise [val_main_v40, val_main_v13, val_main_v12, val_main_v8, val_main_v7, val_main_v6, val_main_v5, val_main_v4, val_main_v3, val_main_v2, val_main_v1, val_main_v0, val_main_cst, val_main_cst_0, val_main_cst_1]
  simp only [ref_dh]
  rfl

end Reference

theorem V_v3 (c : Dev nD) (r : Fin 1024) (k : Fin 128) :
    (V m c main_v3 (ix2 r k) : EReal) = if h : k.val < 8 then m ((c : Thread nD τ).loc main_arg2) (ix3 0 r ⟨2048 + k.val, by omega⟩) else (0 : EReal) := by
  unfold V
  simp only [List.flatten_cons, List.flatten_nil, List.cons_append, List.nil_append, List.append_nil]
  entry_read
  simp only [StableHlo.TRef.toBuf, StableHlo.TRef.ofBuf, cast_eq]
  pointwise
  rw [zero_word]

theorem V_v6 (c : Dev nD) (r : Fin 4096) (k : Fin 128) :
    (V m c main_v6 (ix2 r k) : EReal) = if h : k.val < 8 then m ((c : Thread nD τ).loc main_arg7) (ix3 ⟨r.val / 2048, by omega⟩ ⟨r.val % 2048, by omega⟩ ⟨k.val, h⟩) else (0 : EReal) := by
  unfold V
  simp only [List.flatten_cons, List.flatten_nil, List.cons_append, List.nil_append, List.append_nil]
  entry_read
  simp only [StableHlo.TRef.toBuf, StableHlo.TRef.ofBuf, cast_eq]
  pointwise
  rw [zero_word]

theorem V_v19 (c : Dev nD) (r : Fin 4096) (k : Fin 2048) :
    (V m c main_v19 (ix2 r k) : EReal) = if h : k.val < 1024 then (m ((c : Thread nD τ).loc main_arg8)) (ix3 ⟨r.val / 2048, by omega⟩ ⟨r.val % 2048, by omega⟩ ⟨k.val, h⟩)
      else (m ((c : Thread nD τ).loc main_arg9)) (ix3 ⟨r.val / 2048, by omega⟩ ⟨r.val % 2048, by omega⟩ ⟨k.val - 1024, by omega⟩) := by
  unfold V
  simp only [List.flatten_cons, List.flatten_nil, List.cons_append, List.nil_append, List.append_nil]
  entry_read
  pointwise

theorem V_v22 (c : Dev nD) (r : Fin 1024) (k : Fin 2048) :
    (V m c main_v22 (ix2 r k) : EReal) = m ((c : Thread nD τ).loc main_arg2) (ix3 0 r ⟨k.val, by omega⟩) := by
  unfold V
  simp only [List.flatten_cons, List.flatten_nil, List.cons_append, List.nil_append, List.append_nil]
  entry_read
  pointwise

theorem V_v23 (c : Dev nD) (r : Fin 1024) (k : Fin 2048) :
    (V m c main_v23 (ix2 r k) : EReal) = m ((c : Thread nD τ).loc main_arg2) (ix3 0 r ⟨2056 + k.val, by omega⟩) := by
  unfold V
  simp only [List.flatten_cons, List.flatten_nil, List.cons_append, List.nil_append, List.append_nil]
  entry_read
  pointwise

theorem V_v8 (c : Dev nD) (r : Fin 4096) (k : Fin 512) :
    (V m c main_v8 (ix2 r k) : EReal) = m ((c : Thread nD τ).loc main_arg3) (ix3 ⟨r.val / 2048, by omega⟩ ⟨r.val % 2048, by omega⟩ k) := by
  unfold V
  simp only [List.flatten_cons, List.flatten_nil, List.cons_append, List.nil_append, List.append_nil]
  entry_read
  pointwise

theorem V_v10 (c : Dev nD) (r : Fin 4096) (k : Fin 512) :
    (V m c main_v10 (ix2 r k) : EReal) = m ((c : Thread nD τ).loc main_arg4) (ix3 ⟨r.val / 2048, by omega⟩ ⟨r.val % 2048, by omega⟩ k) := by
  unfold V
  simp only [List.flatten_cons, List.flatten_nil, List.cons_append, List.nil_append, List.append_nil]
  entry_read
  pointwise

theorem V_v12 (c : Dev nD) (r : Fin 4096) (k : Fin 512) :
    (V m c main_v12 (ix2 r k) : EReal) = m ((c : Thread nD τ).loc main_arg5) (ix3 ⟨r.val / 2048, by omega⟩ ⟨r.val % 2048, by omega⟩ k) := by
  unfold V
  simp only [List.flatten_cons, List.flatten_nil, List.cons_append, List.nil_append, List.append_nil]
  entry_read
  pointwise

theorem V_v14 (c : Dev nD) (r : Fin 4096) (k : Fin 512) :
    (V m c main_v14 (ix2 r k) : EReal) = m ((c : Thread nD τ).loc main_arg6) (ix3 ⟨r.val / 2048, by omega⟩ ⟨r.val % 2048, by omega⟩ k) := by
  unfold V
  simp only [List.flatten_cons, List.flatten_nil, List.cons_append, List.nil_append, List.append_nil]
  entry_read
  pointwise

theorem V_v20 (c : Dev nD) (r : Fin 4096) (k : Fin 1024) :
    (V m c main_v20 (ix2 r k) : EReal) = m ((c : Thread nD τ).loc main_arg0) (ix3 ⟨r.val / 2048, by omega⟩ ⟨r.val % 2048, by omega⟩ k) := by
  unfold V
  simp only [List.flatten_cons, List.flatten_nil, List.cons_append, List.nil_append, List.append_nil]
  entry_read
  pointwise

theorem V_v21 (c : Dev nD) (r : Fin 4096) (k : Fin 1024) :
    (V m c main_v21 (ix2 r k) : EReal) = m ((c : Thread nD τ).loc main_arg10) (ix3 ⟨r.val / 2048, by omega⟩ ⟨r.val % 2048, by omega⟩ k) := by
  unfold V
  simp only [List.flatten_cons, List.flatten_nil, List.cons_append, List.nil_append, List.append_nil]
  entry_read
  pointwise

/-- The columns of the cotangent in the order in which the kernel multiplies them: the four wide parts, the gates, and the eight forget logits. -/
theorem dh_split (x2 : S1x1024x4104.Idx → EReal) (x3 x4 x5 x6 : S2x2048x512.Idx → EReal) (x7 : S2x2048x8.Idx → EReal) (x8 x9 : S2x2048x1024.Idx → EReal)
    (a : Fin 2) (l : Fin 2048) (j : Fin 1024) : dh x2 x3 x4 x5 x6 x7 x8 x9 a l j
    = (∑ x : Fin 2048, (if h : x.val < 512 then x3 (ix3 a l ⟨x.val, h⟩)
        else if h : x.val - 512 < 512 then x4 (ix3 a l ⟨x.val - 512, h⟩)
        else if h : x.val - 512 - 512 < 512 then x5 (ix3 a l ⟨x.val - 512 - 512, h⟩)
        else x6 (ix3 a l ⟨x.val - 512 - 512 - 512, by omega⟩)) * x2 (ix3 0 j ⟨x.val, by omega⟩)
      + ∑ x : Fin 2048, (if h : x.val < 1024 then x8 (ix3 a l ⟨x.val, h⟩) else x9 (ix3 a l ⟨x.val - 1024, by omega⟩)) * x2 (ix3 0 j ⟨2056 + x.val, by omega⟩))
      + ∑ x : Fin 128, (if h : x.val < 8 then x7 (ix3 a l ⟨x.val, h⟩) else 0) * (if h : x.val < 8 then x2 (ix3 0 j ⟨2048 + x.val, by omega⟩) else 0) := by
  have e8 : ∑ x : Fin 128, (if h : x.val < 8 then x7 (ix3 a l ⟨x.val, h⟩) else 0) * (if h : x.val < 8 then x2 (ix3 0 j ⟨2048 + x.val, by omega⟩) else 0)
      = ∑ x : Fin 8, x7 (ix3 a l x) * x2 (ix3 0 j ⟨2048 + x.val, by omega⟩) := by
    refine (Fin.sum_univ_add (a := 8) (b := 120) _).trans ?_
    rw [Finset.sum_eq_zero (s := (Finset.univ : Finset (Fin 120))) fun x _ => ?_, add_zero]
    · refine Finset.sum_congr rfl fun x _ => ?_
      rw [dif_pos (show (Fin.castAdd 120 x).val < 8 from x.isLt), dif_pos (show (Fin.castAdd 120 x).val < 8 from x.isLt)]
      rfl
    · rw [dif_neg (show ¬ (Fin.natAdd 8 x).val < 8 by simp), zero_mul]
  rw [e8, dh]
  refine (Fin.sum_univ_add (a := 2048) (b := 2056) _).trans ?_
  rw [add_assoc]
  refine congrArg₂ (· + ·) (Finset.sum_congr rfl fun x _ => congrArg₂ (· * ·) ?_ rfl) ?_
  · have hv : (Fin.castAdd 2056 x).val = x.val := rfl
    have hx := x.isLt
    simp only [dz, hv]
    rw [dif_neg (by omega), dif_neg (by omega), dif_neg (by omega)]
    split_ifs <;> first | (exfalso; omega) | skip
    all_goals simp only [zero_add, add_zero, Nat.sub_sub]
  · refine (Fin.sum_univ_add (a := 8) (b := 2048) _).trans ?_
    rw [add_comm]
    refine congrArg₂ (· + ·) (Finset.sum_congr rfl fun x _ => congrArg₂ (· * ·) ?_ (congrArg x2 (congrArg (ix3 0 j) (Fin.ext ?_)))) (Finset.sum_congr rfl fun x _ => congrArg₂ (· * ·) ?_ rfl)
    · have hv : (Fin.natAdd 2048 (Fin.natAdd 8 x)).val = 2048 + (8 + x.val) := rfl
      have hx := x.isLt
      simp only [dz, hv]
      split_ifs <;> first | (exfalso; omega) | skip
      all_goals simp only [zero_add, add_zero]
      all_goals exact congrArg _ (congrArg (ix3 a l) (Fin.ext (by dsimp only; omega)))
    · show 2048 + (8 + x.val) = 2056 + x.val
      omega
    · have hv : (Fin.natAdd 2048 (Fin.castAdd 2048 x)).val = 2048 + x.val := rfl
      have hx := x.isLt
      simp only [dz, hv]
      split_ifs <;> first | (exfalso; omega) | skip
      all_goals simp only [zero_add, add_zero]
      all_goals exact congrArg _ (congrArg (ix3 a l) (Fin.ext (by dsimp only; omega)))

section Blocks

variable (c : Dev nD) (t : Fin cfg0.N)

theorem small : t.val < 8 := (idx t).2.2.2.2.2.2.2.2.2.2.2.2.2.2

/-- Row `r` of point `t`'s blocks among all rows: the sequence and the place in it. -/
abbrev seq (r : Fin 512) : Fin 2 := ⟨(t.val * 512 + r.val) / 2048, by have := small t; omega⟩
abbrev pos (r : Fin 512) : Fin 2048 := ⟨(t.val * 512 + r.val) % 2048, by omega⟩

theorem blk0 (r : Fin 512) (k : Fin 512) : (iblk m c 0 t (ix2 r k) : EReal) = m ((c : Thread nD τ).loc main_arg3) (ix3 (seq t r) (pos t r) k) := by
  have h : iblk m c 0 t (ix2 r k) = V m c main_v8 (ix2 ⟨t.val * 512 + r.val, by have := small t; omega⟩ k) := by blk_ext [iblk, idx t]
  exact h.trans (V_v8 m c _ _)

theorem blk1 (r : Fin 512) (k : Fin 512) : (iblk m c 1 t (ix2 r k) : EReal) = m ((c : Thread nD τ).loc main_arg4) (ix3 (seq t r) (pos t r) k) := by
  have h : iblk m c 1 t (ix2 r k) = V m c main_v10 (ix2 ⟨t.val * 512 + r.val, by have := small t; omega⟩ k) := by blk_ext [iblk, idx t]
  exact h.trans (V_v10 m c _ _)

theorem blk2 (r : Fin 512) (k : Fin 512) : (iblk m c 2 t (ix2 r k) : EReal) = m ((c : Thread nD τ).loc main_arg5) (ix3 (seq t r) (pos t r) k) := by
  have h : iblk m c 2 t (ix2 r k) = V m c main_v12 (ix2 ⟨t.val * 512 + r.val, by have := small t; omega⟩ k) := by blk_ext [iblk, idx t]
  exact h.trans (V_v12 m c _ _)

theorem blk3 (r : Fin 512) (k : Fin 512) : (iblk m c 3 t (ix2 r k) : EReal) = m ((c : Thread nD τ).loc main_arg6) (ix3 (seq t r) (pos t r) k) := by
  have h : iblk m c 3 t (ix2 r k) = V m c main_v14 (ix2 ⟨t.val * 512 + r.val, by have := small t; omega⟩ k) := by blk_ext [iblk, idx t]
  exact h.trans (V_v14 m c _ _)

theorem blk6 (r : Fin 512) (k : Fin 1024) : (iblk m c 6 t (ix2 r k) : EReal) = m ((c : Thread nD τ).loc main_arg0) (ix3 (seq t r) (pos t r) k) := by
  have h : iblk m c 6 t (ix2 r k) = V m c main_v20 (ix2 ⟨t.val * 512 + r.val, by have := small t; omega⟩ k) := by blk_ext [iblk, idx t]
  exact h.trans (V_v20 m c _ _)

theorem blk7 (r : Fin 512) (k : Fin 1024) : (iblk m c 7 t (ix2 r k) : EReal) = m ((c : Thread nD τ).loc main_arg10) (ix3 (seq t r) (pos t r) k) := by
  have h : iblk m c 7 t (ix2 r k) = V m c main_v21 (ix2 ⟨t.val * 512 + r.val, by have := small t; omega⟩ k) := by blk_ext [iblk, idx t]
  exact h.trans (V_v21 m c _ _)

theorem blk4 (r : Fin 512) (k : Fin 128) : (iblk m c 4 t (ix2 r k) : EReal) = if h : k.val < 8 then m ((c : Thread nD τ).loc main_arg7) (ix3 (seq t r) (pos t r) ⟨k.val, h⟩) else (0 : EReal) := by
  have h : iblk m c 4 t (ix2 r k) = V m c main_v6 (ix2 ⟨t.val * 512 + r.val, by have := small t; omega⟩ k) := by blk_ext [iblk, idx t]
  exact h.trans (V_v6 m c _ _)

theorem blk5 (r : Fin 512) (k : Fin 2048) : (iblk m c 5 t (ix2 r k) : EReal) = if h : k.val < 1024 then m ((c : Thread nD τ).loc main_arg8) (ix3 (seq t r) (pos t r) ⟨k.val, h⟩)
    else m ((c : Thread nD τ).loc main_arg9) (ix3 (seq t r) (pos t r) ⟨k.val - 1024, by omega⟩) := by
  have h : iblk m c 5 t (ix2 r k) = V m c main_v19 (ix2 ⟨t.val * 512 + r.val, by have := small t; omega⟩ k) := by blk_ext [iblk, idx t]
  exact h.trans (V_v19 m c _ _)

theorem blk8 (k : Fin 1024) : (iblk m c 8 t (ix2 0 k) : EReal) = m ((c : Thread nD τ).loc main_arg1) (ix2 0 k) := by
  blk_ext [iblk, V, idx t]

theorem blk9 (r : Fin 1024) (k : Fin 2048) : (iblk m c 9 t (ix2 r k) : EReal) = m ((c : Thread nD τ).loc main_arg2) (ix3 0 r ⟨k.val, by omega⟩) := by
  have h : iblk m c 9 t (ix2 r k) = V m c main_v22 (ix2 r k) := by blk_ext [iblk, idx t]
  exact h.trans (V_v22 m c _ _)

theorem blk10 (r : Fin 1024) (k : Fin 128) : (iblk m c 10 t (ix2 r k) : EReal) = if h : k.val < 8 then m ((c : Thread nD τ).loc main_arg2) (ix3 0 r ⟨2048 + k.val, by omega⟩) else (0 : EReal) := by
  have h : iblk m c 10 t (ix2 r k) = V m c main_v3 (ix2 r k) := by blk_ext [iblk, idx t]
  exact h.trans (V_v3 m c _ _)

theorem blk11 (r : Fin 1024) (k : Fin 2048) : (iblk m c 11 t (ix2 r k) : EReal) = m ((c : Thread nD τ).loc main_arg2) (ix3 0 r ⟨2056 + k.val, by omega⟩) := by
  have h : iblk m c 11 t (ix2 r k) = V m c main_v23 (ix2 r k) := by blk_ext [iblk, idx t]
  exact h.trans (V_v23 m c _ _)

/-- The kernel's cotangent of the normed input at a point. -/
theorem pay_dh (r : Fin 512) (j : Fin 1024) : (k0_pay6 (iblk m c 0 t) (iblk m c 1 t) (iblk m c 2 t) (iblk m c 3 t) (iblk m c 9 t) (iblk m c 5 t) (iblk m c 11 t) (iblk m c 4 t) (iblk m c 10 t) (ix2 r j) : EReal)
    = dh (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (seq t r) (pos t r) j := by
  pointwise [k0_pay6]
  simp only [blk0, blk1, blk2, blk3, blk4, blk5, blk9, blk10, blk11]
  exact (dh_split _ _ _ _ _ _ _ _ _ _ _).symm

end Blocks

variable (c : Dev nD)

/-- What the precondition says of the arrays that enter the gradient through the norm. -/
structure Real (x0 : S2x2048x1024.Idx → EReal) (x1 : S1x1024.Idx → EReal) (x2 : S1x1024x4104.Idx → EReal) (x3 x4 x5 x6 : S2x2048x512.Idx → EReal)
    (x7 : S2x2048x8.Idx → EReal) (x8 x9 : S2x2048x1024.Idx → EReal) : Prop where
  r0 : ∀ i, Finite.IsReal (x0 i)
  r1 : ∀ i, Finite.IsReal (x1 i)
  r2 : ∀ i, Finite.IsReal (x2 i)
  r3 : ∀ i, Finite.IsReal (x3 i)
  r4 : ∀ i, Finite.IsReal (x4 i)
  r5 : ∀ i, Finite.IsReal (x5 i)
  r6 : ∀ i, Finite.IsReal (x6 i)
  r7 : ∀ i, Finite.IsReal (x7 i)
  r8 : ∀ i, Finite.IsReal (x8 i)
  r9 : ∀ i, Finite.IsReal (x9 i)

theorem back_real {x0 : S2x2048x1024.Idx → EReal} {x1 : S1x1024.Idx → EReal} {x2 : S1x1024x4104.Idx → EReal} {x3 x4 x5 x6 : S2x2048x512.Idx → EReal}
    {x7 : S2x2048x8.Idx → EReal} {x8 x9 : S2x2048x1024.Idx → EReal} (h : Real x0 x1 x2 x3 x4 x5 x6 x7 x8 x9) (a : Fin 2) (l : Fin 2048) (k : Fin 1024) :
    Finite.IsReal (back x1 x2 x3 x4 x5 x6 x7 x8 x9 a l k) := by
  refine Finite.mul (Finite.sum _ _ fun k => Finite.mul ?_ (h.r2 _)) (h.r1 _)
  unfold dz
  have z := fun (p : Prop) (_ : ¬ p) => Finite.zero
  exact Finite.add (Finite.add (Finite.add (Finite.add (Finite.add (Finite.add
    (Finite.dite (fun _ => h.r9 _) (z _)) (Finite.dite (fun _ => h.r8 _) (z _))) (Finite.dite (fun _ => h.r7 _) (z _))) (Finite.dite (fun _ => h.r6 _) (z _)))
    (Finite.dite (fun _ => h.r5 _) (z _))) (Finite.dite (fun _ => h.r4 _) (z _))) (Finite.dite (fun _ => h.r3 _) (z _))

/-- The cotangent block of a point. -/
abbrev dhP (t : Fin cfg0.N) := k0_pay6 (iblk m c 0 t) (iblk m c 1 t) (iblk m c 2 t) (iblk m c 3 t) (iblk m c 9 t) (iblk m c 5 t) (iblk m c 11 t) (iblk m c 4 t) (iblk m c 10 t)

theorem final12 (hr : Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) : (dats m 0 c).arrAt 12 (cfgs 0).N = Cert.InProjGradIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  obtain ⟨a, b, rfl⟩ : ∃ (a : Fin 512) (b : Fin 1024), y = ix2 a b := ⟨y 0, y 1, by blk_ext⟩
  have ht := small t
  have hy : ((View.whole main_v25_0).slice (win0_12.rect t)).emb (ix2 a b) = ix2 ⟨t.val * 512 + a.val, by omega⟩ b := by blk_ext [idx t]
  have e : (outsAt0 m c t.val t.isLt).1 = k0_pay3 (dhP m c t) (iblk m c 8 t) (k0_pay7 (iblk m c 6 t)) (k0_pay8 (iblk m c 6 t)) (iblk m c 7 t) := by
    by_cases h : t.val % 8 = 0
    · rw [outsAt0_A m c t h]; frame_out
    · rw [outsAt0_B m c t h]; frame_out
  rw [after0_12, hy, e]
  pointwise [k0_pay3, k0_pay7, k0_pay8, k0_pay2, k0_pay1, Cert.InProjGradIdeal.Read.val_main_v62]
  simp only [pay_dh, blk6, blk7, blk8]
  rw [ref_dx]
  exact congrArg₂ (α := EReal) (β := EReal) (γ := EReal) (· + ·) rfl (Norm.grad _ _ (fun k => hr.r0 _) (back_real hr _ _) b).symm

def part (t : Fin cfg0.N) (y : S1x1024.Idx) : EReal := ∑ r : Fin 512,
  dh (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (seq t r) (pos t r) (y 1) * (row (m ((c : Thread nD τ).loc main_arg0)) (seq t r) (pos t r) (y 1) * Norm.inv (row (m ((c : Thread nD τ).loc main_arg0)) (seq t r) (pos t r)))

theorem step13 (t : Fin cfg0.N) (v : FVec Ideal S1x1024 .f32) (y : S1x1024.Idx) : k0_pay5 (dhP m c t) (k0_pay7 (iblk m c 6 t)) (k0_pay8 (iblk m c 6 t)) v y
    = v y + part m c t y := by
  obtain ⟨a, b, rfl⟩ : ∃ (a : Fin 1) (b : Fin 1024), y = ix2 a b := ⟨y 0, y 1, by blk_ext⟩
  pointwise [k0_pay5, k0_pay7, k0_pay8, k0_pay2, k0_pay1]
  simp only [pay_dh, blk6]
  rfl

theorem final13 : (dats m 0 c).arrAt 13 (cfgs 0).N = Cert.InProjGradIdeal.Read.val_main_v61 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  obtain ⟨a, b, rfl⟩ : ∃ (a : Fin 1) (b : Fin 1024), y = ix2 a b := ⟨y 0, y 1, by blk_ext⟩
  have hy : ((View.whole main_v25_1).slice (win0_13.rect t)).emb (ix2 a b) = ix2 a b := by blk_ext [idx t]
  have h7 : t.val + 1 = cfg0.N := by
    clear hy; revert hf; revert t; exact (by decide +kernel : ∀ t : Fin grid0.N, (cfg0.win 13).flush t = true → t.val + 1 = grid0.N)
  rw [after0_13, hy]
  refine (Pipeline.eq_sum_fin_of_reset_step_apply_last (M := EReal) (fun n h => (outsAt0 m c n h).2) 8 (fun _ => 0) (part m c) (fun t h y => ?_) (fun t h y => ?_)
    (by decide) t h7 _).trans ?_
  · rw [outsAt0_A m c t h]
    frame_out
    exact (step13 m c t _ y).trans (congrArg (· + _) (by pointwise [k0_pay4]))
  · rw [outsAt0_B m c t h]
    frame_out
    exact step13 m c t _ y
  · rw [zero_add]
    unfold part
    pointwise [Cert.InProjGradIdeal.Read.val_main_v61, Cert.InProjGradIdeal.Read.val_main_v45]
    rw [Window.hostReduceAdd_leading _ (fun _ => rfl)]
    simp only [Fin.sum_univ_one]
    pointwise [Cert.InProjGradIdeal.Read.val_main_v42, Cert.InProjGradIdeal.Read.val_main_v41]
    rw [Window.hostReduceAdd_leading _ (fun _ => rfl)]
    have z0 : Cert.InProjGradIdeal.Read.val_main_cst_10 (F := Ideal) (Shape.Idx.first Cert.InProjGradIdeal.Gen.h_S_) = 0 := by pointwise [Cert.InProjGradIdeal.Read.val_main_cst_10]
    have z1 : Cert.InProjGradIdeal.Read.val_main_cst_11 (F := Ideal) (Shape.Idx.first Cert.InProjGradIdeal.Gen.h_S_) = 0 := by pointwise [Cert.InProjGradIdeal.Read.val_main_cst_11]
    rw [z0, z1, zero_add, zero_add]
    refine Fin.sum_points_lanes_congr 4 fun t k ha hl => ?_
    rw [ref_dg, mul_comm]
    have e0 : seq t k = ⟨t.val / 4, ha⟩ := Fin.ext (by show (t.val * 512 + k.val) / 2048 = t.val / 4; omega)
    have e1 : pos t k = ⟨t.val % 4 * 512 + k.val, hl⟩ := Fin.ext (by show (t.val * 512 + k.val) % 2048 = t.val % 4 * 512 + k.val; omega)
    rw [e0, e1]

end Cert.InProj
-- ==== Proof.Mix.lean ====
module

public import Idealize.ShloMosaic.Lib.Pipeline.ValueKit
public import Idealize.ShloMosaic.Lib.Pointwise
public import proofs.«01_k».proof.Proof.Window
public import proofs.«01_k».proof.Proof.Gen.MixBwdIdeal.Value
public import proofs.«01_k».proof.Proof.Gen.MixGradIdeal.Read

@[expose] public section

set_option maxRecDepth 16384

noncomputable section

namespace Cert.Mix

open Cert.MixBwdIdeal Cert.MixBwdIdeal.Gen Idealize.ShloMosaic Idealize.ShloMosaic.TcCoe Idealize.SL.Sem

/-! ## The gradients, entry by entry -/

/-- The logistic function. -/
def sg (z : EReal) : EReal := Ideal.div 1 (1 + Ideal.exp (-z))

/-- The derivative of the logistic function, from its value. -/
def slope (z : EReal) : EReal := sg z * (1 - sg z)

/-- The cotangent of the merged branches. -/
def dm (x7 : S1x1024x1024.Idx → EReal) (x8 : S2x2048x1024.Idx → EReal) (a : Fin 2) (l : Fin 2048) (j : Fin 1024) : EReal :=
  ∑ k : Fin 1024, x8 (ix3 a l k) * x7 (ix3 0 j k)

/-- The pooled branch's output. -/
def py (x2 : S2x2048x512.Idx → EReal) (x3 : S1x512.Idx → EReal) (x5 : S1x512x1024.Idx → EReal) (a : Fin 2) (l : Fin 2048) (j : Fin 1024) : EReal :=
  ∑ k : Fin 512, x2 (ix3 a l k) * x3 (ix2 0 k) * x5 (ix3 0 k j)

/-- The attention branch's output. -/
def ay (x4 : S2x2048x512.Idx → EReal) (x6 : S1x512x1024.Idx → EReal) (a : Fin 2) (l : Fin 2048) (j : Fin 1024) : EReal :=
  ∑ k : Fin 512, x4 (ix3 a l k) * x6 (ix3 0 k j)

/-- A branch's cotangent carried through its output product: the gate's share of the merged cotangent times the weights. -/
def back (x0 : S2x2048x1024.Idx → EReal) (x5 : S1x512x1024.Idx → EReal) (x7 : S1x1024x1024.Idx → EReal) (x8 : S2x2048x1024.Idx → EReal)
    (a : Fin 2) (l : Fin 2048) (k : Fin 512) : EReal :=
  ∑ j : Fin 1024, dm x7 x8 a l j * sg (x0 (ix3 a l j)) * x5 (ix3 0 k j)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![0, 0] ∧ t.val < 8 :=
  (by decide +kernel : ∀ t : Fin grid0.N, _)

/-! ## The reference, entry by entry -/

section Reference

open Cert.MixGradIdeal.Read

variable (x0 x1 : S2x2048x1024.Idx → EReal) (x2 x4 : S2x2048x512.Idx → EReal) (x3 : S1x512.Idx → EReal) (x5 x6 : S1x512x1024.Idx → EReal)
  (x7 : S1x1024x1024.Idx → EReal) (x8 : S2x2048x1024.Idx → EReal) (a : Fin 2) (l : Fin 2048)

theorem ref_sg (j : Fin 1024) : val_main_v13 (F := Ideal) x0 (ix3 a l j) = sg (x0 (ix3 a l j)) := by
  pointwise [val_main_v13, val_main_v12, val_main_v11, val_main_v10, val_main_v9, val_main_v8, val_main_cst, val_main_cst_0, sg]

theorem ref_sa (j : Fin 1024) : val_main_v23 (F := Ideal) x1 (ix3 a l j) = sg (x1 (ix3 a l j)) := by
  pointwise [val_main_v23, val_main_v22, val_main_v21, val_main_v20, val_main_v19, val_main_v18, val_main_cst_2, val_main_cst_3, sg]

theorem ref_dm (j : Fin 1024) : val_main_v31 (F := Ideal) x7 x8 (ix3 a l j) = dm x7 x8 a l j := by
  pointwise [val_main_v31, val_main_v29, dm]

theorem ref_py (j : Fin 1024) : val_main_v5 (F := Ideal) x2 x3 x5 (ix3 a l j) = py x2 x3 x5 a l j := by
  pointwise [val_main_v5, val_main_v4, val_main_v3, val_main_v2, val_main_v1, val_main_v0, py]

theorem ref_ay (j : Fin 1024) : val_main_v7 (F := Ideal) x4 x6 (ix3 a l j) = ay x4 x6 a l j := by
  pointwise [val_main_v7, val_main_v6, ay]

theorem ref_bp (k : Fin 512) : val_main_v39 (F := Ideal) x0 x5 x7 x8 (ix3 a l k) = back x0 x5 x7 x8 a l k := by
  pointwise [val_main_v39, val_main_v35, val_main_v4, back]
  simp only [ref_sg, ref_dm, mul_comm (sg _)]

theorem ref_ba (k : Fin 512) : val_main_v38 (F := Ideal) x1 x6 x7 x8 (ix3 a l k) = back x1 x6 x7 x8 a l k := by
  pointwise [val_main_v38, val_main_v32, val_main_v6, back]
  simp only [ref_sa, ref_dm, mul_comm (sg _)]

theorem ref_gp (j : Fin 1024) : val_main_v37 (F := Ideal) x0 x2 x3 x5 x7 x8 (ix3 a l j) = dm x7 x8 a l j * py x2 x3 x5 a l j * slope (x0 (ix3 a l j)) := by
  pointwise [val_main_v37, val_main_v36, val_main_v16, val_main_v15, val_main_v14, val_main_cst_1, slope]
  rw [ref_sg, ref_dm, ref_py]

theorem ref_ga (j : Fin 1024) : val_main_v34 (F := Ideal) x1 x4 x6 x7 x8 (ix3 a l j) = dm x7 x8 a l j * ay x4 x6 a l j * slope (x1 (ix3 a l j)) := by
  pointwise [val_main_v34, val_main_v33, val_main_v26, val_main_v25, val_main_v24, val_main_cst_4, slope]
  rw [ref_sa, ref_dm, ref_ay]

end Reference

/-! ## The arrays the kernel reads -/

theorem V_v12 (c : Dev nD) (r : Fin 4096) (k : Fin 1024) :
    (V m c main_v12 (ix2 r k) : EReal) = m ((c : Thread nD τ).loc main_arg8) (ix3 ⟨r.val / 2048, by omega⟩ ⟨r.val % 2048, by omega⟩ k) := by
  unfold V
  entry_read
  pointwise

theorem V_v11 (c : Dev nD) (r : Fin 4096) (k : Fin 2048) :
    (V m c main_v11 (ix2 r k) : EReal) = if h : k.val < 1024 then (m ((c : Thread nD τ).loc main_arg0)) (ix3 ⟨r.val / 2048, by omega⟩ ⟨r.val % 2048, by omega⟩ ⟨k.val, h⟩)
      else (m ((c : Thread nD τ).loc main_arg1)) (ix3 ⟨r.val / 2048, by omega⟩ ⟨r.val % 2048, by omega⟩ ⟨k.val - 1024, by omega⟩) := by
  unfold V
  entry_read
  pointwise

theorem V_v14 (c : Dev nD) (r : Fin 4096) (k : Fin 1024) :
    (V m c main_v14 (ix2 r k) : EReal) = py (m ((c : Thread nD τ).loc main_arg2)) (m ((c : Thread nD τ).loc main_arg3)) (m ((c : Thread nD τ).loc main_arg5)) ⟨r.val / 2048, by omega⟩ ⟨r.val % 2048, by omega⟩ k := by
  unfold V
  entry_read
  pointwise [py]

theorem V_v16 (c : Dev nD) (r : Fin 4096) (k : Fin 1024) :
    (V m c main_v16 (ix2 r k) : EReal) = ay (m ((c : Thread nD τ).loc main_arg4)) (m ((c : Thread nD τ).loc main_arg6)) ⟨r.val / 2048, by omega⟩ ⟨r.val % 2048, by omega⟩ k := by
  unfold V
  entry_read
  pointwise [ay]

theorem V_v17 (c : Dev nD) (r : Fin 4096) (k : Fin 512) :
    (V m c main_v17 (ix2 r k) : EReal) = m ((c : Thread nD τ).loc main_arg2) (ix3 ⟨r.val / 2048, by omega⟩ ⟨r.val % 2048, by omega⟩ k) := by
  unfold V
  entry_read
  pointwise

theorem V_v19 (c : Dev nD) (r : Fin 1024) (k : Fin 1024) :
    (V m c main_v19 (ix2 r k) : EReal) = m ((c : Thread nD τ).loc main_arg7) (ix3 0 r k) := by
  unfold V
  entry_read
  pointwise

theorem V_v21 (c : Dev nD) (r : Fin 512) (k : Fin 1024) :
    (V m c main_v21 (ix2 r k) : EReal) = m ((c : Thread nD τ).loc main_arg6) (ix3 0 r k) := by
  unfold V
  entry_read
  pointwise

theorem V_v23 (c : Dev nD) (r : Fin 512) (k : Fin 1024) :
    (V m c main_v23 (ix2 r k) : EReal) = m ((c : Thread nD τ).loc main_arg5) (ix3 0 r k) := by
  unfold V
  entry_read
  pointwise

/-! ## A point's blocks -/

section Blocks

variable (c : Dev nD) (t : Fin cfg0.N)

/-- Row `r` of point `t`'s blocks among all rows: the sequence and the place in it. -/
abbrev seq (r : Fin 512) : Fin 2 := ⟨(t.val * 512 + r.val) / 2048, by have := (idx t).2.2.2.2.2.2.2.2.2.2.2.2.2.2.2; omega⟩
abbrev pos (r : Fin 512) : Fin 2048 := ⟨(t.val * 512 + r.val) % 2048, by omega⟩

theorem blk0 (r : Fin 512) (k : Fin 1024) : (iblk m c 0 t (ix2 r k) : EReal) = (m ((c : Thread nD τ).loc main_arg8)) (ix3 (seq t r) (pos t r) k) := by
  have h : iblk m c 0 t (ix2 r k) = V m c main_v12 (ix2 ⟨t.val * 512 + r.val, by have := (idx t).2.2.2.2.2.2.2.2.2.2.2.2.2.2.2; omega⟩ k) := by blk_ext [iblk, idx t]
  exact h.trans (V_v12 m c _ _)

theorem blk1 (r : Fin 512) (k : Fin 2048) : (iblk m c 1 t (ix2 r k) : EReal) = if h : k.val < 1024 then (m ((c : Thread nD τ).loc main_arg0)) (ix3 (seq t r) (pos t r) ⟨k.val, h⟩)
      else (m ((c : Thread nD τ).loc main_arg1)) (ix3 (seq t r) (pos t r) ⟨k.val - 1024, by omega⟩) := by
  have h : iblk m c 1 t (ix2 r k) = V m c main_v11 (ix2 ⟨t.val * 512 + r.val, by have := (idx t).2.2.2.2.2.2.2.2.2.2.2.2.2.2.2; omega⟩ k) := by blk_ext [iblk, idx t]
  exact h.trans (V_v11 m c _ _)

theorem blk2 (r : Fin 512) (k : Fin 1024) : (iblk m c 2 t (ix2 r k) : EReal) = py (m ((c : Thread nD τ).loc main_arg2)) (m ((c : Thread nD τ).loc main_arg3)) (m ((c : Thread nD τ).loc main_arg5)) (seq t r) (pos t r) k := by
  have h : iblk m c 2 t (ix2 r k) = V m c main_v14 (ix2 ⟨t.val * 512 + r.val, by have := (idx t).2.2.2.2.2.2.2.2.2.2.2.2.2.2.2; omega⟩ k) := by blk_ext [iblk, idx t]
  exact h.trans (V_v14 m c _ _)

theorem blk3 (r : Fin 512) (k : Fin 1024) : (iblk m c 3 t (ix2 r k) : EReal) = ay (m ((c : Thread nD τ).loc main_arg4)) (m ((c : Thread nD τ).loc main_arg6)) (seq t r) (pos t r) k := by
  have h : iblk m c 3 t (ix2 r k) = V m c main_v16 (ix2 ⟨t.val * 512 + r.val, by have := (idx t).2.2.2.2.2.2.2.2.2.2.2.2.2.2.2; omega⟩ k) := by blk_ext [iblk, idx t]
  exact h.trans (V_v16 m c _ _)

theorem blk4 (r : Fin 512) (k : Fin 512) : (iblk m c 4 t (ix2 r k) : EReal) = (m ((c : Thread nD τ).loc main_arg2)) (ix3 (seq t r) (pos t r) k) := by
  have h : iblk m c 4 t (ix2 r k) = V m c main_v17 (ix2 ⟨t.val * 512 + r.val, by have := (idx t).2.2.2.2.2.2.2.2.2.2.2.2.2.2.2; omega⟩ k) := by blk_ext [iblk, idx t]
  exact h.trans (V_v17 m c _ _)

theorem blk5 (k : Fin 512) : (iblk m c 5 t (ix2 0 k) : EReal) = (m ((c : Thread nD τ).loc main_arg3)) (ix2 0 k) := by
  blk_ext [iblk, V, idx t]

theorem blk6 (r : Fin 1024) (k : Fin 1024) : (iblk m c 6 t (ix2 r k) : EReal) = (m ((c : Thread nD τ).loc main_arg7)) (ix3 0 r k) := by
  have h : iblk m c 6 t (ix2 r k) = V m c main_v19 (ix2 r k) := by blk_ext [iblk, idx t]
  exact h.trans (V_v19 m c _ _)

theorem blk7 (r : Fin 512) (k : Fin 1024) : (iblk m c 7 t (ix2 r k) : EReal) = (m ((c : Thread nD τ).loc main_arg6)) (ix3 0 r k) := by
  have h : iblk m c 7 t (ix2 r k) = V m c main_v21 (ix2 r k) := by blk_ext [iblk, idx t]
  exact h.trans (V_v21 m c _ _)

theorem blk8 (r : Fin 512) (k : Fin 1024) : (iblk m c 8 t (ix2 r k) : EReal) = (m ((c : Thread nD τ).loc main_arg5)) (ix3 0 r k) := by
  have h : iblk m c 8 t (ix2 r k) = V m c main_v23 (ix2 r k) := by blk_ext [iblk, idx t]
  exact h.trans (V_v23 m c _ _)

end Blocks

/-- What the gates' halves of a point's block read: the first half the pooled branch's gate, the second the attention's. -/
abbrev ldP (c : Dev nD) (t : Fin cfg0.N) := View.ld (iblk m c 1 t) (Rect.unit (s := S512x2048) ![0, 0] S512x1024.size inb_S512x2048_S512x1024_0_0)
abbrev ldA (c : Dev nD) (t : Fin cfg0.N) := View.ld (iblk m c 1 t) (Rect.unit (s := S512x2048) ![0, 1024] S512x1024.size inb_S512x2048_S512x1024_0_1024)

theorem ldP_apply (c : Dev nD) (t : Fin cfg0.N) (r : Fin 512) (k : Fin 1024) : (ldP m c t (ix2 r k) : EReal) = (m ((c : Thread nD τ).loc main_arg0)) (ix3 (seq t r) (pos t r) k) := by
  have h : ldP m c t (ix2 r k) = iblk m c 1 t (ix2 r ⟨k.val, by omega⟩) := by unfold ldP; pointwise
  rw [h, blk1, dif_pos k.isLt]

theorem ldA_apply (c : Dev nD) (t : Fin cfg0.N) (r : Fin 512) (k : Fin 1024) : (ldA m c t (ix2 r k) : EReal) = (m ((c : Thread nD τ).loc main_arg1)) (ix3 (seq t r) (pos t r) k) := by
  have h : ldA m c t (ix2 r k) = iblk m c 1 t (ix2 r ⟨1024 + k.val, by omega⟩) := by unfold ldA; pointwise
  rw [h, blk1, dif_neg (by show ¬ 1024 + k.val < 1024; omega)]
  exact congrArg _ (congrArg (ix3 _ _) (Fin.ext (by show 1024 + k.val - 1024 = k.val; omega)))

theorem final10 (c : Dev nD) : (dats m 0 c).arrAt 10 (cfgs 0).N = Cert.MixGradIdeal.Read.val_main_v51 (F := Ideal) (m ((c : Thread nD τ).loc main_arg0)) (m ((c : Thread nD τ).loc main_arg7)) (m ((c : Thread nD τ).loc main_arg8)) := by
  refine (dats m 0 c).arrAt_eq_of_covers 10 _ (by decide +kernel) fun t hf y => ?_
  blk_simp
  obtain ⟨a, b, rfl⟩ : ∃ (a : Fin 512) (b : Fin 1024), y = ix2 a b := ⟨y 0, y 1, by blk_ext⟩
  have ht := (idx t).2.2.2.2.2.2.2.2.2.2.2.2.2.2.2
  have hy : ((View.whole main_v25_1).slice (win0_10.rect t)).emb (ix2 a b) = ix2 ⟨t.val * 512 + a.val, by omega⟩ b := by blk_ext [idx t]
  have e : (outsAt0 m c t.val t.isLt).2.1 = k0_pay7 (k0_pay2 (iblk m c 0 t) (iblk m c 6 t)) (k0_pay3 (ldP m c t)) := by
    by_cases h : t.val % 8 = 0
    · rw [outsAt0_A m c t h]; frame_out; rfl
    · rw [outsAt0_B m c t h]; frame_out; rfl
  rw [after0_10, hy, e]
  pointwise [k0_pay7, k0_pay3, k0_pay2]
  simp only [ldP_apply, ldA_apply, blk0, blk6]
  pointwise [Cert.MixGradIdeal.Read.val_main_v51, Cert.MixGradIdeal.Read.val_main_v50, Cert.MixGradIdeal.Read.val_main_v35]
  rw [ref_sg, ref_dm]
  unfold dm sg
  simp only [zero_sub]
  rw [mul_comm]

theorem final11 (c : Dev nD) : (dats m 0 c).arrAt 11 (cfgs 0).N = Cert.MixGradIdeal.Read.val_main_v53 (F := Ideal) (m ((c : Thread nD τ).loc main_arg1)) (m ((c : Thread nD τ).loc main_arg7)) (m ((c : Thread nD τ).loc main_arg8)) := by
  refine (dats m 0 c).arrAt_eq_of_covers 11 _ (by decide +kernel) fun t hf y => ?_
  blk_simp
  obtain ⟨a, b, rfl⟩ : ∃ (a : Fin 512) (b : Fin 1024), y = ix2 a b := ⟨y 0, y 1, by blk_ext⟩
  have ht := (idx t).2.2.2.2.2.2.2.2.2.2.2.2.2.2.2
  have hy : ((View.whole main_v25_2).slice (win0_11.rect t)).emb (ix2 a b) = ix2 ⟨t.val * 512 + a.val, by omega⟩ b := by blk_ext [idx t]
  have e : (outsAt0 m c t.val t.isLt).2.2.1 = k0_pay8 (k0_pay2 (iblk m c 0 t) (iblk m c 6 t)) (k0_pay4 (ldA m c t)) := by
    by_cases h : t.val % 8 = 0
    · rw [outsAt0_A m c t h]; frame_out; rfl
    · rw [outsAt0_B m c t h]; frame_out; rfl
  rw [after0_11, hy, e]
  pointwise [k0_pay8, k0_pay4, k0_pay2]
  simp only [ldP_apply, ldA_apply, blk0, blk6]
  pointwise [Cert.MixGradIdeal.Read.val_main_v53, Cert.MixGradIdeal.Read.val_main_v52, Cert.MixGradIdeal.Read.val_main_v32]
  rw [ref_sa, ref_dm]
  unfold dm sg
  simp only [zero_sub]
  rw [mul_comm]

theorem final12 (c : Dev nD) : (dats m 0 c).arrAt 12 (cfgs 0).N = Cert.MixGradIdeal.Read.val_main_v55 (F := Ideal) (m ((c : Thread nD τ).loc main_arg1)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  obtain ⟨a, b, rfl⟩ : ∃ (a : Fin 512) (b : Fin 512), y = ix2 a b := ⟨y 0, y 1, by blk_ext⟩
  have ht := (idx t).2.2.2.2.2.2.2.2.2.2.2.2.2.2.2
  have hy : ((View.whole main_v25_3).slice (win0_12.rect t)).emb (ix2 a b) = ix2 ⟨t.val * 512 + a.val, by omega⟩ b := by blk_ext [idx t]
  have e : (outsAt0 m c t.val t.isLt).2.2.2.1 = k0_pay9 (k0_pay2 (iblk m c 0 t) (iblk m c 6 t)) (k0_pay4 (ldA m c t)) (iblk m c 7 t) := by
    by_cases h : t.val % 8 = 0
    · rw [outsAt0_A m c t h]; frame_out; rfl
    · rw [outsAt0_B m c t h]; frame_out; rfl
  rw [after0_12, hy, e]
  pointwise [k0_pay9, k0_pay8, k0_pay4, k0_pay2]
  simp only [ldP_apply, ldA_apply, blk0, blk6, blk7]
  pointwise [Cert.MixGradIdeal.Read.val_main_v55, Cert.MixGradIdeal.Read.val_main_v54]
  rw [ref_ba]
  unfold back dm sg
  simp only [zero_sub]

theorem final13 (c : Dev nD) : (dats m 0 c).arrAt 13 (cfgs 0).N = Cert.MixGradIdeal.Read.val_main_v57 (F := Ideal) (m ((c : Thread nD τ).loc main_arg0)) (m ((c : Thread nD τ).loc main_arg3)) (m ((c : Thread nD τ).loc main_arg5)) (m ((c : Thread nD τ).loc main_arg7)) (m ((c : Thread nD τ).loc main_arg8)) := by
  refine (dats m 0 c).arrAt_eq_of_covers 13 _ (by decide +kernel) fun t hf y => ?_
  blk_simp
  obtain ⟨a, b, rfl⟩ : ∃ (a : Fin 512) (b : Fin 512), y = ix2 a b := ⟨y 0, y 1, by blk_ext⟩
  have ht := (idx t).2.2.2.2.2.2.2.2.2.2.2.2.2.2.2
  have hy : ((View.whole main_v25_4).slice (win0_13.rect t)).emb (ix2 a b) = ix2 ⟨t.val * 512 + a.val, by omega⟩ b := by blk_ext [idx t]
  have e : (outsAt0 m c t.val t.isLt).2.2.2.2.1 = k0_pay11 (k0_pay2 (iblk m c 0 t) (iblk m c 6 t)) (k0_pay3 (ldP m c t)) (iblk m c 8 t) (iblk m c 5 t) := by
    by_cases h : t.val % 8 = 0
    · rw [outsAt0_A m c t h]; frame_out; rfl
    · rw [outsAt0_B m c t h]; frame_out; rfl
  rw [after0_13, hy, e]
  pointwise [k0_pay11, k0_pay10, k0_pay7, k0_pay3, k0_pay2]
  simp only [ldP_apply, ldA_apply, blk0, blk5, blk6, blk8]
  pointwise [Cert.MixGradIdeal.Read.val_main_v57, Cert.MixGradIdeal.Read.val_main_v56, Cert.MixGradIdeal.Read.val_main_v44, Cert.MixGradIdeal.Read.val_main_v43, Cert.MixGradIdeal.Read.val_main_v1, Cert.MixGradIdeal.Read.val_main_v0]
  rw [ref_bp]
  unfold back dm sg
  simp only [zero_sub]

theorem gateP (c : Dev nD) (t : Fin cfg0.N) (a : Fin 512) (b : Fin 1024) : k0_pay5 (iblk m c 0 t) (iblk m c 6 t) (ldP m c t) (iblk m c 2 t) (ix2 a b)
    = dm (m ((c : Thread nD τ).loc main_arg7)) (m ((c : Thread nD τ).loc main_arg8)) (seq t a) (pos t a) b * py (m ((c : Thread nD τ).loc main_arg2)) (m ((c : Thread nD τ).loc main_arg3)) (m ((c : Thread nD τ).loc main_arg5)) (seq t a) (pos t a) b * slope ((m ((c : Thread nD τ).loc main_arg0)) (ix3 (seq t a) (pos t a) b)) := by
  pointwise [k0_pay5, k0_pay3, k0_pay2]
  simp only [ldP_apply, blk0, blk2, blk6, zero_sub]
  unfold dm slope sg
  rfl

theorem gateA (c : Dev nD) (t : Fin cfg0.N) (a : Fin 512) (b : Fin 1024) : k0_pay6 (k0_pay2 (iblk m c 0 t) (iblk m c 6 t)) (k0_pay4 (ldA m c t)) (iblk m c 3 t) (ix2 a b)
    = dm (m ((c : Thread nD τ).loc main_arg7)) (m ((c : Thread nD τ).loc main_arg8)) (seq t a) (pos t a) b * ay (m ((c : Thread nD τ).loc main_arg4)) (m ((c : Thread nD τ).loc main_arg6)) (seq t a) (pos t a) b * slope ((m ((c : Thread nD τ).loc main_arg1)) (ix3 (seq t a) (pos t a) b)) := by
  pointwise [k0_pay6, k0_pay4, k0_pay2]
  simp only [ldA_apply, blk0, blk3, blk6, zero_sub]
  unfold dm slope sg
  rfl

theorem final9 (c : Dev nD) : (dats m 0 c).arrAt 9 (cfgs 0).N = Cert.MixGradIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  obtain ⟨a, b, rfl⟩ : ∃ (a : Fin 512) (b : Fin 2048), y = ix2 a b := ⟨y 0, y 1, by blk_ext⟩
  have ht := (idx t).2.2.2.2.2.2.2.2.2.2.2.2.2.2.2
  have hy : ((View.whole main_v25_0).slice (win0_9.rect t)).emb (ix2 a b) = ix2 ⟨t.val * 512 + a.val, by omega⟩ b := by blk_ext [idx t]
  have e : (outsAt0 m c t.val t.isLt).1 = View.canon [
      ⟨Rect.unit (s := S512x2048) ![0, 1024] S512x1024.size inb_S512x2048_S512x1024_0_1024, k0_pay6 (k0_pay2 (iblk m c 0 t) (iblk m c 6 t)) (k0_pay4 (ldA m c t)) (iblk m c 3 t)⟩,
      ⟨Rect.unit (s := S512x2048) ![0, 0] S512x1024.size inb_S512x2048_S512x1024_0_0, k0_pay5 (iblk m c 0 t) (iblk m c 6 t) (ldP m c t) (iblk m c 2 t)⟩] := by
    by_cases h : t.val % 8 = 0
    · rw [outsAt0_A m c t h]; frame_out; rfl
    · rw [outsAt0_B m c t h]; frame_out; rfl
  rw [after0_9, hy, e]
  pointwise [Cert.MixGradIdeal.Read.val_main_v49, Cert.MixGradIdeal.Read.val_main_v48, Cert.MixGradIdeal.Read.val_main_v47]
  canon_tiles x h
  · obtain ⟨a', b', rfl⟩ : ∃ (a' : Fin 512) (b' : Fin 1024), x = ix2 a' b' := ⟨x 0, x 1, by blk_ext⟩
    have hb : b.val = 1024 + b'.val := h1
    have ha : a = a' := Fin.ext h0
    subst ha
    refine (gateA m c t a b').trans ?_
    rw [dif_neg (by omega), show (⟨b.val - 1024, by omega⟩ : Fin 1024) = b' from Fin.ext (by show b.val - 1024 = b'.val; omega)]
    exact (ref_ga _ _ _ _ _ _ _ _).symm
  · obtain ⟨a', b', rfl⟩ : ∃ (a' : Fin 512) (b' : Fin 1024), x = ix2 a' b' := ⟨x 0, x 1, by blk_ext⟩
    have hb : b.val = b'.val := h1
    have ha : a = a' := Fin.ext h0
    subst ha
    refine (gateP m c t a b').trans ?_
    rw [dif_pos (by omega), show (⟨b.val, by omega⟩ : Fin 1024) = b' from Fin.ext hb]
    exact (ref_gp _ _ _ _ _ _ _ _ _).symm

def part (c : Dev nD) (t : Fin cfg0.N) (y : S1x512.Idx) : EReal := ∑ r : Fin 512,
  back (m ((c : Thread nD τ).loc main_arg0)) (m ((c : Thread nD τ).loc main_arg5)) (m ((c : Thread nD τ).loc main_arg7)) (m ((c : Thread nD τ).loc main_arg8)) (seq t r) (pos t r) (y 1) * (m ((c : Thread nD τ).loc main_arg2)) (ix3 (seq t r) (pos t r) (y 1))

theorem step14 (c : Dev nD) (t : Fin cfg0.N) (v : FVec Ideal S1x512 .f32) (y : S1x512.Idx) : k0_pay1 (k0_pay10 (k0_pay2 (iblk m c 0 t) (iblk m c 6 t)) (k0_pay3 (ldP m c t)) (iblk m c 8 t)) v (iblk m c 4 t) y
    = v y + part m c t y := by
  obtain ⟨a, b, rfl⟩ : ∃ (a : Fin 1) (b : Fin 512), y = ix2 a b := ⟨y 0, y 1, by blk_ext⟩
  pointwise [k0_pay1, k0_pay10, k0_pay7, k0_pay3, k0_pay2]
  simp only [ldP_apply, blk0, blk4, blk6, blk8, zero_sub]
  unfold part back dm sg
  rfl

theorem final14 (c : Dev nD) : (dats m 0 c).arrAt 14 (cfgs 0).N = Cert.MixGradIdeal.Read.val_main_v46 (F := Ideal) (m ((c : Thread nD τ).loc main_arg0)) (m ((c : Thread nD τ).loc main_arg2)) (m ((c : Thread nD τ).loc main_arg5)) (m ((c : Thread nD τ).loc main_arg7)) (m ((c : Thread nD τ).loc main_arg8)) := by
  refine (dats m 0 c).arrAt_eq_of_covers 14 _ (by decide +kernel) fun t hf y => ?_
  blk_simp
  obtain ⟨a, b, rfl⟩ : ∃ (a : Fin 1) (b : Fin 512), y = ix2 a b := ⟨y 0, y 1, by blk_ext⟩
  have hy : ((View.whole main_v25_5).slice (win0_14.rect t)).emb (ix2 a b) = ix2 a b := by blk_ext [idx t]
  have h7 : t.val + 1 = cfg0.N := by
    clear hy; revert hf; revert t; exact (by decide +kernel : ∀ t : Fin grid0.N, (cfg0.win 14).flush t = true → t.val + 1 = grid0.N)
  rw [after0_14, hy]
  refine (Pipeline.eq_sum_fin_of_reset_step_apply_last (M := EReal) (fun n h => (outsAt0 m c n h).2.2.2.2.2) 8 (fun _ => 0) (part m c) (fun t h y => ?_) (fun t h y => ?_)
    (by decide) t h7 _).trans ?_
  · rw [outsAt0_A m c t h]
    frame_out
    exact (step14 m c t _ y).trans (congrArg (· + _) (by pointwise [k0_pay12]))
  · rw [outsAt0_B m c t h]
    frame_out
    exact step14 m c t _ y
  · rw [zero_add]
    unfold part
    pointwise [Cert.MixGradIdeal.Read.val_main_v46, Cert.MixGradIdeal.Read.val_main_v45]
    rw [Window.hostReduceAdd_leading _ (fun _ => rfl)]
    simp only [Fin.sum_univ_one]
    pointwise [Cert.MixGradIdeal.Read.val_main_v42, Cert.MixGradIdeal.Read.val_main_v41]
    rw [Window.hostReduceAdd_leading _ (fun _ => rfl)]
    have z0 : Cert.MixGradIdeal.Read.val_main_cst_6 (F := Ideal) (Shape.Idx.first Cert.MixGradIdeal.Gen.h_S_) = 0 := by pointwise [Cert.MixGradIdeal.Read.val_main_cst_6]
    have z1 : Cert.MixGradIdeal.Read.val_main_cst_5 (F := Ideal) (Shape.Idx.first Cert.MixGradIdeal.Gen.h_S_) = 0 := by pointwise [Cert.MixGradIdeal.Read.val_main_cst_5]
    rw [z0, z1, zero_add, zero_add]
    refine Fin.sum_points_lanes_congr 4 fun t k ha hl => ?_
    pointwise [Cert.MixGradIdeal.Read.val_main_v40]
    rw [ref_bp, mul_comm]
    have e0 : seq t k = ⟨t.val / 4, ha⟩ := Fin.ext (by show (t.val * 512 + k.val) / 2048 = t.val / 4; omega)
    have e1 : pos t k = ⟨t.val % 4 * 512 + k.val, hl⟩ := Fin.ext (by show (t.val * 512 + k.val) % 2048 = t.val % 4 * 512 + k.val; omega)
    rw [e0, e1]

end Cert.Mix
-- ==== Proof.Gate.lean ====
module

public import Idealize.ShloMosaic.Lib.Pointwise

@[expose] public section

noncomputable section

/-! # The derivative of the logarithm of the logistic function, as jax differentiates it

jax writes `log_sigmoid x` as minus `logaddexp (-x) 0` and its derivative through the exponential of a difference,
with a guard at infinity. On every extended real that is the logistic function of `-x`. -/

namespace Cert.Gate

open Idealize.ShloMosaic

theorem infinity : Ideal.ofBits .f32 2139095040#32 = ⊤ := by simp [Ideal.ofBits, Ideal.ieee]

theorem coe_max (a b : ℝ) : ((max a b : ℝ) : EReal) = max (a : EReal) (b : EReal) := EReal.coe_strictMono.monotone.map_max

/-- `logaddexp w 0`: the greater of the two and a correction. -/
def soft (w : EReal) : EReal := max w 0 + Ideal.log1p (Ideal.exp (-FloatOps.absf (F := Ideal) (φ := .f32) w))

theorem soft_coe (r : ℝ) : soft (r : EReal) = ((Real.log (1 + Real.exp r) : ℝ) : EReal) := by
  have ha : (max (r : EReal) (-(r : EReal))) = ((|r| : ℝ) : EReal) := by
    rw [← EReal.coe_neg, ← coe_max]; rfl
  have hpos : ¬ (1 + Real.exp (-|r|) ≤ 0) := by have := Real.exp_pos (-|r|); linarith
  rw [soft, Ideal.absf_def, ha, ← EReal.coe_neg, Ideal.exp_coe, Ideal.log1p, ← EReal.coe_one, ← EReal.coe_add]
  show max (r : EReal) ((0 : ℝ) : EReal) + (if 1 + Real.exp (-|r|) ≤ 0 then ⊥ else ((Real.log (1 + Real.exp (-|r|)) : ℝ) : EReal)) = _
  rw [if_neg hpos, ← coe_max, ← EReal.coe_add]
  congr 1
  rcases le_total r 0 with h | h
  · rw [max_eq_right h, abs_of_nonpos h, neg_neg, zero_add]
  · rw [max_eq_left h, abs_of_nonneg h]
    have e : 1 + Real.exp r = Real.exp r * (1 + Real.exp (-r)) := by
      rw [mul_add, ← Real.exp_add]; simp [add_comm]
    rw [e, Real.log_mul (Real.exp_pos r).ne' (by have := Real.exp_pos (-r); positivity), Real.log_exp]

/-- The factor of the derivative, at every extended real. -/
theorem factor (z : EReal) :
    Ideal.exp ((if -z = ⊤ then 0 else -z) - (if (if -z ≠ -z then -z else soft (-z)) = ⊤ then 0 else if -z ≠ -z then -z else soft (-z)))
      = Ideal.div 1 (1 + Ideal.exp (0 - (0 - z))) := by
  have hz : (0 : EReal) - (0 - z) = z := by rw [zero_sub, zero_sub, neg_neg]
  rw [hz]
  simp only [ne_eq, not_true_eq_false, if_false]
  induction z with
  | bot =>
    have e : soft ⊤ = ⊤ := by
      have : Ideal.log1p (Ideal.exp (-FloatOps.absf (F := Ideal) (φ := .f32) (⊤ : EReal))) = 0 := by
        rw [Ideal.absf_def]
        simp only [EReal.neg_top, max_eq_left, bot_le, Ideal.exp_bot, Ideal.log1p, add_zero]
        show (if (1 : ℝ) ≤ 0 then (⊥ : EReal) else ((Real.log 1 : ℝ) : EReal)) = 0
        simp
      rw [soft, this]; simp
    simp only [EReal.neg_bot, e, if_true, sub_self, Ideal.exp_bot, add_zero]
    rw [show (0 : EReal) - 0 = ((0 : ℝ) : EReal) by simp, Ideal.exp_coe, Real.exp_zero, ← EReal.coe_one, Ideal.div_coe one_ne_zero]
    simp
  | top =>
    have e : soft ⊥ = 0 := by
      rw [soft, Ideal.absf_def]
      simp only [EReal.neg_bot, max_eq_right, bot_le, EReal.neg_top, Ideal.exp_bot, Ideal.log1p, add_zero, zero_add]
      show (if (1 : ℝ) ≤ 0 then (⊥ : EReal) else ((Real.log 1 : ℝ) : EReal)) = 0
      simp
    have h0 : (0 : EReal) ≠ ⊤ := EReal.zero_ne_top
    have h1 : (⊥ : EReal) ≠ ⊤ := bot_ne_top
    have h2 : (1 : EReal) + ⊤ = ⊤ := by rw [← EReal.coe_one]; exact EReal.coe_add_top 1
    simp [e, Ideal.div, h2]
  | coe r =>
    rw [← EReal.coe_neg, soft_coe, if_neg (EReal.coe_ne_top _), if_neg (EReal.coe_ne_top _), ← EReal.coe_sub, Ideal.exp_coe,
      Ideal.exp_coe, ← EReal.coe_one, ← EReal.coe_add]
    have hp : 0 < Real.exp r := Real.exp_pos r
    rw [Ideal.div_coe (by positivity), ← EReal.coe_mul]
    congr 1
    rw [Real.exp_sub, Real.exp_log (by have := Real.exp_pos (-r); positivity), Real.exp_neg]
    field_simp
    ring

end Cert.Gate
-- ==== Proof.Forget.lean ====
module

public import Idealize.ShloMosaic.Lib.Pipeline.ValueKit
public import Idealize.ShloMosaic.Lib.Pointwise
public import proofs.«01_k».proof.Proof.Window
public import proofs.«01_k».proof.Proof.Gate
public import proofs.«01_k».proof.Proof.Gen.ForgetBwdIdeal.Value
public import proofs.«01_k».proof.Proof.Gen.ForgetGradIdeal.Read

@[expose] public section

set_option maxRecDepth 16384

noncomputable section

namespace Cert.Forget

open Cert.ForgetBwdIdeal Cert.ForgetBwdIdeal.Gen Idealize.ShloMosaic Idealize.ShloMosaic.TcCoe Idealize.SL.Sem

/-! ## The kernel's scan along the lanes -/

/-- One doubling step of the scan: every lane adds the lane `2048 - n` to its right rotated in, where there is one. -/
def step (n : BitVec 32) (x : FVec Ideal S128x2048 .f32) : FVec Ideal S128x2048 .f32 :=
  addf x (select (cmpi .slt (iota .tc S128x2048 32 [1] iota_S128x2048_d1_w32) (broadcast S128x2048 n))
    (dynamicRotate 1 n none x rotates_S128x2048_d1) (broadcast S128x2048 (Scalar.ofBits .f32 0x00000000#32)))

/-- The entries of a row from a place on, nothing beyond the end. -/
def tail (x : FVec Ideal S128x2048 .f32) (r : Fin 128) (i : ℕ) : EReal := if h : i < 2048 then x (ix2 r ⟨i, h⟩) else 0

theorem step_apply (n : BitVec 32) (k : ℕ) (hn : n.toNat = 2048 - k) (hk0 : 0 < k) (hk : k ≤ 1024) (x : FVec Ideal S128x2048 .f32) (r : Fin 128) (l : Fin 2048) :
    step n x (ix2 r l) = tail x r l.val + tail x r (l.val + k) := by
  pointwise [step]
  have hn' : n = BitVec.ofNat 32 (2048 - k) := by
    apply BitVec.eq_of_toNat_eq; rw [BitVec.toNat_ofNat, hn, Nat.mod_eq_of_lt (by omega)]
  have hl := l.isLt
  rw [hn', WordCmp.cmpi_slt_ofNat (by omega) (by omega), BitVec.toNat_ofNat, Nat.mod_eq_of_lt (by omega : 2048 - k < 2 ^ 32)]
  rw [tail, dif_pos hl]
  congr 1
  by_cases h : l.val + k < 2048
  · rw [tail, dif_pos h, decide_eq_true (by omega : l.val < 2048 - k)]
    refine congrArg x (congrArg (ix2 r) (Fin.ext ?_))
    show (l.val + 2048 - (2048 - k) % 2048) % 2048 = l.val + k
    omega
  · rw [tail, dif_neg h, decide_eq_false (by omega : ¬ l.val < 2048 - k)]
    rfl

/-- What a row has become once every lane holds the sum of the `n` entries from its place on. -/
def Scanned (t x : FVec Ideal S128x2048 .f32) (n : ℕ) : Prop :=
  ∀ (r : Fin 128) (l : Fin 2048), x (ix2 r l) = ∑ j ∈ Finset.range n, tail t r (l.val + j)

theorem scanned_one (t : FVec Ideal S128x2048 .f32) : Scanned t t 1 := by
  intro r l
  rw [Finset.sum_range_one, Nat.add_zero, tail, dif_pos l.isLt]

theorem Scanned.step {t x : FVec Ideal S128x2048 .f32} {k : ℕ} (hx : Scanned t x k) (n : BitVec 32) (hn : n.toNat = 2048 - k)
    (hk0 : 0 < k) (hk : k ≤ 1024) : Scanned t (step n x) (k + k) := by
  have hx' : ∀ (r : Fin 128) (i : ℕ), tail x r i = ∑ j ∈ Finset.range k, tail t r (i + j) := by
    intro r i
    by_cases h : i < 2048
    · rw [tail, dif_pos h, hx]
    · rw [tail, dif_neg h]
      exact (Finset.sum_eq_zero fun j _ => by rw [tail, dif_neg (by omega)]).symm
  intro r l
  rw [step_apply n k hn hk0 hk, hx', hx', Finset.sum_range_add]
  simp only [Nat.add_assoc]

/-- The eleven doubling steps. -/
def scan (t : FVec Ideal S128x2048 .f32) : FVec Ideal S128x2048 .f32 :=
  step 1024#32 <| step 1536#32 <| step 1792#32 <| step 1920#32 <| step 1984#32 <| step 2016#32 <| step 2032#32 <| step 2040#32 <|
    step 2044#32 <| step 2046#32 <| step 2047#32 t

theorem scan_apply (t : FVec Ideal S128x2048 .f32) : Scanned t (scan t) 2048 :=
  ((((((((((((scanned_one t).step 2047#32 rfl (by decide) (by decide)).step 2046#32 rfl (by decide) (by decide)).step 2044#32 rfl (by decide) (by decide)).step
    2040#32 rfl (by decide) (by decide)).step 2032#32 rfl (by decide) (by decide)).step 2016#32 rfl (by decide) (by decide)).step
    1984#32 rfl (by decide) (by decide)).step 1920#32 rfl (by decide) (by decide)).step 1792#32 rfl (by decide) (by decide)).step
    1536#32 rfl (by decide) (by decide)).step 1024#32 rfl (by decide) (by decide))

/-- The cotangents of the two gates' running sums, added and laid along the lanes. -/
def rows (a b : FVec Ideal S2048x128 .f32) : FVec Ideal S128x2048 .f32 :=
  transpose S128x2048 [1, 0] (addf a b) transposes_S2048x128_p1_0_S128x2048

/-- The kernel's scan payloads are the eleven steps. -/
theorem pay7_eq (a b : FVec Ideal S2048x128 .f32) :
    k0_pay7 (iota .tc S128x2048 32 [1] iota_S128x2048_d1_w32) (k0_pay5 a b) k0_pay6
      = transpose S2048x128 [1, 0] (scan (rows a b)) transposes_S128x2048_p1_0_S2048x128 := by
  have e : ∀ v : FVec Ideal S2048x128 .f32, shapeCast S2048x128 v shapeCasts_S2048x128_S2048x128 = v := fun v => by
    funext i; pointwise
  unfold k0_pay7 k0_pay6 k0_pay5 scan rows
  simp only [e]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ t.val < 2 :=
  (by decide +kernel : ∀ t : Fin grid0.N, _)

/-! ## What both sides compute -/

/-- The two cotangents' sum from a place on, nothing beyond the end. -/
def cts (x2 x3 : S2x2048x8.Idx → EReal) (a : Fin 2) (h : Fin 8) (i : ℕ) : EReal :=
  if hi : i < 2048 then x2 (ix3 a ⟨i, hi⟩ h) + x3 (ix3 a ⟨i, hi⟩ h) else 0

/-- The gradient of the gates' logits: the cotangents summed from the place on, times the logistic function of minus the gate's sum. -/
def grad (x0 : S2x2048x8.Idx → EReal) (x1 : S1x8.Idx → EReal) (x2 x3 : S2x2048x8.Idx → EReal) (a : Fin 2) (l : Fin 2048) (h : Fin 8) : EReal :=
  (∑ j ∈ Finset.range 2048, cts x2 x3 a h (l.val + j)) * Ideal.div 1 (1 + Ideal.exp (0 - (0 - (x0 (ix3 a l h) + x1 (ix2 0 h)))))

open Cert.ForgetGradIdeal.Read in
theorem ref_gate (x0 : S2x2048x8.Idx → EReal) (x1 : S1x8.Idx → EReal) (a : Fin 2) (l : Fin 2048) (h : Fin 8) :
    val_main_v4_1 (F := Ideal) x0 x1 (ix3 a l h) = Ideal.div 1 (1 + Ideal.exp (0 - (0 - (x0 (ix3 a l h) + x1 (ix2 0 h))))) := by
  pointwise [val_main_v4_1, val_main_call0_call0_v21, val_main_call0_call0_v20, val_main_call0_call0_v16, val_main_call0_call0_v18, val_main_call0_call0_v19, val_main_call0_call0_cst_3,
    val_main_call0_v1_0, val_main_call0_call0_v14, val_main_call0_call0_v15, val_main_call0_call0_cst_1, val_main_call0_call0_v4, val_main_call0_call0_v6, val_main_call0_call0_v11, val_main_call0_call0_v1,
    val_main_call0_call0_v10, val_main_call0_call0_v9, val_main_call0_call0_v8, val_main_call0_call0_v7, val_main_call0_call0_v3, val_main_call0_call0_v2,
    val_main_call0_v0, val_main_v3, val_main_v2, val_main_v1, val_main_v0, val_main_call0_call0_v0, val_main_call0_call0_cst, val_main_call0_call0_v5,
    val_main_call0_call0_v13, val_main_call0_call0_cst_0, val_main_call0_call0_v17, val_main_call0_call0_cst_2]
  rw [Gate.infinity]
  exact Gate.factor _

open Cert.ForgetGradIdeal.Read in
theorem ref_val (x0 : S2x2048x8.Idx → EReal) (x1 : S1x8.Idx → EReal) (x2 x3 : S2x2048x8.Idx → EReal) (a : Fin 2) (l : Fin 2048) (h : Fin 8) :
    val_main_v8 (F := Ideal) x0 x1 x2 x3 (ix3 a l h) = grad x0 x1 x2 x3 a l h := by
  have hw : val_main_v7 (F := Ideal) x2 x3 (ix3 a l h) = ∑ j ∈ Finset.range 2048, cts x2 x3 a h (l.val + j) := by
    unfold val_main_v7 Host.reduceWindowAdd
    rw [Ideal.hostReduceWindowAdd_def]
    have e0 : val_main_call2_call0_v0 (F := Ideal) (Shape.Idx.first Cert.ForgetGradIdeal.Gen.h_S_) = 0 := by
      pointwise [val_main_call2_call0_v0, val_main_call2_call0_cst]
    rw [e0]
    refine (Window.reduceWindowAdd_middle _ (val_main_v6 (F := Ideal) x2 x3) (ix3 a l h) a l.val h rfl rfl rfl).trans ?_
    rw [Finset.sum_range]
    refine Finset.sum_congr rfl fun k _ => ?_
    unfold cts
    by_cases hk : l.val + k.val < 2048
    · rw [dif_pos hk, dif_pos ⟨Nat.zero_le _, hk⟩]; rfl
    · rw [dif_neg hk, dif_neg (fun h => hk h.2)]
  rw [grad, ← hw, ← ref_gate]
  show -((-(val_main_v7 (F := Ideal) x2 x3 (ix3 a l h))) * val_main_v4_1 (F := Ideal) x0 x1 (ix3 a l h)) = _
  rw [EReal.neg_mul, neg_neg]

/-! ## The arrays the kernel reads -/

/-- Heads along 128 lanes, nothing in the lanes beyond. -/
def lanes (x : S2x2048x8.Idx → EReal) : S4096x128.Idx → EReal :=
  pad S4096x128 ![0, 0] ![0, 120] ![0, 0] (shapeCast S4096x8 x shapeCasts_S2x2048x8_S4096x8) (sitofp (F := Ideal) .f32 (constantI S_ 32 0#32)) pads_S4096x8_S4096x128_000_01200 h_S_

theorem lanes_apply (x : S2x2048x8.Idx → EReal) (r : Fin 4096) (l : Fin 128) :
    lanes x (ix2 r l) = if h : l.val < 8 then x (ix3 ⟨r.val / 2048, by omega⟩ ⟨r.val % 2048, by omega⟩ ⟨l.val, h⟩) else 0 := by
  pointwise [lanes]
  refine dite_congr rfl (fun _ => rfl) fun _ => ?_
  show (((0#32 : BitVec 32).toInt : ℝ) : EReal) = 0
  simp

theorem V_v3 (c : Dev nD) : V m c main_v3 = lanes (m ((c : Thread nD τ).loc main_arg2)) := by
  unfold V
  simp only [List.flatten_cons, List.flatten_nil, List.cons_append, List.nil_append, List.append_nil]
  entry_read
  rfl

theorem V_v5 (c : Dev nD) : V m c main_v5 = lanes (m ((c : Thread nD τ).loc main_arg3)) := by
  unfold V
  simp only [List.flatten_cons, List.flatten_nil, List.cons_append, List.nil_append, List.append_nil]
  entry_read
  rfl

theorem V_v7 (c : Dev nD) : V m c main_v7 = lanes (m ((c : Thread nD τ).loc main_arg0)) := by
  unfold V
  simp only [List.flatten_cons, List.flatten_nil, List.cons_append, List.nil_append, List.append_nil]
  entry_read
  rfl

theorem V_v1 (c : Dev nD) (l : Fin 128) : (V m c main_v1 (ix2 0 l) : EReal) = if h : l.val < 8 then m ((c : Thread nD τ).loc main_arg1) (ix2 0 ⟨l.val, h⟩) else (0 : EReal) := by
  unfold V
  simp only [List.flatten_cons, List.flatten_nil, List.cons_append, List.nil_append, List.append_nil]
  entry_read
  pointwise

/-- The call's gradient at a point: its row of the array, nothing in the lanes beyond the heads. -/
theorem ker_val (c : Dev nD) (t : Fin cfg0.N) (l : Fin 2048) (q : Fin 128) :
    k0_pay1 (k0_pay7 (iota .tc S128x2048 32 [1] iota_S128x2048_d1_w32) (k0_pay5 (iblk m c 0 t) (iblk m c 1 t)) k0_pay6)
      (k0_pay8 (iblk m c 2 t)) (k0_pay9 (iblk m c 3 t)) (ix2 l q)
      = if h : q.val < 8 then grad (m ((c : Thread nD τ).loc main_arg0)) (m ((c : Thread nD τ).loc main_arg1)) (m ((c : Thread nD τ).loc main_arg2)) (m ((c : Thread nD τ).loc main_arg3))
          ⟨t.val, (idx t).2.2.2.2.2.2⟩ l ⟨q.val, h⟩ else 0 := by
  have ht : t.val < 2 := (idx t).2.2.2.2.2.2
  have b0 : ∀ r : Fin 2048, iblk m c 0 t (ix2 r q) = lanes (m ((c : Thread nD τ).loc main_arg2)) (ix2 ⟨t.val * 2048 + r.val, by omega⟩ q) := by
    intro r; rw [← V_v3]; blk_ext [iblk, idx t]
  have b1 : ∀ r : Fin 2048, iblk m c 1 t (ix2 r q) = lanes (m ((c : Thread nD τ).loc main_arg3)) (ix2 ⟨t.val * 2048 + r.val, by omega⟩ q) := by
    intro r; rw [← V_v5]; blk_ext [iblk, idx t]
  have b2 : ∀ r : Fin 2048, iblk m c 2 t (ix2 r q) = lanes (m ((c : Thread nD τ).loc main_arg0)) (ix2 ⟨t.val * 2048 + r.val, by omega⟩ q) := by
    intro r; rw [← V_v7]; blk_ext [iblk, idx t]
  have b3 : iblk m c 3 t (ix2 0 q) = V m c main_v1 (ix2 0 q) := by
    blk_ext [iblk, idx t]
  rw [pay7_eq]
  pointwise [k0_pay1, k0_pay8, k0_pay9]
  rw [scan_apply, b2, b3]
  have hr : ∀ i : ℕ, tail (rows (iblk m c 0 t) (iblk m c 1 t)) q i
      = if h : q.val < 8 then cts (m ((c : Thread nD τ).loc main_arg2)) (m ((c : Thread nD τ).loc main_arg3)) ⟨t.val, ht⟩ ⟨q.val, h⟩ i else 0 := by
    intro i
    unfold tail
    by_cases hi : i < 2048
    · rw [dif_pos hi]
      pointwise [rows]
      rw [b0, b1, lanes_apply, lanes_apply]
      by_cases hq : q.val < 8
      · rw [dif_pos hq, dif_pos hq, dif_pos hq]
        unfold cts
        rw [dif_pos hi]
        congr 1 <;> blk_ext
      · rw [dif_neg hq, dif_neg hq, dif_neg hq, add_zero]
    · rw [dif_neg hi]
      by_cases hq : q.val < 8
      · rw [dif_pos hq]
        unfold cts
        rw [dif_neg hi]
      · rw [dif_neg hq]
  simp only [hr]
  by_cases hq : q.val < 8
  · simp only [dif_pos hq]
    unfold grad
    rw [lanes_apply, dif_pos hq, V_v1, dif_pos hq]
    have e : (ix3 ⟨(t.val * 2048 + l.val) / 2048, by omega⟩ ⟨(t.val * 2048 + l.val) % 2048, by omega⟩ ⟨q.val, hq⟩ : S2x2048x8.Idx)
        = ix3 ⟨t.val, ht⟩ l ⟨q.val, hq⟩ := by blk_ext
    rw [e]
    rfl
  · simp only [dif_neg hq, Finset.sum_const_zero, zero_mul]

theorem final4 (c : Dev nD) : (dats m 0 c).arrAt 4 (cfgs 0).N = Cert.ForgetGradIdeal.Read.val_main_v15 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have key : k0_pay2 (k0_pay7 (iota .tc S128x2048 32 [1] iota_S128x2048_d1_w32) (k0_pay5 (iblk m c 0 t) (iblk m c 1 t)) k0_pay6)
      (k0_pay8 (iblk m c 2 t)) (k0_pay9 (iblk m c 3 t)) y
      = Cert.ForgetGradIdeal.Read.val_main_v15 (F := Ideal) (m ((c : Thread nD τ).loc main_arg0))
        (m ((c : Thread nD τ).loc main_arg1)) (m ((c : Thread nD τ).loc main_arg2)) (m ((c : Thread nD τ).loc main_arg3))
        (((View.whole main_v8_0).slice (win0_4.rect t)).emb y) := by
    pointwise [k0_pay2, Cert.ForgetGradIdeal.Read.val_main_v15, Cert.ForgetGradIdeal.Read.val_main_v14, Cert.ForgetGradIdeal.Read.val_main_v13]
    blk_simp [idx t]
    obtain ⟨a, b, rfl⟩ : ∃ (a : Fin 2048) (b : Fin 128), y = ix2 a b := ⟨y 0, y 1, by blk_ext⟩
    rw [ker_val]
    refine dite_congr rfl (fun h => ?_) fun _ => ?_
    · rw [ref_val]
      have ht := (idx t).2.2.2.2.2.2
      congr 1
      · exact Fin.ext (by show t.val = (t.val * 2048 + a.val) / 2048; omega)
      · exact Fin.ext (by show a.val = (t.val * 2048 + a.val) % 2048; omega)
    · show (0 : EReal) = (((0#32 : BitVec 32).toInt : ℝ) : EReal)
      simp
  by_cases h : t.val % 2 = 0
  · rw [outsAt0_A m c t h]
    frame_out
    exact key
  · rw [outsAt0_B m c t h]
    frame_out
    exact key

theorem final5 (c : Dev nD) : (dats m 0 c).arrAt 5 (cfgs 0).N = Cert.ForgetGradIdeal.Read.val_main_v16 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have h : ¬ t.val % 2 = 0 := by
    clear y; revert hf; revert t; exact (by decide +kernel : ∀ t : Fin grid0.N, (cfg0.win 5).flush t = true → ¬ t.val % 2 = 0)
  have h0 : (t.val - 1) % 2 = 0 := by have := (idx t).2.2.2.2.2.2; omega
  rw [outsAt0_B m c t h]
  frame_out
  rw [outsAt0_A m c ⟨t.val - 1, Nat.lt_of_le_of_lt (Nat.sub_le _ _) t.isLt⟩ h0]
  frame_out
  obtain ⟨a, b, rfl⟩ : ∃ (a : Fin 1) (b : Fin 128), y = ix2 a b := ⟨y 0, y 1, by blk_ext⟩
  have hy : ((View.whole main_v8_1).slice (win0_5.rect t)).emb (ix2 a b) = ix2 a b := by blk_ext [idx t]
  rw [hy]
  pointwise [k0_pay4, k0_pay3, Cert.ForgetGradIdeal.Read.val_main_v16, Cert.ForgetGradIdeal.Read.val_main_v12, Cert.ForgetGradIdeal.Read.val_main_v11, Cert.ForgetGradIdeal.Read.val_main_v10,
    Cert.ForgetGradIdeal.Read.val_main_v9]
  refine (congrArg₂ (· + ·) (Finset.sum_congr rfl fun x _ => ker_val m c _ x b) (Finset.sum_congr rfl fun x _ => ker_val m c _ x b)).trans ?_
  by_cases hq : b.val < 8
  · simp only [dif_pos hq]
    rw [Window.hostReduceAdd_leading _ (fun _ => rfl)]
    simp only [Fin.sum_univ_one]
    pointwise
    rw [Window.hostReduceAdd_leading _ (fun _ => rfl)]
    simp only [Fin.sum_univ_two, ref_val]
    have z0 : Cert.ForgetGradIdeal.Read.val_main_cst_0 (F := Ideal) (Shape.Idx.first Cert.ForgetGradIdeal.Gen.h_S_) = 0 := by
      pointwise [Cert.ForgetGradIdeal.Read.val_main_cst_0]
    have z1 : Cert.ForgetGradIdeal.Read.val_main_cst (F := Ideal) (Shape.Idx.first Cert.ForgetGradIdeal.Gen.h_S_) = 0 := by
      pointwise [Cert.ForgetGradIdeal.Read.val_main_cst]
    rw [z0, z1, zero_add, zero_add]
    have ht := (idx t).2.2.2.2.2.2
    have e0 : ∀ hh, (⟨t.val - 1, hh⟩ : Fin 2) = 0 := fun hh => Fin.ext (by show t.val - 1 = 0; omega)
    have e1 : ∀ hh, (⟨t.val, hh⟩ : Fin 2) = 1 := fun hh => Fin.ext (by show t.val = 1; omega)
    rw [e0]
    exact congrArg₂ (· + ·) rfl (Finset.sum_congr rfl fun x _ =>
      congrArg (fun s : Fin 2 => grad _ _ _ _ s x _) (e1 ht))
  · simp only [dif_neg hq, Finset.sum_const_zero, add_zero]
    show (0 : EReal) = (((0#32 : BitVec 32).toInt : ℝ) : EReal)
    simp

end Cert.Forget
-- ==== Proof.Ffn.lean ====
module

public import proofs.«01_k».proof.Proof.Norm
public import proofs.«01_k».proof.Proof.Finite
public import Idealize.ShloMosaic.Lib.Pipeline.ValueKit
public import Idealize.ShloMosaic.Lib.Pointwise
public import proofs.«01_k».proof.Proof.Window
public import proofs.«01_k».proof.Proof.Gen.FfnBwdIdeal.Value
public import proofs.«01_k».proof.Proof.Gen.FfnGradIdeal.Read

@[expose] public section

set_option maxRecDepth 16384

noncomputable section

/-! # The gradient of the feed-forward layer and of the norm before it -/

namespace Cert.Ffn

open Cert.FfnBwdIdeal Cert.FfnBwdIdeal.Gen Idealize.ShloMosaic Idealize.ShloMosaic.TcCoe Idealize.SL.Sem

/-- The logistic function. -/
def sg (z : EReal) : EReal := Ideal.div 1 (1 + Ideal.exp (-z))

/-- The gate's gradient by the product rule, from the cotangent `d` of the activation, the gate `g` and the other factor `u`. -/
def dgate (d u g : EReal) : EReal := d * u * sg g + g * (d * u) * (sg g * (1 - sg g))

/-- A row of the input. -/
def row (x0 : S2x2048x1024.Idx → EReal) (a : Fin 2) (l : Fin 2048) : Fin 1024 → EReal := fun k => x0 (ix3 a l k)

/-- A column of the product of the normed row with a weight. -/
def proj (x0 : S2x2048x1024.Idx → EReal) (x1 : S1x1024.Idx → EReal) (w : S1x1024x2816.Idx → EReal) (a : Fin 2) (l : Fin 2048) (k : Fin 2816) : EReal :=
  ∑ e : Fin 1024, row x0 a l e * Norm.inv (row x0 a l) * x1 (ix2 0 e) * w (ix3 0 e k)

/-- The cotangent of the activation. -/
def dact (x4 : S1x2816x1024.Idx → EReal) (x5 : S2x2048x1024.Idx → EReal) (a : Fin 2) (l : Fin 2048) (k : Fin 2816) : EReal :=
  ∑ e : Fin 1024, x5 (ix3 a l e) * x4 (ix3 0 k e)

section Reference

open Cert.FfnGradIdeal.Read

variable (x0 : S2x2048x1024.Idx → EReal) (x1 : S1x1024.Idx → EReal) (x2 x3 : S1x1024x2816.Idx → EReal) (x4 : S1x2816x1024.Idx → EReal)
  (x5 : S2x2048x1024.Idx → EReal) (a : Fin 2) (l : Fin 2048)

/-- The gradients of the gate and of the other factor. -/
def dG (k : Fin 2816) : EReal := dgate (dact x4 x5 a l k) (proj x0 x1 x3 a l k) (proj x0 x1 x2 a l k)
def dU (k : Fin 2816) : EReal := proj x0 x1 x2 a l k * sg (proj x0 x1 x2 a l k) * dact x4 x5 a l k

/-- The cotangent of the normed input. -/
def dh (j : Fin 1024) : EReal := (∑ k : Fin 2816, dU x0 x1 x2 x4 x5 a l k * x3 (ix3 0 j k)) + ∑ k : Fin 2816, dG x0 x1 x2 x3 x4 x5 a l k * x2 (ix3 0 j k)

def back (j : Fin 1024) : EReal := dh x0 x1 x2 x3 x4 x5 a l j * x1 (ix2 0 j)

theorem ref_norm (e : Fin 1024) : val_main_v16 (F := Ideal) x0 x1 (ix3 a l e) = row x0 a l e * Norm.inv (row x0 a l) * x1 (ix2 0 e) := by
  pointwise [val_main_v16, val_main_v15, val_main_v14, val_main_v13, val_main_v12, val_main_v8, val_main_v7, val_main_v6, val_main_v5, val_main_v4, val_main_v3, val_main_v2, val_main_v1, val_main_v0, val_main_cst, val_main_cst_0, val_main_cst_1]
  rfl

theorem ref_gate (k : Fin 2816) : val_main_v18 (F := Ideal) x0 x1 x2 (ix3 a l k) = proj x0 x1 x2 a l k := by
  pointwise [val_main_v18, val_main_v17]
  simp only [ref_norm]
  rfl

theorem ref_up (k : Fin 2816) : val_main_v20 (F := Ideal) x0 x1 x3 (ix3 a l k) = proj x0 x1 x3 a l k := by
  pointwise [val_main_v20, val_main_v19]
  simp only [ref_norm]
  rfl

theorem ref_sg (k : Fin 2816) : val_main_v21_2 (F := Ideal) x0 x1 x2 (ix3 a l k) = sg (proj x0 x1 x2 a l k) := by
  pointwise [val_main_v21_2, val_main_call0_v4, val_main_call0_v3, val_main_call0_v2, val_main_call0_v1, val_main_call0_v0, val_main_call0_cst, val_main_call0_cst_0]
  rw [ref_gate]
  rfl

theorem ref_dact (k : Fin 2816) : val_main_v27 (F := Ideal) x4 x5 (ix3 a l k) = dact x4 x5 a l k := by
  pointwise [val_main_v27, val_main_v26, val_main_v23]
  rfl

theorem ref_du (k : Fin 2816) : val_main_v28 (F := Ideal) x0 x1 x2 x4 x5 (ix3 a l k) = dU x0 x1 x2 x4 x5 a l k := by
  pointwise [val_main_v28, val_main_v21_0]
  rw [ref_gate, ref_sg, ref_dact]
  rfl

theorem ref_dg (k : Fin 2816) : val_main_v30 (F := Ideal) x0 x1 x2 x3 x4 x5 (ix3 a l k) = dG x0 x1 x2 x3 x4 x5 a l k := by
  pointwise [val_main_v30, val_main_call1_v1, val_main_call1_v2, val_main_call1_v0, val_main_v29, val_main_v21_1, val_main_call0_v7, val_main_call0_v6, val_main_call0_cst_1]
  rw [ref_gate, ref_sg, ref_dact, ref_up]
  rfl

theorem ref_dh (j : Fin 1024) : val_main_v33 (F := Ideal) x0 x1 x2 x3 x4 x5 (ix3 a l j) = dh x0 x1 x2 x3 x4 x5 a l j := by
  pointwise [val_main_v33, val_main_v32, val_main_v31, val_main_v19, val_main_v17]
  simp only [ref_du, ref_dg]
  rfl

theorem ref_dx (j : Fin 1024) : val_main_v54 (F := Ideal) x0 x1 x2 x3 x4 x5 (ix3 a l j)
    = x5 (ix3 a l j) + (back x0 x1 x2 x3 x4 x5 a l j * Norm.inv (row x0 a l) + row x0 a l j * Norm.slope (row x0 a l) (back x0 x1 x2 x3 x4 x5 a l)
      + Norm.slope (row x0 a l) (back x0 x1 x2 x3 x4 x5 a l) * row x0 a l j) := by
  pointwise [val_main_v54, val_main_v53, val_main_v52, val_main_v51, val_main_v50, val_main_v49, val_main_v48, val_main_v47, val_main_v46, val_main_v45, val_main_v44, val_main_v43, val_main_v42, val_main_v41, val_main_v40, val_main_v38, val_main_v37, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [ref_dh, Fin.sum_univ_one, add_assoc]
  rfl

theorem ref_dn (j : Fin 1024) : val_main_v34 (F := Ideal) x0 x1 x2 x3 x4 x5 (ix3 a l j)
    = row x0 a l j * Norm.inv (row x0 a l) * dh x0 x1 x2 x3 x4 x5 a l j := by
  pointwise [val_main_v34, val_main_v13, val_main_v12, val_main_v8, val_main_v7, val_main_v6, val_main_v5, val_main_v4, val_main_v3, val_main_v2, val_main_v1, val_main_v0, val_main_cst, val_main_cst_0, val_main_cst_1]
  rw [ref_dh]
  rfl

/-- What the precondition says: every entry is a real number. -/
structure Real : Prop where
  r0 : ∀ i, Finite.IsReal (x0 i)
  r1 : ∀ i, Finite.IsReal (x1 i)
  r2 : ∀ i, Finite.IsReal (x2 i)
  r3 : ∀ i, Finite.IsReal (x3 i)
  r4 : ∀ i, Finite.IsReal (x4 i)
  r5 : ∀ i, Finite.IsReal (x5 i)

end Reference

theorem inv_real (x : Fin 1024 → EReal) (hx : ∀ k, Finite.IsReal (x k)) : Finite.IsReal (Norm.inv x) := by
  choose x' hx using hx
  obtain rfl : x = fun k => (x' k : EReal) := funext hx
  obtain ⟨u, hu, hm⟩ := Norm.mean_coe x'
  exact ⟨1 / Real.sqrt u, by rw [Norm.inv, hm, Ideal.rsqrt_coe, if_neg (not_lt.mpr hu.le), if_neg hu.ne', one_div]⟩

theorem sg_real {z : EReal} (h : Finite.IsReal z) : Finite.IsReal (sg z) := by
  obtain ⟨r, rfl⟩ := h
  refine ⟨1 * (1 / (1 + Real.exp (-r))), ?_⟩
  have e : (1 : EReal) + Ideal.exp (-(r : EReal)) = ((1 + Real.exp (-r) : ℝ) : EReal) := by
    rw [← EReal.coe_neg, Ideal.exp_coe, EReal.coe_add, EReal.coe_one]
  rw [sg, e, Ideal.div_coe (by positivity), EReal.coe_mul, EReal.coe_one]

theorem sub_real {x y : EReal} : Finite.IsReal x → Finite.IsReal y → Finite.IsReal (x - y)
  | ⟨a, ha⟩, ⟨b, hb⟩ => ⟨a - b, by rw [ha, hb, EReal.coe_sub]⟩

/-- The gate's gradient with the common factor taken out. -/
theorem dgate_eq {d u g : EReal} (hd : Finite.IsReal d) (hu : Finite.IsReal u) (hg : Finite.IsReal g) :
    d * u * (sg g * (1 + g * (1 - sg g))) = dgate d u g := by
  obtain ⟨s, hs⟩ := sg_real hg
  obtain ⟨d, rfl⟩ := hd
  obtain ⟨u, rfl⟩ := hu
  obtain ⟨g, rfl⟩ := hg
  rw [dgate, hs, ← EReal.coe_one]
  simp only [← EReal.coe_mul, ← EReal.coe_add, ← EReal.coe_sub]
  congr 1
  ring

section Reality

variable {x0 : S2x2048x1024.Idx → EReal} {x1 : S1x1024.Idx → EReal} {x2 x3 : S1x1024x2816.Idx → EReal} {x4 : S1x2816x1024.Idx → EReal}
  {x5 : S2x2048x1024.Idx → EReal} (h : Real x0 x1 x2 x3 x4 x5) (a : Fin 2) (l : Fin 2048)
include h

theorem proj_real (w : S1x1024x2816.Idx → EReal) (hw : ∀ i, Finite.IsReal (w i)) (k : Fin 2816) : Finite.IsReal (proj x0 x1 w a l k) :=
  Finite.sum _ _ fun e => Finite.mul (Finite.mul (Finite.mul (h.r0 _) (inv_real _ fun _ => h.r0 _)) (h.r1 _)) (hw _)

theorem dact_real (k : Fin 2816) : Finite.IsReal (dact x4 x5 a l k) := Finite.sum _ _ fun e => Finite.mul (h.r5 _) (h.r4 _)

theorem back_real (j : Fin 1024) : Finite.IsReal (back x0 x1 x2 x3 x4 x5 a l j) := by
  have g := fun k => proj_real h a l x2 h.r2 k
  have u := fun k => proj_real h a l x3 h.r3 k
  have d := fun k => dact_real h a l k
  have s := fun k => sg_real (g k)
  refine Finite.mul (Finite.add (Finite.sum _ _ fun k => Finite.mul (Finite.mul (Finite.mul (g k) (s k)) (d k)) (h.r3 _))
    (Finite.sum _ _ fun k => Finite.mul (Finite.add (Finite.mul (Finite.mul (d k) (u k)) (s k))
      (Finite.mul (Finite.mul (g k) (Finite.mul (d k) (u k))) (Finite.mul (s k) (sub_real ⟨1, rfl⟩ (s k))))) (h.r2 _))) (h.r1 _)

end Reality

variable (m : (ℓ : Loc nD τ sig) → Buf (Elt Ideal) ℓ)

/-- The arguments of the kernel. -/
abbrev X0 (c : Dev nD) : S2x2048x1024.Idx → EReal := m ((c : Thread nD τ).loc main_arg0)
abbrev X1 (c : Dev nD) : S1x1024.Idx → EReal := m ((c : Thread nD τ).loc main_arg1)
abbrev X2 (c : Dev nD) : S1x1024x2816.Idx → EReal := m ((c : Thread nD τ).loc main_arg2)
abbrev X3 (c : Dev nD) : S1x1024x2816.Idx → EReal := m ((c : Thread nD τ).loc main_arg3)
abbrev X4 (c : Dev nD) : S1x2816x1024.Idx → EReal := m ((c : Thread nD τ).loc main_arg4)
abbrev X5 (c : Dev nD) : S2x2048x1024.Idx → EReal := m ((c : Thread nD τ).loc main_arg5)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![0, 0] ∧ t.val < 8 :=
  (by decide +kernel : ∀ t : Fin grid0.N, _)

theorem V_v18 (c : Dev nD) (r : Fin 4096) (k : Fin 1024) :
    (V m c main_v18 (ix2 r k) : EReal) = (X5 m c) (ix3 ⟨r.val / 2048, by omega⟩ ⟨r.val % 2048, by omega⟩ k) := by
  unfold V
  entry_read
  pointwise

theorem V_v20 (c : Dev nD) (r : Fin 4096) (k : Fin 2816) :
    (V m c main_v20 (ix2 r k) : EReal) = proj (X0 m c) (X1 m c) (X2 m c) ⟨r.val / 2048, by omega⟩ ⟨r.val % 2048, by omega⟩ k := by
  unfold V
  entry_read
  pointwise
  rfl

theorem V_v22 (c : Dev nD) (r : Fin 4096) (k : Fin 2816) :
    (V m c main_v22 (ix2 r k) : EReal) = proj (X0 m c) (X1 m c) (X3 m c) ⟨r.val / 2048, by omega⟩ ⟨r.val % 2048, by omega⟩ k := by
  unfold V
  entry_read
  pointwise
  rfl

theorem V_v23 (c : Dev nD) (r : Fin 4096) (k : Fin 1024) :
    (V m c main_v23 (ix2 r k) : EReal) = (X0 m c) (ix3 ⟨r.val / 2048, by omega⟩ ⟨r.val % 2048, by omega⟩ k) := by
  unfold V
  entry_read
  pointwise

theorem V_v26 (c : Dev nD) (r : Fin 2816) (k : Fin 1024) :
    (V m c main_v26 (ix2 r k) : EReal) = (X2 m c) (ix3 0 k r) := by
  unfold V
  entry_read
  pointwise

theorem V_v29 (c : Dev nD) (r : Fin 2816) (k : Fin 1024) :
    (V m c main_v29 (ix2 r k) : EReal) = (X3 m c) (ix3 0 k r) := by
  unfold V
  entry_read
  pointwise

theorem V_v31 (c : Dev nD) (r : Fin 2816) (k : Fin 1024) :
    (V m c main_v31 (ix2 r k) : EReal) = (X4 m c) (ix3 0 r k) := by
  unfold V
  entry_read
  pointwise

section Blocks

variable (c : Dev nD) (t : Fin cfg0.N)

theorem small : t.val < 8 := (idx t).2.2.2.2.2.2.2.2.2.2.2.2

/-- Row `r` of point `t`'s blocks among all rows: the sequence and the place in it. -/
abbrev seq (r : Fin 512) : Fin 2 := ⟨(t.val * 512 + r.val) / 2048, by have := small t; omega⟩
abbrev pos (r : Fin 512) : Fin 2048 := ⟨(t.val * 512 + r.val) % 2048, by omega⟩

theorem blk0 (r : Fin 512) (k : Fin 1024) : (iblk m c 0 t (ix2 r k) : EReal) = (X5 m c) (ix3 (seq t r) (pos t r) k) := by
  have h : iblk m c 0 t (ix2 r k) = V m c main_v18 (ix2 ⟨t.val * 512 + r.val, by have := small t; omega⟩ k) := by blk_ext [iblk, idx t]
  exact h.trans (V_v18 m c _ _)

theorem blk1 (r : Fin 512) (k : Fin 2816) : (iblk m c 1 t (ix2 r k) : EReal) = proj (X0 m c) (X1 m c) (X2 m c) (seq t r) (pos t r) k := by
  have h : iblk m c 1 t (ix2 r k) = V m c main_v20 (ix2 ⟨t.val * 512 + r.val, by have := small t; omega⟩ k) := by blk_ext [iblk, idx t]
  exact h.trans (V_v20 m c _ _)

theorem blk2 (r : Fin 512) (k : Fin 2816) : (iblk m c 2 t (ix2 r k) : EReal) = proj (X0 m c) (X1 m c) (X3 m c) (seq t r) (pos t r) k := by
  have h : iblk m c 2 t (ix2 r k) = V m c main_v22 (ix2 ⟨t.val * 512 + r.val, by have := small t; omega⟩ k) := by blk_ext [iblk, idx t]
  exact h.trans (V_v22 m c _ _)

theorem blk3 (r : Fin 512) (k : Fin 1024) : (iblk m c 3 t (ix2 r k) : EReal) = (X0 m c) (ix3 (seq t r) (pos t r) k) := by
  have h : iblk m c 3 t (ix2 r k) = V m c main_v23 (ix2 ⟨t.val * 512 + r.val, by have := small t; omega⟩ k) := by blk_ext [iblk, idx t]
  exact h.trans (V_v23 m c _ _)

theorem blk4 (k : Fin 1024) : (iblk m c 4 t (ix2 0 k) : EReal) = (X1 m c) (ix2 0 k) := by
  blk_ext [iblk, V, idx t]

theorem blk5 (r : Fin 2816) (k : Fin 1024) : (iblk m c 5 t (ix2 r k) : EReal) = (X2 m c) (ix3 0 k r) := by
  have h : iblk m c 5 t (ix2 r k) = V m c main_v26 (ix2 r k) := by blk_ext [iblk, idx t]
  exact h.trans (V_v26 m c _ _)

theorem blk6 (r : Fin 2816) (k : Fin 1024) : (iblk m c 6 t (ix2 r k) : EReal) = (X3 m c) (ix3 0 k r) := by
  have h : iblk m c 6 t (ix2 r k) = V m c main_v29 (ix2 r k) := by blk_ext [iblk, idx t]
  exact h.trans (V_v29 m c _ _)

theorem blk7 (r : Fin 2816) (k : Fin 1024) : (iblk m c 7 t (ix2 r k) : EReal) = (X4 m c) (ix3 0 r k) := by
  have h : iblk m c 7 t (ix2 r k) = V m c main_v31 (ix2 r k) := by blk_ext [iblk, idx t]
  exact h.trans (V_v31 m c _ _)

/-- A number the kernel stores as the gate's gradient. -/
def kgate (d u g : EReal) : EReal := d * u * (sg g * (1 + g * (1 - sg g)))

set_option maxHeartbeats 2000000 in
theorem out89 (a : Fin 512) (b : Fin 2816) : ((outsAt0 m c t.val t.isLt).1 (ix2 a b) : EReal)
      = kgate (dact (X4 m c) (X5 m c) (seq t a) (pos t a) b) (proj (X0 m c) (X1 m c) (X3 m c) (seq t a) (pos t a) b) (proj (X0 m c) (X1 m c) (X2 m c) (seq t a) (pos t a) b)
    ∧ ((outsAt0 m c t.val t.isLt).2.1 (ix2 a b) : EReal)
      = dact (X4 m c) (X5 m c) (seq t a) (pos t a) b * (proj (X0 m c) (X1 m c) (X2 m c) (seq t a) (pos t a) b * sg (proj (X0 m c) (X1 m c) (X2 m c) (seq t a) (pos t a) b)) := by
  by_cases h : t.val % 8 = 0
  on_goal 1 => rw [outsAt0_A m c t h]
  on_goal 2 => rw [outsAt0_B m c t h]
  all_goals
    constructor <;> frame_out <;> canon_tiles x h
    all_goals
      obtain ⟨a', b', rfl⟩ : ∃ (a' : Fin 512) (b' : Fin 256), x = ix2 a' b' := ⟨x 0, x 1, by blk_ext⟩
      obtain rfl : a = a' := Fin.ext h0
      have hb := b.isLt
      replace hb := lt_of_eq_of_lt h1.symm hb
      obtain rfl : b = ⟨_, hb⟩ := Fin.ext h1
      pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
      simp only [blk0, blk1, blk2, blk7, zero_sub]
      rfl

/-- The kernel's cotangent of the normed input, from the two blocks of gradients it reads back. -/
theorem pay_dh (hr : Real (X0 m c) (X1 m c) (X2 m c) (X3 m c) (X4 m c) (X5 m c)) (G U : S512x2816.Idx → EReal)
    (hG : ∀ a b, G (ix2 a b) = (outsAt0 m c t.val t.isLt).1 (ix2 a b)) (hU : ∀ a b, U (ix2 a b) = (outsAt0 m c t.val t.isLt).2.1 (ix2 a b)) (r : Fin 512) (j : Fin 1024) :
    (k0_pay69 (F := Ideal) (k0_pay68 G) (iblk m c 5 t) U (iblk m c 6 t) (ix2 r j) : EReal) = dh (X0 m c) (X1 m c) (X2 m c) (X3 m c) (X4 m c) (X5 m c) (seq t r) (pos t r) j := by
  pointwise [k0_pay69, k0_pay68]
  simp only [hG, hU, (out89 m c t _ _).1, (out89 m c t _ _).2, blk5, blk6]
  rw [add_comm]
  unfold dh dU dG kgate
  refine congrArg₂ (· + ·) (Finset.sum_congr rfl fun k _ => congrArg₂ (· * ·) (mul_comm _ _) rfl) (Finset.sum_congr rfl fun k _ => congrArg₂ (· * ·) ?_ rfl)
  exact dgate_eq (dact_real hr _ _ _) (proj_real hr _ _ _ hr.r3 _) (proj_real hr _ _ _ hr.r2 _)

theorem pay_dx (hr : Real (X0 m c) (X1 m c) (X2 m c) (X3 m c) (X4 m c) (X5 m c)) (G U : S512x2816.Idx → EReal)
    (hG : ∀ a b, G (ix2 a b) = (outsAt0 m c t.val t.isLt).1 (ix2 a b)) (hU : ∀ a b, U (ix2 a b) = (outsAt0 m c t.val t.isLt).2.1 (ix2 a b)) (r : Fin 512) (j : Fin 1024) :
    (k0_pay74 (F := Ideal) (k0_pay3 (iblk m c 0 t)) (k0_pay68 G) (iblk m c 5 t) U (iblk m c 6 t) (iblk m c 4 t) (iblk m c 3 t) (ix2 r j) : EReal)
    = Cert.FfnGradIdeal.Read.val_main_v54 (F := Ideal) (X0 m c) (X1 m c) (X2 m c) (X3 m c) (X4 m c) (X5 m c) (ix3 (seq t r) (pos t r) j) := by
  pointwise [k0_pay74, k0_pay72, k0_pay71, k0_pay70, k0_pay3]
  simp only [pay_dh m c t hr G U hG hU, blk0, blk3, blk4]
  rw [ref_dx]
  exact congrArg₂ (α := EReal) (β := EReal) (γ := EReal) (· + ·) rfl (Norm.grad _ _ (fun k => hr.r0 _) (back_real hr _ _) j).symm

theorem whole (a : Fin 512) (b : Fin 2816) : (Rect.unit (s := S512x2816) ![0, 0] ![512, 2816] inb_S512x2816_S512x2816_0_0).toLoadRect.idx (ix2 a b) = ix2 a b := by
  funext q
  apply Fin.ext
  match q with
  | ⟨0, _⟩ => show 0 + 1 * a.val = a.val; omega
  | ⟨1, _⟩ => show 0 + 1 * b.val = b.val; omega

def part (t : Fin cfg0.N) (y : S1x1024.Idx) : EReal := ∑ r : Fin 512,
  dh (X0 m c) (X1 m c) (X2 m c) (X3 m c) (X4 m c) (X5 m c) (seq t r) (pos t r) (y 1) * (row (X0 m c) (seq t r) (pos t r) (y 1) * Norm.inv (row (X0 m c) (seq t r) (pos t r)))

theorem pay_dn (hr : Real (X0 m c) (X1 m c) (X2 m c) (X3 m c) (X4 m c) (X5 m c)) (G U : S512x2816.Idx → EReal)
    (hG : ∀ a b, G (ix2 a b) = (outsAt0 m c t.val t.isLt).1 (ix2 a b)) (hU : ∀ a b, U (ix2 a b) = (outsAt0 m c t.val t.isLt).2.1 (ix2 a b)) (v : FVec Ideal S1x1024 .f32) (y : S1x1024.Idx) :
    k0_pay2 (F := Ideal) (k0_pay73 (k0_pay68 G) (iblk m c 5 t) U (iblk m c 6 t) (iblk m c 3 t)) v y = v y + part m c t y := by
  obtain ⟨a, b, rfl⟩ : ∃ (a : Fin 1) (b : Fin 1024), y = ix2 a b := ⟨y 0, y 1, by blk_ext⟩
  pointwise [k0_pay2, k0_pay73, k0_pay72, k0_pay71, k0_pay70]
  simp only [pay_dh m c t hr G U hG hU, blk3]
  rfl

theorem out10 (hr : Real (X0 m c) (X1 m c) (X2 m c) (X3 m c) (X4 m c) (X5 m c)) (r : Fin 512) (j : Fin 1024) : (outsAt0 m c t.val t.isLt).2.2.1 (ix2 r j)
    = Cert.FfnGradIdeal.Read.val_main_v54 (F := Ideal) (X0 m c) (X1 m c) (X2 m c) (X3 m c) (X4 m c) (X5 m c) (ix3 (seq t r) (pos t r) j) := by
  by_cases h : t.val % 8 = 0
  · rw [outsAt0_A m c t h]; frame_out
    refine pay_dx m c t hr _ _ (fun a b => ?_) (fun a b => ?_) r j <;> rw [View.readCov_eq_canon', outsAt0_A m c t h] <;> frame_out <;> exact congrArg _ (whole a b)
  · rw [outsAt0_B m c t h]; frame_out
    refine pay_dx m c t hr _ _ (fun a b => ?_) (fun a b => ?_) r j <;> rw [View.readCov_eq_canon', outsAt0_B m c t h] <;> frame_out <;> exact congrArg _ (whole a b)

theorem out11A (hr : Real (X0 m c) (X1 m c) (X2 m c) (X3 m c) (X4 m c) (X5 m c)) (h : t.val % 8 = 0) (y : S1x1024.Idx) : (outsAt0 m c t.val t.isLt).2.2.2 y = 0 + part m c t y := by
  rw [outsAt0_A m c t h]; frame_out
  refine (pay_dn m c t hr _ _ (fun a b => ?_) (fun a b => ?_) _ y).trans (congrArg (· + _) ?_)
  · rw [View.readCov_eq_canon', outsAt0_A m c t h]; frame_out; exact congrArg _ (whole a b)
  · rw [View.readCov_eq_canon', outsAt0_A m c t h]; frame_out; exact congrArg _ (whole a b)
  · obtain ⟨a, b, rfl⟩ : ∃ (a : Fin 1) (b : Fin 1024), y = ix2 a b := ⟨y 0, y 1, by blk_ext⟩
    pointwise [k0_pay1]

theorem out11B (hr : Real (X0 m c) (X1 m c) (X2 m c) (X3 m c) (X4 m c) (X5 m c)) (h : ¬ t.val % 8 = 0) (y : S1x1024.Idx) : (outsAt0 m c t.val t.isLt).2.2.2 y
    = (outsAt0 m c (t.val - 1) (Nat.lt_of_le_of_lt (Nat.sub_le _ _) t.isLt)).2.2.2 y + part m c t y := by
  rw [outsAt0_B m c t h]; frame_out
  refine pay_dn m c t hr _ _ (fun a b => ?_) (fun a b => ?_) _ y
  · rw [View.readCov_eq_canon', outsAt0_B m c t h]; frame_out; exact congrArg _ (whole a b)
  · rw [View.readCov_eq_canon', outsAt0_B m c t h]; frame_out; exact congrArg _ (whole a b)

end Blocks

variable (c : Dev nD)

theorem final8 (hr : Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : (dats m 0 c).arrAt 8 (cfgs 0).N = Cert.FfnGradIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  obtain ⟨a, b, rfl⟩ : ∃ (a : Fin 512) (b : Fin 2816), y = ix2 a b := ⟨y 0, y 1, by blk_ext⟩
  have ht := small t
  have hy : ((View.whole main_v32_0).slice (win0_8.rect t)).emb (ix2 a b) = ix2 ⟨t.val * 512 + a.val, by omega⟩ b := by blk_ext [idx t]
  rw [after0_8, hy]
  refine (out89 m c t a b).1.trans ?_
  pointwise [Cert.FfnGradIdeal.Read.val_main_v57, Cert.FfnGradIdeal.Read.val_main_v56]
  rw [ref_dg]
  exact dgate_eq (dact_real hr _ _ _) (proj_real hr _ _ _ hr.r3 _) (proj_real hr _ _ _ hr.r2 _)

theorem final9 : (dats m 0 c).arrAt 9 (cfgs 0).N = Cert.FfnGradIdeal.Read.val_main_v59 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 9 _ (by decide +kernel) fun t hf y => ?_
  blk_simp
  obtain ⟨a, b, rfl⟩ : ∃ (a : Fin 512) (b : Fin 2816), y = ix2 a b := ⟨y 0, y 1, by blk_ext⟩
  have ht := small t
  have hy : ((View.whole main_v32_1).slice (win0_9.rect t)).emb (ix2 a b) = ix2 ⟨t.val * 512 + a.val, by omega⟩ b := by blk_ext [idx t]
  rw [after0_9, hy]
  refine (out89 m c t a b).2.trans ?_
  pointwise [Cert.FfnGradIdeal.Read.val_main_v59, Cert.FfnGradIdeal.Read.val_main_v58]
  rw [ref_du]
  exact mul_comm _ _

theorem final10 (hr : Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : (dats m 0 c).arrAt 10 (cfgs 0).N = Cert.FfnGradIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  obtain ⟨a, b, rfl⟩ : ∃ (a : Fin 512) (b : Fin 1024), y = ix2 a b := ⟨y 0, y 1, by blk_ext⟩
  have ht := small t
  have hy : ((View.whole main_v32_2).slice (win0_10.rect t)).emb (ix2 a b) = ix2 ⟨t.val * 512 + a.val, by omega⟩ b := by blk_ext [idx t]
  rw [after0_10, hy]
  refine (out10 m c t hr a b).trans ?_
  pointwise [Cert.FfnGradIdeal.Read.val_main_v60]

theorem final11 (hr : Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : (dats m 0 c).arrAt 11 (cfgs 0).N = Cert.FfnGradIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  obtain ⟨a, b, rfl⟩ : ∃ (a : Fin 1) (b : Fin 1024), y = ix2 a b := ⟨y 0, y 1, by blk_ext⟩
  have hy : ((View.whole main_v32_3).slice (win0_11.rect t)).emb (ix2 a b) = ix2 a b := by blk_ext [idx t]
  have h7 : t.val + 1 = cfg0.N := by
    clear hy; revert hf; revert t; exact (by decide +kernel : ∀ t : Fin grid0.N, (cfg0.win 11).flush t = true → t.val + 1 = grid0.N)
  rw [after0_11, hy]
  refine (Pipeline.eq_sum_fin_of_reset_step_apply_last (M := EReal) (fun n h => (outsAt0 m c n h).2.2.2) 8 (fun _ => 0) (part m c) (fun t h y => ?_) (fun t h y => ?_)
    (by decide) t h7 _).trans ?_
  · exact out11A m c t hr h y
  · exact out11B m c t hr h y
  · rw [zero_add]
    unfold part
    pointwise [Cert.FfnGradIdeal.Read.val_main_v55, Cert.FfnGradIdeal.Read.val_main_v39]
    rw [Window.hostReduceAdd_leading _ (fun _ => rfl)]
    simp only [Fin.sum_univ_one]
    pointwise [Cert.FfnGradIdeal.Read.val_main_v36, Cert.FfnGradIdeal.Read.val_main_v35]
    rw [Window.hostReduceAdd_leading _ (fun _ => rfl)]
    have z0 : Cert.FfnGradIdeal.Read.val_main_cst_3 (F := Ideal) (Shape.Idx.first Cert.FfnGradIdeal.Gen.h_S_) = 0 := by pointwise [Cert.FfnGradIdeal.Read.val_main_cst_3]
    have z1 : Cert.FfnGradIdeal.Read.val_main_cst_4 (F := Ideal) (Shape.Idx.first Cert.FfnGradIdeal.Gen.h_S_) = 0 := by pointwise [Cert.FfnGradIdeal.Read.val_main_cst_4]
    rw [z0, z1, zero_add, zero_add]
    refine Fin.sum_points_lanes_congr 4 fun t k ha hl => ?_
    rw [ref_dn, mul_comm]
    have e0 : seq t k = ⟨t.val / 4, ha⟩ := Fin.ext (by show (t.val * 512 + k.val) / 2048 = t.val / 4; omega)
    have e1 : pos t k = ⟨t.val % 4 * 512 + k.val, hl⟩ := Fin.ext (by show (t.val * 512 + k.val) % 2048 = t.val % 4 * 512 + k.val; omega)
    rw [e0, e1]

end Cert.Ffn
-- ==== Proof.Loss.lean ====
module

public import proofs.«01_k».proof.Proof.Ffn
public import proofs.«01_k».proof.Proof.Gen.LossBwdIdeal.Value
public import proofs.«01_k».proof.Proof.Gen.LossGradIdeal.Read

@[expose] public section

set_option maxRecDepth 16384

noncomputable section

/-! # The feed-forward layer, the last norm, the loss and the loss's gradient -/

namespace Cert.Loss

open Cert.LossBwdIdeal Cert.LossBwdIdeal.Gen Idealize.ShloMosaic Idealize.ShloMosaic.TcCoe Idealize.SL.Sem
open Cert.Ffn (row proj sg)

abbrev two : EReal := Ideal.ofBits .f32 0x40000000#32
abbrev half : EReal := Ideal.ofBits .f32 0x3F000000#32
abbrev share : EReal := Ideal.ofBits .f32 0x3A800000#32

theorem half_coe : half = ((1 / 2 : ℝ) : EReal) := by
  simp [half, Ideal.ofBits, Ideal.ieee]
  rw [← EReal.coe_mul]; norm_num

/-- What a unit of the loss sends to twice an error is the error's share of the mean. -/
theorem shares (e : EReal) : Ideal.div half Norm.width * (two * e) = e * share := by
  have h2 : two = ((2 : ℝ) : EReal) := by
    simp [two, Ideal.ofBits, Ideal.ieee]
    rw [← EReal.coe_mul]; norm_num
  have h3 : share = ((1 / 1024 : ℝ) : EReal) := by
    simp [share, Ideal.ofBits, Ideal.ieee]
    rw [← EReal.coe_mul]; norm_num
  rw [h2, h3, half_coe, Norm.width_coe, Ideal.div_coe (by norm_num), ← mul_assoc, ← EReal.coe_mul, ← EReal.coe_mul, mul_comm]
  norm_num

/-- A factor taken out of a sum of real numbers. -/
theorem half_sum {ι : Type} (s : Finset ι) (f : ι → EReal) (h : ∀ i, Finite.IsReal (f i)) : ∑ i ∈ s, half * f i = half * ∑ i ∈ s, f i := by
  choose g hg using h
  obtain rfl : f = fun i => (g i : EReal) := funext hg
  rw [half_coe]
  simp only [← EReal.coe_mul, Norm.coe_sum, Finset.mul_sum]

section Reference

open Cert.LossGradIdeal.Read

variable (x0 : S2x2048x1024.Idx → EReal) (x1 : S1x1024.Idx → EReal) (x2 x3 : S1x1024x2816.Idx → EReal) (x4 : S1x2816x1024.Idx → EReal)
  (x5 : S1024.Idx → EReal) (x6 : S2x2048x1024.Idx → EReal) (a : Fin 2) (l : Fin 2048)

def act (k : Fin 2816) : EReal := proj x0 x1 x2 a l k * sg (proj x0 x1 x2 a l k) * proj x0 x1 x3 a l k

/-- A row of the layer's output, with the residual. -/
def res (j : Fin 1024) : EReal := x0 (ix3 a l j) + ∑ k : Fin 2816, act x0 x1 x2 x3 a l k * x4 (ix3 0 k j)

def xh (j : Fin 1024) : EReal := res x0 x1 x2 x3 x4 a l j * Norm.inv (res x0 x1 x2 x3 x4 a l)

def err (j : Fin 1024) : EReal := xh x0 x1 x2 x3 x4 a l j * x5 (ix1 j) - x6 (ix3 a l j)

def back (j : Fin 1024) : EReal := err x0 x1 x2 x3 x4 x5 x6 a l j * share * x5 (ix1 j)

/-- The mean square error of a row. -/
def mse : EReal := Ideal.div (∑ j : Fin 1024, err x0 x1 x2 x3 x4 x5 x6 a l j * err x0 x1 x2 x3 x4 x5 x6 a l j) Norm.width

theorem ref_norm (e : Fin 1024) : val_main_v13 (F := Ideal) x0 x1 (ix3 a l e) = row x0 a l e * Norm.inv (row x0 a l) * x1 (ix2 0 e) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_gate (k : Fin 2816) : val_main_v15 (F := Ideal) x0 x1 x2 (ix3 a l k) = proj x0 x1 x2 a l k := by
  pointwise [val_main_v15, val_main_v14]
  simp only [ref_norm]
  rfl

theorem ref_up (k : Fin 2816) : val_main_v17 (F := Ideal) x0 x1 x3 (ix3 a l k) = proj x0 x1 x3 a l k := by
  pointwise [val_main_v17, val_main_v16]
  simp only [ref_norm]
  rfl

theorem ref_act (k : Fin 2816) : val_main_v19 (F := Ideal) x0 x1 x2 x3 (ix3 a l k) = act x0 x1 x2 x3 a l k := by
  pointwise [val_main_v19, val_main_v18, val_main_call0_v5, val_main_call0_v4, val_main_call0_v3, val_main_call0_v2, val_main_call0_v1, val_main_call0_v0, val_main_call0_cst, val_main_call0_cst_0]
  rw [ref_gate, ref_up]
  rfl

theorem ref_res (j : Fin 1024) : val_main_v22 (F := Ideal) x0 x1 x2 x3 x4 (ix3 a l j) = res x0 x1 x2 x3 x4 a l j := by
  pointwise [val_main_v22, val_main_v21, val_main_v20]
  simp only [ref_act]
  rfl

theorem ref_xh (j : Fin 1024) : val_main_v35 (F := Ideal) x0 x1 x2 x3 x4 (ix3 a l j) = xh x0 x1 x2 x3 x4 a l j := by
  pointwise [val_main_v35, val_main_v34, val_main_v30, val_main_v29, val_main_v28, val_main_v27, val_main_v26, val_main_v25, val_main_v24, val_main_v23, val_main_cst_2, val_main_cst_3, val_main_cst_4]
  simp only [ref_res]
  rfl

theorem ref_err (j : Fin 1024) : val_main_v39 (F := Ideal) x0 x1 x2 x3 x4 x5 x6 (ix3 a l j) = err x0 x1 x2 x3 x4 x5 x6 a l j := by
  pointwise [val_main_v39, val_main_v38, val_main_v37, val_main_v36]
  rw [ref_xh]
  rfl

theorem ref_share (j : Fin 1024) : val_main_v53 (F := Ideal) x0 x1 x2 x3 x4 x5 x6 (ix3 a l j) = err x0 x1 x2 x3 x4 x5 x6 a l j * share := by
  pointwise [val_main_v53, val_main_v52, val_main_v51, val_main_v50, val_main_v49, val_main_v48, val_main_v42, val_main_v41, val_main_cst_6, val_main_cst_11, val_main_cst_12, val_main_cst_13]
  rw [ref_err]
  exact shares _

theorem ref_back (j : Fin 1024) : val_main_v58 (F := Ideal) x0 x1 x2 x3 x4 x5 x6 (ix3 a l j) = back x0 x1 x2 x3 x4 x5 x6 a l j := by
  pointwise [val_main_v58, val_main_v57, val_main_v36]
  rw [ref_share]
  rfl

theorem ref_dx (j : Fin 1024) : val_main_v73 (F := Ideal) x0 x1 x2 x3 x4 x5 x6 (ix3 a l j) = back x0 x1 x2 x3 x4 x5 x6 a l j * Norm.inv (res x0 x1 x2 x3 x4 a l) + res x0 x1 x2 x3 x4 a l j * Norm.slope (res x0 x1 x2 x3 x4 a l) (back x0 x1 x2 x3 x4 x5 x6 a l)
      + Norm.slope (res x0 x1 x2 x3 x4 a l) (back x0 x1 x2 x3 x4 x5 x6 a l) * res x0 x1 x2 x3 x4 a l j := by
  pointwise [val_main_v73, val_main_v72, val_main_v71, val_main_v70, val_main_v69, val_main_v68, val_main_v67, val_main_v66, val_main_v65, val_main_v64, val_main_v63, val_main_v62, val_main_v61, val_main_v60, val_main_v33, val_main_v32, val_main_v31, val_main_cst_5, val_main_cst_16, val_main_cst_17, val_main_cst_18, val_main_v30, val_main_v29, val_main_v28, val_main_v27, val_main_v26, val_main_v25, val_main_v24, val_main_v23, val_main_cst_2, val_main_cst_3, val_main_cst_4]
  simp only [ref_back, ref_res, Fin.sum_univ_one]
  rfl

theorem ref_mse : val_main_v45 (F := Ideal) x0 x1 x2 x3 x4 x5 x6 (ix2 a l) = mse x0 x1 x2 x3 x4 x5 x6 a l := by
  pointwise [val_main_v45, val_main_v44, val_main_v43, val_main_v40, val_main_cst_7, val_main_cst_8]
  simp only [ref_err]
  rfl

/-- What the precondition says: every entry is a real number. -/
structure Real : Prop where
  r0 : ∀ i, Finite.IsReal (x0 i)
  r1 : ∀ i, Finite.IsReal (x1 i)
  r2 : ∀ i, Finite.IsReal (x2 i)
  r3 : ∀ i, Finite.IsReal (x3 i)
  r4 : ∀ i, Finite.IsReal (x4 i)
  r5 : ∀ i, Finite.IsReal (x5 i)
  r6 : ∀ i, Finite.IsReal (x6 i)

end Reference

section Reality

variable {x0 : S2x2048x1024.Idx → EReal} {x1 : S1x1024.Idx → EReal} {x2 x3 : S1x1024x2816.Idx → EReal} {x4 : S1x2816x1024.Idx → EReal}
  {x5 : S1024.Idx → EReal} {x6 : S2x2048x1024.Idx → EReal} (h : Real x0 x1 x2 x3 x4 x5 x6) (a : Fin 2) (l : Fin 2048)
include h

theorem res_real (j : Fin 1024) : Finite.IsReal (res x0 x1 x2 x3 x4 a l j) := by
  have p := fun (w : S1x1024x2816.Idx → EReal) (hw : ∀ i, Finite.IsReal (w i)) (k : Fin 2816) =>
    (Finite.sum _ _ fun e => Finite.mul (Finite.mul (Finite.mul (h.r0 _) (Ffn.inv_real _ fun _ => h.r0 _)) (h.r1 _)) (hw _) : Finite.IsReal (proj x0 x1 w a l k))
  exact Finite.add (h.r0 _) (Finite.sum _ _ fun k => Finite.mul (Finite.mul (Finite.mul (p x2 h.r2 k) (Ffn.sg_real (p x2 h.r2 k))) (p x3 h.r3 k)) (h.r4 _))

theorem err_real (j : Fin 1024) : Finite.IsReal (err x0 x1 x2 x3 x4 x5 x6 a l j) :=
  Ffn.sub_real (Finite.mul (Finite.mul (res_real h a l j) (Ffn.inv_real _ (res_real h a l))) (h.r5 _)) (h.r6 _)

theorem back_real (j : Fin 1024) : Finite.IsReal (back x0 x1 x2 x3 x4 x5 x6 a l j) := by
  refine Finite.mul (Finite.mul (err_real h a l j) ⟨1 / 1024, ?_⟩) (h.r5 _)
  simp [share, Ideal.ofBits, Ideal.ieee]
  rw [← EReal.coe_mul]; norm_num

theorem mse_real : Finite.IsReal (mse x0 x1 x2 x3 x4 x5 x6 a l) := by
  obtain ⟨s, hs⟩ := Finite.sum Finset.univ _ fun j => Finite.mul (err_real h a l j) (err_real h a l j)
  exact ⟨s * (1 / 1024), by rw [mse, hs, Norm.width_coe, Ideal.div_coe (by norm_num), EReal.coe_mul]⟩

end Reality

variable (m : (ℓ : Loc nD τ sig) → Buf (Elt Ideal) ℓ)

/-- The arguments of the kernel. -/
abbrev X0 (c : Dev nD) : S2x2048x1024.Idx → EReal := m ((c : Thread nD τ).loc main_arg0)
abbrev X1 (c : Dev nD) : S1x1024.Idx → EReal := m ((c : Thread nD τ).loc main_arg1)
abbrev X2 (c : Dev nD) : S1x1024x2816.Idx → EReal := m ((c : Thread nD τ).loc main_arg2)
abbrev X3 (c : Dev nD) : S1x1024x2816.Idx → EReal := m ((c : Thread nD τ).loc main_arg3)
abbrev X4 (c : Dev nD) : S1x2816x1024.Idx → EReal := m ((c : Thread nD τ).loc main_arg4)
abbrev X5 (c : Dev nD) : S1024.Idx → EReal := m ((c : Thread nD τ).loc main_arg5)
abbrev X6 (c : Dev nD) : S2x2048x1024.Idx → EReal := m ((c : Thread nD τ).loc main_arg6)

theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] ∧ win0_12.index t = ![0, 0] ∧ win0_13.index t = ![0, 0] ∧ t.val < 8 :=
  (by decide +kernel : ∀ t : Fin grid0.N, _)

theorem V_v0 (c : Dev nD) (r : Fin 4096) (k : Fin 1024) : (V m c main_v0 (ix2 r k) : EReal) = (X0 m c) (ix3 ⟨r.val / 2048, by omega⟩ ⟨r.val % 2048, by omega⟩ k) := by
  unfold V
  entry_read
  pointwise

theorem V_v1 (c : Dev nD) (r : Fin 1) (k : Fin 1024) : (V m c main_v1 (ix2 r k) : EReal) = (X5 m c) (ix1 k) := by
  unfold V
  entry_read
  pointwise

theorem V_v2 (c : Dev nD) (r : Fin 4096) (k : Fin 1024) : (V m c main_v2 (ix2 r k) : EReal) = (X6 m c) (ix3 ⟨r.val / 2048, by omega⟩ ⟨r.val % 2048, by omega⟩ k) := by
  unfold V
  entry_read
  pointwise

theorem V_v5 (c : Dev nD) (r : Fin 2816) (k : Fin 1024) : (V m c main_v5 (ix2 r k) : EReal) = (X2 m c) (ix3 0 k r) := by
  unfold V
  entry_read
  pointwise

theorem V_v8 (c : Dev nD) (r : Fin 2816) (k : Fin 1024) : (V m c main_v8 (ix2 r k) : EReal) = (X3 m c) (ix3 0 k r) := by
  unfold V
  entry_read
  pointwise

theorem V_v10 (c : Dev nD) (r : Fin 2816) (k : Fin 1024) : (V m c main_v10 (ix2 r k) : EReal) = (X4 m c) (ix3 0 r k) := by
  unfold V
  entry_read
  pointwise

section Blocks

variable (c : Dev nD) (t : Fin cfg0.N)

theorem small : t.val < 8 := (idx t).2.2.2.2.2.2.2.2.2.2.2.2.2.2

/-- Row `r` of point `t`'s blocks among all rows: the sequence and the place in it. -/
abbrev seq (r : Fin 512) : Fin 2 := ⟨(t.val * 512 + r.val) / 2048, by have := small t; omega⟩
abbrev pos (r : Fin 512) : Fin 2048 := ⟨(t.val * 512 + r.val) % 2048, by omega⟩

theorem blk0 (r : Fin 512) (k : Fin 1024) : (iblk m c 0 t (ix2 r k) : EReal) = (X0 m c) (ix3 (seq t r) (pos t r) k) := by
  have h : iblk m c 0 t (ix2 r k) = V m c main_v0 (ix2 ⟨t.val * 512 + r.val, by have := small t; omega⟩ k) := by blk_ext [iblk, idx t]
  exact h.trans (V_v0 m c _ _)

theorem blk3 (r : Fin 512) (k : Fin 1024) : (iblk m c 3 t (ix2 r k) : EReal) = (X6 m c) (ix3 (seq t r) (pos t r) k) := by
  have h : iblk m c 3 t (ix2 r k) = V m c main_v2 (ix2 ⟨t.val * 512 + r.val, by have := small t; omega⟩ k) := by blk_ext [iblk, idx t]
  exact h.trans (V_v2 m c _ _)

theorem blk1 (k : Fin 1024) : (iblk m c 1 t (ix2 0 k) : EReal) = (X1 m c) (ix2 0 k) := by
  blk_ext [iblk, V, idx t]

theorem blk2 (k : Fin 1024) : (iblk m c 2 t (ix2 0 k) : EReal) = (X5 m c) (ix1 k) := by
  have h : iblk m c 2 t (ix2 0 k) = V m c main_v1 (ix2 0 k) := by blk_ext [iblk, idx t]
  exact h.trans (V_v1 m c _ _)

theorem blk4 (r : Fin 2816) (k : Fin 1024) : (iblk m c 4 t (ix2 r k) : EReal) = (X2 m c) (ix3 0 k r) := by
  have h : iblk m c 4 t (ix2 r k) = V m c main_v5 (ix2 r k) := by blk_ext [iblk, idx t]
  exact h.trans (V_v5 m c _ _)

theorem blk5 (r : Fin 2816) (k : Fin 1024) : (iblk m c 5 t (ix2 r k) : EReal) = (X3 m c) (ix3 0 k r) := by
  have h : iblk m c 5 t (ix2 r k) = V m c main_v8 (ix2 r k) := by blk_ext [iblk, idx t]
  exact h.trans (V_v8 m c _ _)

theorem blk6 (r : Fin 2816) (k : Fin 1024) : (iblk m c 6 t (ix2 r k) : EReal) = (X4 m c) (ix3 0 r k) := by
  have h : iblk m c 6 t (ix2 r k) = V m c main_v10 (ix2 r k) := by blk_ext [iblk, idx t]
  exact h.trans (V_v10 m c _ _)

/-- The normed rows. -/
theorem pay_norm (r : Fin 512) (k : Fin 1024) : (k0_pay4 (F := Ideal) (iblk m c 0 t) (iblk m c 1 t) (ix2 r k) : EReal)
    = row (X0 m c) (seq t r) (pos t r) k * Norm.inv (row (X0 m c) (seq t r) (pos t r)) * (X1 m c) (ix2 0 k) := by
  pointwise [k0_pay4, k0_pay3]
  simp only [blk0, blk1]
  rfl

set_option maxHeartbeats 8000000 in
theorem outs (a : Fin 512) (b : Fin 2816) : ((outsAt0 m c t.val t.isLt).2.1 (ix2 a b) : EReal) = proj (X0 m c) (X1 m c) (X2 m c) (seq t a) (pos t a) b
    ∧ ((outsAt0 m c t.val t.isLt).2.2.1 (ix2 a b) : EReal) = proj (X0 m c) (X1 m c) (X3 m c) (seq t a) (pos t a) b
    ∧ ((outsAt0 m c t.val t.isLt).2.2.2.1 (ix2 a b) : EReal) = act (X0 m c) (X1 m c) (X2 m c) (X3 m c) (seq t a) (pos t a) b := by
  by_cases h : t.val % 8 = 0
  on_goal 1 => rw [outsAt0_A m c t h]
  on_goal 2 => rw [outsAt0_B m c t h]
  all_goals
    refine ⟨?_, ?_, ?_⟩ <;> frame_out <;> canon_tiles x h
    all_goals
      obtain ⟨a', b', rfl⟩ : ∃ (a' : Fin 512) (b' : Fin 256), x = ix2 a' b' := ⟨x 0, x 1, by blk_ext⟩
      obtain rfl : a = a' := Fin.ext h0
      have hb := b.isLt
      replace hb := lt_of_eq_of_lt h1.symm hb
      obtain rfl : b = ⟨_, hb⟩ := Fin.ext h1
      pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]
      simp only [pay_norm, blk4, blk5, zero_sub]
      rfl

theorem pay_weight (k : Fin 1024) : (k0_pay62 (F := Ideal) (iblk m c 2 t) (ix2 0 k) : EReal) = (X5 m c) (ix1 k) := by
  pointwise [k0_pay62]
  rw [blk2]

section Row

variable (G : S512x2816.Idx → EReal) (hG : ∀ a b, G (ix2 a b) = (outsAt0 m c t.val t.isLt).2.2.2.1 (ix2 a b)) (r : Fin 512)
include hG

theorem pay_res (j : Fin 1024) : ((k0_pay61 (F := Ideal) (k0_pay3 (iblk m c 0 t)) G (iblk m c 6 t)) (ix2 r j) : EReal) = res (X0 m c) (X1 m c) (X2 m c) (X3 m c) (X4 m c) (seq t r) (pos t r) j := by
  pointwise [k0_pay61, k0_pay3]
  simp only [hG, (outs m c t _ _).2.2, blk0, blk6]
  rfl

theorem pay_mean : ((k0_pay63 (F := Ideal) (k0_pay3 (iblk m c 0 t)) G (iblk m c 6 t)) (ix2 r 0) : EReal) = Ideal.div (∑ k, res (X0 m c) (X1 m c) (X2 m c) (X3 m c) (X4 m c) (seq t r) (pos t r) k * res (X0 m c) (X1 m c) (X2 m c) (X3 m c) (X4 m c) (seq t r) (pos t r) k) Norm.width := by
  pointwise [k0_pay63]
  simp only [pay_res m c t G hG]

theorem pay_xh (j : Fin 1024) : (k0_pay65 (F := Ideal) (k0_pay61 (F := Ideal) (k0_pay3 (iblk m c 0 t)) G (iblk m c 6 t)) (k0_pay63 (F := Ideal) (k0_pay3 (iblk m c 0 t)) G (iblk m c 6 t)) (Ideal.ofBits .f32 897988541#32) (ix2 r j) : EReal)
    = xh (X0 m c) (X1 m c) (X2 m c) (X3 m c) (X4 m c) (seq t r) (pos t r) j := by
  pointwise [k0_pay65, k0_pay64]
  rw [pay_res m c t G hG, pay_mean m c t G hG]
  rfl

theorem pay_err (j : Fin 1024) : (k0_pay66 (F := Ideal) (k0_pay61 (F := Ideal) (k0_pay3 (iblk m c 0 t)) G (iblk m c 6 t)) (k0_pay62 (iblk m c 2 t)) (k0_pay63 (F := Ideal) (k0_pay3 (iblk m c 0 t)) G (iblk m c 6 t)) (Ideal.ofBits .f32 897988541#32) (iblk m c 3 t) (ix2 r j) : EReal) = err (X0 m c) (X1 m c) (X2 m c) (X3 m c) (X4 m c) (X5 m c) (X6 m c) (seq t r) (pos t r) j := by
  pointwise [k0_pay66, k0_pay62]
  rw [pay_xh m c t G hG, blk2, blk3]
  rfl

theorem pay_share (j : Fin 1024) : (k0_pay68 (F := Ideal) (k0_pay61 (F := Ideal) (k0_pay3 (iblk m c 0 t)) G (iblk m c 6 t)) (k0_pay62 (iblk m c 2 t)) (k0_pay63 (F := Ideal) (k0_pay3 (iblk m c 0 t)) G (iblk m c 6 t)) (Ideal.ofBits .f32 897988541#32) (iblk m c 3 t) (ix2 r j) : EReal) = err (X0 m c) (X1 m c) (X2 m c) (X3 m c) (X4 m c) (X5 m c) (X6 m c) (seq t r) (pos t r) j * share := by
  pointwise [k0_pay68]
  rw [pay_err m c t G hG]

theorem pay_dx (hr : Real (X0 m c) (X1 m c) (X2 m c) (X3 m c) (X4 m c) (X5 m c) (X6 m c)) (j : Fin 1024) : (k0_pay69 (F := Ideal) (k0_pay61 (F := Ideal) (k0_pay3 (iblk m c 0 t)) G (iblk m c 6 t)) (k0_pay62 (iblk m c 2 t)) (k0_pay63 (F := Ideal) (k0_pay3 (iblk m c 0 t)) G (iblk m c 6 t)) (Ideal.ofBits .f32 897988541#32) (iblk m c 3 t) (ix2 r j) : EReal)
    = Cert.LossGradIdeal.Read.val_main_v73 (F := Ideal) (X0 m c) (X1 m c) (X2 m c) (X3 m c) (X4 m c) (X5 m c) (X6 m c) (ix3 (seq t r) (pos t r) j) := by
  pointwise [k0_pay69, k0_pay64]
  simp only [pay_share m c t G hG, pay_xh m c t G hG, pay_mean m c t G hG, pay_weight]
  rw [ref_dx, Norm.grad _ _ (res_real hr _ _) (back_real hr _ _) j]
  unfold back xh Norm.inv Norm.mean
  rfl

/-- What point `t` adds to the gradient of the norm's weight. -/
def part (t : Fin cfg0.N) (y : S1x1024.Idx) : EReal := ∑ r : Fin 512,
  err (X0 m c) (X1 m c) (X2 m c) (X3 m c) (X4 m c) (X5 m c) (X6 m c) (seq t r) (pos t r) (y 1) * share * xh (X0 m c) (X1 m c) (X2 m c) (X3 m c) (X4 m c) (seq t r) (pos t r) (y 1)

theorem pay_dn (v : FVec Ideal S1x1024 .f32) (y : S1x1024.Idx) : k0_pay1 (F := Ideal) (k0_pay72 v) (k0_pay73 (k0_pay61 (F := Ideal) (k0_pay3 (iblk m c 0 t)) G (iblk m c 6 t)) (k0_pay62 (iblk m c 2 t)) (k0_pay63 (F := Ideal) (k0_pay3 (iblk m c 0 t)) G (iblk m c 6 t)) (Ideal.ofBits .f32 897988541#32) (iblk m c 3 t)) y = v y + part m c t y := by
  obtain ⟨a, b, rfl⟩ : ∃ (a : Fin 1) (b : Fin 1024), y = ix2 a b := ⟨y 0, y 1, by blk_ext⟩
  pointwise [k0_pay1, k0_pay72, k0_pay73]
  simp only [pay_share m c t G hG, pay_xh m c t G hG]
  rfl

/-- What point `t` adds to the loss. -/
def loss (t : Fin cfg0.N) : EReal := half * ∑ r : Fin 512, mse (X0 m c) (X1 m c) (X2 m c) (X3 m c) (X4 m c) (X5 m c) (X6 m c) (seq t r) (pos t r)

theorem pay_loss (v : FVec Ideal S8x128 .f32) (y : S8x128.Idx) : k0_pay2 (F := Ideal) (k0_pay67 (k0_pay61 (F := Ideal) (k0_pay3 (iblk m c 0 t)) G (iblk m c 6 t)) (k0_pay62 (iblk m c 2 t)) (k0_pay63 (F := Ideal) (k0_pay3 (iblk m c 0 t)) G (iblk m c 6 t)) (Ideal.ofBits .f32 897988541#32) (iblk m c 3 t)) v y = v y + loss m c t := by
  obtain ⟨a, b, rfl⟩ : ∃ (a : Fin 8) (b : Fin 128), y = ix2 a b := ⟨y 0, y 1, by blk_ext⟩
  pointwise [k0_pay2, k0_pay67]
  simp only [pay_err m c t G hG]
  rfl

end Row

theorem out7 (a : Fin 512) (b : Fin 1024) : ((outsAt0 m c t.val t.isLt).1 (ix2 a b) : EReal)
    = row (X0 m c) (seq t a) (pos t a) b * Norm.inv (row (X0 m c) (seq t a) (pos t a)) * (X1 m c) (ix2 0 b) := by
  by_cases h : t.val % 8 = 0
  · rw [outsAt0_A m c t h]; frame_out
    exact pay_norm m c t a b
  · rw [outsAt0_B m c t h]; frame_out
    exact pay_norm m c t a b

theorem out11 (hr : Real (X0 m c) (X1 m c) (X2 m c) (X3 m c) (X4 m c) (X5 m c) (X6 m c)) (r : Fin 512) (j : Fin 1024) : (outsAt0 m c t.val t.isLt).2.2.2.2.1 (ix2 r j)
    = Cert.LossGradIdeal.Read.val_main_v73 (F := Ideal) (X0 m c) (X1 m c) (X2 m c) (X3 m c) (X4 m c) (X5 m c) (X6 m c) (ix3 (seq t r) (pos t r) j) := by
  by_cases h : t.val % 8 = 0
  · rw [outsAt0_A m c t h]; frame_out
    refine pay_dx m c t _ (fun a b => ?_) r hr j
    rw [View.readCov_eq_canon', outsAt0_A m c t h]; frame_out; exact congrArg _ (Ffn.whole a b)
  · rw [outsAt0_B m c t h]; frame_out
    refine pay_dx m c t _ (fun a b => ?_) r hr j
    rw [View.readCov_eq_canon', outsAt0_B m c t h]; frame_out; exact congrArg _ (Ffn.whole a b)

theorem out12A (h : t.val % 8 = 0) (y : S8x128.Idx) : (outsAt0 m c t.val t.isLt).2.2.2.2.2.1 y = 0 + loss m c t := by
  rw [outsAt0_A m c t h]; frame_out
  refine (pay_loss m c t _ (fun a b => ?_) _ y).trans (congrArg (· + _) ?_)
  · rw [View.readCov_eq_canon', outsAt0_A m c t h]; frame_out; exact congrArg _ (Ffn.whole a b)
  · obtain ⟨a, b, rfl⟩ : ∃ (a : Fin 8) (b : Fin 128), y = ix2 a b := ⟨y 0, y 1, by blk_ext⟩
    pointwise [k0_pay71]

theorem out12B (h : ¬ t.val % 8 = 0) (y : S8x128.Idx) : (outsAt0 m c t.val t.isLt).2.2.2.2.2.1 y
    = (outsAt0 m c (t.val - 1) (Nat.lt_of_le_of_lt (Nat.sub_le _ _) t.isLt)).2.2.2.2.2.1 y + loss m c t := by
  rw [outsAt0_B m c t h]; frame_out
  refine pay_loss m c t _ (fun a b => ?_) _ y
  rw [View.readCov_eq_canon', outsAt0_B m c t h]; frame_out; exact congrArg _ (Ffn.whole a b)

theorem out13A (h : t.val % 8 = 0) (y : S1x1024.Idx) : (outsAt0 m c t.val t.isLt).2.2.2.2.2.2 y = 0 + part m c t y := by
  rw [outsAt0_A m c t h]; frame_out
  refine (pay_dn m c t _ (fun a b => ?_) _ y).trans (congrArg (· + _) ?_)
  · rw [View.readCov_eq_canon', outsAt0_A m c t h]; frame_out; exact congrArg _ (Ffn.whole a b)
  · obtain ⟨a, b, rfl⟩ : ∃ (a : Fin 1) (b : Fin 1024), y = ix2 a b := ⟨y 0, y 1, by blk_ext⟩
    pointwise [k0_pay70]

theorem out13B (h : ¬ t.val % 8 = 0) (y : S1x1024.Idx) : (outsAt0 m c t.val t.isLt).2.2.2.2.2.2 y
    = (outsAt0 m c (t.val - 1) (Nat.lt_of_le_of_lt (Nat.sub_le _ _) t.isLt)).2.2.2.2.2.2 y + part m c t y := by
  rw [outsAt0_B m c t h]; frame_out
  refine pay_dn m c t _ (fun a b => ?_) _ y
  rw [View.readCov_eq_canon', outsAt0_B m c t h]; frame_out; exact congrArg _ (Ffn.whole a b)

end Blocks

variable (c : Dev nD)

theorem final7 : (dats m 0 c).arrAt 7 (cfgs 0).N = Cert.LossGradIdeal.Read.val_main_v75 (F := Ideal) (m ((c : Thread nD τ).loc main_arg0)) (m ((c : Thread nD τ).loc main_arg1)) := by
  refine (dats m 0 c).arrAt_eq_of_covers 7 _ (by decide +kernel) fun t hf y => ?_
  blk_simp
  obtain ⟨a, b, rfl⟩ : ∃ (a : Fin 512) (b : Fin 1024), y = ix2 a b := ⟨y 0, y 1, by blk_ext⟩
  have ht := small t
  have hy : ((View.whole main_v11_0).slice (win0_7.rect t)).emb (ix2 a b) = ix2 ⟨t.val * 512 + a.val, by omega⟩ b := by blk_ext [idx t]
  rw [after0_7, hy]
  refine (out7 m c t a b).trans ?_
  pointwise [Cert.LossGradIdeal.Read.val_main_v75, Cert.LossGradIdeal.Read.val_main_v74]
  rw [ref_norm]

theorem final8 : (dats m 0 c).arrAt 8 (cfgs 0).N = Cert.LossGradIdeal.Read.val_main_v77 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  obtain ⟨a, b, rfl⟩ : ∃ (a : Fin 512) (b : Fin 2816), y = ix2 a b := ⟨y 0, y 1, by blk_ext⟩
  have ht := small t
  have hy : ((View.whole main_v11_1).slice (win0_8.rect t)).emb (ix2 a b) = ix2 ⟨t.val * 512 + a.val, by omega⟩ b := by blk_ext [idx t]
  rw [after0_8, hy]
  refine ((outs m c t a b).1).trans ?_
  pointwise [Cert.LossGradIdeal.Read.val_main_v77, Cert.LossGradIdeal.Read.val_main_v76]
  rw [ref_gate]

theorem final9 : (dats m 0 c).arrAt 9 (cfgs 0).N = Cert.LossGradIdeal.Read.val_main_v79 (F := Ideal) (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  obtain ⟨a, b, rfl⟩ : ∃ (a : Fin 512) (b : Fin 2816), y = ix2 a b := ⟨y 0, y 1, by blk_ext⟩
  have ht := small t
  have hy : ((View.whole main_v11_2).slice (win0_9.rect t)).emb (ix2 a b) = ix2 ⟨t.val * 512 + a.val, by omega⟩ b := by blk_ext [idx t]
  rw [after0_9, hy]
  refine ((outs m c t a b).2.1).trans ?_
  pointwise [Cert.LossGradIdeal.Read.val_main_v79, Cert.LossGradIdeal.Read.val_main_v78]
  rw [ref_up]

theorem final10 : (dats m 0 c).arrAt 10 (cfgs 0).N = Cert.LossGradIdeal.Read.val_main_v81 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp
  obtain ⟨a, b, rfl⟩ : ∃ (a : Fin 512) (b : Fin 2816), y = ix2 a b := ⟨y 0, y 1, by blk_ext⟩
  have ht := small t
  have hy : ((View.whole main_v11_3).slice (win0_10.rect t)).emb (ix2 a b) = ix2 ⟨t.val * 512 + a.val, by omega⟩ b := by blk_ext [idx t]
  rw [after0_10, hy]
  refine ((outs m c t a b).2.2).trans ?_
  pointwise [Cert.LossGradIdeal.Read.val_main_v81, Cert.LossGradIdeal.Read.val_main_v80]
  rw [ref_act]

theorem final11 (hr : Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) : (dats m 0 c).arrAt 11 (cfgs 0).N = Cert.LossGradIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  obtain ⟨a, b, rfl⟩ : ∃ (a : Fin 512) (b : Fin 1024), y = ix2 a b := ⟨y 0, y 1, by blk_ext⟩
  have ht := small t
  have hy : ((View.whole main_v11_4).slice (win0_11.rect t)).emb (ix2 a b) = ix2 ⟨t.val * 512 + a.val, by omega⟩ b := by blk_ext [idx t]
  rw [after0_11, hy]
  refine (out11 m c t hr a b).trans ?_
  pointwise [Cert.LossGradIdeal.Read.val_main_v82]

theorem final12 (hr : Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) : (dats m 0 c).arrAt 12 (cfgs 0).N = Cert.LossGradIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  obtain ⟨a, b, rfl⟩ : ∃ (a : Fin 8) (b : Fin 128), y = ix2 a b := ⟨y 0, y 1, by blk_ext⟩
  have hy : ((View.whole main_v11_5).slice (win0_12.rect t)).emb (ix2 a b) = ix2 a b := by blk_ext [idx t]
  have h7 : t.val + 1 = cfg0.N := by
    clear hy; revert hf; revert t; exact (by decide +kernel : ∀ t : Fin grid0.N, (cfg0.win 12).flush t = true → t.val + 1 = grid0.N)
  rw [after0_12, hy]
  refine (Pipeline.eq_sum_fin_of_reset_step_apply_last (M := EReal) (fun n h => (outsAt0 m c n h).2.2.2.2.2.1) 8 (fun _ => 0) (fun t _ => loss m c t) (fun t h y => ?_) (fun t h y => ?_)
    (by decide) t h7 _).trans ?_
  · exact out12A m c t h y
  · exact out12B m c t h y
  · rw [zero_add]
    unfold loss
    rw [half_sum _ _ fun t => Finite.sum _ _ fun k => mse_real hr _ _]
    pointwise [Cert.LossGradIdeal.Read.val_main_v83, Cert.LossGradIdeal.Read.val_main_v47, Cert.LossGradIdeal.Read.val_main_v46, Cert.LossGradIdeal.Read.val_main_cst_10, Cert.LossGradIdeal.Read.val_main_cst_9]
    refine congrArg (half * ·) ?_
    simp only [ref_mse]
    refine (Fin.sum_points_lanes_congr 4 fun t k ha hl => ?_)
    have e0 : seq t k = ⟨t.val / 4, ha⟩ := Fin.ext (by show (t.val * 512 + k.val) / 2048 = t.val / 4; omega)
    have e1 : pos t k = ⟨t.val % 4 * 512 + k.val, hl⟩ := Fin.ext (by show (t.val * 512 + k.val) % 2048 = t.val % 4 * 512 + k.val; omega)
    rw [e0, e1]

theorem final13 : (dats m 0 c).arrAt 13 (cfgs 0).N = Cert.LossGradIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  obtain ⟨a, b, rfl⟩ : ∃ (a : Fin 1) (b : Fin 1024), y = ix2 a b := ⟨y 0, y 1, by blk_ext⟩
  have hy : ((View.whole main_v11_6).slice (win0_13.rect t)).emb (ix2 a b) = ix2 a b := by blk_ext [idx t]
  have h7 : t.val + 1 = cfg0.N := by
    clear hy; revert hf; revert t; exact (by decide +kernel : ∀ t : Fin grid0.N, (cfg0.win 13).flush t = true → t.val + 1 = grid0.N)
  rw [after0_13, hy]
  refine (Pipeline.eq_sum_fin_of_reset_step_apply_last (M := EReal) (fun n h => (outsAt0 m c n h).2.2.2.2.2.2) 8 (fun _ => 0) (part m c) (fun t h y => ?_) (fun t h y => ?_)
    (by decide) t h7 _).trans ?_
  · exact out13A m c t h y
  · exact out13B m c t h y
  · rw [zero_add]
    unfold part
    pointwise [Cert.LossGradIdeal.Read.val_main_v84, Cert.LossGradIdeal.Read.val_main_v59]
    rw [Window.hostReduceAdd_leading _ (fun _ => rfl)]
    simp only [Fin.sum_univ_one]
    pointwise [Cert.LossGradIdeal.Read.val_main_v56, Cert.LossGradIdeal.Read.val_main_v55]
    rw [Window.hostReduceAdd_leading _ (fun _ => rfl)]
    have z0 : Cert.LossGradIdeal.Read.val_main_cst_14 (F := Ideal) (Shape.Idx.first Cert.LossGradIdeal.Gen.h_S_) = 0 := by pointwise [Cert.LossGradIdeal.Read.val_main_cst_14]
    have z1 : Cert.LossGradIdeal.Read.val_main_cst_15 (F := Ideal) (Shape.Idx.first Cert.LossGradIdeal.Gen.h_S_) = 0 := by pointwise [Cert.LossGradIdeal.Read.val_main_cst_15]
    rw [z0, z1, zero_add, zero_add]
    refine Fin.sum_points_lanes_congr 4 fun t k ha hl => ?_
    pointwise [Cert.LossGradIdeal.Read.val_main_v54]
    rw [ref_xh, ref_share, mul_comm]
    have e0 : seq t k = ⟨t.val / 4, ha⟩ := Fin.ext (by show (t.val * 512 + k.val) / 2048 = t.val / 4; omega)
    have e1 : pos t k = ⟨t.val % 4 * 512 + k.val, hl⟩ := Fin.ext (by show (t.val * 512 + k.val) % 2048 = t.val % 4 * 512 + k.val; omega)
    rw [e0, e1]

end Cert.Loss
-- ==== Proof.lean ====
module

public import proofs.«01_k».proof.Defs
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnGradIdeal
public import proofs.«01_k».proof.Proof.Gen.InProjBwd
public import proofs.«01_k».proof.Proof.Gen.InProjBwd.Skeleton
public import proofs.«01_k».proof.Proof.Gen.InProjBwd.Launch
public import proofs.«01_k».proof.Proof.Gen.InProjBwd.Points
public import proofs.«01_k».proof.Proof.Gen.InProjBwd.Frame
public import proofs.«01_k».proof.Proof.Gen.InProjBwdIdeal
public import proofs.«01_k».proof.Proof.Gen.InProjBwdIdeal.Skeleton
public import proofs.«01_k».proof.Proof.Gen.InProjBwdIdeal.Launch
public import proofs.«01_k».proof.Proof.Gen.InProjBwdIdeal.Points
public import proofs.«01_k».proof.Proof.Gen.InProjBwdIdeal.Frame
public import proofs.«01_k».proof.Proof.Gen.InProjGradIdeal
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixGradIdeal
public import proofs.«01_k».proof.Proof.Gen.ForgetBwd
public import proofs.«01_k».proof.Proof.Gen.ForgetBwd.Skeleton
public import proofs.«01_k».proof.Proof.Gen.ForgetBwd.Launch
public import proofs.«01_k».proof.Proof.Gen.ForgetBwd.Points
public import proofs.«01_k».proof.Proof.Gen.ForgetBwd.Frame
public import proofs.«01_k».proof.Proof.Gen.ForgetBwdIdeal
public import proofs.«01_k».proof.Proof.Gen.ForgetBwdIdeal.Skeleton
public import proofs.«01_k».proof.Proof.Gen.ForgetBwdIdeal.Launch
public import proofs.«01_k».proof.Proof.Gen.ForgetBwdIdeal.Points
public import proofs.«01_k».proof.Proof.Gen.ForgetBwdIdeal.Frame
public import proofs.«01_k».proof.Proof.Gen.ForgetGradIdeal
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnGradIdeal
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossGradIdeal
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolGradIdeal
public import proofs.«01_k».proof.Proof.Gen.Pre_attn_finite
public import proofs.«01_k».proof.Proof.Gen.Pre_in_proj_finite
public import proofs.«01_k».proof.Proof.Gen.Pre_ffn_finite
public import proofs.«01_k».proof.Proof.Gen.Pre_loss_finite
public import proofs.«01_k».proof.Proof.Gen.AttnGradIdeal.Run
public import proofs.«01_k».proof.Proof.Gen.AttnGradIdeal.Read
public import proofs.«01_k».proof.Proof.Gen.InProjBwdIdeal.Value
public import proofs.«01_k».proof.Proof.Gen.InProjGradIdeal.Run
public import proofs.«01_k».proof.Proof.Gen.InProjGradIdeal.Read
public import proofs.«01_k».proof.Proof.Gen.MixBwdIdeal.Value
public import proofs.«01_k».proof.Proof.Gen.MixGradIdeal.Run
public import proofs.«01_k».proof.Proof.Gen.MixGradIdeal.Read
public import proofs.«01_k».proof.Proof.Gen.ForgetBwdIdeal.Value
public import proofs.«01_k».proof.Proof.Gen.ForgetGradIdeal.Run
public import proofs.«01_k».proof.Proof.Gen.ForgetGradIdeal.Read
public import proofs.«01_k».proof.Proof.Gen.FfnBwdIdeal.Value
public import proofs.«01_k».proof.Proof.Gen.FfnGradIdeal.Run
public import proofs.«01_k».proof.Proof.Gen.FfnGradIdeal.Read
public import proofs.«01_k».proof.Proof.Gen.LossBwdIdeal.Value
public import proofs.«01_k».proof.Proof.Gen.LossGradIdeal.Run
public import proofs.«01_k».proof.Proof.Gen.LossGradIdeal.Read
public import proofs.«01_k».proof.Proof.Gen.PoolBwdIdeal.Value
public import proofs.«01_k».proof.Proof.Gen.PoolGradIdeal.Run
public import proofs.«01_k».proof.Proof.Gen.PoolGradIdeal.Read
public import proofs.«01_k».proof.Proof.Attn.Ends
public import proofs.«01_k».proof.Proof.Attn.Unchanged
public import proofs.«01_k».proof.Proof.InProj
public import proofs.«01_k».proof.Proof.Mix
public import proofs.«01_k».proof.Proof.Forget
public import proofs.«01_k».proof.Proof.Ffn
public import proofs.«01_k».proof.Proof.Loss
public import Idealize.ShloMosaic.Lib.Claim
public import proofs.«01_k».proof.Proof.Finite
public import Idealize.ShloMosaic.Adequacy
public import Idealize.ShloMosaic.Init

@[expose] public section

noncomputable section

namespace Cert.Proof

open Idealize.ShloMosaic Idealize.SL.Sem

/-- The statement of the frame on words, read at the text both programs share. -/
theorem attn_text : Cert.quiescent_AttnBwd (hAttnBwd := Cert.AttnBwd.Gen.facts) = ∀ (m : (ℓ : Loc Cert.AttnBwdIdeal.nD Cert.AttnBwdIdeal.τ Cert.AttnBwdIdeal.sig) → Buf (Elt Bits) ℓ) (ρ : Dev Cert.AttnBwdIdeal.nD → PrngReg), Cert.Pre_AttnBwd m →
    θ_run Cert.AttnBwdIdeal.defs (onTc (τ := Cert.AttnBwdIdeal.τ) (Cert.AttnBwdIdeal.main (F := Bits))) ⟨m, fun _ => 0, ρ⟩ (fun r => (∀ c : Dev Cert.AttnBwdIdeal.nD, r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0) ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1) ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2) ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3) ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)) ∧ r.2.sem = fun _ => 0) := by sl_kernel_rfl

/-- The kernel on words runs and leaves its arguments. -/
theorem attn_frame : Cert.quiescent_AttnBwd (hAttnBwd := Cert.AttnBwd.Gen.facts) := attn_text.mpr fun m ρ _ => Cert.Attn.unchanged (F := Bits) m ρ

/-- What the precondition says of the arguments: every entry is a real number. -/
theorem attn_real (m : (ℓ : Loc Cert.AttnBwdIdeal.nD Cert.AttnBwdIdeal.τ Cert.AttnBwdIdeal.sig) → Buf (Elt Ideal) ℓ)
    (h : Cert.Pre_AttnBwdIdeal_attn_finite (hPre_attn_finite := Cert.Pre_attn_finite.Gen.facts) m) (c : Dev Cert.AttnBwdIdeal.nD) : Cert.Attn.Finite5 m c := by
  have e := congrFun (h c) (fun a => a.elim0)
  dsimp only [Cert.Pre_attn_finite.fn, Cert.Pre_attn_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.of_all _ _ (fun _ => Finite.infinity) _ _ _ _ e0,
    Finite.of_all _ _ (fun _ => Finite.infinity) _ _ _ _ e1,
    Finite.of_all _ _ (fun _ => Finite.infinity) _ _ _ _ e2,
    Finite.of_all _ _ (fun _ => Finite.infinity) _ _ _ _ e3,
    Finite.of_all _ _ (fun _ => Finite.infinity) _ _ _ _ e4⟩

/-- The kernel for the gradient of the attention ends holding the derivative of the attention's forward lines. -/
theorem attn : Cert.algebraic_AttnBwdIdeal_AttnGradIdeal_pre_attn_finite (hAttnBwdIdeal := Cert.AttnBwdIdeal.Gen.facts) (hAttnGradIdeal := Cert.AttnGradIdeal.Gen.facts) (hPre_attn_finite := Cert.Pre_attn_finite.Gen.facts) := by
  intro m g m' g' hpre hagree
  refine ⟨fun c => _, fun c => _, fun c => _, fun c => _, fun c => _,
    Cert.Attn.run m g (attn_real m hpre),
    (θ_run _ _ _).mono (fun r h c => ⟨(h c).1.trans ((Cert.AttnGradIdeal.Read.val_main_v90_eq m' c).trans ?_), (h c).2.1.trans ((Cert.AttnGradIdeal.Read.val_main_v92_eq m' c).trans ?_), (h c).2.2.1.trans ((Cert.AttnGradIdeal.Read.val_main_v94_eq m' c).trans ?_), (h c).2.2.2.1.trans ((Cert.AttnGradIdeal.Read.val_main_v96_eq m' c).trans ?_), (h c).2.2.2.2.1.trans ((Cert.AttnGradIdeal.Read.val_main_v98_eq m' c).trans ?_), (h c).2.2.2.2.2⟩)
      (Cert.AttnGradIdeal.Value.run m' g')⟩ <;>
  · obtain ⟨h0, h1, h2, h3, h4⟩ := hagree c
    simp only [h0, h1, h2, h3, h4]

/-- The reference runs; it declares no semaphore. -/
theorem attn_grad : Cert.quiescent_AttnGradIdeal (hAttnGradIdeal := Cert.AttnGradIdeal.Gen.facts) := fun m g _ =>
  (θ_run _ _ _).mono (fun r h => ⟨fun c => (h c).2.2.2.2.2, sem_eq_zero_of_no_sems (by decide) r.2⟩) (Cert.AttnGradIdeal.Value.run m g)

/-- What the precondition says of the arguments: every entry of every array it names is a real number. -/
theorem inProj_real (m : (ℓ : Loc Cert.InProjBwdIdeal.nD Cert.InProjBwdIdeal.τ Cert.InProjBwdIdeal.sig) → Buf (Elt Ideal) ℓ)
    (h : Cert.Pre_InProjBwdIdeal_in_proj_finite (hPre_in_proj_finite := Cert.Pre_in_proj_finite.Gen.facts) m) (c : Dev Cert.InProjBwdIdeal.nD) :
    Cert.InProj.Real (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) := by
  have e := congrFun (h c) (fun a => a.elim0)
  dsimp only [Cert.Pre_in_proj_finite.fn, Cert.Pre_in_proj_finite.fn_part1, Cert.Pre_in_proj_finite.fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.of_all _ _ (fun _ => Finite.infinity) _ _ _ _ e0,
    Finite.of_all _ _ (fun _ => Finite.infinity) _ _ _ _ e1,
    Finite.of_all _ _ (fun _ => Finite.infinity) _ _ _ _ e2,
    Finite.of_all _ _ (fun _ => Finite.infinity) _ _ _ _ e3,
    Finite.of_all _ _ (fun _ => Finite.infinity) _ _ _ _ e4,
    Finite.of_all _ _ (fun _ => Finite.infinity) _ _ _ _ e5,
    Finite.of_all _ _ (fun _ => Finite.infinity) _ _ _ _ e6,
    Finite.of_all _ _ (fun _ => Finite.infinity) _ _ _ _ e7,
    Finite.of_all _ _ (fun _ => Finite.infinity) _ _ _ _ e8,
    Finite.of_all _ _ (fun _ => Finite.infinity) _ _ _ _ e9⟩

/-- The kernel for the gradient of the input projections and of the norm before them ends holding the derivative of the forward lines. -/
theorem inProj : Cert.algebraic_InProjBwdIdeal_InProjGradIdeal_pre_in_proj_finite (hInProjBwdIdeal := Cert.InProjBwdIdeal.Gen.facts) (hInProjGradIdeal := Cert.InProjGradIdeal.Gen.facts) (hPre_in_proj_finite := Cert.Pre_in_proj_finite.Gen.facts) := by
  intro m g m' g' hpre hagree
  refine ⟨fun c => _, fun c => _,
    (θ_run _ _ _).mono (fun r h c => ⟨(h c).1.trans (InProj.final12 m c (inProj_real m hpre c)), (h c).2.1.trans (InProj.final13 m c), (h c).2.2⟩)
      (Cert.InProjBwdIdeal.Value.run_blocks m g),
    (θ_run _ _ _).mono (fun r h c => ⟨(h c).1.trans ((Cert.InProjGradIdeal.Read.val_main_v62_eq m' c).trans ?_), (h c).2.1.trans ((Cert.InProjGradIdeal.Read.val_main_v61_eq _ _ _ _ _ _ _ _ _).trans ?_), (h c).2.2⟩)
      (Cert.InProjGradIdeal.Value.run m' g')⟩ <;>
  · obtain ⟨h0, h1, h2, h3, h4, h5, h6, h7, h8, h9, h10⟩ := hagree c
    simp only [h0, h1, h2, h3, h4, h5, h6, h7, h8, h9, h10]

/-- The reference runs; it declares no semaphore. -/
theorem inProj_grad : Cert.quiescent_InProjGradIdeal (hInProjGradIdeal := Cert.InProjGradIdeal.Gen.facts) := fun m g _ =>
  (θ_run _ _ _).mono (fun r h => ⟨fun c => (h c).2.2, sem_eq_zero_of_no_sems (by decide) r.2⟩) (Cert.InProjGradIdeal.Value.run m g)

/-- The kernel for the gradients of the gated mix and of the output projections ends holding the derivative of the forward lines. -/
theorem mix : Cert.algebraic_MixBwdIdeal_MixGradIdeal (hMixBwdIdeal := Cert.MixBwdIdeal.Gen.facts) (hMixGradIdeal := Cert.MixGradIdeal.Gen.facts) := by
  intro m g m' g' _ hagree
  refine ⟨fun c => _, fun c => _, fun c => _, fun c => _, fun c => _, fun c => _,
    (θ_run _ _ _).mono (fun r h c => ⟨(h c).1.trans (Mix.final9 m c), (h c).2.1.trans (Mix.final10 m c), (h c).2.2.1.trans (Mix.final11 m c), (h c).2.2.2.1.trans (Mix.final12 m c), (h c).2.2.2.2.1.trans (Mix.final13 m c), (h c).2.2.2.2.2.1.trans (Mix.final14 m c), (h c).2.2.2.2.2.2⟩)
      (Cert.MixBwdIdeal.Value.run_blocks m g),
    (θ_run _ _ _).mono (fun r h c => ⟨(h c).1.trans ((Cert.MixGradIdeal.Read.val_main_v49_eq _ _ _ _ _ _ _ _ _).trans ?_), (h c).2.1.trans ((Cert.MixGradIdeal.Read.val_main_v51_eq _ _ _).trans ?_), (h c).2.2.1.trans ((Cert.MixGradIdeal.Read.val_main_v53_eq _ _ _).trans ?_), (h c).2.2.2.1.trans ((Cert.MixGradIdeal.Read.val_main_v55_eq _ _ _ _).trans ?_), (h c).2.2.2.2.1.trans ((Cert.MixGradIdeal.Read.val_main_v57_eq _ _ _ _ _).trans ?_), (h c).2.2.2.2.2.1.trans ((Cert.MixGradIdeal.Read.val_main_v46_eq _ _ _ _ _).trans ?_), (h c).2.2.2.2.2.2⟩)
      (Cert.MixGradIdeal.Value.run m' g')⟩ <;>
  · obtain ⟨h0, h1, h2, h3, h4, h5, h6, h7, h8⟩ := hagree c
    simp only [h0, h1, h2, h3, h4, h5, h6, h7, h8]

/-- The reference runs; it declares no semaphore. -/
theorem mix_grad : Cert.quiescent_MixGradIdeal (hMixGradIdeal := Cert.MixGradIdeal.Gen.facts) := fun m g _ =>
  (θ_run _ _ _).mono (fun r h => ⟨fun c => (h c).2.2.2.2.2.2, sem_eq_zero_of_no_sems (by decide) r.2⟩) (Cert.MixGradIdeal.Value.run m g)

/-- The kernel for the forget gate's gradient ends holding the derivative of the gate's forward lines. -/
theorem forget : Cert.algebraic_ForgetBwdIdeal_ForgetGradIdeal (hForgetBwdIdeal := Cert.ForgetBwdIdeal.Gen.facts) (hForgetGradIdeal := Cert.ForgetGradIdeal.Gen.facts) := by
  intro m g m' g' _ hagree
  refine ⟨fun c => _, fun c => _,
    (θ_run _ _ _).mono (fun r h c => ⟨(h c).1.trans (Forget.final4 m c), (h c).2.1.trans (Forget.final5 m c), (h c).2.2⟩)
      (Cert.ForgetBwdIdeal.Value.run_blocks m g),
    (θ_run _ _ _).mono (fun r h c => ⟨(h c).1.trans ((Cert.ForgetGradIdeal.Read.val_main_v15_eq m' c).trans ?_), (h c).2.1.trans ((Cert.ForgetGradIdeal.Read.val_main_v16_eq m' c).trans ?_), (h c).2.2⟩)
      (Cert.ForgetGradIdeal.Value.run m' g')⟩ <;>
  · obtain ⟨h0, h1, h2, h3⟩ := hagree c
    rw [h0, h1, h2, h3]

/-- The reference runs; it declares no semaphore. -/
theorem forget_grad : Cert.quiescent_ForgetGradIdeal (hForgetGradIdeal := Cert.ForgetGradIdeal.Gen.facts) := fun m g _ =>
  (θ_run _ _ _).mono (fun r h => ⟨fun c => (h c).2.2, sem_eq_zero_of_no_sems (by decide) r.2⟩) (Cert.ForgetGradIdeal.Value.run m g)

/-- What the precondition says of the arguments: every entry of every array it names is a real number. -/
theorem ffn_real (m : (ℓ : Loc Cert.FfnBwdIdeal.nD Cert.FfnBwdIdeal.τ Cert.FfnBwdIdeal.sig) → Buf (Elt Ideal) ℓ)
    (h : Cert.Pre_FfnBwdIdeal_ffn_finite (hPre_ffn_finite := Cert.Pre_ffn_finite.Gen.facts) m) (c : Dev Cert.FfnBwdIdeal.nD) :
    Cert.Ffn.Real (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) := by
  have e := congrFun (h c) (fun a => a.elim0)
  dsimp only [Cert.Pre_ffn_finite.fn, Cert.Pre_ffn_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.of_all _ _ (fun _ => Finite.infinity) _ _ _ _ e0,
    Finite.of_all _ _ (fun _ => Finite.infinity) _ _ _ _ e1,
    Finite.of_all _ _ (fun _ => Finite.infinity) _ _ _ _ e2,
    Finite.of_all _ _ (fun _ => Finite.infinity) _ _ _ _ e3,
    Finite.of_all _ _ (fun _ => Finite.infinity) _ _ _ _ e4,
    Finite.of_all _ _ (fun _ => Finite.infinity) _ _ _ _ e5⟩

/-- The kernel for the gradient of the feed-forward layer and of the norm before it ends holding the derivative of the forward lines. -/
theorem ffn : Cert.algebraic_FfnBwdIdeal_FfnGradIdeal_pre_ffn_finite (hFfnBwdIdeal := Cert.FfnBwdIdeal.Gen.facts) (hFfnGradIdeal := Cert.FfnGradIdeal.Gen.facts) (hPre_ffn_finite := Cert.Pre_ffn_finite.Gen.facts) := by
  intro m g m' g' hpre hagree
  refine ⟨fun c => _, fun c => _, fun c => _, fun c => _,
    (θ_run _ _ _).mono (fun r h c => ⟨(h c).1.trans (Ffn.final8 m c (ffn_real m hpre c)), (h c).2.1.trans (Ffn.final9 m c), (h c).2.2.1.trans (Ffn.final10 m c (ffn_real m hpre c)), (h c).2.2.2.1.trans (Ffn.final11 m c (ffn_real m hpre c)), (h c).2.2.2.2⟩)
      (Cert.FfnBwdIdeal.Value.run_blocks m g),
    (θ_run _ _ _).mono (fun r h c => ⟨(h c).1.trans ((Cert.FfnGradIdeal.Read.val_main_v57_eq m' c).trans ?_), (h c).2.1.trans ((Cert.FfnGradIdeal.Read.val_main_v59_eq _ _ _ _ _).trans ?_), (h c).2.2.1.trans ((Cert.FfnGradIdeal.Read.val_main_v60_eq m' c).trans ?_), (h c).2.2.2.1.trans ((Cert.FfnGradIdeal.Read.val_main_v55_eq m' c).trans ?_), (h c).2.2.2.2⟩)
      (Cert.FfnGradIdeal.Value.run m' g')⟩ <;>
  · obtain ⟨h0, h1, h2, h3, h4, h5⟩ := hagree c
    simp only [h0, h1, h2, h3, h4, h5]

/-- The reference runs; it declares no semaphore. -/
theorem ffn_grad : Cert.quiescent_FfnGradIdeal (hFfnGradIdeal := Cert.FfnGradIdeal.Gen.facts) := fun m g _ =>
  (θ_run _ _ _).mono (fun r h => ⟨fun c => (h c).2.2.2.2, sem_eq_zero_of_no_sems (by decide) r.2⟩) (Cert.FfnGradIdeal.Value.run m g)

/-- What the precondition says of the arguments: every entry of every array it names is a real number. -/
theorem loss_real (m : (ℓ : Loc Cert.LossBwdIdeal.nD Cert.LossBwdIdeal.τ Cert.LossBwdIdeal.sig) → Buf (Elt Ideal) ℓ)
    (h : Cert.Pre_LossBwdIdeal_loss_finite (hPre_loss_finite := Cert.Pre_loss_finite.Gen.facts) m) (c : Dev Cert.LossBwdIdeal.nD) :
    Cert.Loss.Real (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5)) (m ((c.tc : Thread Cert.LossBwdIdeal.nD Cert.LossBwdIdeal.τ).loc Cert.LossBwdIdeal.main_arg6)) := by
  have e := congrFun (h c) (fun a => a.elim0)
  dsimp only [Cert.Pre_loss_finite.fn, Cert.Pre_loss_finite.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.of_all _ _ (fun _ => Finite.infinity) _ _ _ _ e0,
    Finite.of_all _ _ (fun _ => Finite.infinity) _ _ _ _ e1,
    Finite.of_all _ _ (fun _ => Finite.infinity) _ _ _ _ e2,
    Finite.of_all _ _ (fun _ => Finite.infinity) _ _ _ _ e3,
    Finite.of_all _ _ (fun _ => Finite.infinity) _ _ _ _ e4,
    Finite.of_all _ _ (fun _ => Finite.infinity) _ _ _ _ e5,
    Finite.of_all _ _ (fun _ => Finite.infinity) _ _ _ _ e6⟩

/-- The kernel for the feed-forward layer, the loss and the gradient of the loss ends holding the values and the derivative of the forward lines. -/
theorem loss : Cert.algebraic_LossBwdIdeal_LossGradIdeal_pre_loss_finite (hLossBwdIdeal := Cert.LossBwdIdeal.Gen.facts) (hLossGradIdeal := Cert.LossGradIdeal.Gen.facts) (hPre_loss_finite := Cert.Pre_loss_finite.Gen.facts) := by
  intro m g m' g' hpre hagree
  refine ⟨fun c => _, fun c => _, fun c => _, fun c => _, fun c => _, fun c => _, fun c => _,
    (θ_run _ _ _).mono (fun r h c => ⟨(h c).1.trans (Loss.final7 m c), (h c).2.1.trans (Loss.final8 m c), (h c).2.2.1.trans (Loss.final9 m c), (h c).2.2.2.1.trans (Loss.final10 m c), (h c).2.2.2.2.1.trans (Loss.final11 m c (loss_real m hpre c)), (h c).2.2.2.2.2.1.trans (Loss.final12 m c (loss_real m hpre c)), (h c).2.2.2.2.2.2.1.trans (Loss.final13 m c), (h c).2.2.2.2.2.2.2⟩)
      (Cert.LossBwdIdeal.Value.run_blocks m g),
    (θ_run _ _ _).mono (fun r h c => ⟨(h c).1.trans ((Cert.LossGradIdeal.Read.val_main_v75_eq _ _).trans ?_), (h c).2.1.trans ((Cert.LossGradIdeal.Read.val_main_v77_eq _ _ _).trans ?_), (h c).2.2.1.trans ((Cert.LossGradIdeal.Read.val_main_v79_eq _ _ _).trans ?_), (h c).2.2.2.1.trans ((Cert.LossGradIdeal.Read.val_main_v81_eq _ _ _ _).trans ?_), (h c).2.2.2.2.1.trans ((Cert.LossGradIdeal.Read.val_main_v82_eq m' c).trans ?_), (h c).2.2.2.2.2.1.trans ((Cert.LossGradIdeal.Read.val_main_v83_eq m' c).trans ?_), (h c).2.2.2.2.2.2.1.trans ((Cert.LossGradIdeal.Read.val_main_v84_eq m' c).trans ?_), (h c).2.2.2.2.2.2.2⟩)
      (Cert.LossGradIdeal.Value.run m' g')⟩ <;>
  · obtain ⟨h0, h1, h2, h3, h4, h5, h6⟩ := hagree c
    simp only [h0, h1, h2, h3, h4, h5, h6]

/-- The reference runs; it declares no semaphore. -/
theorem loss_grad : Cert.quiescent_LossGradIdeal (hLossGradIdeal := Cert.LossGradIdeal.Gen.facts) := fun m g _ =>
  (θ_run _ _ _).mono (fun r h => ⟨fun c => (h c).2.2.2.2.2.2.2, sem_eq_zero_of_no_sems (by decide) r.2⟩) (Cert.LossGradIdeal.Value.run m g)

/-- The pooling's reference runs; it declares no semaphore. -/
theorem pool_grad : Cert.quiescent_PoolGradIdeal (hPoolGradIdeal := Cert.PoolGradIdeal.Gen.facts) := fun m g _ =>
  (θ_run _ _ _).mono (fun r h => ⟨fun c => (h c).2.2, sem_eq_zero_of_no_sems (by decide) r.2⟩) (Cert.PoolGradIdeal.Value.run m g)

theorem claim : Cert.Claim := ⟨Cert.AttnBwd.Gen.facts, Cert.AttnBwdIdeal.Gen.facts, Cert.AttnGradIdeal.Gen.facts, Cert.InProjBwd.Gen.facts, Cert.InProjBwdIdeal.Gen.facts, Cert.InProjGradIdeal.Gen.facts, Cert.MixBwd.Gen.facts, Cert.MixBwdIdeal.Gen.facts, Cert.MixGradIdeal.Gen.facts, Cert.ForgetBwd.Gen.facts, Cert.ForgetBwdIdeal.Gen.facts, Cert.ForgetGradIdeal.Gen.facts, Cert.FfnBwd.Gen.facts, Cert.FfnBwdIdeal.Gen.facts, Cert.FfnGradIdeal.Gen.facts, Cert.LossBwd.Gen.facts, Cert.LossBwdIdeal.Gen.facts, Cert.LossGradIdeal.Gen.facts, Cert.PoolBwd.Gen.facts, Cert.PoolBwdIdeal.Gen.facts, Cert.PoolGradIdeal.Gen.facts, Cert.Pre_attn_finite.Gen.facts, Cert.Pre_in_proj_finite.Gen.facts, Cert.Pre_ffn_finite.Gen.facts, Cert.Pre_loss_finite.Gen.facts,
  attn_frame,
  fun m g _ => Cert.Attn.unchanged m g,
  fun m g _ => Cert.Attn.unchanged m g,
  attn_grad,
  fun m g _ => attn_grad m g trivial,
  fun m g _ => Cert.InProjBwd.Gen.frame m g,
  fun m g _ => Cert.InProjBwdIdeal.Gen.frame m g,
  fun m g _ => Cert.InProjBwdIdeal.Gen.frame m g,
  inProj_grad,
  fun m g _ => inProj_grad m g trivial,
  fun m g _ => Cert.MixBwd.Gen.frame m g,
  fun m g _ => Cert.MixBwdIdeal.Gen.frame m g,
  mix_grad,
  fun m g _ => Cert.ForgetBwd.Gen.frame m g,
  fun m g _ => Cert.ForgetBwdIdeal.Gen.frame m g,
  forget_grad,
  fun m g _ => Cert.FfnBwd.Gen.frame m g,
  fun m g _ => Cert.FfnBwdIdeal.Gen.frame m g,
  fun m g _ => Cert.FfnBwdIdeal.Gen.frame m g,
  ffn_grad,
  fun m g _ => ffn_grad m g trivial,
  fun m g _ => Cert.LossBwd.Gen.frame m g,
  fun m g _ => Cert.LossBwdIdeal.Gen.frame m g,
  fun m g _ => Cert.LossBwdIdeal.Gen.frame m g,
  loss_grad,
  fun m g _ => loss_grad m g trivial,
  fun m g _ => Cert.PoolBwd.Gen.frame m g,
  fun m g _ => Cert.PoolBwdIdeal.Gen.frame m g,
  pool_grad,
  trivial,
  attn,
  trivial,
  inProj,
  trivial,
  mix,
  trivial,
  forget,
  trivial,
  ffn,
  trivial,
  loss,
  trivial⟩

end Cert.Proof

end
